-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_diff_finite [hPre_diff_finite : Cert.Pre_diff_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_diff_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_diff_finite [hPre_diff_finite : Cert.Pre_diff_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_diff_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_diff_finite [hKernel4Ideal : Cert.Kernel4Ideal.Facts] [hPre_diff_finite : Cert.Pre_diff_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_diff_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_diff_finite [hReference4Ideal : Cert.Reference4Ideal.Facts] [hPre_diff_finite : Cert.Pre_diff_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_diff_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def preserves_Kernel_KernelIdeal : Prop :=
  IdealRules.named_const.Statement Cert.KernelIdeal.κ "score_scale" .f32 0x3E38AA3B#32 (((8 * (Real.log 2))⁻¹ : ℝ) : EReal)

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v137) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "diff_scale" .f32 0x3E38AA3B#32 (((8 * (Real.log 2))⁻¹ : ℝ) : EReal)
  ∧ IdealRules.named_const.Statement Cert.Kernel4Ideal.κ "log2e" .f32 0x3FB8AA3B#32 (((Real.log 2)⁻¹ : ℝ) : EReal)

def algebraic_Kernel4Ideal_Reference4Ideal_pre_diff_finite [hKernel4Ideal : Cert.Kernel4Ideal.Facts] [hReference4Ideal : Cert.Reference4Ideal.Facts] [hPre_diff_finite : Cert.Pre_diff_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_diff_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v55)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v55) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v94) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v32) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v15)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v15) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v83) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)) →
    ∃ (v0 : (c : Dev Cert.Kernel11Ideal.nD) → Buf (Elt Ideal) ((c.tc : Thread Cert.Kernel11Ideal.nD Cert.Kernel11Ideal.τ).loc Cert.Kernel11Ideal.main_v39)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v39) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v46) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_scores_finite : Cert.Pre_scores_finite.Facts) (hPre_experts_in_range : Cert.Pre_experts_in_range.Facts) (hPre_diff_finite : Cert.Pre_diff_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_diff_finite (hKernel4Ideal := hKernel4Ideal) (hPre_diff_finite := hPre_diff_finite)
    ∧ quiescent_Reference4Ideal (hReference4Ideal := hReference4Ideal)
    ∧ quiescent_Reference4Ideal_pre_diff_finite (hReference4Ideal := hReference4Ideal) (hPre_diff_finite := hPre_diff_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_diff_finite (hKernel4Ideal := hKernel4Ideal) (hReference4Ideal := hReference4Ideal) (hPre_diff_finite := hPre_diff_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_diff_finite.lean ====
abbrev S8x4096x3072 : Shape := ⟨3, ![8, 4096, 3072]⟩
abbrev S32x8 : Shape := ⟨2, ![32, 8]⟩
abbrev S64 : Shape := ⟨1, ![64]⟩
abbrev S128 : Shape := ⟨1, ![128]⟩
abbrev S_ : Shape := ⟨0, ![]⟩

class Facts : Prop where
  bcast_S_S8x4096x3072 : S_.BroadcastsInDim S8x4096x3072 (![] : Fin 0 → Fin S8x4096x3072.rank)
  reducesTo_S8x4096x3072_S_d0_1_2 : S8x4096x3072.ReducesTo [0, 1, 2] S_
  h_S_ : 0 < S_.numel
  bcast_S_S32x8 : S_.BroadcastsInDim S32x8 (![] : Fin 0 → Fin S32x8.rank)
  reducesTo_S32x8_S_d0_1 : S32x8.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S8x4096x3072 .f32) (main_arg1 : FVec F S32x8 .f32) (main_arg2 : FVec F S64 .f32) (main_arg3 : FVec F S64 .f32) (main_arg4 : FVec F S64 .f32) (main_arg5 : FVec F S64 .f32) (main_arg6 : FVec F S128 .f32) : IVec S_ 1 :=
  let main_v0 : FVec F S8x4096x3072 .f32 := Host.absf main_arg0
  let main_cst : FVec F S_ .f32 := constant S_ .f32 0x7F800000#32
  let main_v1 : FVec F S8x4096x3072 .f32 := broadcastInDim S8x4096x3072 ![] bcast_S_S8x4096x3072 main_cst
  let main_v2 : IVec S8x4096x3072 1 := cmpf .olt main_v0 main_v1
  let main_c : IVec S_ 1 := constantI S_ 1 1#1
  let main_v3 : IVec S_ 1 := (fun x v => Host.reduce IntOp.andi x v reducesTo_S8x4096x3072_S_d0_1_2 h_S_) main_v2 main_c
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  let main_c_1 : IVec S_ 1 := constantI S_ 1 1#1
  let main_v7 : IVec S_ 1 := (fun x v => Host.reduce IntOp.andi x v reducesTo_S32x8_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Pre_experts_in_range.lean ====
abbrev S69632x1024 : Shape := ⟨2, ![69632, 1024]⟩
abbrev S136 : Shape := ⟨1, ![136]⟩
abbrev S1 : Shape := ⟨1, ![1]⟩
abbrev S2x8x1024x3584 : Shape := ⟨4, ![2, 8, 1024, 3584]⟩
abbrev S2x8x3584x1024 : Shape := ⟨4, ![2, 8, 3584, 1024]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : FVec F S69632x1024 .f32) (main_arg1 : IVec S136 32) (main_arg2 : IVec S1 32) (main_arg3 : FVec F S2x8x1024x3584 .f32) (main_arg4 : FVec F S2x8x1024x3584 .f32) (main_arg5 : FVec F S2x8x3584x1024 .f32) : IVec S_ 1 :=
  let main_c : IVec S_ 32 := constantI S_ 32 0#32
  let main_v0 : IVec S136 32 := broadcastInDim S136 ![] bcast_S_S136 main_c
  let main_v1 : IVec S136 1 := cmpi .sge main_arg1 main_v0
  let main_c_0 : IVec S_ 1 := constantI S_ 1 1#1
  let main_v2 : IVec S_ 1 := (fun x v => Host.reduce IntOp.andi x v reducesTo_S136_S_d0 h_S_) main_v1 main_c_0
  let main_c_1 : IVec S_ 32 := constantI S_ 32 8#32
  let main_v3 : IVec S136 32 := broadcastInDim S136 ![] bcast_S_S136 main_c_1
  let main_v4 : IVec S136 1 := cmpi .slt main_arg1 main_v3
  let main_c_2 : IVec S_ 1 := constantI S_ 1 1#1
  let main_v5 : IVec S_ 1 := (fun x v => Host.reduce IntOp.andi x v reducesTo_S136_S_d0 h_S_) main_v4 main_c_2
  let main_v6 : IVec S_ 1 := andi main_v2 main_v5
  main_v6
-- ==== Pre_scores_finite.lean ====
abbrev S8x4096x16x64 : Shape := ⟨4, ![8, 4096, 16, 64]⟩
abbrev S8x4096x4x64 : Shape := ⟨4, ![8, 4096, 4, 64]⟩
abbrev S_ : Shape := ⟨0, ![]⟩

class Facts : Prop where
  bcast_S_S8x4096x16x64 : S_.BroadcastsInDim S8x4096x16x64 (![] : Fin 0 → Fin S8x4096x16x64.rank)
  reducesTo_S8x4096x16x64_S_d0_1_2_3 : S8x4096x16x64.ReducesTo [0, 1, 2, 3] S_
  h_S_ : 0 < S_.numel
  bcast_S_S8x4096x4x64 : S_.BroadcastsInDim S8x4096x4x64 (![] : Fin 0 → Fin S8x4096x4x64.rank)
  reducesTo_S8x4096x4x64_S_d0_1_2_3 : S8x4096x4x64.ReducesTo [0, 1, 2, 3] S_

variable [Facts]

def fn {F : FTy → Type} [FloatOps F] (main_arg0 : FVec F S8x4096x16x64 .f32) (main_arg1 : FVec F S8x4096x4x64 .f32) (main_arg2 : FVec F S8x4096x4x64 .f32) : IVec S_ 1 :=
  let main_v0 : FVec F S8x4096x16x64 .f32 := Host.absf main_arg0
  let main_cst : FVec F S_ .f32 := constant S_ .f32 0x7F800000#32
  let main_v1 : FVec F S8x4096x16x64 .f32 := broadcastInDim S8x4096x16x64 ![] bcast_S_S8x4096x16x64 main_cst
  let main_v2 : IVec S8x4096x16x64 1 := cmpf .olt main_v0 main_v1
  let main_c : IVec S_ 1 := constantI S_ 1 1#1
  let main_v3 : IVec S_ 1 := (fun x v => Host.reduce IntOp.andi x v reducesTo_S8x4096x16x64_S_d0_1_2_3 h_S_) main_v2 main_c
  let main_v4 : FVec F S8x4096x4x64 .f32 := Host.absf main_arg1
  let main_cst_0 : FVec F S_ .f32 := constant S_ .f32 0x7F800000#32
  let main_v5 : FVec F S8x4096x4x64 .f32 := broadcastInDim S8x4096x4x64 ![] bcast_S_S8x4096x4x64 main_cst_0
  let main_v6 : IVec S8x4096x4x64 1 := cmpf .olt main_v4 main_v5
  let main_c_1 : IVec S_ 1 := constantI S_ 1 1#1
  let main_v7 : IVec S_ 1 := (fun x v => Host.reduce IntOp.andi x v reducesTo_S8x4096x4x64_S_d0_1_2_3 h_S_) main_v6 main_c_1
  let main_v8 : IVec S_ 1 := andi main_v3 main_v7
  main_v8
-- ==== Kernel.lean ====
abbrev S8x4096x16x64 : Shape := ⟨4, ![8, 4096, 16, 64]⟩
abbrev S8x4096x4x64 : Shape := ⟨4, ![8, 4096, 4, 64]⟩
abbrev S32768x1024 : Shape := ⟨2, ![32768, 1024]⟩
abbrev S8x4096x4x2x64 : Shape := ⟨5, ![8, 4096, 4, 2, 64]⟩
abbrev S8x4096x8x64 : Shape := ⟨4, ![8, 4096, 8, 64]⟩
abbrev S32768x512 : Shape := ⟨2, ![32768, 512]⟩
abbrev S512x256 : Shape := ⟨2, ![512, 256]⟩
abbrev S4096x128 : Shape := ⟨2, ![4096, 128]⟩
abbrev S16x2048x256 : Shape := ⟨3, ![16, 2048, 256]⟩
abbrev S2048x128 : Shape := ⟨2, ![2048, 128]⟩
abbrev S2048x256 : Shape := ⟨2, ![2048, 256]⟩
abbrev S512x128 : Shape := ⟨2, ![512, 128]⟩
abbrev S256x128 : Shape := ⟨2, ![256, 128]⟩
abbrev S1x2048x256 : Shape := ⟨3, ![1, 2048, 256]⟩
abbrev S2048 : Shape := ⟨1, ![2048]⟩
abbrev S2048x1 : Shape := ⟨2, ![2048, 1]⟩
abbrev S2048x2048 : Shape := ⟨2, ![2048, 2048]⟩

abbrev nBuf : Space → Nat
  | .hbm => 13
  | .vmem => 11
  | .smem => 0
  | _ => 0

abbrev bufTy : (tb : Table) → Fin (tcTables nBuf tb) → BufTy
  | .hbm, ⟨0, _⟩ => ⟨S8x4096x16x64, .f32⟩
  | .hbm, ⟨1, _⟩ => ⟨S8x4096x4x64, .f32⟩
  | .hbm, ⟨2, _⟩ => ⟨S8x4096x4x64, .f32⟩
  | .hbm, ⟨3, _⟩ => ⟨S32768x1024, .f32⟩
  | .hbm, ⟨4, _⟩ => ⟨S8x4096x4x64, .bf16⟩
  | .hbm, ⟨5, _⟩ => ⟨S8x4096x4x2x64, .bf16⟩
  | .hbm, ⟨6, _⟩ => ⟨S8x4096x8x64, .bf16⟩
  | .hbm, ⟨7, _⟩ => ⟨S32768x512, .bf16⟩
  | .hbm, ⟨8, _⟩ => ⟨S8x4096x4x64, .bf16⟩
  | .hbm, ⟨9, _⟩ => ⟨S8x4096x4x2x64, .bf16⟩
  | .hbm, ⟨10, _⟩ => ⟨S8x4096x8x64, .bf16⟩
  | .hbm, ⟨11, _⟩ => ⟨S32768x512, .bf16⟩
  | .hbm, ⟨12, _⟩ => ⟨S32768x1024, .bf16⟩
  | .local _ .vmem, ⟨0, _⟩ => ⟨S512x256, .f32⟩
  | .local _ .vmem, ⟨1, _⟩ => ⟨S512x256, .f32⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x256, .bf16⟩
  | .local _ .vmem, ⟨7, _⟩ => ⟨S512x256, .bf16⟩
  | .local _ .vmem, ⟨8, _⟩ => ⟨S16x2048x256, .f32⟩
  | .local _ .vmem, ⟨9, _⟩ => ⟨S2048x128, .f32⟩
  | .local _ .vmem, ⟨10, _⟩ => ⟨S2048x256, .f32⟩
  | _, _ => ⟨S8x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

@[reducible] def k0_t1_loop : Scf.Loop 32 :=
  let c0_i32 : BitVec 32 := 0#32
  let c2_i32 : BitVec 32 := 2#32
  let v257 : BitVec 32 := Scalar.addi c0_i32 c2_i32
  let c1_i32 : BitVec 32 := 1#32
  ⟨c0_i32, v257, c1_i32⟩
def k0_off1 (k0_t1 : Fin k0_t1_loop.trips) (c0_i32_152 : BitVec 32) : Fin 3 → Nat :=
  let c8_i32 : BitVec 32 := 8#32
  let c0_i32 : BitVec 32 := 0#32
  let c1_i32 : BitVec 32 := 1#32
  let arg10 : BitVec 32 := Scf.iv c0_i32 c1_i32 k0_t1
  let v273 : BitVec 32 := Scalar.muli c8_i32 arg10
  let v274 : BitVec 32 := Scalar.addi v273 c0_i32_152
  let v275 : Index := Scalar.indexCast v274
  let c0_153 : Index := 0#32
  let c0_154 : Index := 0#32
  ![v275.toNat, 0, 0]
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c2048_i32 : BitVec 32 := 2048#32
  let v378 : BitVec 32 := Scalar.muli arg10 c2048_i32
  v378
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c2048_i32 : BitVec 32 := 2048#32
  let v378 : BitVec 32 := Scalar.muli arg10 c2048_i32
  let v379 : BitVec 32 := v378
  let v380 : Index := Scalar.indexCast v379
  let c0_178 : Index := 0#32
  ![v380.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "score_scale" => some (((8 * (Real.log 2))⁻¹ : ℝ) : EReal)
  | _ => none
-- ==== ReferenceIdeal.lean ====
abbrev S8x4096x16x64 : Shape := ⟨4, ![8, 4096, 16, 64]⟩
abbrev S8x4096x4x64 : Shape := ⟨4, ![8, 4096, 4, 64]⟩
abbrev S8x4096x4x4x64 : Shape := ⟨5, ![8, 4096, 4, 4, 64]⟩
abbrev S8x4x4096x4096x4 : Shape := ⟨5, ![8, 4, 4096, 4096, 4]⟩
abbrev S8x4x4x4096x4096 : Shape := ⟨5, ![8, 4, 4, 4096, 4096]⟩
abbrev S_ : Shape := ⟨0, ![]⟩
abbrev S8x4x4x4096 : Shape := ⟨4, ![8, 4, 4, 4096]⟩
abbrev S8x4x4x4096x1 : Shape := ⟨5, ![8, 4, 4, 4096, 1]⟩
abbrev S8x4x64x4x4096 : Shape := ⟨5, ![8, 4, 64, 4, 4096]⟩
abbrev S32768x1024 : Shape := ⟨2, ![32768, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x16x64, .f32⟩
  | .hbm, ⟨1, _⟩ => ⟨S8x4096x4x64, .f32⟩
  | .hbm, ⟨2, _⟩ => ⟨S8x4096x4x64, .f32⟩
  | .hbm, ⟨3, _⟩ => ⟨S8x4096x4x4x64, .f32⟩
  | .hbm, ⟨4, _⟩ => ⟨S8x4x4096x4096x4, .f32⟩
  | .hbm, ⟨5, _⟩ => ⟨S8x4x4x4096x4096, .f32⟩
  | .hbm, ⟨6, _⟩ => ⟨S_, .f32⟩
  | .hbm, ⟨7, _⟩ => ⟨S8x4x4x4096x4096, .f32⟩
  | .hbm, ⟨8, _⟩ => ⟨S8x4x4x4096x4096, .f32⟩
  | .hbm, ⟨9, _⟩ => ⟨S_, .f32⟩
  | .hbm, ⟨10, _⟩ => ⟨S8x4x4x4096, .f32⟩
  | .hbm, ⟨11, _⟩ => ⟨S_, .f32⟩
  | .hbm, ⟨12, _⟩ => ⟨S8x4x4x4096, .f32⟩
  | .hbm, ⟨13, _⟩ => ⟨S8x4x4x4096, .f32⟩
  | .hbm, ⟨14, _⟩ => ⟨S8x4x4x4096x1, .f32⟩
  | .hbm, ⟨15, _⟩ => ⟨S8x4x4x4096x4096, .f32⟩
  | .hbm, ⟨16, _⟩ => ⟨S8x4x4x4096x4096, .f32⟩
  | .hbm, ⟨17, _⟩ => ⟨S8x4x4x4096x4096, .f32⟩
  | .hbm, ⟨18, _⟩ => ⟨S_, .f32⟩
  | .hbm, ⟨19, _⟩ => ⟨S8x4x4x4096, .f32⟩
  | .hbm, ⟨20, _⟩ => ⟨S8x4x4x4096x1, .f32⟩
  | .hbm, ⟨21, _⟩ => ⟨S8x4x4x4096x4096, .f32⟩
  | .hbm, ⟨22, _⟩ => ⟨S8x4x4x4096x4096, .f32⟩
  | .hbm, ⟨23, _⟩ => ⟨S8x4x64x4x4096, .f32⟩
  | .hbm, ⟨24, _⟩ => ⟨S8x4096x4x4x64, .f32⟩
  | .hbm, ⟨25, _⟩ => ⟨S32768x1024, .f32⟩
  | .hbm, ⟨26, _⟩ => ⟨S32768x1024, .bf16⟩
  | _, _ => ⟨S8x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel2.lean ====
abbrev S69632x1024 : Shape := ⟨2, ![69632, 1024]⟩
abbrev S136 : Shape := ⟨1, ![136]⟩
abbrev S1 : Shape := ⟨1, ![1]⟩
abbrev S2x8x1024x3584 : Shape := ⟨4, ![2, 8, 1024, 3584]⟩
abbrev S2x8x3584x1024 : Shape := ⟨4, ![2, 8, 3584, 1024]⟩
abbrev S512x1024 : Shape := ⟨2, ![512, 1024]⟩
abbrev S1x1x1024x3584 : Shape := ⟨4, ![1, 1, 1024, 3584]⟩
abbrev S1x1x3584x1024 : Shape := ⟨4, ![1, 1, 3584, 1024]⟩
abbrev S1x1x1024x1792 : Shape := ⟨4, ![1, 1, 1024, 1792]⟩
abbrev S1024x1792 : Shape := ⟨2, ![1024, 1792]⟩
abbrev S512x1792 : Shape := ⟨2, ![512, 1792]⟩
abbrev S1x1x1792x1024 : Shape := ⟨4, ![1, 1, 1792, 1024]⟩
abbrev S1792x1024 : Shape := ⟨2, ![1792, 1024]⟩

abbrev nBuf : Space → Nat
  | .hbm => 8
  | .vmem => 7
  | .smem => 2
  | _ => 0

abbrev bufTy : (tb : Table) → Fin (tcTables nBuf tb) → BufTy
  | .hbm, ⟨0, _⟩ => ⟨S69632x1024, .f32⟩
  | .hbm, ⟨1, _⟩ => ⟨S2x8x1024x3584, .f32⟩
  | .hbm, ⟨2, _⟩ => ⟨S2x8x1024x3584, .f32⟩
  | .hbm, ⟨3, _⟩ => ⟨S2x8x3584x1024, .f32⟩
  | .hbm, ⟨4, _⟩ => ⟨S2x8x1024x3584, .bf16⟩
  | .hbm, ⟨5, _⟩ => ⟨S2x8x1024x3584, .bf16⟩
  | .hbm, ⟨6, _⟩ => ⟨S2x8x3584x1024, .bf16⟩
  | .hbm, ⟨7, _⟩ => ⟨S69632x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x3584, .bf16⟩
  | .local _ .vmem, ⟨3, _⟩ => ⟨S1x1x1024x3584, .bf16⟩
  | .local _ .vmem, ⟨4, _⟩ => ⟨S1x1x3584x1024, .bf16⟩
  | .local _ .vmem, ⟨5, _⟩ => ⟨S512x1024, .f32⟩
  | .local _ .vmem, ⟨6, _⟩ => ⟨S512x1024, .f32⟩
  | .local _ .smem, ⟨0, _⟩ => ⟨S136, .i32⟩
  | .local _ .smem, ⟨1, _⟩ => ⟨S1, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x3584x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S69632x1024 : Shape := ⟨2, ![69632, 1024]⟩
abbrev S136 : Shape := ⟨1, ![136]⟩
abbrev S1 : Shape := ⟨1, ![1]⟩
abbrev S2x8x1024x3584 : Shape := ⟨4, ![2, 8, 1024, 3584]⟩
abbrev S2x8x3584x1024 : Shape := ⟨4, ![2, 8, 3584, 1024]⟩
abbrev S_ : Shape := ⟨0, ![]⟩
abbrev S69632 : Shape := ⟨1, ![69632]⟩
abbrev S136x512 : Shape := ⟨2, ![136, 512]⟩
abbrev S69632x1 : Shape := ⟨2, ![69632, 1]⟩
abbrev S8 : Shape := ⟨1, ![8]⟩
abbrev S1x8 : Shape := ⟨2, ![1, 8]⟩
abbrev S69632x8 : Shape := ⟨2, ![69632, 8]⟩
abbrev S1x1x1024x3584 : Shape := ⟨4, ![1, 1, 1024, 3584]⟩
abbrev S1024x3584 : Shape := ⟨2, ![1024, 3584]⟩
abbrev S69632x3584 : Shape := ⟨2, ![69632, 3584]⟩
abbrev S1x1x3584x1024 : Shape := ⟨4, ![1, 1, 3584, 1024]⟩
abbrev S3584x1024 : Shape := ⟨2, ![3584, 1024]⟩

abbrev nBuf : Space → Nat
  | .hbm => 226
  | .vmem => 0
  | .smem => 0
  | _ => 0

abbrev hbmTy0_0 (i : Nat) : BufTy := match i % 128 with
  | 0 => ⟨S69632x1024, .f32⟩
  | 1 => ⟨S136, .i32⟩
  | 2 => ⟨S1, .i32⟩
  | 3 => ⟨S2x8x1024x3584, .f32⟩
  | 4 => ⟨S2x8x1024x3584, .f32⟩
  | 5 => ⟨S2x8x3584x1024, .f32⟩
  | 6 => ⟨S_, .f32⟩
  | 7 => ⟨S69632x1024, .f32⟩
  | 8 => ⟨S69632, .i32⟩
  | 9 => ⟨S_, .i32⟩
  | 10 => ⟨S_, .i32⟩
  | 11 => ⟨S69632, .i32⟩
  | 12 => ⟨S69632, .i32⟩
  | 13 => ⟨S69632, .i32⟩
  | 14 => ⟨S_, .i32⟩
  | 15 => ⟨S69632, .i32⟩
  | 16 => ⟨S69632, .i1⟩
  | 17 => ⟨S69632, .i32⟩
  | 18 => ⟨S69632, .i32⟩
  | 19 => ⟨S_, .i32⟩
  | 20 => ⟨S69632, .i32⟩
  | 21 => ⟨S69632, .i1⟩
  | 22 => ⟨S69632, .i1⟩
  | 23 => ⟨S_, .i32⟩
  | 24 => ⟨S69632, .i32⟩
  | 25 => ⟨S69632, .i32⟩
  | 26 => ⟨S69632, .i32⟩
  | 27 => ⟨S136x512, .i32⟩
  | 28 => ⟨S69632, .i32⟩
  | 29 => ⟨S69632x1, .i32⟩
  | 30 => ⟨S8, .i32⟩
  | 31 => ⟨S1x8, .i32⟩
  | 32 => ⟨S69632x8, .i32⟩
  | 33 => ⟨S69632x8, .i32⟩
  | 34 => ⟨S69632x8, .i1⟩
  | 35 => ⟨S_, .i32⟩
  | 36 => ⟨S69632, .i32⟩
  | 37 => ⟨S69632, .i1⟩
  | 38 => ⟨S69632x1, .i1⟩
  | 39 => ⟨S69632x8, .i1⟩
  | 40 => ⟨S69632x8, .i1⟩
  | 41 => ⟨S69632x8, .f32⟩
  | 42 => ⟨S1x1x1024x3584, .f32⟩
  | 43 => ⟨S1024x3584, .f32⟩
  | 44 => ⟨S69632x3584, .f32⟩
  | 45 => ⟨S1x1x1024x3584, .f32⟩
  | 46 => ⟨S1024x3584, .f32⟩
  | 47 => ⟨S69632x3584, .f32⟩
  | 48 => ⟨S69632x1, .f32⟩
  | 49 => ⟨S69632x3584, .f32⟩
  | 50 => ⟨S69632x3584, .f32⟩
  | 51 => ⟨S_, .f32⟩
  | 52 => ⟨S69632x3584, .f32⟩
  | 53 => ⟨S69632x3584, .f32⟩
  | 54 => ⟨S_, .f32⟩
  | 55 => ⟨S69632x3584, .f32⟩
  | 56 => ⟨S69632x3584, .f32⟩
  | 57 => ⟨S69632x3584, .f32⟩
  | 58 => ⟨S69632x3584, .f32⟩
  | 59 => ⟨S1x1x3584x1024, .f32⟩
  | 60 => ⟨S3584x1024, .f32⟩
  | 61 => ⟨S69632x1024, .f32⟩
  | 62 => ⟨S69632x1024, .f32⟩
  | 63 => ⟨S69632x1024, .f32⟩
  | 64 => ⟨S69632x1024, .f32⟩
  | 65 => ⟨S1x1x1024x3584, .f32⟩
  | 66 => ⟨S1024x3584, .f32⟩
  | 67 => ⟨S69632x3584, .f32⟩
  | 68 => ⟨S1x1x1024x3584, .f32⟩
  | 69 => ⟨S1024x3584, .f32⟩
  | 70 => ⟨S69632x3584, .f32⟩
  | 71 => ⟨S69632x1, .f32⟩
  | 72 => ⟨S69632x3584, .f32⟩
  | 73 => ⟨S69632x3584, .f32⟩
  | 74 => ⟨S_, .f32⟩
  | 75 => ⟨S69632x3584, .f32⟩
  | 76 => ⟨S69632x3584, .f32⟩
  | 77 => ⟨S_, .f32⟩
  | 78 => ⟨S69632x3584, .f32⟩
  | 79 => ⟨S69632x3584, .f32⟩
  | 80 => ⟨S69632x3584, .f32⟩
  | 81 => ⟨S69632x3584, .f32⟩
  | 82 => ⟨S1x1x3584x1024, .f32⟩
  | 83 => ⟨S3584x1024, .f32⟩
  | 84 => ⟨S69632x1024, .f32⟩
  | 85 => ⟨S69632x1024, .f32⟩
  | 86 => ⟨S69632x1024, .f32⟩
  | 87 => ⟨S69632x1024, .f32⟩
  | 88 => ⟨S1x1x1024x3584, .f32⟩
  | 89 => ⟨S1024x3584, .f32⟩
  | 90 => ⟨S69632x3584, .f32⟩
  | 91 => ⟨S1x1x1024x3584, .f32⟩
  | 92 => ⟨S1024x3584, .f32⟩
  | 93 => ⟨S69632x3584, .f32⟩
  | 94 => ⟨S69632x1, .f32⟩
  | 95 => ⟨S69632x3584, .f32⟩
  | 96 => ⟨S69632x3584, .f32⟩
  | 97 => ⟨S_, .f32⟩
  | 98 => ⟨S69632x3584, .f32⟩
  | 99 => ⟨S69632x3584, .f32⟩
  | 100 => ⟨S_, .f32⟩
  | 101 => ⟨S69632x3584, .f32⟩
  | 102 => ⟨S69632x3584, .f32⟩
  | 103 => ⟨S69632x3584, .f32⟩
  | 104 => ⟨S69632x3584, .f32⟩
  | 105 => ⟨S1x1x3584x1024, .f32⟩
  | 106 => ⟨S3584x1024, .f32⟩
  | 107 => ⟨S69632x1024, .f32⟩
  | 108 => ⟨S69632x1024, .f32⟩
  | 109 => ⟨S69632x1024, .f32⟩
  | 110 => ⟨S69632x1024, .f32⟩
  | 111 => ⟨S1x1x1024x3584, .f32⟩
  | 112 => ⟨S1024x3584, .f32⟩
  | 113 => ⟨S69632x3584, .f32⟩
  | 114 => ⟨S1x1x1024x3584, .f32⟩
  | 115 => ⟨S1024x3584, .f32⟩
  | 116 => ⟨S69632x3584, .f32⟩
  | 117 => ⟨S69632x1, .f32⟩
  | 118 => ⟨S69632x3584, .f32⟩
  | 119 => ⟨S69632x3584, .f32⟩
  | 120 => ⟨S_, .f32⟩
  | 121 => ⟨S69632x3584, .f32⟩
  | 122 => ⟨S69632x3584, .f32⟩
  | 123 => ⟨S_, .f32⟩
  | 124 => ⟨S69632x3584, .f32⟩
  | 125 => ⟨S69632x3584, .f32⟩
  | 126 => ⟨S69632x3584, .f32⟩
  | 127 => ⟨S69632x3584, .f32⟩
  | _ => ⟨S69632x1024, .f32⟩

abbrev hbmTy0_1 (i : Nat) : BufTy := match i % 128 with
  | 0 => ⟨S1x1x3584x1024, .f32⟩
  | 1 => ⟨S3584x1024, .f32⟩
  | 2 => ⟨S69632x1024, .f32⟩
  | 3 => ⟨S69632x1024, .f32⟩
  | 4 => ⟨S69632x1024, .f32⟩
  | 5 => ⟨S69632x1024, .f32⟩
  | 6 => ⟨S1x1x1024x3584, .f32⟩
  | 7 => ⟨S1024x3584, .f32⟩
  | 8 => ⟨S69632x3584, .f32⟩
  | 9 => ⟨S1x1x1024x3584, .f32⟩
  | 10 => ⟨S1024x3584, .f32⟩
  | 11 => ⟨S69632x3584, .f32⟩
  | 12 => ⟨S69632x1, .f32⟩
  | 13 => ⟨S69632x3584, .f32⟩
  | 14 => ⟨S69632x3584, .f32⟩
  | 15 => ⟨S_, .f32⟩
  | 16 => ⟨S69632x3584, .f32⟩
  | 17 => ⟨S69632x3584, .f32⟩
  | 18 => ⟨S_, .f32⟩
  | 19 => ⟨S69632x3584, .f32⟩
  | 20 => ⟨S69632x3584, .f32⟩
  | 21 => ⟨S69632x3584, .f32⟩
  | 22 => ⟨S69632x3584, .f32⟩
  | 23 => ⟨S1x1x3584x1024, .f32⟩
  | 24 => ⟨S3584x1024, .f32⟩
  | 25 => ⟨S69632x1024, .f32⟩
  | 26 => ⟨S69632x1024, .f32⟩
  | 27 => ⟨S69632x1024, .f32⟩
  | 28 => ⟨S69632x1024, .f32⟩
  | 29 => ⟨S1x1x1024x3584, .f32⟩
  | 30 => ⟨S1024x3584, .f32⟩
  | 31 => ⟨S69632x3584, .f32⟩
  | 32 => ⟨S1x1x1024x3584, .f32⟩
  | 33 => ⟨S1024x3584, .f32⟩
  | 34 => ⟨S69632x3584, .f32⟩
  | 35 => ⟨S69632x1, .f32⟩
  | 36 => ⟨S69632x3584, .f32⟩
  | 37 => ⟨S69632x3584, .f32⟩
  | 38 => ⟨S_, .f32⟩
  | 39 => ⟨S69632x3584, .f32⟩
  | 40 => ⟨S69632x3584, .f32⟩
  | 41 => ⟨S_, .f32⟩
  | 42 => ⟨S69632x3584, .f32⟩
  | 43 => ⟨S69632x3584, .f32⟩
  | 44 => ⟨S69632x3584, .f32⟩
  | 45 => ⟨S69632x3584, .f32⟩
  | 46 => ⟨S1x1x3584x1024, .f32⟩
  | 47 => ⟨S3584x1024, .f32⟩
  | 48 => ⟨S69632x1024, .f32⟩
  | 49 => ⟨S69632x1024, .f32⟩
  | 50 => ⟨S69632x1024, .f32⟩
  | 51 => ⟨S69632x1024, .f32⟩
  | 52 => ⟨S1x1x1024x3584, .f32⟩
  | 53 => ⟨S1024x3584, .f32⟩
  | 54 => ⟨S69632x3584, .f32⟩
  | 55 => ⟨S1x1x1024x3584, .f32⟩
  | 56 => ⟨S1024x3584, .f32⟩
  | 57 => ⟨S69632x3584, .f32⟩
  | 58 => ⟨S69632x1, .f32⟩
  | 59 => ⟨S69632x3584, .f32⟩
  | 60 => ⟨S69632x3584, .f32⟩
  | 61 => ⟨S_, .f32⟩
  | 62 => ⟨S69632x3584, .f32⟩
  | 63 => ⟨S69632x3584, .f32⟩
  | 64 => ⟨S_, .f32⟩
  | 65 => ⟨S69632x3584, .f32⟩
  | 66 => ⟨S69632x3584, .f32⟩
  | 67 => ⟨S69632x3584, .f32⟩
  | 68 => ⟨S69632x3584, .f32⟩
  | 69 => ⟨S1x1x3584x1024, .f32⟩
  | 70 => ⟨S3584x1024, .f32⟩
  | 71 => ⟨S69632x1024, .f32⟩
  | 72 => ⟨S69632x1024, .f32⟩
  | 73 => ⟨S69632x1024, .f32⟩
  | 74 => ⟨S69632x1024, .f32⟩
  | 75 => ⟨S1x1x1024x3584, .f32⟩
  | 76 => ⟨S1024x3584, .f32⟩
  | 77 => ⟨S69632x3584, .f32⟩
  | 78 => ⟨S1x1x1024x3584, .f32⟩
  | 79 => ⟨S1024x3584, .f32⟩
  | 80 => ⟨S69632x3584, .f32⟩
  | 81 => ⟨S69632x1, .f32⟩
  | 82 => ⟨S69632x3584, .f32⟩
  | 83 => ⟨S69632x3584, .f32⟩
  | 84 => ⟨S_, .f32⟩
  | 85 => ⟨S69632x3584, .f32⟩
  | 86 => ⟨S69632x3584, .f32⟩
  | 87 => ⟨S_, .f32⟩
  | 88 => ⟨S69632x3584, .f32⟩
  | 89 => ⟨S69632x3584, .f32⟩
  | 90 => ⟨S69632x3584, .f32⟩
  | 91 => ⟨S69632x3584, .f32⟩
  | 92 => ⟨S1x1x3584x1024, .f32⟩
  | 93 => ⟨S3584x1024, .f32⟩
  | 94 => ⟨S69632x1024, .f32⟩
  | 95 => ⟨S69632x1024, .f32⟩
  | 96 => ⟨S69632x1024, .f32⟩
  | 97 => ⟨S69632x1024, .f32⟩
  | _ => ⟨S69632x1024, .f32⟩

abbrev hbmTy (i : Nat) : BufTy := match i / 128 with
  | 0 => hbmTy0_0 i
  | 1 => hbmTy0_1 i
  | _ => ⟨S69632x1024, .f32⟩

abbrev bufTy : (tb : Table) → Fin (tcTables nBuf tb) → BufTy
  | .hbm, ⟨i, _⟩ => hbmTy i
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_call2_v0 : Ref sig .tc := ⟨.hbm, 72, rfl⟩
abbrev main_call2_v1 : Ref sig .tc := ⟨.hbm, 73, rfl⟩
abbrev main_call2_cst : Ref sig .tc := ⟨.hbm, 74, rfl⟩
abbrev main_call2_v2 : Ref sig .tc := ⟨.hbm, 75, rfl⟩
abbrev main_call2_v3 : Ref sig .tc := ⟨.hbm, 76, rfl⟩
abbrev main_call2_cst_0 : Ref sig .tc := ⟨.hbm, 77, rfl⟩
abbrev main_call2_v4 : Ref sig .tc := ⟨.hbm, 78, rfl⟩
abbrev main_call2_v5 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_call3_v0 : Ref sig .tc := ⟨.hbm, 95, rfl⟩
abbrev main_call3_v1 : Ref sig .tc := ⟨.hbm, 96, rfl⟩
abbrev main_call3_cst : Ref sig .tc := ⟨.hbm, 97, rfl⟩
abbrev main_call3_v2 : Ref sig .tc := ⟨.hbm, 98, rfl⟩
abbrev main_call3_v3 : Ref sig .tc := ⟨.hbm, 99, rfl⟩
abbrev main_call3_cst_0 : Ref sig .tc := ⟨.hbm, 100, rfl⟩
abbrev main_call3_v4 : Ref sig .tc := ⟨.hbm, 101, rfl⟩
abbrev main_call3_v5 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_call4_v0 : Ref sig .tc := ⟨.hbm, 118, rfl⟩
abbrev main_call4_v1 : Ref sig .tc := ⟨.hbm, 119, rfl⟩
abbrev main_call4_cst : Ref sig .tc := ⟨.hbm, 120, rfl⟩
abbrev main_call4_v2 : Ref sig .tc := ⟨.hbm, 121, rfl⟩
abbrev main_call4_v3 : Ref sig .tc := ⟨.hbm, 122, rfl⟩
abbrev main_call4_cst_0 : Ref sig .tc := ⟨.hbm, 123, rfl⟩
abbrev main_call4_v4 : Ref sig .tc := ⟨.hbm, 124, rfl⟩
abbrev main_call4_v5 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_call5_v0 : Ref sig .tc := ⟨.hbm, 141, rfl⟩
abbrev main_call5_v1 : Ref sig .tc := ⟨.hbm, 142, rfl⟩
abbrev main_call5_cst : Ref sig .tc := ⟨.hbm, 143, rfl⟩
abbrev main_call5_v2 : Ref sig .tc := ⟨.hbm, 144, rfl⟩
abbrev main_call5_v3 : Ref sig .tc := ⟨.hbm, 145, rfl⟩
abbrev main_call5_cst_0 : Ref sig .tc := ⟨.hbm, 146, rfl⟩
abbrev main_call5_v4 : Ref sig .tc := ⟨.hbm, 147, rfl⟩
abbrev main_call5_v5 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_call6_v0 : Ref sig .tc := ⟨.hbm, 164, rfl⟩
abbrev main_call6_v1 : Ref sig .tc := ⟨.hbm, 165, rfl⟩
abbrev main_call6_cst : Ref sig .tc := ⟨.hbm, 166, rfl⟩
abbrev main_call6_v2 : Ref sig .tc := ⟨.hbm, 167, rfl⟩
abbrev main_call6_v3 : Ref sig .tc := ⟨.hbm, 168, rfl⟩
abbrev main_call6_cst_0 : Ref sig .tc := ⟨.hbm, 169, rfl⟩
abbrev main_call6_v4 : Ref sig .tc := ⟨.hbm, 170, rfl⟩
abbrev main_call6_v5 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_call7_v0 : Ref sig .tc := ⟨.hbm, 187, rfl⟩
abbrev main_call7_v1 : Ref sig .tc := ⟨.hbm, 188, rfl⟩
abbrev main_call7_cst : Ref sig .tc := ⟨.hbm, 189, rfl⟩
abbrev main_call7_v2 : Ref sig .tc := ⟨.hbm, 190, rfl⟩
abbrev main_call7_v3 : Ref sig .tc := ⟨.hbm, 191, rfl⟩
abbrev main_call7_cst_0 : Ref sig .tc := ⟨.hbm, 192, rfl⟩
abbrev main_call7_v4 : Ref sig .tc := ⟨.hbm, 193, rfl⟩
abbrev main_call7_v5 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_call8_v0 : Ref sig .tc := ⟨.hbm, 210, rfl⟩
abbrev main_call8_v1 : Ref sig .tc := ⟨.hbm, 211, rfl⟩
abbrev main_call8_cst : Ref sig .tc := ⟨.hbm, 212, rfl⟩
abbrev main_call8_v2 : Ref sig .tc := ⟨.hbm, 213, rfl⟩
abbrev main_call8_v3 : Ref sig .tc := ⟨.hbm, 214, rfl⟩
abbrev main_call8_cst_0 : Ref sig .tc := ⟨.hbm, 215, rfl⟩
abbrev main_call8_v4 : Ref sig .tc := ⟨.hbm, 216, rfl⟩
abbrev main_call8_v5 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x6x1024 : Shape := ⟨3, ![8, 6, 1024]⟩
abbrev S1024x2816 : Shape := ⟨2, ![1024, 2816]⟩
abbrev S2816x1024 : Shape := ⟨2, ![2816, 1024]⟩
abbrev S32768x1024 : Shape := ⟨2, ![32768, 1024]⟩
abbrev S512x1024 : Shape := ⟨2, ![512, 1024]⟩
abbrev S1x6x1024 : Shape := ⟨3, ![1, 6, 1024]⟩
abbrev S6x1024 : Shape := ⟨2, ![6, 1024]⟩
abbrev S1x1024 : Shape := ⟨2, ![1, 1024]⟩
abbrev S512 : Shape := ⟨1, ![512]⟩
abbrev S512x1 : Shape := ⟨2, ![512, 1]⟩
abbrev S512x2816 : Shape := ⟨2, ![512, 2816]⟩

abbrev nBuf : Space → Nat
  | .hbm => 10
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8x4096x1024 : Shape := ⟨3, ![8, 4096, 1024]⟩
abbrev S8x6x1024 : Shape := ⟨3, ![8, 6, 1024]⟩
abbrev S1024x2816 : Shape := ⟨2, ![1024, 2816]⟩
abbrev S2816x1024 : Shape := ⟨2, ![2816, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S8x4096x2816 : Shape := ⟨3, ![8, 4096, 2816]⟩
abbrev S32768x1024 : Shape := ⟨2, ![32768, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x2816, .f32⟩
  | .hbm, ⟨29, _⟩ => ⟨S8x4096x2816, .f32⟩
  | .hbm, ⟨30, _⟩ => ⟨S8x4096x2816, .f32⟩
  | .hbm, ⟨31, _⟩ => ⟨S_, .f32⟩
  | .hbm, ⟨32, _⟩ => ⟨S8x4096x2816, .f32⟩
  | .hbm, ⟨33, _⟩ => ⟨S8x4096x2816, .f32⟩
  | .hbm, ⟨34, _⟩ => ⟨S_, .f32⟩
  | .hbm, ⟨35, _⟩ => ⟨S8x4096x2816, .f32⟩
  | .hbm, ⟨36, _⟩ => ⟨S8x4096x2816, .f32⟩
  | .hbm, ⟨37, _⟩ => ⟨S8x4096x2816, .f32⟩
  | .hbm, ⟨38, _⟩ => ⟨S8x4096x2816, .f32⟩
  | .hbm, ⟨39, _⟩ => ⟨S8x4096x2816, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Kernel4.lean ====
abbrev S8x4096x3072 : Shape := ⟨3, ![8, 4096, 3072]⟩
abbrev S32x8 : Shape := ⟨2, ![32, 8]⟩
abbrev S64 : Shape := ⟨1, ![64]⟩
abbrev S128 : Shape := ⟨1, ![128]⟩
abbrev S32768x3072 : Shape := ⟨2, ![32768, 3072]⟩
abbrev S256 : Shape := ⟨1, ![256]⟩
abbrev S5 : Shape := ⟨1, ![5]⟩
abbrev S_ : Shape := ⟨0, ![]⟩
abbrev S1x1x256 : Shape := ⟨3, ![1, 1, 256]⟩
abbrev S5x1x1 : Shape := ⟨3, ![5, 1, 1]⟩
abbrev S5x1x256 : Shape := ⟨3, ![5, 1, 256]⟩
abbrev S1x256x1 : Shape := ⟨3, ![1, 256, 1]⟩
abbrev S5x256x256 : Shape := ⟨3, ![5, 256, 256]⟩
abbrev S5x256x256x1 : Shape := ⟨4, ![5, 256, 256, 1]⟩
abbrev S5x256x256x8 : Shape := ⟨4, ![5, 256, 256, 8]⟩
abbrev S8x5x256x256 : Shape := ⟨4, ![8, 5, 256, 256]⟩
abbrev S1x64 : Shape := ⟨2, ![1, 64]⟩
abbrev S4x64 : Shape := ⟨2, ![4, 64]⟩
abbrev S1x128 : Shape := ⟨2, ![1, 128]⟩
abbrev S32768x1024 : Shape := ⟨2, ![32768, 1024]⟩
abbrev S1024x128 : Shape := ⟨2, ![1024, 128]⟩
abbrev S4096x128 : Shape := ⟨2, ![4096, 128]⟩
abbrev S1x5x256x256 : Shape := ⟨4, ![1, 5, 256, 256]⟩
abbrev S16x2048x256 : Shape := ⟨3, ![16, 2048, 256]⟩
abbrev S2048x128 : Shape := ⟨2, ![2048, 128]⟩
abbrev S2048x256 : Shape := ⟨2, ![2048, 256]⟩
abbrev S256x128 : Shape := ⟨2, ![256, 128]⟩
abbrev S1x1x256x256 : Shape := ⟨4, ![1, 1, 256, 256]⟩
abbrev S256x256 : Shape := ⟨2, ![256, 256]⟩
abbrev S1x2048x256 : Shape := ⟨3, ![1, 2048, 256]⟩
abbrev S2048 : Shape := ⟨1, ![2048]⟩
abbrev S2048x1 : Shape := ⟨2, ![2048, 1]⟩
abbrev S2048x2048 : Shape := ⟨2, ![2048, 2048]⟩
abbrev S1 : Shape := ⟨1, ![1]⟩
abbrev S1x1 : Shape := ⟨2, ![1, 1]⟩
abbrev S1024 : Shape := ⟨1, ![1024]⟩
abbrev S1024x1 : Shape := ⟨2, ![1024, 1]⟩

abbrev nBuf : Space → Nat
  | .hbm => 79
  | .vmem => 15
  | .smem => 0
  | _ => 0

abbrev bufTy : (tb : Table) → Fin (tcTables nBuf tb) → BufTy
  | .hbm, ⟨0, _⟩ => ⟨S8x4096x3072, .f32⟩
  | .hbm, ⟨1, _⟩ => ⟨S32x8, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S32768x3072, .f32⟩
  | .hbm, ⟨8, _⟩ => ⟨S32768x3072, .bf16⟩
  | .hbm, ⟨9, _⟩ => ⟨S256, .i32⟩
  | .hbm, ⟨10, _⟩ => ⟨S5, .i32⟩
  | .hbm, ⟨11, _⟩ => ⟨S_, .i32⟩
  | .hbm, ⟨12, _⟩ => ⟨S5, .i32⟩
  | .hbm, ⟨13, _⟩ => ⟨S5, .i32⟩
  | .hbm, ⟨14, _⟩ => ⟨S_, .i32⟩
  | .hbm, ⟨15, _⟩ => ⟨S5, .i32⟩
  | .hbm, ⟨16, _⟩ => ⟨S5, .i32⟩
  | .hbm, ⟨17, _⟩ => ⟨S1x1x256, .i32⟩
  | .hbm, ⟨18, _⟩ => ⟨S5x1x1, .i32⟩
  | .hbm, ⟨19, _⟩ => ⟨S5x1x256, .i32⟩
  | .hbm, ⟨20, _⟩ => ⟨S5x1x256, .i32⟩
  | .hbm, ⟨21, _⟩ => ⟨S5x1x256, .i32⟩
  | .hbm, ⟨22, _⟩ => ⟨S1x256x1, .i32⟩
  | .hbm, ⟨23, _⟩ => ⟨S5x256x256, .i32⟩
  | .hbm, ⟨24, _⟩ => ⟨S5x256x256, .i32⟩
  | .hbm, ⟨25, _⟩ => ⟨S5x256x256, .i32⟩
  | .hbm, ⟨26, _⟩ => ⟨S5x256x256, .i32⟩
  | .hbm, ⟨27, _⟩ => ⟨S_, .i32⟩
  | .hbm, ⟨28, _⟩ => ⟨S5x256x256, .i32⟩
  | .hbm, ⟨29, _⟩ => ⟨S5x256x256, .i32⟩
  | .hbm, ⟨30, _⟩ => ⟨S5x256x256, .f32⟩
  | .hbm, ⟨31, _⟩ => ⟨S_, .f32⟩
  | .hbm, ⟨32, _⟩ => ⟨S5x256x256, .f32⟩
  | .hbm, ⟨33, _⟩ => ⟨S5x256x256, .f32⟩
  | .hbm, ⟨34, _⟩ => ⟨S5x256x256, .f32⟩
  | .hbm, ⟨35, _⟩ => ⟨S_, .f32⟩
  | .hbm, ⟨36, _⟩ => ⟨S5x256x256, .f32⟩
  | .hbm, ⟨37, _⟩ => ⟨S5x256x256, .f32⟩
  | .hbm, ⟨38, _⟩ => ⟨S_, .f32⟩
  | .hbm, ⟨39, _⟩ => ⟨S5x256x256, .f32⟩
  | .hbm, ⟨40, _⟩ => ⟨S5x256x256, .f32⟩
  | .hbm, ⟨41, _⟩ => ⟨S5x256x256, .i32⟩
  | .hbm, ⟨42, _⟩ => ⟨S_, .i32⟩
  | .hbm, ⟨43, _⟩ => ⟨S5x256x256, .i32⟩
  | .hbm, ⟨44, _⟩ => ⟨S5x256x256, .i32⟩
  | .hbm, ⟨45, _⟩ => ⟨S_, .i32⟩
  | .hbm, ⟨46, _⟩ => ⟨S5x256x256, .i32⟩
  | .hbm, ⟨47, _⟩ => ⟨S5x256x256, .i32⟩
  | .hbm, ⟨48, _⟩ => ⟨S_, .i32⟩
  | .hbm, ⟨49, _⟩ => ⟨S5x256x256, .i32⟩
  | .hbm, ⟨50, _⟩ => ⟨S5x256x256, .i1⟩
  | .hbm, ⟨51, _⟩ => ⟨S_, .i32⟩
  | .hbm, ⟨52, _⟩ => ⟨S_, .i32⟩
  | .hbm, ⟨53, _⟩ => ⟨S5x256x256, .i32⟩
  | .hbm, ⟨54, _⟩ => ⟨S5x256x256, .i32⟩
  | .hbm, ⟨55, _⟩ => ⟨S5x256x256, .i32⟩
  | .hbm, ⟨56, _⟩ => ⟨S_, .i32⟩
  | .hbm, ⟨57, _⟩ => ⟨S5x256x256, .i32⟩
  | .hbm, ⟨58, _⟩ => ⟨S5x256x256, .i1⟩
  | .hbm, ⟨59, _⟩ => ⟨S5x256x256, .i32⟩
  | .hbm, ⟨60, _⟩ => ⟨S5x256x256, .i32⟩
  | .hbm, ⟨61, _⟩ => ⟨S5x256x256, .i32⟩
  | .hbm, ⟨62, _⟩ => ⟨S_, .i32⟩
  | .hbm, ⟨63, _⟩ => ⟨S5x256x256, .i32⟩
  | .hbm, ⟨64, _⟩ => ⟨S5x256x256, .i1⟩
  | .hbm, ⟨65, _⟩ => ⟨S_, .i32⟩
  | .hbm, ⟨66, _⟩ => ⟨S5x256x256, .i32⟩
  | .hbm, ⟨67, _⟩ => ⟨S5x256x256, .i32⟩
  | .hbm, ⟨68, _⟩ => ⟨S5x256x256, .i32⟩
  | .hbm, ⟨69, _⟩ => ⟨S5x256x256x1, .i32⟩
  | .hbm, ⟨70, _⟩ => ⟨S5x256x256x8, .f32⟩
  | .hbm, ⟨71, _⟩ => ⟨S8x5x256x256, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S4x64, .f32⟩
  | .hbm, ⟨77, _⟩ => ⟨S1x128, .f32⟩
  | .hbm, ⟨78, _⟩ => ⟨S32768x1024, .bf16⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x5x256x256, .f32⟩
  | .local _ .vmem, ⟨7, _⟩ => ⟨S1x5x256x256, .f32⟩
  | .local _ .vmem, ⟨8, _⟩ => ⟨S4x64, .f32⟩
  | .local _ .vmem, ⟨9, _⟩ => ⟨S1x128, .f32⟩
  | .local _ .vmem, ⟨10, _⟩ => ⟨S1024x128, .bf16⟩
  | .local _ .vmem, ⟨11, _⟩ => ⟨S1024x128, .bf16⟩
  | .local _ .vmem, ⟨12, _⟩ => ⟨S16x2048x256, .f32⟩
  | .local _ .vmem, ⟨13, _⟩ => ⟨S2048x128, .f32⟩
  | .local _ .vmem, ⟨14, _⟩ => ⟨S2048x256, .f32⟩
  | _, _ => ⟨S8x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_c_8 : Ref sig .tc := ⟨.hbm, 52, rfl⟩
abbrev main_call0_v0 : Ref sig .tc := ⟨.hbm, 53, rfl⟩
abbrev main_call0_v1 : Ref sig .tc := ⟨.hbm, 54, rfl⟩
abbrev main_v35 : Ref sig .tc := ⟨.hbm, 55, rfl⟩
abbrev main_c_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_10 : Ref sig .tc := ⟨.hbm, 62, rfl⟩
abbrev main_v41 : Ref sig .tc := ⟨.hbm, 63, rfl⟩
abbrev main_v42 : Ref sig .tc := ⟨.hbm, 64, rfl⟩
abbrev main_c_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 8, 4], ![false, false, false]⟩

def k0_off1 (i : grid0.Coords) (c0_i32_8 : BitVec 32) (c0_i32 : BitVec 32) : Fin 4 → Nat :=
  let c0_10 : Index := 0#32
  let c2_i32 : BitVec 32 := 2#32
  let c_m2_i32 : BitVec 32 := 4294967294#32
  let c4_i32 : BitVec 32 := 4#32
  let arg2 : BitVec 32 := BitVec.ofNat 32 (i 2).val
  let v20 : BitVec 32 := Scalar.muli c4_i32 arg2
  let v21 : BitVec 32 := Scalar.addi v20 c0_i32
  let v22 : BitVec 32 := Scalar.subi c0_i32_8 v21
  let v23 : BitVec 32 := Scalar.maxsi c_m2_i32 v22
  let v24 : BitVec 32 := Scalar.minsi c2_i32 v23
  let c2_i32_9 : BitVec 32 := 2#32
  let v25 : BitVec 32 := Scalar.addi v24 c2_i32_9
  let v26 : Index := Scalar.indexCast v25
  let c0_11 : Index := 0#32
  let c0_12 : Index := 0#32
  ![0, v26.toNat, 0, 0]
@[reducible] def k0_t1_loop : Scf.Loop 32 :=
  let c0_i32_719 : BitVec 32 := 0#32
  let c2_i32_720 : BitVec 32 := 2#32
  let v894 : BitVec 32 := Scalar.addi c0_i32_719 c2_i32_720
  let c1_i32_721 : BitVec 32 := 1#32
  ⟨c0_i32_719, v894, c1_i32_721⟩
def k0_off2 (k0_t1 : Fin k0_t1_loop.trips) (c0_i32_741 : BitVec 32) : Fin 3 → Nat :=
  let c8_i32_740 : BitVec 32 := 8#32
  let c0_i32_719 : BitVec 32 := 0#32
  let c1_i32_721 : BitVec 32 := 1#32
  let arg13 : BitVec 32 := Scf.iv c0_i32_719 c1_i32_721 k0_t1
  let v940 : BitVec 32 := Scalar.muli c8_i32_740 arg13
  let v941 : BitVec 32 := Scalar.addi v940 c0_i32_741
  let v942 : Index := Scalar.indexCast v941
  let c0_742 : Index := 0#32
  let c0_743 : Index := 0#32
  ![v942.toNat, 0, 0]
def k0_mult1 (k0_t1 : Fin k0_t1_loop.trips) : BitVec 32 :=
  let c0_i32_719 : BitVec 32 := 0#32
  let c1_i32_721 : BitVec 32 := 1#32
  let arg13 : BitVec 32 := Scf.iv c0_i32_719 c1_i32_721 k0_t1
  let c2048_i32 : BitVec 32 := 2048#32
  let v1045 : BitVec 32 := Scalar.muli arg13 c2048_i32
  v1045
def k0_off3 (k0_t1 : Fin k0_t1_loop.trips) : Fin 2 → Nat :=
  let c0_i32_719 : BitVec 32 := 0#32
  let c1_i32_721 : BitVec 32 := 1#32
  let arg13 : BitVec 32 := Scf.iv c0_i32_719 c1_i32_721 k0_t1
  let c2048_i32 : BitVec 32 := 2048#32
  let v1045 : BitVec 32 := Scalar.muli arg13 c2048_i32
  let v1046 : BitVec 32 := v1045
  let v1047 : Index := Scalar.indexCast v1046
  let c0_772 : Index := 0#32
  ![v1047.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x5x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel4Ideal.lean ====
variable {F : FTy → Type} [FloatOps F] [Named F]
def κ : String → Option EReal := fun
  | "diff_scale" => some (((8 * (Real.log 2))⁻¹ : ℝ) : EReal)
  | "log2e" => some (((Real.log 2)⁻¹ : ℝ) : EReal)
  | _ => none
-- ==== Reference4Ideal.lean ====
abbrev S8x4096x3072 : Shape := ⟨3, ![8, 4096, 3072]⟩
abbrev S32x8 : Shape := ⟨2, ![32, 8]⟩
abbrev S64 : Shape := ⟨1, ![64]⟩
abbrev S128 : Shape := ⟨1, ![128]⟩
abbrev S8x4096x1024 : Shape := ⟨3, ![8, 4096, 1024]⟩
abbrev S8x4096x8x2x64 : Shape := ⟨5, ![8, 4096, 8, 2, 64]⟩
abbrev S8x4096x8x128 : Shape := ⟨4, ![8, 4096, 8, 128]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x4096x1 : Shape := ⟨3, ![4096, 4096, 1]⟩
abbrev S4096x4096x8 : Shape := ⟨3, ![4096, 4096, 8]⟩
abbrev S8x4096x4096 : Shape := ⟨3, ![8, 4096, 4096]⟩
abbrev S8x8x2x4096x4096 : Shape := ⟨5, ![8, 8, 2, 4096, 4096]⟩
abbrev S1x8x1x4096x4096 : Shape := ⟨5, ![1, 8, 1, 4096, 4096]⟩
abbrev S8x8x2x4096 : Shape := ⟨4, ![8, 8, 2, 4096]⟩
abbrev S8x8x2x4096x1 : Shape := ⟨5, ![8, 8, 2, 4096, 1]⟩
abbrev S8x8x1x4096x4096 : Shape := ⟨5, ![8, 8, 1, 4096, 4096]⟩
abbrev S8x8x4096x4096 : Shape := ⟨4, ![8, 8, 4096, 4096]⟩
abbrev S8x8x128x4096 : Shape := ⟨4, ![8, 8, 128, 4096]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S32768x1024 : Shape := ⟨2, ![32768, 1024]⟩

abbrev nBuf : Space → Nat
  | .hbm => 127
  | .vmem => 0
  | .smem => 0
  | _ => 0

abbrev bufTy : (tb : Table) → Fin (tcTables nBuf tb) → BufTy
  | .hbm, ⟨0, _⟩ => ⟨S8x4096x3072, .f32⟩
  | .hbm, ⟨1, _⟩ => ⟨S32x8, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S8x4096x1024, .f32⟩
  | .hbm, ⟨8, _⟩ => ⟨S8x4096x8x2x64, .f32⟩
  | .hbm, ⟨9, _⟩ => ⟨S8x4096x1024, .f32⟩
  | .hbm, ⟨10, _⟩ => ⟨S8x4096x8x2x64, .f32⟩
  | .hbm, ⟨11, _⟩ => ⟨S8x4096x1024, .f32⟩
  | .hbm, ⟨12, _⟩ => ⟨S8x4096x8x128, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096, .i32⟩
  | .hbm, ⟨25, _⟩ => ⟨S1x4096, .i32⟩
  | .hbm, ⟨26, _⟩ => ⟨S4096x1, .i32⟩
  | .hbm, ⟨27, _⟩ => ⟨S4096x4096, .i32⟩
  | .hbm, ⟨28, _⟩ => ⟨S4096x4096, .i32⟩
  | .hbm, ⟨29, _⟩ => ⟨S4096x4096, .i32⟩
  | .hbm, ⟨30, _⟩ => ⟨S4096x4096, .i32⟩
  | .hbm, ⟨31, _⟩ => ⟨S_, .i32⟩
  | .hbm, ⟨32, _⟩ => ⟨S4096x4096, .i32⟩
  | .hbm, ⟨33, _⟩ => ⟨S4096x4096, .i32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S4096x4096, .i32⟩
  | .hbm, ⟨46, _⟩ => ⟨S_, .i32⟩
  | .hbm, ⟨47, _⟩ => ⟨S4096x4096, .i32⟩
  | .hbm, ⟨48, _⟩ => ⟨S4096x4096, .i32⟩
  | .hbm, ⟨49, _⟩ => ⟨S_, .i32⟩
  | .hbm, ⟨50, _⟩ => ⟨S4096x4096, .i32⟩
  | .hbm, ⟨51, _⟩ => ⟨S4096x4096, .i32⟩
  | .hbm, ⟨52, _⟩ => ⟨S_, .i32⟩
  | .hbm, ⟨53, _⟩ => ⟨S4096x4096, .i32⟩
  | .hbm, ⟨54, _⟩ => ⟨S4096x4096, .i1⟩
  | .hbm, ⟨55, _⟩ => ⟨S_, .i32⟩
  | .hbm, ⟨56, _⟩ => ⟨S_, .i32⟩
  | .hbm, ⟨57, _⟩ => ⟨S4096x4096, .i32⟩
  | .hbm, ⟨58, _⟩ => ⟨S4096x4096, .i32⟩
  | .hbm, ⟨59, _⟩ => ⟨S4096x4096, .i32⟩
  | .hbm, ⟨60, _⟩ => ⟨S_, .i32⟩
  | .hbm, ⟨61, _⟩ => ⟨S4096x4096, .i32⟩
  | .hbm, ⟨62, _⟩ => ⟨S4096x4096, .i1⟩
  | .hbm, ⟨63, _⟩ => ⟨S4096x4096, .i32⟩
  | .hbm, ⟨64, _⟩ => ⟨S4096x4096, .i32⟩
  | .hbm, ⟨65, _⟩ => ⟨S4096x4096, .i32⟩
  | .hbm, ⟨66, _⟩ => ⟨S_, .i32⟩
  | .hbm, ⟨67, _⟩ => ⟨S4096x4096, .i32⟩
  | .hbm, ⟨68, _⟩ => ⟨S4096x4096, .i1⟩
  | .hbm, ⟨69, _⟩ => ⟨S_, .i32⟩
  | .hbm, ⟨70, _⟩ => ⟨S4096x4096, .i32⟩
  | .hbm, ⟨71, _⟩ => ⟨S4096x4096, .i32⟩
  | .hbm, ⟨72, _⟩ => ⟨S4096x4096, .i32⟩
  | .hbm, ⟨73, _⟩ => ⟨S4096x4096x1, .i32⟩
  | .hbm, ⟨74, _⟩ => ⟨S4096x4096x8, .f32⟩
  | .hbm, ⟨75, _⟩ => ⟨S8x4096x4096, .f32⟩
  | .hbm, ⟨76, _⟩ => ⟨S8x8x2x4096x4096, .f32⟩
  | .hbm, ⟨77, _⟩ => ⟨S_, .f32⟩
  | .hbm, ⟨78, _⟩ => ⟨S8x8x2x4096x4096, .f32⟩
  | .hbm, ⟨79, _⟩ => ⟨S8x8x2x4096x4096, .f32⟩
  | .hbm, ⟨80, _⟩ => ⟨S1x8x1x4096x4096, .f32⟩
  | .hbm, ⟨81, _⟩ => ⟨S8x8x2x4096x4096, .f32⟩
  | .hbm, ⟨82, _⟩ => ⟨S8x8x2x4096x4096, .f32⟩
  | .hbm, ⟨83, _⟩ => ⟨S_, .f32⟩
  | .hbm, ⟨84, _⟩ => ⟨S8x8x2x4096, .f32⟩
  | .hbm, ⟨85, _⟩ => ⟨S_, .f32⟩
  | .hbm, ⟨86, _⟩ => ⟨S8x8x2x4096, .f32⟩
  | .hbm, ⟨87, _⟩ => ⟨S8x8x2x4096, .f32⟩
  | .hbm, ⟨88, _⟩ => ⟨S8x8x2x4096x1, .f32⟩
  | .hbm, ⟨89, _⟩ => ⟨S8x8x2x4096x4096, .f32⟩
  | .hbm, ⟨90, _⟩ => ⟨S8x8x2x4096x4096, .f32⟩
  | .hbm, ⟨91, _⟩ => ⟨S8x8x2x4096x4096, .f32⟩
  | .hbm, ⟨92, _⟩ => ⟨S_, .f32⟩
  | .hbm, ⟨93, _⟩ => ⟨S8x8x2x4096, .f32⟩
  | .hbm, ⟨94, _⟩ => ⟨S8x8x2x4096x1, .f32⟩
  | .hbm, ⟨95, _⟩ => ⟨S8x8x2x4096x4096, .f32⟩
  | .hbm, ⟨96, _⟩ => ⟨S8x8x2x4096x4096, .f32⟩
  | .hbm, ⟨97, _⟩ => ⟨S8x8x1x4096x4096, .f32⟩
  | .hbm, ⟨98, _⟩ => ⟨S8x8x4096x4096, .f32⟩
  | .hbm, ⟨99, _⟩ => ⟨S8x8x1x4096x4096, .f32⟩
  | .hbm, ⟨100, _⟩ => ⟨S8x8x4096x4096, .f32⟩
  | .hbm, ⟨101, _⟩ => ⟨S8x8x4096x4096, .f32⟩
  | .hbm, ⟨102, _⟩ => ⟨S8x8x4096x4096, .f32⟩
  | .hbm, ⟨103, _⟩ => ⟨S8x8x4096x4096, .f32⟩
  | .hbm, ⟨104, _⟩ => ⟨S8x8x128x4096, .f32⟩
  | .hbm, ⟨105, _⟩ => ⟨S8x4096x8x128, .f32⟩
  | .hbm, ⟨106, _⟩ => ⟨S8x4096x8x128, .f32⟩
  | .hbm, ⟨107, _⟩ => ⟨S_, .f32⟩
  | .hbm, ⟨108, _⟩ => ⟨S8x4096x8, .f32⟩
  | .hbm, ⟨109, _⟩ => ⟨S8x4096x8x1, .f32⟩
  | .hbm, ⟨110, _⟩ => ⟨S_, .f32⟩
  | .hbm, ⟨111, _⟩ => ⟨S8x4096x8x1, .f32⟩
  | .hbm, ⟨112, _⟩ => ⟨S8x4096x8x1, .f32⟩
  | .hbm, ⟨113, _⟩ => ⟨S_, .f32⟩
  | .hbm, ⟨114, _⟩ => ⟨S8x4096x8x1, .f32⟩
  | .hbm, ⟨115, _⟩ => ⟨S8x4096x8x1, .f32⟩
  | .hbm, ⟨116, _⟩ => ⟨S8x4096x8x1, .f32⟩
  | .hbm, ⟨117, _⟩ => ⟨S8x4096x8x128, .f32⟩
  | .hbm, ⟨118, _⟩ => ⟨S8x4096x8x128, .f32⟩
  | .hbm, ⟨119, _⟩ => ⟨S1x1x1x128, .f32⟩
  | .hbm, ⟨120, _⟩ => ⟨S8x4096x8x128, .f32⟩
  | .hbm, ⟨121, _⟩ => ⟨S8x4096x8x128, .f32⟩
  | .hbm, ⟨122, _⟩ => ⟨S_, .f32⟩
  | .hbm, ⟨123, _⟩ => ⟨S8x4096x8x128, .f32⟩
  | .hbm, ⟨124, _⟩ => ⟨S8x4096x8x128, .f32⟩
  | .hbm, ⟨125, _⟩ => ⟨S32768x1024, .f32⟩
  | .hbm, ⟨126, _⟩ => ⟨S32768x1024, .bf16⟩
  | _, _ => ⟨S8x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_c_9 : Ref sig .tc := ⟨.hbm, 56, rfl⟩
abbrev main_call0_v0 : Ref sig .tc := ⟨.hbm, 57, rfl⟩
abbrev main_call0_v1 : Ref sig .tc := ⟨.hbm, 58, rfl⟩
abbrev main_v38 : Ref sig .tc := ⟨.hbm, 59, rfl⟩
abbrev main_c_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_11 : Ref sig .tc := ⟨.hbm, 66, rfl⟩
abbrev main_v44 : Ref sig .tc := ⟨.hbm, 67, rfl⟩
abbrev main_v45 : Ref sig .tc := ⟨.hbm, 68, rfl⟩
abbrev main_c_12 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_13 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_cst_15 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_17 : Ref sig .tc := ⟨.hbm, 107, rfl⟩
abbrev main_v79 : Ref sig .tc := ⟨.hbm, 108, rfl⟩
abbrev main_v80 : Ref sig .tc := ⟨.hbm, 109, rfl⟩
abbrev main_cst_18 : Ref sig .tc := ⟨.hbm, 110, rfl⟩
abbrev main_v81 : Ref sig .tc := ⟨.hbm, 111, rfl⟩
abbrev main_v82 : Ref sig .tc := ⟨.hbm, 112, rfl⟩
abbrev main_cst_19 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_20 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩

abbrev nD : Nat := 1
abbrev τ : Topo := Topo.v7x

variable {F : FTy → Type} [FloatOps F]
-- ==== Kernel5.lean ====
abbrev S32768x1024 : Shape := ⟨2, ![32768, 1024]⟩
abbrev S1024x1024 : Shape := ⟨2, ![1024, 1024]⟩
abbrev S8x4096x1024 : Shape := ⟨3, ![8, 4096, 1024]⟩
abbrev S8x6x1024 : Shape := ⟨3, ![8, 6, 1024]⟩
abbrev S1x6x1024 : Shape := ⟨3, ![1, 6, 1024]⟩
abbrev S6x1024 : Shape := ⟨2, ![6, 1024]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S8x4096x1024, .f32⟩
  | .hbm, ⟨3, _⟩ => ⟨S8x6x1024, .f32⟩
  | .hbm, ⟨4, _⟩ => ⟨S1024x1024, .bf16⟩
  | .hbm, ⟨5, _⟩ => ⟨S32768x1024, .f32⟩
  | .hbm, ⟨6, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x6x1024, .f32⟩
  | .local _ .vmem, ⟨6, _⟩ => ⟨S1x6x1024, .f32⟩
  | .local _ .vmem, ⟨7, _⟩ => ⟨S1024x1024, .f32⟩
  | .local _ .vmem, ⟨8, _⟩ => ⟨S1024x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S32768x1024 : Shape := ⟨2, ![32768, 1024]⟩
abbrev S1024x1024 : Shape := ⟨2, ![1024, 1024]⟩
abbrev S8x4096x1024 : Shape := ⟨3, ![8, 4096, 1024]⟩
abbrev S8x6x1024 : Shape := ⟨3, ![8, 6, 1024]⟩
abbrev S8x1x1024 : Shape := ⟨3, ![8, 1, 1024]⟩

abbrev nBuf : Space → Nat
  | .hbm => 12
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1024, .f32⟩
  | .hbm, ⟨2, _⟩ => ⟨S8x4096x1024, .f32⟩
  | .hbm, ⟨3, _⟩ => ⟨S8x6x1024, .f32⟩
  | .hbm, ⟨4, _⟩ => ⟨S8x4096x1024, .bf16⟩
  | .hbm, ⟨5, _⟩ => ⟨S8x4096x1024, .f32⟩
  | .hbm, ⟨6, _⟩ => ⟨S8x4096x1024, .f32⟩
  | .hbm, ⟨7, _⟩ => ⟨S8x1x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel6.lean ====
abbrev S32768x2048 : Shape := ⟨2, ![32768, 2048]⟩
abbrev S32768x6144 : Shape := ⟨2, ![32768, 6144]⟩
abbrev S2048x1024 : Shape := ⟨2, ![2048, 1024]⟩
abbrev S8x4096x1024 : Shape := ⟨3, ![8, 4096, 1024]⟩
abbrev S8x6x1024 : Shape := ⟨3, ![8, 6, 1024]⟩
abbrev S32768x1024 : Shape := ⟨2, ![32768, 1024]⟩
abbrev S512x2048 : Shape := ⟨2, ![512, 2048]⟩
abbrev S512x1024 : Shape := ⟨2, ![512, 1024]⟩
abbrev S1x6x1024 : Shape := ⟨3, ![1, 6, 1024]⟩
abbrev S6x1024 : Shape := ⟨2, ![6, 1024]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S32768x2048, .bf16⟩
  | .hbm, ⟨1, _⟩ => ⟨S32768x6144, .bf16⟩
  | .hbm, ⟨2, _⟩ => ⟨S2048x1024, .f32⟩
  | .hbm, ⟨3, _⟩ => ⟨S8x4096x1024, .f32⟩
  | .hbm, ⟨4, _⟩ => ⟨S8x6x1024, .f32⟩
  | .hbm, ⟨5, _⟩ => ⟨S2048x1024, .bf16⟩
  | .hbm, ⟨6, _⟩ => ⟨S32768x1024, .f32⟩
  | .hbm, ⟨7, _⟩ => ⟨S32768x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S1x6x1024, .f32⟩
  | .local _ .vmem, ⟨8, _⟩ => ⟨S1x6x1024, .f32⟩
  | .local _ .vmem, ⟨9, _⟩ => ⟨S512x1024, .f32⟩
  | .local _ .vmem, ⟨10, _⟩ => ⟨S512x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S32768x2048 : Shape := ⟨2, ![32768, 2048]⟩
abbrev S32768x6144 : Shape := ⟨2, ![32768, 6144]⟩
abbrev S2048x1024 : Shape := ⟨2, ![2048, 1024]⟩
abbrev S8x4096x1024 : Shape := ⟨3, ![8, 4096, 1024]⟩
abbrev S8x6x1024 : Shape := ⟨3, ![8, 6, 1024]⟩
abbrev S_ : Shape := ⟨0, ![]⟩
abbrev S32768x1024 : Shape := ⟨2, ![32768, 1024]⟩
abbrev S8x1x1024 : Shape := ⟨3, ![8, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x6144, .bf16⟩
  | .hbm, ⟨2, _⟩ => ⟨S2048x1024, .f32⟩
  | .hbm, ⟨3, _⟩ => ⟨S8x4096x1024, .f32⟩
  | .hbm, ⟨4, _⟩ => ⟨S8x6x1024, .f32⟩
  | .hbm, ⟨5, _⟩ => ⟨S32768x2048, .bf16⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768x2048, .f32⟩
  | .hbm, ⟨12, _⟩ => ⟨S32768x2048, .f32⟩
  | .hbm, ⟨13, _⟩ => ⟨S_, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S32768x1024, .f32⟩
  | .hbm, ⟨19, _⟩ => ⟨S8x1x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S32768x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]
-- ==== Kernel7.lean ====
abbrev S8x4096x1024 : Shape := ⟨3, ![8, 4096, 1024]⟩
abbrev S8x6x1024 : Shape := ⟨3, ![8, 6, 1024]⟩
abbrev S1024x3072 : Shape := ⟨2, ![1024, 3072]⟩
abbrev S32768x1024 : Shape := ⟨2, ![32768, 1024]⟩
abbrev S32768x3072 : Shape := ⟨2, ![32768, 3072]⟩
abbrev S1024x1024 : Shape := ⟨2, ![1024, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024x3072, .f32⟩
  | .hbm, ⟨3, _⟩ => ⟨S32768x1024, .f32⟩
  | .hbm, ⟨4, _⟩ => ⟨S1024x3072, .bf16⟩
  | .hbm, ⟨5, _⟩ => ⟨S32768x3072, .bf16⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x3072, .bf16⟩
  | .local _ .vmem, ⟨5, _⟩ => ⟨S1024x3072, .bf16⟩
  | .local _ .vmem, ⟨6, _⟩ => ⟨S1024x3072, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference7Ideal.lean ====
abbrev S8x4096x1024 : Shape := ⟨3, ![8, 4096, 1024]⟩
abbrev S8x6x1024 : Shape := ⟨3, ![8, 6, 1024]⟩
abbrev S1024x3072 : Shape := ⟨2, ![1024, 3072]⟩
abbrev S_ : Shape := ⟨0, ![]⟩
abbrev S8x4096 : Shape := ⟨2, ![8, 4096]⟩
abbrev S8x4096x1 : Shape := ⟨3, ![8, 4096, 1]⟩
abbrev S8x1x1024 : Shape := ⟨3, ![8, 1, 1024]⟩
abbrev S8x4096x3072 : Shape := ⟨3, ![8, 4096, 3072]⟩
abbrev S32768x3072 : Shape := ⟨2, ![32768, 3072]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024x3072, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S8x1x1024, .f32⟩
  | .hbm, ⟨17, _⟩ => ⟨S_, .f32⟩
  | .hbm, ⟨18, _⟩ => ⟨S8x1x1024, .f32⟩
  | .hbm, ⟨19, _⟩ => ⟨S8x1x1024, .f32⟩
  | .hbm, ⟨20, _⟩ => ⟨S8x4096x1024, .f32⟩
  | .hbm, ⟨21, _⟩ => ⟨S8x4096x1024, .f32⟩
  | .hbm, ⟨22, _⟩ => ⟨S8x1x1024, .f32⟩
  | .hbm, ⟨23, _⟩ => ⟨S8x4096x1024, .f32⟩
  | .hbm, ⟨24, _⟩ => ⟨S8x4096x1024, .f32⟩
  | .hbm, ⟨25, _⟩ => ⟨S8x4096x3072, .f32⟩
  | .hbm, ⟨26, _⟩ => ⟨S32768x3072, .f32⟩
  | .hbm, ⟨27, _⟩ => ⟨S32768x3072, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel8.lean ====
abbrev S8x4096x1024 : Shape := ⟨3, ![8, 4096, 1024]⟩
abbrev S8x6x1024 : Shape := ⟨3, ![8, 6, 1024]⟩
abbrev S1024x2048 : Shape := ⟨2, ![1024, 2048]⟩
abbrev S2048 : Shape := ⟨1, ![2048]⟩
abbrev S32768x1024 : Shape := ⟨2, ![32768, 1024]⟩
abbrev S1x2048 : Shape := ⟨2, ![1, 2048]⟩
abbrev S512x1024 : Shape := ⟨2, ![512, 1024]⟩
abbrev S1x6x1024 : Shape := ⟨3, ![1, 6, 1024]⟩
abbrev S6x1024 : Shape := ⟨2, ![6, 1024]⟩
abbrev S1x1024 : Shape := ⟨2, ![1, 1024]⟩
abbrev S512 : Shape := ⟨1, ![512]⟩
abbrev S512x1 : Shape := ⟨2, ![512, 1]⟩
abbrev S512x2048 : Shape := ⟨2, ![512, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024x2048, .f32⟩
  | .hbm, ⟨3, _⟩ => ⟨S2048, .f32⟩
  | .hbm, ⟨4, _⟩ => ⟨S32768x1024, .f32⟩
  | .hbm, ⟨5, _⟩ => ⟨S1024x2048, .bf16⟩
  | .hbm, ⟨6, _⟩ => ⟨S1x2048, .f32⟩
  | .hbm, ⟨7, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x2048, .bf16⟩
  | .local _ .vmem, ⟨5, _⟩ => ⟨S1x2048, .f32⟩
  | .local _ .vmem, ⟨6, _⟩ => ⟨S512x1024, .bf16⟩
  | .local _ .vmem, ⟨7, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference8Ideal.lean ====
abbrev S8x4096x1024 : Shape := ⟨3, ![8, 4096, 1024]⟩
abbrev S8x6x1024 : Shape := ⟨3, ![8, 6, 1024]⟩
abbrev S1024x2048 : Shape := ⟨2, ![1024, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S8x1x1024 : Shape := ⟨3, ![8, 1, 1024]⟩
abbrev S8x4096x2048 : Shape := ⟨3, ![8, 4096, 2048]⟩
abbrev S1x1x2048 : Shape := ⟨3, ![1, 1, 2048]⟩
abbrev S32768x1024 : Shape := ⟨2, ![32768, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024x2048, .f32⟩
  | .hbm, ⟨3, _⟩ => ⟨S2048, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S8x1x1024, .f32⟩
  | .hbm, ⟨18, _⟩ => ⟨S_, .f32⟩
  | .hbm, ⟨19, _⟩ => ⟨S8x1x1024, .f32⟩
  | .hbm, ⟨20, _⟩ => ⟨S8x1x1024, .f32⟩
  | .hbm, ⟨21, _⟩ => ⟨S8x4096x1024, .f32⟩
  | .hbm, ⟨22, _⟩ => ⟨S8x4096x1024, .f32⟩
  | .hbm, ⟨23, _⟩ => ⟨S8x1x1024, .f32⟩
  | .hbm, ⟨24, _⟩ => ⟨S8x4096x1024, .f32⟩
  | .hbm, ⟨25, _⟩ => ⟨S8x4096x1024, .f32⟩
  | .hbm, ⟨26, _⟩ => ⟨S8x4096x2048, .f32⟩
  | .hbm, ⟨27, _⟩ => ⟨S1x1x2048, .f32⟩
  | .hbm, ⟨28, _⟩ => ⟨S8x4096x2048, .f32⟩
  | .hbm, ⟨29, _⟩ => ⟨S8x4096x2048, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x4096x1024, .f32⟩
  | .hbm, ⟨36, _⟩ => ⟨S8x4096x1024, .f32⟩
  | .hbm, ⟨37, _⟩ => ⟨S_, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S32768x1024, .f32⟩
  | .hbm, ⟨42, _⟩ => ⟨S32768x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel9.lean ====
abbrev S8x4096x1024 : Shape := ⟨3, ![8, 4096, 1024]⟩
abbrev S8x6x1024 : Shape := ⟨3, ![8, 6, 1024]⟩
abbrev S1024x6144 : Shape := ⟨2, ![1024, 6144]⟩
abbrev S4096 : Shape := ⟨1, ![4096]⟩
abbrev S_ : Shape := ⟨0, ![]⟩
abbrev S127 : Shape := ⟨1, ![127]⟩
abbrev S1 : Shape := ⟨1, ![1]⟩
abbrev S128 : Shape := ⟨1, ![128]⟩
abbrev S4096x1 : Shape := ⟨2, ![4096, 1]⟩
abbrev S1x128 : Shape := ⟨2, ![1, 128]⟩
abbrev S4096x128 : Shape := ⟨2, ![4096, 128]⟩
abbrev S32768x1024 : Shape := ⟨2, ![32768, 1024]⟩
abbrev S32768x6144 : Shape := ⟨2, ![32768, 6144]⟩
abbrev S512x1024 : Shape := ⟨2, ![512, 1024]⟩
abbrev S1x6x1024 : Shape := ⟨3, ![1, 6, 1024]⟩
abbrev S512x128 : Shape := ⟨2, ![512, 128]⟩
abbrev S512x6144 : Shape := ⟨2, ![512, 6144]⟩
abbrev S6x1024 : Shape := ⟨2, ![6, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 43
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024x6144, .f32⟩
  | .hbm, ⟨3, _⟩ => ⟨S1024x6144, .bf16⟩
  | .hbm, ⟨4, _⟩ => ⟨S4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S127, .f32⟩
  | .hbm, ⟨13, _⟩ => ⟨S_, .f32⟩
  | .hbm, ⟨14, _⟩ => ⟨S127, .f32⟩
  | .hbm, ⟨15, _⟩ => ⟨S127, .f32⟩
  | .hbm, ⟨16, _⟩ => ⟨S1, .f32⟩
  | .hbm, ⟨17, _⟩ => ⟨S_, .f32⟩
  | .hbm, ⟨18, _⟩ => ⟨S127, .f32⟩
  | .hbm, ⟨19, _⟩ => ⟨S127, .f32⟩
  | .hbm, ⟨20, _⟩ => ⟨S127, .f32⟩
  | .hbm, ⟨21, _⟩ => ⟨S127, .f32⟩
  | .hbm, ⟨22, _⟩ => ⟨S1, .f32⟩
  | .hbm, ⟨23, _⟩ => ⟨S127, .f32⟩
  | .hbm, ⟨24, _⟩ => ⟨S127, .f32⟩
  | .hbm, ⟨25, _⟩ => ⟨S127, .f32⟩
  | .hbm, ⟨26, _⟩ => ⟨S1, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S4096x1, .f32⟩
  | .hbm, ⟨35, _⟩ => ⟨S1x128, .f32⟩
  | .hbm, ⟨36, _⟩ => ⟨S4096x128, .f32⟩
  | .hbm, ⟨37, _⟩ => ⟨S4096x128, .f32⟩
  | .hbm, ⟨38, _⟩ => ⟨S4096x128, .f32⟩
  | .hbm, ⟨39, _⟩ => ⟨S4096x128, .f32⟩
  | .hbm, ⟨40, _⟩ => ⟨S4096x128, .f32⟩
  | .hbm, ⟨41, _⟩ => ⟨S32768x1024, .f32⟩
  | .hbm, ⟨42, _⟩ => ⟨S32768x6144, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x6144, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x6144, .bf16⟩
  | .local _ .vmem, ⟨10, _⟩ => ⟨S512x6144, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_cst_1 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_v2 : Ref sig .tc := ⟨.hbm, 27, rfl⟩
abbrev main_cst_1 : Ref sig .tc := ⟨.hbm, 28, rfl⟩
abbrev main_v3 : Ref sig .tc := ⟨.hbm, 29, rfl⟩
abbrev main_v4 : Ref sig .tc := ⟨.hbm, 30, rfl⟩
abbrev main_cst_2 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference9Ideal.lean ====
abbrev S8x4096x1024 : Shape := ⟨3, ![8, 4096, 1024]⟩
abbrev S8x6x1024 : Shape := ⟨3, ![8, 6, 1024]⟩
abbrev S1024x6144 : Shape := ⟨2, ![1024, 6144]⟩
abbrev S_ : Shape := ⟨0, ![]⟩
abbrev S8x4096 : Shape := ⟨2, ![8, 4096]⟩
abbrev S8x4096x1 : Shape := ⟨3, ![8, 4096, 1]⟩
abbrev S8x1x1024 : Shape := ⟨3, ![8, 1, 1024]⟩
abbrev S8x4096x6144 : Shape := ⟨3, ![8, 4096, 6144]⟩
abbrev S8x4096x4x256 : Shape := ⟨4, ![8, 4096, 4, 256]⟩
abbrev S4096 : Shape := ⟨1, ![4096]⟩
abbrev S127 : Shape := ⟨1, ![127]⟩
abbrev S1 : Shape := ⟨1, ![1]⟩
abbrev S128 : Shape := ⟨1, ![128]⟩
abbrev S4096x1 : Shape := ⟨2, ![4096, 1]⟩
abbrev S1x128 : Shape := ⟨2, ![1, 128]⟩
abbrev S4096x128 : Shape := ⟨2, ![4096, 128]⟩
abbrev S4096x1x128 : Shape := ⟨3, ![4096, 1, 128]⟩
abbrev S8x4096x4x128 : Shape := ⟨4, ![8, 4096, 4, 128]⟩
abbrev S1x4096x1x128 : Shape := ⟨4, ![1, 4096, 1, 128]⟩
abbrev S8x4096x4096 : Shape := ⟨3, ![8, 4096, 4096]⟩
abbrev S32768x6144 : Shape := ⟨2, ![32768, 6144]⟩

abbrev nBuf : Space → Nat
  | .hbm => 116
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6x1024, .f32⟩
  | .hbm, ⟨2, _⟩ => ⟨S1024x6144, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S8x1x1024, .f32⟩
  | .hbm, ⟨17, _⟩ => ⟨S_, .f32⟩
  | .hbm, ⟨18, _⟩ => ⟨S8x1x1024, .f32⟩
  | .hbm, ⟨19, _⟩ => ⟨S8x1x1024, .f32⟩
  | .hbm, ⟨20, _⟩ => ⟨S8x4096x1024, .f32⟩
  | .hbm, ⟨21, _⟩ => ⟨S8x4096x1024, .f32⟩
  | .hbm, ⟨22, _⟩ => ⟨S8x1x1024, .f32⟩
  | .hbm, ⟨23, _⟩ => ⟨S8x4096x1024, .f32⟩
  | .hbm, ⟨24, _⟩ => ⟨S8x4096x1024, .f32⟩
  | .hbm, ⟨25, _⟩ => ⟨S8x4096x6144, .f32⟩
  | .hbm, ⟨26, _⟩ => ⟨S8x4096x1024, .f32⟩
  | .hbm, ⟨27, _⟩ => ⟨S8x4096x4x256, .f32⟩
  | .hbm, ⟨28, _⟩ => ⟨S8x4096x1024, .f32⟩
  | .hbm, ⟨29, _⟩ => ⟨S8x4096x4x256, .f32⟩
  | .hbm, ⟨30, _⟩ => ⟨S4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S127, .f32⟩
  | .hbm, ⟨39, _⟩ => ⟨S_, .f32⟩
  | .hbm, ⟨40, _⟩ => ⟨S127, .f32⟩
  | .hbm, ⟨41, _⟩ => ⟨S127, .f32⟩
  | .hbm, ⟨42, _⟩ => ⟨S1, .f32⟩
  | .hbm, ⟨43, _⟩ => ⟨S_, .f32⟩
  | .hbm, ⟨44, _⟩ => ⟨S127, .f32⟩
  | .hbm, ⟨45, _⟩ => ⟨S127, .f32⟩
  | .hbm, ⟨46, _⟩ => ⟨S127, .f32⟩
  | .hbm, ⟨47, _⟩ => ⟨S127, .f32⟩
  | .hbm, ⟨48, _⟩ => ⟨S1, .f32⟩
  | .hbm, ⟨49, _⟩ => ⟨S127, .f32⟩
  | .hbm, ⟨50, _⟩ => ⟨S127, .f32⟩
  | .hbm, ⟨51, _⟩ => ⟨S127, .f32⟩
  | .hbm, ⟨52, _⟩ => ⟨S1, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S4096x1, .f32⟩
  | .hbm, ⟨61, _⟩ => ⟨S1x128, .f32⟩
  | .hbm, ⟨62, _⟩ => ⟨S4096x128, .f32⟩
  | .hbm, ⟨63, _⟩ => ⟨S4096x128, .f32⟩
  | .hbm, ⟨64, _⟩ => ⟨S4096x128, .f32⟩
  | .hbm, ⟨65, _⟩ => ⟨S4096x128, .f32⟩
  | .hbm, ⟨66, _⟩ => ⟨S4096x1x128, .f32⟩
  | .hbm, ⟨67, _⟩ => ⟨S4096x128, .f32⟩
  | .hbm, ⟨68, _⟩ => ⟨S4096x1x128, .f32⟩
  | .hbm, ⟨69, _⟩ => ⟨S8x4096x4x128, .f32⟩
  | .hbm, ⟨70, _⟩ => ⟨S8x4096x4x128, .f32⟩
  | .hbm, ⟨71, _⟩ => ⟨S1x4096x1x128, .f32⟩
  | .hbm, ⟨72, _⟩ => ⟨S8x4096x4x128, .f32⟩
  | .hbm, ⟨73, _⟩ => ⟨S8x4096x4x128, .f32⟩
  | .hbm, ⟨74, _⟩ => ⟨S1x4096x1x128, .f32⟩
  | .hbm, ⟨75, _⟩ => ⟨S8x4096x4x128, .f32⟩
  | .hbm, ⟨76, _⟩ => ⟨S8x4096x4x128, .f32⟩
  | .hbm, ⟨77, _⟩ => ⟨S8x4096x4x128, .f32⟩
  | .hbm, ⟨78, _⟩ => ⟨S1x4096x1x128, .f32⟩
  | .hbm, ⟨79, _⟩ => ⟨S8x4096x4x128, .f32⟩
  | .hbm, ⟨80, _⟩ => ⟨S8x4096x4x128, .f32⟩
  | .hbm, ⟨81, _⟩ => ⟨S1x4096x1x128, .f32⟩
  | .hbm, ⟨82, _⟩ => ⟨S8x4096x4x128, .f32⟩
  | .hbm, ⟨83, _⟩ => ⟨S8x4096x4x128, .f32⟩
  | .hbm, ⟨84, _⟩ => ⟨S8x4096x4x128, .f32⟩
  | .hbm, ⟨85, _⟩ => ⟨S8x4096x4x256, .f32⟩
  | .hbm, ⟨86, _⟩ => ⟨S8x4096x1024, .f32⟩
  | .hbm, ⟨87, _⟩ => ⟨S4096x128, .f32⟩
  | .hbm, ⟨88, _⟩ => ⟨S4096x1x128, .f32⟩
  | .hbm, ⟨89, _⟩ => ⟨S4096x128, .f32⟩
  | .hbm, ⟨90, _⟩ => ⟨S4096x1x128, .f32⟩
  | .hbm, ⟨91, _⟩ => ⟨S8x4096x4x128, .f32⟩
  | .hbm, ⟨92, _⟩ => ⟨S8x4096x4x128, .f32⟩
  | .hbm, ⟨93, _⟩ => ⟨S1x4096x1x128, .f32⟩
  | .hbm, ⟨94, _⟩ => ⟨S8x4096x4x128, .f32⟩
  | .hbm, ⟨95, _⟩ => ⟨S8x4096x4x128, .f32⟩
  | .hbm, ⟨96, _⟩ => ⟨S1x4096x1x128, .f32⟩
  | .hbm, ⟨97, _⟩ => ⟨S8x4096x4x128, .f32⟩
  | .hbm, ⟨98, _⟩ => ⟨S8x4096x4x128, .f32⟩
  | .hbm, ⟨99, _⟩ => ⟨S8x4096x4x128, .f32⟩
  | .hbm, ⟨100, _⟩ => ⟨S1x4096x1x128, .f32⟩
  | .hbm, ⟨101, _⟩ => ⟨S8x4096x4x128, .f32⟩
  | .hbm, ⟨102, _⟩ => ⟨S8x4096x4x128, .f32⟩
  | .hbm, ⟨103, _⟩ => ⟨S1x4096x1x128, .f32⟩
  | .hbm, ⟨104, _⟩ => ⟨S8x4096x4x128, .f32⟩
  | .hbm, ⟨105, _⟩ => ⟨S8x4096x4x128, .f32⟩
  | .hbm, ⟨106, _⟩ => ⟨S8x4096x4x128, .f32⟩
  | .hbm, ⟨107, _⟩ => ⟨S8x4096x4x256, .f32⟩
  | .hbm, ⟨108, _⟩ => ⟨S_, .f32⟩
  | .hbm, ⟨109, _⟩ => ⟨S8x4096x4x256, .f32⟩
  | .hbm, ⟨110, _⟩ => ⟨S8x4096x4x256, .f32⟩
  | .hbm, ⟨111, _⟩ => ⟨S8x4096x1024, .f32⟩
  | .hbm, ⟨112, _⟩ => ⟨S8x4096x4096, .f32⟩
  | .hbm, ⟨113, _⟩ => ⟨S8x4096x6144, .f32⟩
  | .hbm, ⟨114, _⟩ => ⟨S32768x6144, .f32⟩
  | .hbm, ⟨115, _⟩ => ⟨S32768x6144, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_cst : Ref sig .tc := ⟨.hbm, 36, rfl⟩
abbrev main_call0_v3 : Ref sig .tc := ⟨.hbm, 37, rfl⟩
abbrev main_call0_v4 : Ref sig .tc := ⟨.hbm, 38, rfl⟩
abbrev main_call0_cst_0 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_v15 : Ref sig .tc := ⟨.hbm, 51, rfl⟩
abbrev main_call0_v16 : Ref sig .tc := ⟨.hbm, 52, rfl⟩
abbrev main_v24 : Ref sig .tc := ⟨.hbm, 53, rfl⟩
abbrev main_cst_5 : Ref sig .tc := ⟨.hbm, 54, rfl⟩
abbrev main_v25 : Ref sig .tc := ⟨.hbm, 55, rfl⟩
abbrev main_v26 : Ref sig .tc := ⟨.hbm, 56, rfl⟩
abbrev main_cst_6 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_7 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]
-- ==== Kernel10.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x6144x8, .f32⟩
  | .hbm, ⟨13, _⟩ => ⟨S4x8x6144, .f32⟩
  | .hbm, ⟨14, _⟩ => ⟨S4x1x6144, .f32⟩
  | .hbm, ⟨15, _⟩ => ⟨S4x8x6144, .f32⟩
  | .hbm, ⟨16, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel11.lean ====
abbrev S32x8 : Shape := ⟨2, ![32, 8]⟩
abbrev S256 : Shape := ⟨1, ![256]⟩
abbrev S5 : Shape := ⟨1, ![5]⟩
abbrev S_ : Shape := ⟨0, ![]⟩
abbrev S1x1x256 : Shape := ⟨3, ![1, 1, 256]⟩
abbrev S5x1x1 : Shape := ⟨3, ![5, 1, 1]⟩
abbrev S5x1x256 : Shape := ⟨3, ![5, 1, 256]⟩
abbrev S1x256x1 : Shape := ⟨3, ![1, 256, 1]⟩
abbrev S5x256x256 : Shape := ⟨3, ![5, 256, 256]⟩
abbrev S8x5x256x256 : Shape := ⟨4, ![8, 5, 256, 256]⟩
abbrev S1x256x256 : Shape := ⟨3, ![1, 256, 256]⟩
abbrev S1x1x256x256 : Shape := ⟨4, ![1, 1, 256, 256]⟩
abbrev S256x256 : Shape := ⟨2, ![256, 256]⟩
abbrev S1x1 : Shape := ⟨2, ![1, 1]⟩

abbrev nBuf : Space → Nat
  | .hbm => 55
  | .vmem => 4
  | .smem => 1
  | _ => 0

abbrev bufTy : (tb : Table) → Fin (tcTables nBuf tb) → BufTy
  | .hbm, ⟨0, _⟩ => ⟨S32x8, .f32⟩
  | .hbm, ⟨1, _⟩ => ⟨S256, .i32⟩
  | .hbm, ⟨2, _⟩ => ⟨S5, .i32⟩
  | .hbm, ⟨3, _⟩ => ⟨S_, .i32⟩
  | .hbm, ⟨4, _⟩ => ⟨S5, .i32⟩
  | .hbm, ⟨5, _⟩ => ⟨S5, .i32⟩
  | .hbm, ⟨6, _⟩ => ⟨S_, .i32⟩
  | .hbm, ⟨7, _⟩ => ⟨S5, .i32⟩
  | .hbm, ⟨8, _⟩ => ⟨S5, .i32⟩
  | .hbm, ⟨9, _⟩ => ⟨S1x1x256, .i32⟩
  | .hbm, ⟨10, _⟩ => ⟨S5x1x1, .i32⟩
  | .hbm, ⟨11, _⟩ => ⟨S5x1x256, .i32⟩
  | .hbm, ⟨12, _⟩ => ⟨S5x1x256, .i32⟩
  | .hbm, ⟨13, _⟩ => ⟨S5x1x256, .i32⟩
  | .hbm, ⟨14, _⟩ => ⟨S1x256x1, .i32⟩
  | .hbm, ⟨15, _⟩ => ⟨S5x256x256, .i32⟩
  | .hbm, ⟨16, _⟩ => ⟨S5x256x256, .i32⟩
  | .hbm, ⟨17, _⟩ => ⟨S5x256x256, .i32⟩
  | .hbm, ⟨18, _⟩ => ⟨S5x256x256, .i32⟩
  | .hbm, ⟨19, _⟩ => ⟨S_, .i32⟩
  | .hbm, ⟨20, _⟩ => ⟨S5x256x256, .i32⟩
  | .hbm, ⟨21, _⟩ => ⟨S5x256x256, .i32⟩
  | .hbm, ⟨22, _⟩ => ⟨S5x256x256, .f32⟩
  | .hbm, ⟨23, _⟩ => ⟨S_, .f32⟩
  | .hbm, ⟨24, _⟩ => ⟨S5x256x256, .f32⟩
  | .hbm, ⟨25, _⟩ => ⟨S5x256x256, .f32⟩
  | .hbm, ⟨26, _⟩ => ⟨S5x256x256, .f32⟩
  | .hbm, ⟨27, _⟩ => ⟨S_, .f32⟩
  | .hbm, ⟨28, _⟩ => ⟨S5x256x256, .f32⟩
  | .hbm, ⟨29, _⟩ => ⟨S5x256x256, .f32⟩
  | .hbm, ⟨30, _⟩ => ⟨S_, .f32⟩
  | .hbm, ⟨31, _⟩ => ⟨S5x256x256, .f32⟩
  | .hbm, ⟨32, _⟩ => ⟨S5x256x256, .f32⟩
  | .hbm, ⟨33, _⟩ => ⟨S5x256x256, .i32⟩
  | .hbm, ⟨34, _⟩ => ⟨S_, .i32⟩
  | .hbm, ⟨35, _⟩ => ⟨S5x256x256, .i32⟩
  | .hbm, ⟨36, _⟩ => ⟨S5x256x256, .i32⟩
  | .hbm, ⟨37, _⟩ => ⟨S_, .i32⟩
  | .hbm, ⟨38, _⟩ => ⟨S5x256x256, .i32⟩
  | .hbm, ⟨39, _⟩ => ⟨S5x256x256, .i32⟩
  | .hbm, ⟨40, _⟩ => ⟨S_, .i32⟩
  | .hbm, ⟨41, _⟩ => ⟨S5x256x256, .i32⟩
  | .hbm, ⟨42, _⟩ => ⟨S5x256x256, .i1⟩
  | .hbm, ⟨43, _⟩ => ⟨S_, .i32⟩
  | .hbm, ⟨44, _⟩ => ⟨S_, .i32⟩
  | .hbm, ⟨45, _⟩ => ⟨S5x256x256, .i32⟩
  | .hbm, ⟨46, _⟩ => ⟨S5x256x256, .i32⟩
  | .hbm, ⟨47, _⟩ => ⟨S5x256x256, .i32⟩
  | .hbm, ⟨48, _⟩ => ⟨S_, .i32⟩
  | .hbm, ⟨49, _⟩ => ⟨S5x256x256, .i32⟩
  | .hbm, ⟨50, _⟩ => ⟨S5x256x256, .i1⟩
  | .hbm, ⟨51, _⟩ => ⟨S5x256x256, .i32⟩
  | .hbm, ⟨52, _⟩ => ⟨S5x256x256, .i32⟩
  | .hbm, ⟨53, _⟩ => ⟨S5x256x256, .i32⟩
  | .hbm, ⟨54, _⟩ => ⟨S8x5x256x256, .f32⟩
  | .local _ .vmem, ⟨0, _⟩ => ⟨S1x256x256, .i32⟩
  | .local _ .vmem, ⟨1, _⟩ => ⟨S1x256x256, .i32⟩
  | .local _ .vmem, ⟨2, _⟩ => ⟨S1x1x256x256, .f32⟩
  | .local _ .vmem, ⟨3, _⟩ => ⟨S1x1x256x256, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_4 : Ref sig .tc := ⟨.hbm, 34, rfl⟩
abbrev main_v27 : Ref sig .tc := ⟨.hbm, 35, rfl⟩
abbrev main_v28 : Ref sig .tc := ⟨.hbm, 36, rfl⟩
abbrev main_c_5 : Ref sig .tc := ⟨.hbm, 37, rfl⟩
abbrev main_v29 : Ref sig .tc := ⟨.hbm, 38, rfl⟩
abbrev main_v30 : Ref sig .tc := ⟨.hbm, 39, rfl⟩
abbrev main_c_6 : Ref sig .tc := ⟨.hbm, 40, rfl⟩
abbrev main_v31 : Ref sig .tc := ⟨.hbm, 41, rfl⟩
abbrev main_v32 : Ref sig .tc := ⟨.hbm, 42, rfl⟩
abbrev main_c_7 : Ref sig .tc := ⟨.hbm, 43, rfl⟩
abbrev main_c_8 : Ref sig .tc := ⟨.hbm, 44, rfl⟩
abbrev main_call0_v0 : Ref sig .tc := ⟨.hbm, 45, rfl⟩
abbrev main_call0_v1 : Ref sig .tc := ⟨.hbm, 46, rfl⟩
abbrev main_v33 : Ref sig .tc := ⟨.hbm, 47, rfl⟩
abbrev main_c_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 5], ![false, false]⟩

def k0_off1 (i : grid0.Coords) : Fin 2 → Nat :=
  let c0_2 : Index := 0#32
  let arg0 : BitVec 32 := BitVec.ofNat 32 (i 0).val
  let v5 : Index := Scalar.indexCast arg0
  ![0, v5.toNat]
def k0_off2 (i : grid0.Coords) : Fin 2 → Nat :=
  let c1 : Index := 1#32
  let arg0 : BitVec 32 := BitVec.ofNat 32 (i 0).val
  let v11 : Index := Scalar.indexCast arg0
  ![1, v11.toNat]
def k0_off3 (i : grid0.Coords) : Fin 2 → Nat :=
  let c2 : Index := 2#32
  let arg0 : BitVec 32 := BitVec.ofNat 32 (i 0).val
  let v17 : Index := Scalar.indexCast arg0
  ![2, v17.toNat]
def k0_off4 (i : grid0.Coords) : Fin 2 → Nat :=
  let c3 : Index := 3#32
  let arg0 : BitVec 32 := BitVec.ofNat 32 (i 0).val
  let v23 : Index := Scalar.indexCast arg0
  ![3, v23.toNat]
def k0_off5 (i : grid0.Coords) : Fin 2 → Nat :=
  let c4 : Index := 4#32
  let arg0 : BitVec 32 := BitVec.ofNat 32 (i 0).val
  let v29 : Index := Scalar.indexCast arg0
  ![4, v29.toNat]
def k0_off6 (i : grid0.Coords) : Fin 2 → Nat :=
  let c5 : Index := 5#32
  let arg0 : BitVec 32 := BitVec.ofNat 32 (i 0).val
  let v35 : Index := Scalar.indexCast arg0
  ![5, v35.toNat]
def k0_off7 (i : grid0.Coords) : Fin 2 → Nat :=
  let c6 : Index := 6#32
  let arg0 : BitVec 32 := BitVec.ofNat 32 (i 0).val
  let v41 : Index := Scalar.indexCast arg0
  ![6, v41.toNat]
def k0_off8 (i : grid0.Coords) : Fin 2 → Nat :=
  let c7 : Index := 7#32
  let arg0 : BitVec 32 := BitVec.ofNat 32 (i 0).val
  let v47 : Index := Scalar.indexCast arg0
  ![7, v47.toNat]
def k0_off9 (i : grid0.Coords) : Fin 2 → Nat :=
  let c8 : Index := 8#32
  let arg0 : BitVec 32 := BitVec.ofNat 32 (i 0).val
  let v53 : Index := Scalar.indexCast arg0
  ![8, v53.toNat]
def k0_off10 (i : grid0.Coords) : Fin 2 → Nat :=
  let c9 : Index := 9#32
  let arg0 : BitVec 32 := BitVec.ofNat 32 (i 0).val
  let v59 : Index := Scalar.indexCast arg0
  ![9, v59.toNat]
def k0_off11 (i : grid0.Coords) : Fin 2 → Nat :=
  let c10 : Index := 10#32
  let arg0 : BitVec 32 := BitVec.ofNat 32 (i 0).val
  let v65 : Index := Scalar.indexCast arg0
  ![10, v65.toNat]
def k0_off12 (i : grid0.Coords) : Fin 2 → Nat :=
  let c11 : Index := 11#32
  let arg0 : BitVec 32 := BitVec.ofNat 32 (i 0).val
  let v71 : Index := Scalar.indexCast arg0
  ![11, v71.toNat]
def k0_off13 (i : grid0.Coords) : Fin 2 → Nat :=
  let c12 : Index := 12#32
  let arg0 : BitVec 32 := BitVec.ofNat 32 (i 0).val
  let v77 : Index := Scalar.indexCast arg0
  ![12, v77.toNat]
def k0_off14 (i : grid0.Coords) : Fin 2 → Nat :=
  let c13 : Index := 13#32
  let arg0 : BitVec 32 := BitVec.ofNat 32 (i 0).val
  let v83 : Index := Scalar.indexCast arg0
  ![13, v83.toNat]
def k0_off15 (i : grid0.Coords) : Fin 2 → Nat :=
  let c14 : Index := 14#32
  let arg0 : BitVec 32 := BitVec.ofNat 32 (i 0).val
  let v89 : Index := Scalar.indexCast arg0
  ![14, v89.toNat]
def k0_off16 (i : grid0.Coords) : Fin 2 → Nat :=
  let c15 : Index := 15#32
  let arg0 : BitVec 32 := BitVec.ofNat 32 (i 0).val
  let v95 : Index := Scalar.indexCast arg0
  ![15, v95.toNat]
def k0_off17 (i : grid0.Coords) : Fin 2 → Nat :=
  let c16 : Index := 16#32
  let arg0 : BitVec 32 := BitVec.ofNat 32 (i 0).val
  let v101 : Index := Scalar.indexCast arg0
  ![16, v101.toNat]
def k0_off18 (i : grid0.Coords) : Fin 2 → Nat :=
  let c17 : Index := 17#32
  let arg0 : BitVec 32 := BitVec.ofNat 32 (i 0).val
  let v107 : Index := Scalar.indexCast arg0
  ![17, v107.toNat]
def k0_off19 (i : grid0.Coords) : Fin 2 → Nat :=
  let c18 : Index := 18#32
  let arg0 : BitVec 32 := BitVec.ofNat 32 (i 0).val
  let v113 : Index := Scalar.indexCast arg0
  ![18, v113.toNat]
def k0_off20 (i : grid0.Coords) : Fin 2 → Nat :=
  let c19 : Index := 19#32
  let arg0 : BitVec 32 := BitVec.ofNat 32 (i 0).val
  let v119 : Index := Scalar.indexCast arg0
  ![19, v119.toNat]
def k0_off21 (i : grid0.Coords) : Fin 2 → Nat :=
  let c20 : Index := 20#32
  let arg0 : BitVec 32 := BitVec.ofNat 32 (i 0).val
  let v125 : Index := Scalar.indexCast arg0
  ![20, v125.toNat]
def k0_off22 (i : grid0.Coords) : Fin 2 → Nat :=
  let c21 : Index := 21#32
  let arg0 : BitVec 32 := BitVec.ofNat 32 (i 0).val
  let v131 : Index := Scalar.indexCast arg0
  ![21, v131.toNat]
def k0_off23 (i : grid0.Coords) : Fin 2 → Nat :=
  let c22 : Index := 22#32
  let arg0 : BitVec 32 := BitVec.ofNat 32 (i 0).val
  let v137 : Index := Scalar.indexCast arg0
  ![22, v137.toNat]
def k0_off24 (i : grid0.Coords) : Fin 2 → Nat :=
  let c23 : Index := 23#32
  let arg0 : BitVec 32 := BitVec.ofNat 32 (i 0).val
  let v143 : Index := Scalar.indexCast arg0
  ![23, v143.toNat]
def k0_off25 (i : grid0.Coords) : Fin 2 → Nat :=
  let c24 : Index := 24#32
  let arg0 : BitVec 32 := BitVec.ofNat 32 (i 0).val
  let v149 : Index := Scalar.indexCast arg0
  ![24, v149.toNat]
def k0_off26 (i : grid0.Coords) : Fin 2 → Nat :=
  let c25 : Index := 25#32
  let arg0 : BitVec 32 := BitVec.ofNat 32 (i 0).val
  let v155 : Index := Scalar.indexCast arg0
  ![25, v155.toNat]
def k0_off27 (i : grid0.Coords) : Fin 2 → Nat :=
  let c26 : Index := 26#32
  let arg0 : BitVec 32 := BitVec.ofNat 32 (i 0).val
  let v161 : Index := Scalar.indexCast arg0
  ![26, v161.toNat]
def k0_off28 (i : grid0.Coords) : Fin 2 → Nat :=
  let c27 : Index := 27#32
  let arg0 : BitVec 32 := BitVec.ofNat 32 (i 0).val
  let v167 : Index := Scalar.indexCast arg0
  ![27, v167.toNat]
def k0_off29 (i : grid0.Coords) : Fin 2 → Nat :=
  let c28 : Index := 28#32
  let arg0 : BitVec 32 := BitVec.ofNat 32 (i 0).val
  let v173 : Index := Scalar.indexCast arg0
  ![28, v173.toNat]
def k0_off30 (i : grid0.Coords) : Fin 2 → Nat :=
  let c29 : Index := 29#32
  let arg0 : BitVec 32 := BitVec.ofNat 32 (i 0).val
  let v179 : Index := Scalar.indexCast arg0
  ![29, v179.toNat]
def k0_off31 (i : grid0.Coords) : Fin 2 → Nat :=
  let c30 : Index := 30#32
  let arg0 : BitVec 32 := BitVec.ofNat 32 (i 0).val
  let v185 : Index := Scalar.indexCast arg0
  ![30, v185.toNat]
def k0_off32 (i : grid0.Coords) : Fin 2 → Nat :=
  let c31 : Index := 31#32
  let arg0 : BitVec 32 := BitVec.ofNat 32 (i 0).val
  let v191 : Index := Scalar.indexCast arg0
  ![31, v191.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S32x8 : Shape := ⟨2, ![32, 8]⟩
abbrev S256 : Shape := ⟨1, ![256]⟩
abbrev S5 : Shape := ⟨1, ![5]⟩
abbrev S_ : Shape := ⟨0, ![]⟩
abbrev S1x1x256 : Shape := ⟨3, ![1, 1, 256]⟩
abbrev S5x1x1 : Shape := ⟨3, ![5, 1, 1]⟩
abbrev S5x1x256 : Shape := ⟨3, ![5, 1, 256]⟩
abbrev S1x256x1 : Shape := ⟨3, ![1, 256, 1]⟩
abbrev S5x256x256 : Shape := ⟨3, ![5, 256, 256]⟩
abbrev S5x256x256x1 : Shape := ⟨4, ![5, 256, 256, 1]⟩
abbrev S5x256x256x8 : Shape := ⟨4, ![5, 256, 256, 8]⟩
abbrev S8x5x256x256 : Shape := ⟨4, ![8, 5, 256, 256]⟩

abbrev nBuf : Space → Nat
  | .hbm => 64
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S256, .i32⟩
  | .hbm, ⟨2, _⟩ => ⟨S5, .i32⟩
  | .hbm, ⟨3, _⟩ => ⟨S_, .i32⟩
  | .hbm, ⟨4, _⟩ => ⟨S5, .i32⟩
  | .hbm, ⟨5, _⟩ => ⟨S5, .i32⟩
  | .hbm, ⟨6, _⟩ => ⟨S_, .i32⟩
  | .hbm, ⟨7, _⟩ => ⟨S5, .i32⟩
  | .hbm, ⟨8, _⟩ => ⟨S5, .i32⟩
  | .hbm, ⟨9, _⟩ => ⟨S1x1x256, .i32⟩
  | .hbm, ⟨10, _⟩ => ⟨S5x1x1, .i32⟩
  | .hbm, ⟨11, _⟩ => ⟨S5x1x256, .i32⟩
  | .hbm, ⟨12, _⟩ => ⟨S5x1x256, .i32⟩
  | .hbm, ⟨13, _⟩ => ⟨S5x1x256, .i32⟩
  | .hbm, ⟨14, _⟩ => ⟨S1x256x1, .i32⟩
  | .hbm, ⟨15, _⟩ => ⟨S5x256x256, .i32⟩
  | .hbm, ⟨16, _⟩ => ⟨S5x256x256, .i32⟩
  | .hbm, ⟨17, _⟩ => ⟨S5x256x256, .i32⟩
  | .hbm, ⟨18, _⟩ => ⟨S5x256x256, .i32⟩
  | .hbm, ⟨19, _⟩ => ⟨S_, .i32⟩
  | .hbm, ⟨20, _⟩ => ⟨S5x256x256, .i32⟩
  | .hbm, ⟨21, _⟩ => ⟨S5x256x256, .i32⟩
  | .hbm, ⟨22, _⟩ => ⟨S5x256x256, .f32⟩
  | .hbm, ⟨23, _⟩ => ⟨S_, .f32⟩
  | .hbm, ⟨24, _⟩ => ⟨S5x256x256, .f32⟩
  | .hbm, ⟨25, _⟩ => ⟨S5x256x256, .f32⟩
  | .hbm, ⟨26, _⟩ => ⟨S5x256x256, .f32⟩
  | .hbm, ⟨27, _⟩ => ⟨S_, .f32⟩
  | .hbm, ⟨28, _⟩ => ⟨S5x256x256, .f32⟩
  | .hbm, ⟨29, _⟩ => ⟨S5x256x256, .f32⟩
  | .hbm, ⟨30, _⟩ => ⟨S_, .f32⟩
  | .hbm, ⟨31, _⟩ => ⟨S5x256x256, .f32⟩
  | .hbm, ⟨32, _⟩ => ⟨S5x256x256, .f32⟩
  | .hbm, ⟨33, _⟩ => ⟨S5x256x256, .i32⟩
  | .hbm, ⟨34, _⟩ => ⟨S_, .i32⟩
  | .hbm, ⟨35, _⟩ => ⟨S5x256x256, .i32⟩
  | .hbm, ⟨36, _⟩ => ⟨S5x256x256, .i32⟩
  | .hbm, ⟨37, _⟩ => ⟨S_, .i32⟩
  | .hbm, ⟨38, _⟩ => ⟨S5x256x256, .i32⟩
  | .hbm, ⟨39, _⟩ => ⟨S5x256x256, .i32⟩
  | .hbm, ⟨40, _⟩ => ⟨S_, .i32⟩
  | .hbm, ⟨41, _⟩ => ⟨S5x256x256, .i32⟩
  | .hbm, ⟨42, _⟩ => ⟨S5x256x256, .i1⟩
  | .hbm, ⟨43, _⟩ => ⟨S_, .i32⟩
  | .hbm, ⟨44, _⟩ => ⟨S_, .i32⟩
  | .hbm, ⟨45, _⟩ => ⟨S5x256x256, .i32⟩
  | .hbm, ⟨46, _⟩ => ⟨S5x256x256, .i32⟩
  | .hbm, ⟨47, _⟩ => ⟨S5x256x256, .i32⟩
  | .hbm, ⟨48, _⟩ => ⟨S_, .i32⟩
  | .hbm, ⟨49, _⟩ => ⟨S5x256x256, .i32⟩
  | .hbm, ⟨50, _⟩ => ⟨S5x256x256, .i1⟩
  | .hbm, ⟨51, _⟩ => ⟨S5x256x256, .i32⟩
  | .hbm, ⟨52, _⟩ => ⟨S5x256x256, .i32⟩
  | .hbm, ⟨53, _⟩ => ⟨S5x256x256, .i32⟩
  | .hbm, ⟨54, _⟩ => ⟨S_, .i32⟩
  | .hbm, ⟨55, _⟩ => ⟨S5x256x256, .i32⟩
  | .hbm, ⟨56, _⟩ => ⟨S5x256x256, .i1⟩
  | .hbm, ⟨57, _⟩ => ⟨S_, .i32⟩
  | .hbm, ⟨58, _⟩ => ⟨S5x256x256, .i32⟩
  | .hbm, ⟨59, _⟩ => ⟨S5x256x256, .i32⟩
  | .hbm, ⟨60, _⟩ => ⟨S5x256x256, .i32⟩
  | .hbm, ⟨61, _⟩ => ⟨S5x256x256x1, .i32⟩
  | .hbm, ⟨62, _⟩ => ⟨S5x256x256x8, .f32⟩
  | .hbm, ⟨63, _⟩ => ⟨S8x5x256x256, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_4 : Ref sig .tc := ⟨.hbm, 34, rfl⟩
abbrev main_v27 : Ref sig .tc := ⟨.hbm, 35, rfl⟩
abbrev main_v28 : Ref sig .tc := ⟨.hbm, 36, rfl⟩
abbrev main_c_5 : Ref sig .tc := ⟨.hbm, 37, rfl⟩
abbrev main_v29 : Ref sig .tc := ⟨.hbm, 38, rfl⟩
abbrev main_v30 : Ref sig .tc := ⟨.hbm, 39, rfl⟩
abbrev main_c_6 : Ref sig .tc := ⟨.hbm, 40, rfl⟩
abbrev main_v31 : Ref sig .tc := ⟨.hbm, 41, rfl⟩
abbrev main_v32 : Ref sig .tc := ⟨.hbm, 42, rfl⟩
abbrev main_c_7 : Ref sig .tc := ⟨.hbm, 43, rfl⟩
abbrev main_c_8 : Ref sig .tc := ⟨.hbm, 44, rfl⟩
abbrev main_call0_v0 : Ref sig .tc := ⟨.hbm, 45, rfl⟩
abbrev main_call0_v1 : Ref sig .tc := ⟨.hbm, 46, rfl⟩
abbrev main_v33 : Ref sig .tc := ⟨.hbm, 47, rfl⟩
abbrev main_c_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_10 : Ref sig .tc := ⟨.hbm, 54, rfl⟩
abbrev main_v39 : Ref sig .tc := ⟨.hbm, 55, rfl⟩
abbrev main_v40 : Ref sig .tc := ⟨.hbm, 56, rfl⟩
abbrev main_c_11 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Proof.OutProj.lean ====
/- The output projection of the two attentions: a row of the result is the row of the activations plus the gate times the row
   of the attention's result by the weights, of the kernel's block and of the reference both. -/
module

public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.IdealHost
public import Idealize.ShloMosaic.Lib.Pipeline.Value
public import Idealize.ShloMosaic.Lib.StableHlo.Run
public import Idealize.ShloMosaic.Lib.Tactic

@[expose] public section

set_option maxRecDepth 16384

noncomputable section

namespace Cert.OutProj

open Idealize.ShloMosaic Idealize.ShloMosaic.Pointwise

/-- The result's row: the row plus the gate times the projected row. -/
def out (y : Fin 1024 → EReal) (w : Fin 1024 → Fin 1024 → EReal) (x : Fin 1024 → EReal) (md : Fin 6 → Fin 1024 → EReal) (j : Fin 1024) : EReal :=
  x j + md 2 j * ∑ k, y k * w k j

open Cert.Kernel5Ideal in
theorem payload_apply (y : Vec Ideal S1024x1024 .bf16) (w : Vec Ideal S1024x1024 .bf16) (md : Vec Ideal S1x6x1024 .f32)
    (x : Vec Ideal S1024x1024 .f32) (r : Fin 1024) (j : Fin 1024) :
    Cert.Kernel5Ideal.Gen.k0_pay1 (F := Ideal) y w md x (ix2 r j)
      = out (fun k => y (ix2 r k)) (fun k f => w (ix2 k f)) (fun k => x (ix2 r k)) (fun a k => md (ix3 0 a k)) j := by
  pointwise [Cert.Kernel5Ideal.Gen.k0_pay1, out]

open Cert.Reference5Ideal in
theorem reference_apply (y : Vec Ideal S32768x1024 .bf16) (w : Vec Ideal S1024x1024 .f32) (x : Vec Ideal S8x4096x1024 .f32)
    (md : Vec Ideal S8x6x1024 .f32) (r : Fin 32768) (j : Fin 1024) :
    Cert.Reference5Ideal.Read.val_main_v7 (F := Ideal) y w x md (ix2 r j)
      = out (fun k => y (ix2 r k)) (fun k f => w (ix2 k f)) (fun k => x (ix3 ⟨r.val / 4096, by omega⟩ ⟨r.val % 4096, by omega⟩ k)) (fun a k => md (ix3 ⟨r.val / 4096, by omega⟩ a k)) j := by
  pointwise [Read.val_main_v7, Read.val_main_v6, Read.val_main_v5, Read.val_main_v4, Read.val_main_v3, Read.val_main_v2, Read.val_main_v1, Read.val_main_v0, out]

end Cert.OutProj

namespace Cert.OutProj.Array

open Cert.Kernel5Ideal Cert.Kernel5Ideal.Gen
open Idealize.ShloMosaic Idealize.ShloMosaic.TcCoe Idealize.ShloMosaic.Pointwise
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

theorem joined_apply (x : Vec Ideal S8x4096x1024 .f32) (r : Fin 32768) (k : Fin 1024) :
    shapeCast S32768x1024 x shapeCasts_S8x4096x1024_S32768x1024 (ix2 r k) = x (ix3 ⟨r.val / 4096, by omega⟩ ⟨r.val % 4096, by omega⟩ k) := by
  pointwise []

/-- The activations as the launch finds them: the argument with its two leading axes joined. -/
theorem V_rows (c : Dev nD) (r : Fin 32768) (k : Fin 1024) :
    V m c main_v1 (ix2 r k) = m ((c : Thread nD τ).loc main_arg2) (ix3 ⟨r.val / 4096, by omega⟩ ⟨r.val % 4096, by omega⟩ k) := by
  have h : V m c main_v1 = shapeCast S32768x1024 (m ((c : Thread nD τ).loc main_arg2) : Vec Ideal S8x4096x1024 .f32) shapeCasts_S8x4096x1024_S32768x1024 := by
    show StableHlo.after hostOps0 _ (Proc.devRef .tc main_v1) = _
    after_results
    rfl
  rw [h]
  exact joined_apply _ r k

theorem V_weight (c : Dev nD) : V m c main_v0 = m ((c : Thread nD τ).loc main_arg1) := by
  show StableHlo.after hostOps0 _ (Proc.devRef .tc main_v0) = _
  after_results
  rfl

/-- Where the windows are at a grid point. -/
theorem idx (t : Fin cfg0.N) : win0_0.index t = ![t.val, 0]
    ∧ win0_1.index t = ![0, 0]
    ∧ win0_2.index t = ![t.val, 0]
    ∧ win0_3.index t = ![t.val / 4, 0, 0]
    ∧ win0_4.index t = ![t.val, 0] :=
  (by decide +kernel : ∀ t : Fin grid0.N, win0_0.index t = ![t.val, 0]
    ∧ win0_1.index t = ![0, 0]
    ∧ win0_2.index t = ![t.val, 0]
    ∧ win0_3.index t = ![t.val / 4, 0, 0]
    ∧ win0_4.index t = ![t.val, 0]) t

theorem lt32 (t : Fin cfg0.N) : t.val < 32 := lt_of_lt_of_eq t.isLt (show cfg0.N = 32 from N_0)

theorem block_attended (c : Dev nD) (t : Fin cfg0.N) (r : Fin 1024) (k : Fin 1024) :
    (iblk m c 0 t : Vec Ideal S1024x1024 .bf16) (ix2 r k)
      = m ((c : Thread nD τ).loc main_arg0) (ix2 ⟨t.val * 1024 + r.val, by have := lt32 t; omega⟩ k) := by
  unfold iblk
  rw [View.read_apply]
  show V m c main_arg0 _ = _
  rw [V_main_arg0]
  congr 1
  funext a
  apply Fin.ext
  match a with
  | ⟨0, _⟩ => show win0_0.index t 0 * 1024 + 1 * r.val = t.val * 1024 + r.val; rw [(idx t).1]; simp
  | ⟨1, _⟩ => show win0_0.index t 1 * 1024 + 1 * k.val = k.val; rw [(idx t).1]; simp

theorem block_weight (c : Dev nD) (t : Fin cfg0.N) (k : Fin 1024) (f : Fin 1024) :
    (iblk m c 1 t : Vec Ideal S1024x1024 .bf16) (ix2 k f)
      = m ((c : Thread nD τ).loc main_arg1) (ix2 k f) := by
  unfold iblk
  rw [View.read_apply]
  show V m c main_v0 _ = _
  rw [V_weight]
  congr 1
  funext a
  apply Fin.ext
  match a with
  | ⟨0, _⟩ => show win0_1.index t 0 * 1024 + 1 * k.val = k.val; rw [(idx t).2.1]; simp
  | ⟨1, _⟩ => show win0_1.index t 1 * 1024 + 1 * f.val = f.val; rw [(idx t).2.1]; simp

theorem block_rows (c : Dev nD) (t : Fin cfg0.N) (r : Fin 1024) (k : Fin 1024) :
    (iblk m c 2 t : Vec Ideal S1024x1024 .f32) (ix2 r k)
      = m ((c : Thread nD τ).loc main_arg2) (ix3 ⟨(t.val * 1024 + r.val) / 4096, by have := lt32 t; omega⟩ ⟨(t.val * 1024 + r.val) % 4096, by omega⟩ k) := by
  refine Eq.trans ?_ (V_rows m c ⟨t.val * 1024 + r.val, by have := lt32 t; omega⟩ k)
  unfold iblk
  rw [View.read_apply]
  show V m c main_v1 _ = V m c main_v1 _
  congr 1
  funext a
  apply Fin.ext
  match a with
  | ⟨0, _⟩ => show win0_2.index t 0 * 1024 + 1 * r.val = t.val * 1024 + r.val; rw [(idx t).2.2.1]; simp
  | ⟨1, _⟩ => show win0_2.index t 1 * 1024 + 1 * k.val = k.val; rw [(idx t).2.2.1]; simp

theorem block_mod (c : Dev nD) (t : Fin cfg0.N) (b : Fin 6) (k : Fin 1024) :
    (iblk m c 3 t : Vec Ideal S1x6x1024 .f32) (ix3 0 b k)
      = m ((c : Thread nD τ).loc main_arg3) (ix3 ⟨t.val / 4, by have := lt32 t; omega⟩ b k) := by
  unfold iblk
  rw [View.read_apply]
  show V m c main_arg3 _ = _
  rw [V_main_arg3]
  congr 1
  funext a
  apply Fin.ext
  match a with
  | ⟨0, _⟩ => show win0_3.index t 0 * 1 + 1 * 0 = t.val / 4; rw [(idx t).2.2.2.1]; simp
  | ⟨1, _⟩ => show win0_3.index t 1 * 6 + 1 * b.val = b.val; rw [(idx t).2.2.2.1]; simp
  | ⟨2, _⟩ => show win0_3.index t 2 * 1024 + 1 * k.val = k.val; rw [(idx t).2.2.2.1]; simp

/-- The reference's result, of the kernel's arguments. -/
abbrev result (c : Dev nD) : Vec Ideal S32768x1024 .f32 :=
  Cert.Reference5Ideal.Read.val_main_v7 (F := Ideal) (m ((c : Thread nD τ).loc main_arg0)) (m ((c : Thread nD τ).loc main_arg1)) (m ((c : Thread nD τ).loc main_arg2)) (m ((c : Thread nD τ).loc main_arg3))

/-- A row of a point's block, by the body, is the reference's row. -/
theorem body_eq (c : Dev nD) (t : Fin cfg0.N) (r : Fin 1024) (j : Fin 1024) :
    out0_4 (iblk m c 0 t) (iblk m c 1 t) (iblk m c 2 t) (iblk m c 3 t) (ix2 r j)
      = result m c (ix2 ⟨t.val * 1024 + r.val, by have := lt32 t; omega⟩ j) := by
  unfold out0_4
  rw [View.canon_unit_zero hz2, View.ld_unit_zero (S := S1024x1024) hz2, View.ld_unit_zero (S := S1024x1024) hz2, View.ld_unit_zero (S := S1x6x1024) hz3, View.ld_unit_zero (S := S1024x1024) hz2]
  refine (payload_apply _ _ _ _ r j).trans ?_
  rw [result, reference_apply]
  simp only [block_attended, block_weight, block_rows, block_mod]
  have e : (t.val * 1024 + r.val) / 4096 = t.val / 4 := by omega
  simp only [e]

theorem flushed_eq (c : Dev nD) (t : Fin cfg0.N) (_ : (cfg0.win 4).flush t = true) :
    (dats m 0 c).flushed 4 t = ((cfg0.win 4).blk t).view.read (Elt Ideal) (result m c) := by
  rw [Value.flushed4]
  funext y
  obtain ⟨r, j, rfl⟩ : ∃ (r : Fin 1024) (j : Fin 1024), y = ix2 r j := ⟨y 0, y 1, eq_ix2 y⟩
  refine (body_eq m c t r j).trans ?_
  rw [View.read_apply]
  show result m c _ = result m c _
  congr 1
  funext a
  apply Fin.ext
  match a with
  | ⟨0, _⟩ => show t.val * 1024 + r.val = win0_4.index t 0 * 1024 + 1 * r.val; rw [(idx t).2.2.2.2]; simp
  | ⟨1, _⟩ => show j.val = win0_4.index t 1 * 1024 + 1 * j.val; rw [(idx t).2.2.2.2]; simp

theorem mem_blk (t : Fin cfg0.N) (i : S32768x1024.Idx) (h : (i 0 : Nat) / 1024 = t.val) : i ∈ ((cfg0.win 4).blk t).view.set := by
  show i ∈ ((View.whole main_v2).slice (win0_4.rect t)).set
  rw [View.set_slice_whole, Rect.mem_set_unit]
  have h1 : (i 1 : Nat) < 1024 := (i 1).isLt
  intro a
  match a with
  | ⟨0, _⟩ =>
    show win0_4.index t 0 * 1024 ≤ (i 0 : Nat) ∧ (i 0 : Nat) < win0_4.index t 0 * 1024 + 1024
    rw [(idx t).2.2.2.2]
    show t.val * 1024 ≤ (i 0 : Nat) ∧ (i 0 : Nat) < t.val * 1024 + 1024
    omega
  | ⟨1, _⟩ =>
    show win0_4.index t 1 * 1024 ≤ (i 1 : Nat) ∧ (i 1 : Nat) < win0_4.index t 1 * 1024 + 1024
    rw [(idx t).2.2.2.2]
    show 0 * 1024 ≤ (i 1 : Nat) ∧ (i 1 : Nat) < 0 * 1024 + 1024
    omega

/-- The kernel's result array is the reference's result. -/
theorem array_eq (c : Dev nD) : (dats m 0 c).arrAt 4 cfg0.N = result m c :=
  (dats m 0 c).arrAt_eq_of_cover 4 (result m c) (flushed_eq m c) fun (i : S32768x1024.Idx) =>
    ⟨⟨(i 0 : Nat) / 1024, lt_of_lt_of_eq (by have h0 : (i 0 : Nat) < 32768 := (i 0).isLt; omega : (i 0 : Nat) / 1024 < 32) (show cfg0.N = 32 from N_0).symm⟩,
      flush0_4 _, mem_blk _ i rfl⟩

end Cert.OutProj.Array

end
-- ==== Proof.RetOut.lean ====
/- The output projection of the retention: a row of the result is the row of the activations plus the gate times the row of the
   retention's result, gated by the projected gates, by the weights, of the kernel's block and of the reference both. -/
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.IdealHost
public import Idealize.ShloMosaic.Lib.Pipeline.Value
public import Idealize.ShloMosaic.Lib.StableHlo.Run
public import Idealize.ShloMosaic.Lib.Tactic

@[expose] public section

set_option maxRecDepth 16384

noncomputable section

namespace Cert.RetOut

open Idealize.ShloMosaic Idealize.ShloMosaic.Pointwise

/-- The result's row: the row plus the gate times the projection of the gated row. -/
def out (y g : Fin 2048 → EReal) (w : Fin 2048 → Fin 1024 → EReal) (x : Fin 1024 → EReal) (md : Fin 6 → Fin 1024 → EReal) (j : Fin 1024) : EReal :=
  x j + md 2 j * ∑ k, y k * (g k * Ideal.logistic (g k)) * w k j

open Cert.Kernel6Ideal in
theorem payload_apply (y g : Vec Ideal S512x2048 .bf16) (w : Vec Ideal S2048x1024 .bf16) (md : Vec Ideal S1x6x1024 .f32)
    (x : Vec Ideal S512x1024 .f32) (r : Fin 512) (j : Fin 1024) :
    Cert.Kernel6Ideal.Gen.k0_pay1 (F := Ideal) y g w md x (ix2 r j)
      = out (fun k => y (ix2 r k)) (fun k => g (ix2 r k)) (fun k f => w (ix2 k f)) (fun k => x (ix2 r k)) (fun a k => md (ix3 0 a k)) j := by
  pointwise [Cert.Kernel6Ideal.Gen.k0_pay1, out]

open Cert.Reference6Ideal in
theorem reference_apply (y : Vec Ideal S32768x2048 .bf16) (g : Vec Ideal S32768x6144 .bf16) (w : Vec Ideal S2048x1024 .f32)
    (x : Vec Ideal S8x4096x1024 .f32) (md : Vec Ideal S8x6x1024 .f32) (r : Fin 32768) (j : Fin 1024) :
    Cert.Reference6Ideal.Read.val_main_v11 (F := Ideal) y g w x md (ix2 r j)
      = out (fun k => y (ix2 r k)) (fun k => g (ix2 r ⟨4096 + k.val, by omega⟩)) (fun k f => w (ix2 k f)) (fun k => x (ix3 ⟨r.val / 4096, by omega⟩ ⟨r.val % 4096, by omega⟩ k)) (fun a k => md (ix3 ⟨r.val / 4096, by omega⟩ a k)) j := by
  pointwise [Read.val_main_v11, Read.val_main_v10, Read.val_main_v9, Read.val_main_v8, Read.val_main_v7, Read.val_main_v6, Read.val_main_v5, Read.val_main_v4, Read.val_main_v3, Read.val_main_call0_v5, Read.val_main_call0_v4, Read.val_main_call0_cst_0, Read.val_main_call0_v3, Read.val_main_call0_v2, Read.val_main_call0_cst, Read.val_main_call0_v1, Read.val_main_call0_v0, Read.val_main_v2, Read.val_main_v1, Read.val_main_v0, out]
  rfl

end Cert.RetOut

namespace Cert.RetOut.Array

open Cert.Kernel6Ideal Cert.Kernel6Ideal.Gen
open Idealize.ShloMosaic Idealize.ShloMosaic.TcCoe Idealize.ShloMosaic.Pointwise
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

theorem joined_apply (x : Vec Ideal S8x4096x1024 .f32) (r : Fin 32768) (k : Fin 1024) :
    shapeCast S32768x1024 x shapeCasts_S8x4096x1024_S32768x1024 (ix2 r k) = x (ix3 ⟨r.val / 4096, by omega⟩ ⟨r.val % 4096, by omega⟩ k) := by
  pointwise []

/-- The activations as the launch finds them: the argument with its two leading axes joined. -/
theorem V_rows (c : Dev nD) (r : Fin 32768) (k : Fin 1024) :
    V m c main_v1 (ix2 r k) = m ((c : Thread nD τ).loc main_arg3) (ix3 ⟨r.val / 4096, by omega⟩ ⟨r.val % 4096, by omega⟩ k) := by
  have h : V m c main_v1 = shapeCast S32768x1024 (m ((c : Thread nD τ).loc main_arg3) : Vec Ideal S8x4096x1024 .f32) shapeCasts_S8x4096x1024_S32768x1024 := by
    show StableHlo.after hostOps0 _ (Proc.devRef .tc main_v1) = _
    after_results
    rfl
  rw [h]
  exact joined_apply _ r k

theorem V_weight (c : Dev nD) : V m c main_v0 = m ((c : Thread nD τ).loc main_arg2) := by
  show StableHlo.after hostOps0 _ (Proc.devRef .tc main_v0) = _
  after_results
  rfl

/-- Where the windows are at a grid point. -/
theorem idx (t : Fin cfg0.N) : win0_0.index t = ![t.val, 0]
    ∧ win0_1.index t = ![t.val, 2]
    ∧ win0_2.index t = ![0, 0]
    ∧ win0_3.index t = ![t.val, 0]
    ∧ win0_4.index t = ![t.val / 8, 0, 0]
    ∧ win0_5.index t = ![t.val, 0] :=
  (by decide +kernel : ∀ t : Fin grid0.N, win0_0.index t = ![t.val, 0]
    ∧ win0_1.index t = ![t.val, 2]
    ∧ win0_2.index t = ![0, 0]
    ∧ win0_3.index t = ![t.val, 0]
    ∧ win0_4.index t = ![t.val / 8, 0, 0]
    ∧ win0_5.index t = ![t.val, 0]) t

theorem lt64 (t : Fin cfg0.N) : t.val < 64 := lt_of_lt_of_eq t.isLt (show cfg0.N = 64 from N_0)

theorem block_retained (c : Dev nD) (t : Fin cfg0.N) (r : Fin 512) (k : Fin 2048) :
    (iblk m c 0 t : Vec Ideal S512x2048 .bf16) (ix2 r k)
      = m ((c : Thread nD τ).loc main_arg0) (ix2 ⟨t.val * 512 + r.val, by have := lt64 t; omega⟩ k) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(idx t).1]; simp
  | ⟨1, _⟩ => show win0_0.index t 1 * 2048 + 1 * k.val = k.val; rw [(idx t).1]; simp

theorem block_gates (c : Dev nD) (t : Fin cfg0.N) (r : Fin 512) (k : Fin 2048) :
    (iblk m c 1 t : Vec Ideal S512x2048 .bf16) (ix2 r k)
      = m ((c : Thread nD τ).loc main_arg1) (ix2 ⟨t.val * 512 + r.val, by have := lt64 t; omega⟩ ⟨4096 + k.val, by omega⟩) := by
  unfold iblk
  rw [View.read_apply]
  show V m c main_arg1 _ = _
  rw [V_main_arg1]
  congr 1
  funext a
  apply Fin.ext
  match a with
  | ⟨0, _⟩ => show win0_1.index t 0 * 512 + 1 * r.val = t.val * 512 + r.val; rw [(idx t).2.1]; simp
  | ⟨1, _⟩ => show win0_1.index t 1 * 2048 + 1 * k.val = 4096 + k.val; rw [(idx t).2.1]; simp

theorem block_weight (c : Dev nD) (t : Fin cfg0.N) (k : Fin 2048) (f : Fin 1024) :
    (iblk m c 2 t : Vec Ideal S2048x1024 .bf16) (ix2 k f)
      = m ((c : Thread nD τ).loc main_arg2) (ix2 k f) := by
  unfold iblk
  rw [View.read_apply]
  show V m c main_v0 _ = _
  rw [V_weight]
  congr 1
  funext a
  apply Fin.ext
  match a with
  | ⟨0, _⟩ => show win0_2.index t 0 * 2048 + 1 * k.val = k.val; rw [(idx t).2.2.1]; simp
  | ⟨1, _⟩ => show win0_2.index t 1 * 1024 + 1 * f.val = f.val; rw [(idx t).2.2.1]; simp

theorem block_rows (c : Dev nD) (t : Fin cfg0.N) (r : Fin 512) (k : Fin 1024) :
    (iblk m c 3 t : Vec Ideal S512x1024 .f32) (ix2 r k)
      = m ((c : Thread nD τ).loc main_arg3) (ix3 ⟨(t.val * 512 + r.val) / 4096, by have := lt64 t; omega⟩ ⟨(t.val * 512 + r.val) % 4096, by omega⟩ k) := by
  refine Eq.trans ?_ (V_rows m c ⟨t.val * 512 + r.val, by have := lt64 t; omega⟩ k)
  unfold iblk
  rw [View.read_apply]
  show V m c main_v1 _ = V m c main_v1 _
  congr 1
  funext a
  apply Fin.ext
  match a with
  | ⟨0, _⟩ => show win0_3.index t 0 * 512 + 1 * r.val = t.val * 512 + r.val; rw [(idx t).2.2.2.1]; simp
  | ⟨1, _⟩ => show win0_3.index t 1 * 1024 + 1 * k.val = k.val; rw [(idx t).2.2.2.1]; simp

theorem block_mod (c : Dev nD) (t : Fin cfg0.N) (b : Fin 6) (k : Fin 1024) :
    (iblk m c 4 t : Vec Ideal S1x6x1024 .f32) (ix3 0 b k)
      = m ((c : Thread nD τ).loc main_arg4) (ix3 ⟨t.val / 8, by have := lt64 t; omega⟩ b k) := by
  unfold iblk
  rw [View.read_apply]
  show V m c main_arg4 _ = _
  rw [V_main_arg4]
  congr 1
  funext a
  apply Fin.ext
  match a with
  | ⟨0, _⟩ => show win0_4.index t 0 * 1 + 1 * 0 = t.val / 8; rw [(idx t).2.2.2.2.1]; simp
  | ⟨1, _⟩ => show win0_4.index t 1 * 6 + 1 * b.val = b.val; rw [(idx t).2.2.2.2.1]; simp
  | ⟨2, _⟩ => show win0_4.index t 2 * 1024 + 1 * k.val = k.val; rw [(idx t).2.2.2.2.1]; simp

/-- The reference's result, of the kernel's arguments. -/
abbrev result (c : Dev nD) : Vec Ideal S32768x1024 .f32 :=
  Cert.Reference6Ideal.Read.val_main_v11 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- A row of a point's block, by the body, is the reference's row. -/
theorem body_eq (c : Dev nD) (t : Fin cfg0.N) (r : Fin 512) (j : Fin 1024) :
    out0_5 (iblk m c 0 t) (iblk m c 1 t) (iblk m c 2 t) (iblk m c 3 t) (iblk m c 4 t) (ix2 r j)
      = result m c (ix2 ⟨t.val * 512 + r.val, by have := lt64 t; omega⟩ j) := by
  unfold out0_5
  rw [View.canon_unit_zero hz2, View.ld_unit_zero (S := S512x2048) hz2, View.ld_unit_zero (S := S512x2048) hz2, View.ld_unit_zero (S := S2048x1024) hz2, View.ld_unit_zero (S := S1x6x1024) hz3, View.ld_unit_zero (S := S512x1024) hz2]
  refine (payload_apply _ _ _ _ _ r j).trans ?_
  rw [result, reference_apply]
  simp only [block_retained, block_gates, block_weight, block_rows, block_mod]
  have e : (t.val * 512 + r.val) / 4096 = t.val / 8 := by omega
  simp only [e]

theorem flushed_eq (c : Dev nD) (t : Fin cfg0.N) (_ : (cfg0.win 5).flush t = true) :
    (dats m 0 c).flushed 5 t = ((cfg0.win 5).blk t).view.read (Elt Ideal) (result m c) := by
  rw [Value.flushed5]
  funext y
  obtain ⟨r, j, rfl⟩ : ∃ (r : Fin 512) (j : Fin 1024), y = ix2 r j := ⟨y 0, y 1, eq_ix2 y⟩
  refine (body_eq m c t r j).trans ?_
  rw [View.read_apply]
  show result m c _ = result m c _
  congr 1
  funext a
  apply Fin.ext
  match a with
  | ⟨0, _⟩ => show t.val * 512 + r.val = win0_5.index t 0 * 512 + 1 * r.val; rw [(idx t).2.2.2.2.2]; simp
  | ⟨1, _⟩ => show j.val = win0_5.index t 1 * 1024 + 1 * j.val; rw [(idx t).2.2.2.2.2]; simp

theorem mem_blk (t : Fin cfg0.N) (i : S32768x1024.Idx) (h : (i 0 : Nat) / 512 = t.val) : i ∈ ((cfg0.win 5).blk t).view.set := by
  show i ∈ ((View.whole main_v2).slice (win0_5.rect t)).set
  rw [View.set_slice_whole, Rect.mem_set_unit]
  have h1 : (i 1 : Nat) < 1024 := (i 1).isLt
  intro a
  match a with
  | ⟨0, _⟩ =>
    show win0_5.index t 0 * 512 ≤ (i 0 : Nat) ∧ (i 0 : Nat) < win0_5.index t 0 * 512 + 512
    rw [(idx t).2.2.2.2.2]
    show t.val * 512 ≤ (i 0 : Nat) ∧ (i 0 : Nat) < t.val * 512 + 512
    omega
  | ⟨1, _⟩ =>
    show win0_5.index t 1 * 1024 ≤ (i 1 : Nat) ∧ (i 1 : Nat) < win0_5.index t 1 * 1024 + 1024
    rw [(idx t).2.2.2.2.2]
    show 0 * 1024 ≤ (i 1 : Nat) ∧ (i 1 : Nat) < 0 * 1024 + 1024
    omega

/-- The kernel's result array is the reference's result. -/
theorem array_eq (c : Dev nD) : (dats m 0 c).arrAt 5 cfg0.N = result m c :=
  (dats m 0 c).arrAt_eq_of_cover 5 (result m c) (flushed_eq m c) fun (i : S32768x1024.Idx) =>
    ⟨⟨(i 0 : Nat) / 512, lt_of_lt_of_eq (by have h0 : (i 0 : Nat) < 32768 := (i 0).isLt; omega : (i 0 : Nat) / 512 < 64) (show cfg0.N = 64 from N_0).symm⟩,
      flush0_5 _, mem_blk _ i rfl⟩

end Cert.RetOut.Array

end
-- ==== Proof.DiffIn.lean ====
/- The projection of the differential attention's queries, keys and values: a row of the result is the normalised and modulated
   row by the weights, of the kernel's block and of the reference both. -/
module

public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.IdealHost
public import Idealize.ShloMosaic.Lib.Pipeline.Value
public import Idealize.ShloMosaic.Lib.Pipeline.ReadBack
public import Idealize.ShloMosaic.Lib.StableHlo.Run
public import Idealize.ShloMosaic.Lib.Tactic

@[expose] public section

set_option maxRecDepth 16384

noncomputable section

namespace Cert.DiffIn

open Idealize.ShloMosaic Idealize.ShloMosaic.Pointwise

/-- The row normalised by its root mean square, scaled by one plus the second modulation row, shifted by the first. -/
def hidden (x : Fin 1024 → EReal) (md : Fin 6 → Fin 1024 → EReal) (k : Fin 1024) : EReal :=
  x k * Ideal.rsqrt (Ideal.div (∑ l, x l * x l) (Ideal.ofBits .f32 0x44800000#32) + Ideal.ofBits .f32 0x358637BD#32) * (1 + md 1 k) + md 0 k

/-- The projected row. -/
def out (x : Fin 1024 → EReal) (md : Fin 6 → Fin 1024 → EReal) (w : Fin 1024 → Fin 3072 → EReal) (j : Fin 3072) : EReal :=
  ∑ k, hidden x md k * w k j

open Cert.Kernel7Ideal in
theorem first_apply (x : Vec Ideal S1024x1024 .f32) (md : Vec Ideal S1x6x1024 .f32) (w : Vec Ideal S1024x1024 .bf16) (r j : Fin 1024) :
    Cert.Kernel7Ideal.Gen.k0_pay3 (F := Ideal) x md w (ix2 r j)
      = ∑ k, hidden (fun k => x (ix2 r k)) (fun a k => md (ix3 0 a k)) k * w (ix2 k j) := by
  pointwise [Cert.Kernel7Ideal.Gen.k0_pay3, Cert.Kernel7Ideal.Gen.k0_pay2, hidden]

open Cert.Kernel7Ideal in
theorem second_apply (x : Vec Ideal S1024x1024 .f32) (md : Vec Ideal S1x6x1024 .f32) (w : Vec Ideal S1024x1024 .bf16) (r j : Fin 1024) :
    Cert.Kernel7Ideal.Gen.k0_pay4 (F := Ideal) x md w (ix2 r j)
      = ∑ k, hidden (fun k => x (ix2 r k)) (fun a k => md (ix3 0 a k)) k * w (ix2 k j) := by
  pointwise [Cert.Kernel7Ideal.Gen.k0_pay4, Cert.Kernel7Ideal.Gen.k0_pay2, hidden]

open Cert.Kernel7Ideal in
theorem third_apply (x : Vec Ideal S1024x1024 .f32) (md : Vec Ideal S1x6x1024 .f32) (w : Vec Ideal S1024x1024 .bf16) (r j : Fin 1024) :
    Cert.Kernel7Ideal.Gen.k0_pay1 (F := Ideal) (Cert.Kernel7Ideal.Gen.k0_pay2 x md) (Cert.Kernel7Ideal.Gen.k0_pay5 w) (ix2 r j)
      = ∑ k, hidden (fun k => x (ix2 r k)) (fun a k => md (ix3 0 a k)) k * w (ix2 k j) := by
  pointwise [Cert.Kernel7Ideal.Gen.k0_pay1, Cert.Kernel7Ideal.Gen.k0_pay2, Cert.Kernel7Ideal.Gen.k0_pay5, hidden]

open Cert.Reference7Ideal in
theorem reference_apply (x : Vec Ideal S8x4096x1024 .f32) (md : Vec Ideal S8x6x1024 .f32) (w : Vec Ideal S1024x3072 .f32) (r : Fin 32768) (j : Fin 3072) :
    Cert.Reference7Ideal.Read.val_main_v20 (F := Ideal) x md w (ix2 r j)
      = out (fun k => x (ix3 ⟨r.val / 4096, by omega⟩ ⟨r.val % 4096, by omega⟩ k)) (fun a k => md (ix3 ⟨r.val / 4096, by omega⟩ a k)) (fun k f => w (ix2 k f)) j := by
  pointwise [Read.val_main_v20, Read.val_main_v19, Read.val_main_v18, Read.val_main_v17, Read.val_main_v16, Read.val_main_v15, Read.val_main_v14, Read.val_main_v13, Read.val_main_v12, Read.val_main_v11, Read.val_main_cst_2, Read.val_main_v10, Read.val_main_v9, Read.val_main_v8, Read.val_main_v7, Read.val_main_v6, Read.val_main_v5, Read.val_main_cst_1, Read.val_main_v4, Read.val_main_v3, Read.val_main_cst_0, Read.val_main_v2, Read.val_main_v1, Read.val_main_cst, Read.val_main_v0, out, hidden]

end Cert.DiffIn

namespace Cert.DiffIn.Array

open Cert.Kernel7Ideal Cert.Kernel7Ideal.Gen
open Idealize.ShloMosaic Idealize.ShloMosaic.TcCoe Idealize.ShloMosaic.Pointwise
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

theorem joined_apply (x : Vec Ideal S8x4096x1024 .f32) (r : Fin 32768) (k : Fin 1024) :
    shapeCast S32768x1024 x shapeCasts_S8x4096x1024_S32768x1024 (ix2 r k) = x (ix3 ⟨r.val / 4096, by omega⟩ ⟨r.val % 4096, by omega⟩ k) := by
  pointwise []

/-- The activations as the launch finds them: the argument with its two leading axes joined. -/
theorem V_rows (c : Dev nD) (r : Fin 32768) (k : Fin 1024) :
    V m c main_v0 (ix2 r k) = m ((c : Thread nD τ).loc main_arg0) (ix3 ⟨r.val / 4096, by omega⟩ ⟨r.val % 4096, by omega⟩ k) := by
  have h : V m c main_v0 = shapeCast S32768x1024 (m ((c : Thread nD τ).loc main_arg0) : Vec Ideal S8x4096x1024 .f32) shapeCasts_S8x4096x1024_S32768x1024 := by
    show StableHlo.after hostOps0 _ (Proc.devRef .tc main_v0) = _
    after_results
    rfl
  rw [h]
  exact joined_apply _ r k

theorem V_weight (c : Dev nD) : V m c main_v1 = m ((c : Thread nD τ).loc main_arg2) := by
  show StableHlo.after hostOps0 _ (Proc.devRef .tc main_v1) = _
  after_results
  rfl

/-- Where the windows are at a grid point. -/
theorem idx (t : Fin cfg0.N) : win0_0.index t = ![t.val, 0]
    ∧ win0_1.index t = ![t.val / 4, 0, 0]
    ∧ win0_2.index t = ![0, 0]
    ∧ win0_3.index t = ![t.val, 0] :=
  (by decide +kernel : ∀ t : Fin grid0.N, win0_0.index t = ![t.val, 0]
    ∧ win0_1.index t = ![t.val / 4, 0, 0]
    ∧ win0_2.index t = ![0, 0]
    ∧ win0_3.index t = ![t.val, 0]) t

theorem lt32 (t : Fin cfg0.N) : t.val < 32 := lt_of_lt_of_eq t.isLt (show cfg0.N = 32 from N_0)

theorem block_rows (c : Dev nD) (t : Fin cfg0.N) (r : Fin 1024) (k : Fin 1024) :
    (iblk m c 0 t : Vec Ideal S1024x1024 .f32) (ix2 r k)
      = m ((c : Thread nD τ).loc main_arg0) (ix3 ⟨(t.val * 1024 + r.val) / 4096, by have := lt32 t; omega⟩ ⟨(t.val * 1024 + r.val) % 4096, by omega⟩ k) := by
  refine Eq.trans ?_ (V_rows m c ⟨t.val * 1024 + r.val, by have := lt32 t; omega⟩ k)
  unfold iblk
  rw [View.read_apply]
  show V m c main_v0 _ = V m c main_v0 _
  congr 1
  funext a
  apply Fin.ext
  match a with
  | ⟨0, _⟩ => show win0_0.index t 0 * 1024 + 1 * r.val = t.val * 1024 + r.val; rw [(idx t).1]; simp
  | ⟨1, _⟩ => show win0_0.index t 1 * 1024 + 1 * k.val = k.val; rw [(idx t).1]; simp

theorem block_mod (c : Dev nD) (t : Fin cfg0.N) (b : Fin 6) (k : Fin 1024) :
    (iblk m c 1 t : Vec Ideal S1x6x1024 .f32) (ix3 0 b k)
      = m ((c : Thread nD τ).loc main_arg1) (ix3 ⟨t.val / 4, by have := lt32 t; omega⟩ b k) := by
  unfold iblk
  rw [View.read_apply]
  show V m c main_arg1 _ = _
  rw [V_main_arg1]
  congr 1
  funext a
  apply Fin.ext
  match a with
  | ⟨0, _⟩ => show win0_1.index t 0 * 1 + 1 * 0 = t.val / 4; rw [(idx t).2.1]; simp
  | ⟨1, _⟩ => show win0_1.index t 1 * 6 + 1 * b.val = b.val; rw [(idx t).2.1]; simp
  | ⟨2, _⟩ => show win0_1.index t 2 * 1024 + 1 * k.val = k.val; rw [(idx t).2.1]; simp

theorem block_weight (c : Dev nD) (t : Fin cfg0.N) (k : Fin 1024) (f : Fin 3072) :
    (iblk m c 2 t : Vec Ideal S1024x3072 .bf16) (ix2 k f)
      = m ((c : Thread nD τ).loc main_arg2) (ix2 k f) := by
  unfold iblk
  rw [View.read_apply]
  show V m c main_v1 _ = _
  rw [V_weight]
  congr 1
  funext a
  apply Fin.ext
  match a with
  | ⟨0, _⟩ => show win0_2.index t 0 * 1024 + 1 * k.val = k.val; rw [(idx t).2.2.1]; simp
  | ⟨1, _⟩ => show win0_2.index t 1 * 3072 + 1 * f.val = f.val; rw [(idx t).2.2.1]; simp

/-- The reference's result, of the kernel's arguments. -/
abbrev result (c : Dev nD) : Vec Ideal S32768x3072 .bf16 :=
  Cert.Reference7Ideal.Read.val_main_v20 (F := Ideal) (m ((c : Thread nD τ).loc main_arg0)) (m ((c : Thread nD τ).loc main_arg1)) (m ((c : Thread nD τ).loc main_arg2))

/-- A stretch of 1024 columns of the weights, from a column on. -/
theorem columns_apply (w : Vec Ideal S1024x3072 .bf16) (o : Nat) (inb : ∀ a, (![0, o] : Fin 2 → Nat) a + S1024x1024.size a ≤ S1024x3072.size a)
    (ho : o + 1024 ≤ 3072) (k j : Fin 1024) :
    View.ld w (Rect.unit (s := S1024x3072) ![0, o] S1024x1024.size inb) (ix2 k j) = w (ix2 k ⟨o + j.val, by omega⟩) := by
  show w _ = w _
  refine congrArg w (funext fun a => Fin.ext ?_)
  match a with
  | ⟨0, _⟩ => show 0 + 1 * k.val = k.val; omega
  | ⟨1, _⟩ => show o + 1 * j.val = o + j.val; omega

/-- The column of the block that a stretch's column is. -/
theorem place (o : Nat) (inb : ∀ a, (![0, o] : Fin 2 → Nat) a + S1024x1024.size a ≤ S1024x3072.size a) (ho : o + 1024 ≤ 3072) (r j : Fin 1024) :
    (Rect.unit (s := S1024x3072) ![0, o] S1024x1024.size inb).emb (ix2 r j) = ix2 r ⟨o + j.val, by omega⟩ := by
  funext a
  apply Fin.ext
  match a with
  | ⟨0, _⟩ => show 0 + 1 * r.val = r.val; omega
  | ⟨1, _⟩ => show o + 1 * j.val = o + j.val; omega

/-- The block of projected rows. -/
def block (x : Vec Ideal S1024x1024 .f32) (md : Vec Ideal S1x6x1024 .f32) (w : Vec Ideal S1024x3072 .bf16) : Vec Ideal S1024x3072 .bf16 :=
  fun y => out (fun k => x (ix2 (y 0) k)) (fun a k => md (ix3 0 a k)) (fun k f => w (ix2 k f)) (y 1)

/-- The body's three stores, of 1024 columns each, hold the projected rows. -/
theorem tiles_apply (x : Vec Ideal S1024x1024 .f32) (md : Vec Ideal S1x6x1024 .f32) (w : Vec Ideal S1024x3072 .bf16) (r : Fin 1024) (j : Fin 3072) :
    out0_3 x md w (ix2 r j) = out (fun k => x (ix2 r k)) (fun a k => md (ix3 0 a k)) (fun k f => w (ix2 k f)) j := by
  unfold out0_3
  rw [View.ld_unit_zero (S := S1024x1024) hz2, View.ld_unit_zero (S := S1x6x1024) hz3]
  refine View.canon_apply_of_pieces (block x md w) _ ?_ (ix2 r j) (cover0_3 _ _ _ _)
  refine View.PiecesOf.mem ⟨fun y => ?_, fun y => ?_, fun y => ?_, trivial⟩
  · obtain ⟨a, b, rfl⟩ : ∃ (a : Fin 1024) (b : Fin 1024), y = ix2 a b := ⟨y 0, y 1, eq_ix2 y⟩
    refine (third_apply x md _ a b).trans ?_
    refine Eq.trans ?_ (congrArg (block x md w) (place 2048 inb_S1024x3072_S1024x1024_0_2048 (by omega) a b)).symm
    simp only [columns_apply w 2048 inb_S1024x3072_S1024x1024_0_2048 (by omega)]
    rfl
  · obtain ⟨a, b, rfl⟩ : ∃ (a : Fin 1024) (b : Fin 1024), y = ix2 a b := ⟨y 0, y 1, eq_ix2 y⟩
    refine (second_apply x md _ a b).trans ?_
    refine Eq.trans ?_ (congrArg (block x md w) (place 1024 inb_S1024x3072_S1024x1024_0_1024 (by omega) a b)).symm
    simp only [columns_apply w 1024 inb_S1024x3072_S1024x1024_0_1024 (by omega)]
    rfl
  · obtain ⟨a, b, rfl⟩ : ∃ (a : Fin 1024) (b : Fin 1024), y = ix2 a b := ⟨y 0, y 1, eq_ix2 y⟩
    refine (first_apply x md _ a b).trans ?_
    refine Eq.trans ?_ (congrArg (block x md w) (place 0 inb_S1024x3072_S1024x1024_0_0 (by omega) a b)).symm
    simp only [columns_apply w 0 inb_S1024x3072_S1024x1024_0_0 (by omega)]
    rfl

/-- A row of a point's block, by the body's three stores, is the reference's row. -/
theorem body_eq (c : Dev nD) (t : Fin cfg0.N) (r : Fin 1024) (j : Fin 3072) :
    out0_3 (iblk m c 0 t) (iblk m c 1 t) (iblk m c 2 t) (ix2 r j)
      = result m c (ix2 ⟨t.val * 1024 + r.val, by have := lt32 t; omega⟩ j) := by
  have h := tiles_apply (iblk m c 0 t) (iblk m c 1 t) (iblk m c 2 t) r j
  refine h.trans ?_
  rw [result, reference_apply]
  simp only [block_rows, block_mod, block_weight]
  have e : (t.val * 1024 + r.val) / 4096 = t.val / 4 := by omega
  simp only [e]

theorem flushed_eq (c : Dev nD) (t : Fin cfg0.N) (_ : (cfg0.win 3).flush t = true) :
    (dats m 0 c).flushed 3 t = ((cfg0.win 3).blk t).view.read (Elt Ideal) (result m c) := by
  rw [Value.flushed3]
  funext y
  obtain ⟨r, j, rfl⟩ : ∃ (r : Fin 1024) (j : Fin 3072), y = ix2 r j := ⟨y 0, y 1, eq_ix2 y⟩
  refine (body_eq m c t r j).trans ?_
  rw [View.read_apply]
  show result m c _ = result m c _
  congr 1
  funext a
  apply Fin.ext
  match a with
  | ⟨0, _⟩ => show t.val * 1024 + r.val = win0_3.index t 0 * 1024 + 1 * r.val; rw [(idx t).2.2.2]; simp
  | ⟨1, _⟩ => show j.val = win0_3.index t 1 * 3072 + 1 * j.val; rw [(idx t).2.2.2]; simp

theorem mem_blk (t : Fin cfg0.N) (i : S32768x3072.Idx) (h : (i 0 : Nat) / 1024 = t.val) : i ∈ ((cfg0.win 3).blk t).view.set := by
  show i ∈ ((View.whole main_v2).slice (win0_3.rect t)).set
  rw [View.set_slice_whole, Rect.mem_set_unit]
  have h1 : (i 1 : Nat) < 3072 := (i 1).isLt
  intro a
  match a with
  | ⟨0, _⟩ =>
    show win0_3.index t 0 * 1024 ≤ (i 0 : Nat) ∧ (i 0 : Nat) < win0_3.index t 0 * 1024 + 1024
    rw [(idx t).2.2.2]
    show t.val * 1024 ≤ (i 0 : Nat) ∧ (i 0 : Nat) < t.val * 1024 + 1024
    omega
  | ⟨1, _⟩ =>
    show win0_3.index t 1 * 3072 ≤ (i 1 : Nat) ∧ (i 1 : Nat) < win0_3.index t 1 * 3072 + 3072
    rw [(idx t).2.2.2]
    show 0 * 3072 ≤ (i 1 : Nat) ∧ (i 1 : Nat) < 0 * 3072 + 3072
    omega

/-- The kernel's result array is the reference's result. -/
theorem array_eq (c : Dev nD) : (dats m 0 c).arrAt 3 cfg0.N = result m c :=
  (dats m 0 c).arrAt_eq_of_cover 3 (result m c) (flushed_eq m c) fun (i : S32768x3072.Idx) =>
    ⟨⟨(i 0 : Nat) / 1024, lt_of_lt_of_eq (by have h0 : (i 0 : Nat) < 32768 := (i 0).isLt; omega : (i 0 : Nat) / 1024 < 32) (show cfg0.N = 32 from N_0).symm⟩,
      flush0_3 _, mem_blk _ i rfl⟩

end Cert.DiffIn.Array

end
-- ==== Proof.ConvIn.lean ====
/- The convolution's first projection with its gated linear unit: a row of the result is the first half of the projected row times
   the logistic function of its second half, of the kernel's block and of the reference both. -/
module

public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.IdealHost
public import Idealize.ShloMosaic.Lib.Pipeline.Value
public import Idealize.ShloMosaic.Lib.StableHlo.Run
public import Idealize.ShloMosaic.Lib.Tactic

@[expose] public section

set_option maxRecDepth 16384

noncomputable section

namespace Cert.ConvIn

open Idealize.ShloMosaic Idealize.ShloMosaic.Pointwise

/-- The row normalised by its root mean square, scaled by one plus the second modulation row, shifted by the first. -/
def hidden (x : Fin 1024 → EReal) (md : Fin 6 → Fin 1024 → EReal) (k : Fin 1024) : EReal :=
  x k * Ideal.rsqrt (Ideal.div (∑ l, x l * x l) (Ideal.ofBits .f32 0x44800000#32) + Ideal.ofBits .f32 0x358637BD#32) * (1 + md 1 k) + md 0 k

/-- The projected row, with the bias. -/
def projected (x : Fin 1024 → EReal) (md : Fin 6 → Fin 1024 → EReal) (w : Fin 1024 → Fin 2048 → EReal) (b : Fin 2048 → EReal) (f : Fin 2048) : EReal :=
  ∑ k, hidden x md k * w k f + b f

/-- The gated row. -/
def out (x : Fin 1024 → EReal) (md : Fin 6 → Fin 1024 → EReal) (w : Fin 1024 → Fin 2048 → EReal) (b : Fin 2048 → EReal) (j : Fin 1024) : EReal :=
  projected x md w b ⟨j.val, by omega⟩ * Ideal.logistic (projected x md w b ⟨1024 + j.val, by omega⟩)

open Cert.Kernel8Ideal in
theorem payload_apply (x : Vec Ideal S512x1024 .f32) (md : Vec Ideal S1x6x1024 .f32) (w : Vec Ideal S1024x2048 .bf16)
    (b : Vec Ideal S1x2048 .f32) (r : Fin 512) (j : Fin 1024) :
    Cert.Kernel8Ideal.Gen.k0_pay1 (F := Ideal) x md w b (ix2 r j)
      = out (fun k => x (ix2 r k)) (fun a k => md (ix3 0 a k)) (fun k f => w (ix2 k f)) (fun f => b (ix2 0 f)) j := by
  pointwise [Cert.Kernel8Ideal.Gen.k0_pay1, out, projected, hidden]

open Cert.Reference8Ideal in
theorem reference_apply (x : Vec Ideal S8x4096x1024 .f32) (md : Vec Ideal S8x6x1024 .f32) (w : Vec Ideal S1024x2048 .f32)
    (b : Vec Ideal S2048 .f32) (r : Fin 32768) (j : Fin 1024) :
    Cert.Reference8Ideal.Read.val_main_v32 (F := Ideal) x md w b (ix2 r j)
      = out (fun k => x (ix3 ⟨r.val / 4096, by omega⟩ ⟨r.val % 4096, by omega⟩ k)) (fun a k => md (ix3 ⟨r.val / 4096, by omega⟩ a k)) (fun k f => w (ix2 k f)) (fun f => b (ix1 f)) j := by
  pointwise [Read.val_main_v32, Read.val_main_v31, Read.val_main_v30, Read.val_main_v29, Read.val_main_v28, Read.val_main_cst_4, Read.val_main_v27, Read.val_main_v26, Read.val_main_cst_3, Read.val_main_v25, Read.val_main_v24, Read.val_main_v23, Read.val_main_v22, Read.val_main_v21, Read.val_main_v20, Read.val_main_v19, Read.val_main_v18, Read.val_main_v17, Read.val_main_v16, Read.val_main_v15, Read.val_main_v14, Read.val_main_v13, Read.val_main_v12, Read.val_main_v11, Read.val_main_cst_2, Read.val_main_v10, Read.val_main_v9, Read.val_main_v8, Read.val_main_v7, Read.val_main_v6, Read.val_main_v5, Read.val_main_cst_1, Read.val_main_v4, Read.val_main_v3, Read.val_main_cst_0, Read.val_main_v2, Read.val_main_v1, Read.val_main_cst, Read.val_main_v0, out, projected, hidden]
  rfl

end Cert.ConvIn

namespace Cert.ConvIn.Array

open Cert.Kernel8Ideal Cert.Kernel8Ideal.Gen
open Idealize.ShloMosaic Idealize.ShloMosaic.TcCoe Idealize.ShloMosaic.Pointwise
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

theorem joined_apply (x : Vec Ideal S8x4096x1024 .f32) (r : Fin 32768) (k : Fin 1024) :
    shapeCast S32768x1024 x shapeCasts_S8x4096x1024_S32768x1024 (ix2 r k) = x (ix3 ⟨r.val / 4096, by omega⟩ ⟨r.val % 4096, by omega⟩ k) := by
  pointwise []

/-- The activations as the launch finds them: the argument with its two leading axes joined. -/
theorem V_rows (c : Dev nD) (r : Fin 32768) (k : Fin 1024) :
    V m c main_v0 (ix2 r k) = m ((c : Thread nD τ).loc main_arg0) (ix3 ⟨r.val / 4096, by omega⟩ ⟨r.val % 4096, by omega⟩ k) := by
  have h : V m c main_v0 = shapeCast S32768x1024 (m ((c : Thread nD τ).loc main_arg0) : Vec Ideal S8x4096x1024 .f32) shapeCasts_S8x4096x1024_S32768x1024 := by
    show StableHlo.after hostOps0 _ (Proc.devRef .tc main_v0) = _
    after_results
    rfl
  rw [h]
  exact joined_apply _ r k

theorem V_weight (c : Dev nD) : V m c main_v1 = m ((c : Thread nD τ).loc main_arg2) := by
  show StableHlo.after hostOps0 _ (Proc.devRef .tc main_v1) = _
  after_results
  rfl

theorem flat_apply (b : Vec Ideal S2048 .f32) (f : Fin 2048) : shapeCast S1x2048 b shapeCasts_S2048_S1x2048 (ix2 0 f) = b (ix1 f) := by
  pointwise []

theorem V_bias (c : Dev nD) (f : Fin 2048) : V m c main_v2 (ix2 0 f) = m ((c : Thread nD τ).loc main_arg3) (ix1 f) := by
  have h : V m c main_v2 = shapeCast S1x2048 (m ((c : Thread nD τ).loc main_arg3) : Vec Ideal S2048 .f32) shapeCasts_S2048_S1x2048 := by
    show StableHlo.after hostOps0 _ (Proc.devRef .tc main_v2) = _
    after_results
    rfl
  rw [h]
  exact flat_apply _ f

/-- Where the windows are at a grid point. -/
theorem idx (t : Fin cfg0.N) : win0_0.index t = ![t.val, 0]
    ∧ win0_1.index t = ![t.val / 8, 0, 0]
    ∧ win0_2.index t = ![0, 0]
    ∧ win0_3.index t = ![0, 0]
    ∧ win0_4.index t = ![t.val, 0] :=
  (by decide +kernel : ∀ t : Fin grid0.N, win0_0.index t = ![t.val, 0]
    ∧ win0_1.index t = ![t.val / 8, 0, 0]
    ∧ win0_2.index t = ![0, 0]
    ∧ win0_3.index t = ![0, 0]
    ∧ win0_4.index t = ![t.val, 0]) t

theorem lt64 (t : Fin cfg0.N) : t.val < 64 := lt_of_lt_of_eq t.isLt (show cfg0.N = 64 from N_0)

theorem block_rows (c : Dev nD) (t : Fin cfg0.N) (r : Fin 512) (k : Fin 1024) :
    (iblk m c 0 t : Vec Ideal S512x1024 .f32) (ix2 r k)
      = m ((c : Thread nD τ).loc main_arg0) (ix3 ⟨(t.val * 512 + r.val) / 4096, by have := lt64 t; omega⟩ ⟨(t.val * 512 + r.val) % 4096, by omega⟩ k) := by
  refine Eq.trans ?_ (V_rows m c ⟨t.val * 512 + r.val, by have := lt64 t; omega⟩ k)
  unfold iblk
  rw [View.read_apply]
  show V m c main_v0 _ = V m c main_v0 _
  congr 1
  funext a
  apply Fin.ext
  match a with
  | ⟨0, _⟩ => show win0_0.index t 0 * 512 + 1 * r.val = t.val * 512 + r.val; rw [(idx t).1]; simp
  | ⟨1, _⟩ => show win0_0.index t 1 * 1024 + 1 * k.val = k.val; rw [(idx t).1]; simp

theorem block_mod (c : Dev nD) (t : Fin cfg0.N) (b : Fin 6) (k : Fin 1024) :
    (iblk m c 1 t : Vec Ideal S1x6x1024 .f32) (ix3 0 b k)
      = m ((c : Thread nD τ).loc main_arg1) (ix3 ⟨t.val / 8, by have := lt64 t; omega⟩ b k) := by
  unfold iblk
  rw [View.read_apply]
  show V m c main_arg1 _ = _
  rw [V_main_arg1]
  congr 1
  funext a
  apply Fin.ext
  match a with
  | ⟨0, _⟩ => show win0_1.index t 0 * 1 + 1 * 0 = t.val / 8; rw [(idx t).2.1]; simp
  | ⟨1, _⟩ => show win0_1.index t 1 * 6 + 1 * b.val = b.val; rw [(idx t).2.1]; simp
  | ⟨2, _⟩ => show win0_1.index t 2 * 1024 + 1 * k.val = k.val; rw [(idx t).2.1]; simp

theorem block_weight (c : Dev nD) (t : Fin cfg0.N) (k : Fin 1024) (f : Fin 2048) :
    (iblk m c 2 t : Vec Ideal S1024x2048 .bf16) (ix2 k f)
      = m ((c : Thread nD τ).loc main_arg2) (ix2 k f) := by
  unfold iblk
  rw [View.read_apply]
  show V m c main_v1 _ = _
  rw [V_weight]
  congr 1
  funext a
  apply Fin.ext
  match a with
  | ⟨0, _⟩ => show win0_2.index t 0 * 1024 + 1 * k.val = k.val; rw [(idx t).2.2.1]; simp
  | ⟨1, _⟩ => show win0_2.index t 1 * 2048 + 1 * f.val = f.val; rw [(idx t).2.2.1]; simp

theorem block_bias (c : Dev nD) (t : Fin cfg0.N) (f : Fin 2048) :
    (iblk m c 3 t : Vec Ideal S1x2048 .f32) (ix2 0 f)
      = m ((c : Thread nD τ).loc main_arg3) (ix1 f) := by
  refine Eq.trans ?_ (V_bias m c f)
  unfold iblk
  rw [View.read_apply]
  show V m c main_v2 _ = V m c main_v2 _
  congr 1
  funext a
  apply Fin.ext
  match a with
  | ⟨0, _⟩ => show win0_3.index t 0 * 1 + 1 * 0 = 0; rw [(idx t).2.2.2.1]; simp
  | ⟨1, _⟩ => show win0_3.index t 1 * 2048 + 1 * f.val = f.val; rw [(idx t).2.2.2.1]; simp

/-- The reference's result, of the kernel's arguments. -/
abbrev result (c : Dev nD) : Vec Ideal S32768x1024 .bf16 :=
  Cert.Reference8Ideal.Read.val_main_v32 (F := Ideal) (m ((c : Thread nD τ).loc main_arg0)) (m ((c : Thread nD τ).loc main_arg1)) (m ((c : Thread nD τ).loc main_arg2)) (m ((c : Thread nD τ).loc main_arg3))

/-- A row of a point's block, by the body, is the reference's row. -/
theorem body_eq (c : Dev nD) (t : Fin cfg0.N) (r : Fin 512) (j : Fin 1024) :
    out0_4 (iblk m c 0 t) (iblk m c 1 t) (iblk m c 2 t) (iblk m c 3 t) (ix2 r j)
      = result m c (ix2 ⟨t.val * 512 + r.val, by have := lt64 t; omega⟩ j) := by
  unfold out0_4
  rw [View.canon_unit_zero hz2, View.ld_unit_zero (S := S512x1024) hz2, View.ld_unit_zero (S := S1x6x1024) hz3, View.ld_unit_zero (S := S1024x2048) hz2, View.ld_unit_zero (S := S1x2048) hz2]
  refine (payload_apply _ _ _ _ r j).trans ?_
  rw [result, reference_apply]
  simp only [block_rows, block_mod, block_weight, block_bias]
  have e : (t.val * 512 + r.val) / 4096 = t.val / 8 := by omega
  simp only [e]

theorem flushed_eq (c : Dev nD) (t : Fin cfg0.N) (_ : (cfg0.win 4).flush t = true) :
    (dats m 0 c).flushed 4 t = ((cfg0.win 4).blk t).view.read (Elt Ideal) (result m c) := by
  rw [Value.flushed4]
  funext y
  obtain ⟨r, j, rfl⟩ : ∃ (r : Fin 512) (j : Fin 1024), y = ix2 r j := ⟨y 0, y 1, eq_ix2 y⟩
  refine (body_eq m c t r j).trans ?_
  rw [View.read_apply]
  show result m c _ = result m c _
  congr 1
  funext a
  apply Fin.ext
  match a with
  | ⟨0, _⟩ => show t.val * 512 + r.val = win0_4.index t 0 * 512 + 1 * r.val; rw [(idx t).2.2.2.2]; simp
  | ⟨1, _⟩ => show j.val = win0_4.index t 1 * 1024 + 1 * j.val; rw [(idx t).2.2.2.2]; simp

theorem mem_blk (t : Fin cfg0.N) (i : S32768x1024.Idx) (h : (i 0 : Nat) / 512 = t.val) : i ∈ ((cfg0.win 4).blk t).view.set := by
  show i ∈ ((View.whole main_v3).slice (win0_4.rect t)).set
  rw [View.set_slice_whole, Rect.mem_set_unit]
  have h1 : (i 1 : Nat) < 1024 := (i 1).isLt
  intro a
  match a with
  | ⟨0, _⟩ =>
    show win0_4.index t 0 * 512 ≤ (i 0 : Nat) ∧ (i 0 : Nat) < win0_4.index t 0 * 512 + 512
    rw [(idx t).2.2.2.2]
    show t.val * 512 ≤ (i 0 : Nat) ∧ (i 0 : Nat) < t.val * 512 + 512
    omega
  | ⟨1, _⟩ =>
    show win0_4.index t 1 * 1024 ≤ (i 1 : Nat) ∧ (i 1 : Nat) < win0_4.index t 1 * 1024 + 1024
    rw [(idx t).2.2.2.2]
    show 0 * 1024 ≤ (i 1 : Nat) ∧ (i 1 : Nat) < 0 * 1024 + 1024
    omega

/-- The kernel's result array is the reference's result. -/
theorem array_eq (c : Dev nD) : (dats m 0 c).arrAt 4 cfg0.N = result m c :=
  (dats m 0 c).arrAt_eq_of_cover 4 (result m c) (flushed_eq m c) fun (i : S32768x1024.Idx) =>
    ⟨⟨(i 0 : Nat) / 512, lt_of_lt_of_eq (by have h0 : (i 0 : Nat) < 32768 := (i 0).isLt; omega : (i 0 : Nat) / 512 < 64) (show cfg0.N = 64 from N_0).symm⟩,
      flush0_4 _, mem_blk _ i rfl⟩

end Cert.ConvIn.Array

end
-- ==== Proof.RetIn.lean ====
/- The projection of the retention's queries, keys and the rest: a row of the result is the normalised and modulated row by the
   weights, with the queries and keys turned by the row's angles, of the kernel's block and of the reference both. -/
module

public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.IdealHost
public import Idealize.ShloMosaic.Lib.Pipeline.Value
public import Idealize.ShloMosaic.Lib.Pipeline.ReadBack
public import Idealize.ShloMosaic.Lib.StableHlo.Run
public import Idealize.ShloMosaic.Lib.Tactic

@[expose] public section

set_option maxRecDepth 16384

noncomputable section

namespace Cert.RetIn

open Idealize.ShloMosaic Idealize.ShloMosaic.Pointwise

/-- The row normalised by its root mean square, scaled by one plus the second modulation row, shifted by the first. -/
def hidden (x : Fin 1024 → EReal) (md : Fin 6 → Fin 1024 → EReal) (k : Fin 1024) : EReal :=
  x k * Ideal.rsqrt (Ideal.div (∑ l, x l * x l) (Ideal.ofBits .f32 0x44800000#32) + Ideal.ofBits .f32 0x358637BD#32) * (1 + md 1 k) + md 0 k

/-- The projected row, at a column with weights `w`. -/
def dot (x : Fin 1024 → EReal) (md : Fin 6 → Fin 1024 → EReal) (w : Fin 1024 → EReal) : EReal := ∑ k, hidden x md k * w k

/-- The scale of the keys. -/
def scale : EReal := Ideal.ofBits .f32 0x3D800000#32

/-- The first half of a rotated pair. -/
def lo (a b c s : EReal) : EReal := a * c - b * s

/-- The second half of a rotated pair. -/
def hi (a b c s : EReal) : EReal := a * s + b * c

section Body

open Cert.Kernel9Ideal Cert.Kernel9Ideal.Gen

theorem queries_apply (x : Vec Ideal S512x1024 .f32) (md : Vec Ideal S1x6x1024 .f32) (w : Vec Ideal S1024x1024 .bf16) (r : Fin 512) (j : Fin 1024) :
    k0_pay5 (F := Ideal) x md w (ix2 r j) = dot (fun k => x (ix2 r k)) (fun a k => md (ix3 0 a k)) (fun k => w (ix2 k j)) := by
  pointwise [k0_pay5, k0_pay4, dot, hidden]

theorem keys_apply (x : Vec Ideal S512x1024 .f32) (md : Vec Ideal S1x6x1024 .f32) (w : Vec Ideal S1024x1024 .bf16) (r : Fin 512) (j : Fin 1024) :
    k0_pay25 (F := Ideal) (k0_pay4 x md) w (ix2 r j) = dot (fun k => x (ix2 r k)) (fun a k => md (ix3 0 a k)) (fun k => w (ix2 k j)) := by
  pointwise [k0_pay25, k0_pay4, dot, hidden]

theorem rest_a_apply (x : Vec Ideal S512x1024 .f32) (md : Vec Ideal S1x6x1024 .f32) (w : Vec Ideal S1024x1024 .bf16) (r : Fin 512) (j : Fin 1024) :
    k0_pay44 (F := Ideal) (k0_pay4 x md) w (ix2 r j) = dot (fun k => x (ix2 r k)) (fun a k => md (ix3 0 a k)) (fun k => w (ix2 k j)) := by
  pointwise [k0_pay44, k0_pay4, dot, hidden]

theorem rest_b_apply (x : Vec Ideal S512x1024 .f32) (md : Vec Ideal S1x6x1024 .f32) (w : Vec Ideal S1024x1024 .bf16) (r : Fin 512) (j : Fin 1024) :
    k0_pay1 (F := Ideal) (k0_pay4 x md) w (ix2 r j) = dot (fun k => x (ix2 r k)) (fun a k => md (ix3 0 a k)) (fun k => w (ix2 k j)) := by
  pointwise [k0_pay1, k0_pay4, dot, hidden]

theorem rest_c_apply (x : Vec Ideal S512x1024 .f32) (md : Vec Ideal S1x6x1024 .f32) (w : Vec Ideal S1024x1024 .bf16) (r : Fin 512) (j : Fin 1024) :
    k0_pay2 (F := Ideal) (k0_pay4 x md) w (ix2 r j) = dot (fun k => x (ix2 r k)) (fun a k => md (ix3 0 a k)) (fun k => w (ix2 k j)) := by
  pointwise [k0_pay2, k0_pay4, dot, hidden]

theorem rest_d_apply (x : Vec Ideal S512x1024 .f32) (md : Vec Ideal S1x6x1024 .f32) (w : Vec Ideal S1024x1024 .bf16) (r : Fin 512) (j : Fin 1024) :
    k0_pay3 (F := Ideal) (k0_pay4 x md) w (ix2 r j) = dot (fun k => x (ix2 r k)) (fun a k => md (ix3 0 a k)) (fun k => w (ix2 k j)) := by
  pointwise [k0_pay3, k0_pay4, dot, hidden]

theorem query_zero_lo_apply (x : Vec Ideal S512x1024 .f32) (md : Vec Ideal S1x6x1024 .f32) (w : Vec Ideal S1024x1024 .bf16) (c s : Vec Ideal S512x128 .f32) (r : Fin 512) (j : Fin 128) :
    k0_pay11 (F := Ideal) x md w c s (ix2 r j)
      = lo (k0_pay5 (F := Ideal) x md w (ix2 r ⟨0 + j.val, by omega⟩)) (k0_pay5 (F := Ideal) x md w (ix2 r ⟨128 + j.val, by omega⟩)) (c (ix2 r j)) (s (ix2 r j)) := by
  pointwise [k0_pay11, k0_pay8, k0_pay9, k0_pay6, k0_pay7, lo]

theorem query_zero_hi_apply (x : Vec Ideal S512x1024 .f32) (md : Vec Ideal S1x6x1024 .f32) (w : Vec Ideal S1024x1024 .bf16) (c s : Vec Ideal S512x128 .f32) (r : Fin 512) (j : Fin 128) :
    k0_pay12 (F := Ideal) (k0_pay10 x md w c s) (ix2 r j)
      = hi (k0_pay5 (F := Ideal) x md w (ix2 r ⟨0 + j.val, by omega⟩)) (k0_pay5 (F := Ideal) x md w (ix2 r ⟨128 + j.val, by omega⟩)) (c (ix2 r j)) (s (ix2 r j)) := by
  pointwise [k0_pay12, k0_pay10, k0_pay8, k0_pay9, k0_pay6, k0_pay7, hi]

theorem query_one_lo_apply (x : Vec Ideal S512x1024 .f32) (md : Vec Ideal S1x6x1024 .f32) (w : Vec Ideal S1024x1024 .bf16) (c s : Vec Ideal S512x128 .f32) (r : Fin 512) (j : Fin 128) :
    k0_pay15 (F := Ideal) (k0_pay5 x md w) (k0_pay6 c) (k0_pay7 s) (ix2 r j)
      = lo (k0_pay5 (F := Ideal) x md w (ix2 r ⟨256 + j.val, by omega⟩)) (k0_pay5 (F := Ideal) x md w (ix2 r ⟨384 + j.val, by omega⟩)) (c (ix2 r j)) (s (ix2 r j)) := by
  pointwise [k0_pay15, k0_pay13, k0_pay14, k0_pay6, k0_pay7, lo]

theorem query_one_hi_apply (x : Vec Ideal S512x1024 .f32) (md : Vec Ideal S1x6x1024 .f32) (w : Vec Ideal S1024x1024 .bf16) (c s : Vec Ideal S512x128 .f32) (r : Fin 512) (j : Fin 128) :
    k0_pay16 (F := Ideal) (k0_pay5 x md w) (k0_pay6 c) (k0_pay7 s) (ix2 r j)
      = hi (k0_pay5 (F := Ideal) x md w (ix2 r ⟨256 + j.val, by omega⟩)) (k0_pay5 (F := Ideal) x md w (ix2 r ⟨384 + j.val, by omega⟩)) (c (ix2 r j)) (s (ix2 r j)) := by
  pointwise [k0_pay16, k0_pay13, k0_pay14, k0_pay6, k0_pay7, hi]

theorem query_two_lo_apply (x : Vec Ideal S512x1024 .f32) (md : Vec Ideal S1x6x1024 .f32) (w : Vec Ideal S1024x1024 .bf16) (c s : Vec Ideal S512x128 .f32) (r : Fin 512) (j : Fin 128) :
    k0_pay19 (F := Ideal) (k0_pay5 x md w) (k0_pay6 c) (k0_pay7 s) (ix2 r j)
      = lo (k0_pay5 (F := Ideal) x md w (ix2 r ⟨512 + j.val, by omega⟩)) (k0_pay5 (F := Ideal) x md w (ix2 r ⟨640 + j.val, by omega⟩)) (c (ix2 r j)) (s (ix2 r j)) := by
  pointwise [k0_pay19, k0_pay17, k0_pay18, k0_pay6, k0_pay7, lo]

theorem query_two_hi_apply (x : Vec Ideal S512x1024 .f32) (md : Vec Ideal S1x6x1024 .f32) (w : Vec Ideal S1024x1024 .bf16) (c s : Vec Ideal S512x128 .f32) (r : Fin 512) (j : Fin 128) :
    k0_pay20 (F := Ideal) (k0_pay5 x md w) (k0_pay6 c) (k0_pay7 s) (ix2 r j)
      = hi (k0_pay5 (F := Ideal) x md w (ix2 r ⟨512 + j.val, by omega⟩)) (k0_pay5 (F := Ideal) x md w (ix2 r ⟨640 + j.val, by omega⟩)) (c (ix2 r j)) (s (ix2 r j)) := by
  pointwise [k0_pay20, k0_pay17, k0_pay18, k0_pay6, k0_pay7, hi]

theorem query_three_lo_apply (x : Vec Ideal S512x1024 .f32) (md : Vec Ideal S1x6x1024 .f32) (w : Vec Ideal S1024x1024 .bf16) (c s : Vec Ideal S512x128 .f32) (r : Fin 512) (j : Fin 128) :
    k0_pay23 (F := Ideal) (k0_pay5 x md w) (k0_pay6 c) (k0_pay7 s) (ix2 r j)
      = lo (k0_pay5 (F := Ideal) x md w (ix2 r ⟨768 + j.val, by omega⟩)) (k0_pay5 (F := Ideal) x md w (ix2 r ⟨896 + j.val, by omega⟩)) (c (ix2 r j)) (s (ix2 r j)) := by
  pointwise [k0_pay23, k0_pay21, k0_pay22, k0_pay6, k0_pay7, lo]

theorem query_three_hi_apply (x : Vec Ideal S512x1024 .f32) (md : Vec Ideal S1x6x1024 .f32) (w : Vec Ideal S1024x1024 .bf16) (c s : Vec Ideal S512x128 .f32) (r : Fin 512) (j : Fin 128) :
    k0_pay24 (F := Ideal) (k0_pay5 x md w) (k0_pay6 c) (k0_pay7 s) (ix2 r j)
      = hi (k0_pay5 (F := Ideal) x md w (ix2 r ⟨768 + j.val, by omega⟩)) (k0_pay5 (F := Ideal) x md w (ix2 r ⟨896 + j.val, by omega⟩)) (c (ix2 r j)) (s (ix2 r j)) := by
  pointwise [k0_pay24, k0_pay21, k0_pay22, k0_pay6, k0_pay7, hi]

theorem key_zero_lo_apply (x : Vec Ideal S512x1024 .f32) (md : Vec Ideal S1x6x1024 .f32) (w : Vec Ideal S1024x1024 .bf16) (c s : Vec Ideal S512x128 .f32) (r : Fin 512) (j : Fin 128) :
    k0_pay30 (F := Ideal) (k0_pay4 x md) w c s (ix2 r j)
      = lo (k0_pay25 (F := Ideal) (k0_pay4 x md) w (ix2 r ⟨0 + j.val, by omega⟩)) (k0_pay25 (F := Ideal) (k0_pay4 x md) w (ix2 r ⟨128 + j.val, by omega⟩)) (c (ix2 r j)) (s (ix2 r j)) * scale := by
  pointwise [k0_pay30, k0_pay28, k0_pay29, k0_pay26, k0_pay27, lo, scale]

theorem key_zero_hi_apply (x : Vec Ideal S512x1024 .f32) (md : Vec Ideal S1x6x1024 .f32) (w : Vec Ideal S1024x1024 .bf16) (c s : Vec Ideal S512x128 .f32) (r : Fin 512) (j : Fin 128) :
    k0_pay31 (F := Ideal) (k0_pay4 x md) w c s (ix2 r j)
      = hi (k0_pay25 (F := Ideal) (k0_pay4 x md) w (ix2 r ⟨0 + j.val, by omega⟩)) (k0_pay25 (F := Ideal) (k0_pay4 x md) w (ix2 r ⟨128 + j.val, by omega⟩)) (c (ix2 r j)) (s (ix2 r j)) * scale := by
  pointwise [k0_pay31, k0_pay28, k0_pay29, k0_pay26, k0_pay27, hi, scale]

theorem key_one_lo_apply (x : Vec Ideal S512x1024 .f32) (md : Vec Ideal S1x6x1024 .f32) (w : Vec Ideal S1024x1024 .bf16) (c s : Vec Ideal S512x128 .f32) (r : Fin 512) (j : Fin 128) :
    k0_pay34 (F := Ideal) (k0_pay4 x md) w c s (ix2 r j)
      = lo (k0_pay25 (F := Ideal) (k0_pay4 x md) w (ix2 r ⟨256 + j.val, by omega⟩)) (k0_pay25 (F := Ideal) (k0_pay4 x md) w (ix2 r ⟨384 + j.val, by omega⟩)) (c (ix2 r j)) (s (ix2 r j)) * scale := by
  pointwise [k0_pay34, k0_pay32, k0_pay33, k0_pay26, k0_pay27, lo, scale]

theorem key_one_hi_apply (x : Vec Ideal S512x1024 .f32) (md : Vec Ideal S1x6x1024 .f32) (w : Vec Ideal S1024x1024 .bf16) (c s : Vec Ideal S512x128 .f32) (r : Fin 512) (j : Fin 128) :
    k0_pay35 (F := Ideal) (k0_pay4 x md) w c s (ix2 r j)
      = hi (k0_pay25 (F := Ideal) (k0_pay4 x md) w (ix2 r ⟨256 + j.val, by omega⟩)) (k0_pay25 (F := Ideal) (k0_pay4 x md) w (ix2 r ⟨384 + j.val, by omega⟩)) (c (ix2 r j)) (s (ix2 r j)) * scale := by
  pointwise [k0_pay35, k0_pay32, k0_pay33, k0_pay26, k0_pay27, hi, scale]

theorem key_two_lo_apply (x : Vec Ideal S512x1024 .f32) (md : Vec Ideal S1x6x1024 .f32) (w : Vec Ideal S1024x1024 .bf16) (c s : Vec Ideal S512x128 .f32) (r : Fin 512) (j : Fin 128) :
    k0_pay38 (F := Ideal) (k0_pay25 (k0_pay4 x md) w) (k0_pay26 c) (k0_pay27 s) (ix2 r j)
      = lo (k0_pay25 (F := Ideal) (k0_pay4 x md) w (ix2 r ⟨512 + j.val, by omega⟩)) (k0_pay25 (F := Ideal) (k0_pay4 x md) w (ix2 r ⟨640 + j.val, by omega⟩)) (c (ix2 r j)) (s (ix2 r j)) * scale := by
  pointwise [k0_pay38, k0_pay36, k0_pay37, k0_pay26, k0_pay27, lo, scale]

theorem key_two_hi_apply (x : Vec Ideal S512x1024 .f32) (md : Vec Ideal S1x6x1024 .f32) (w : Vec Ideal S1024x1024 .bf16) (c s : Vec Ideal S512x128 .f32) (r : Fin 512) (j : Fin 128) :
    k0_pay39 (F := Ideal) (k0_pay25 (k0_pay4 x md) w) (k0_pay26 c) (k0_pay27 s) (ix2 r j)
      = hi (k0_pay25 (F := Ideal) (k0_pay4 x md) w (ix2 r ⟨512 + j.val, by omega⟩)) (k0_pay25 (F := Ideal) (k0_pay4 x md) w (ix2 r ⟨640 + j.val, by omega⟩)) (c (ix2 r j)) (s (ix2 r j)) * scale := by
  pointwise [k0_pay39, k0_pay36, k0_pay37, k0_pay26, k0_pay27, hi, scale]

theorem key_three_lo_apply (x : Vec Ideal S512x1024 .f32) (md : Vec Ideal S1x6x1024 .f32) (w : Vec Ideal S1024x1024 .bf16) (c s : Vec Ideal S512x128 .f32) (r : Fin 512) (j : Fin 128) :
    k0_pay42 (F := Ideal) (k0_pay25 (k0_pay4 x md) w) (k0_pay26 c) (k0_pay27 s) (ix2 r j)
      = lo (k0_pay25 (F := Ideal) (k0_pay4 x md) w (ix2 r ⟨768 + j.val, by omega⟩)) (k0_pay25 (F := Ideal) (k0_pay4 x md) w (ix2 r ⟨896 + j.val, by omega⟩)) (c (ix2 r j)) (s (ix2 r j)) * scale := by
  pointwise [k0_pay42, k0_pay40, k0_pay41, k0_pay26, k0_pay27, lo, scale]

theorem key_three_hi_apply (x : Vec Ideal S512x1024 .f32) (md : Vec Ideal S1x6x1024 .f32) (w : Vec Ideal S1024x1024 .bf16) (c s : Vec Ideal S512x128 .f32) (r : Fin 512) (j : Fin 128) :
    k0_pay43 (F := Ideal) (k0_pay25 (k0_pay4 x md) w) (k0_pay26 c) (k0_pay27 s) (ix2 r j)
      = hi (k0_pay25 (F := Ideal) (k0_pay4 x md) w (ix2 r ⟨768 + j.val, by omega⟩)) (k0_pay25 (F := Ideal) (k0_pay4 x md) w (ix2 r ⟨896 + j.val, by omega⟩)) (c (ix2 r j)) (s (ix2 r j)) * scale := by
  pointwise [k0_pay43, k0_pay40, k0_pay41, k0_pay26, k0_pay27, hi, scale]

end Body

section Reference

open Cert.Reference9Ideal

theorem project_apply (x : Vec Ideal S8x4096x1024 .f32) (md : Vec Ideal S8x6x1024 .f32) (w : Vec Ideal S1024x6144 .f32) (b : Fin 8) (s : Fin 4096) (j : Fin 6144) :
    Read.val_main_v18 (F := Ideal) x md w (ix3 b s j) = dot (fun k => x (ix3 b s k)) (fun a k => md (ix3 b a k)) (fun k => w (ix2 k j)) := by
  pointwise [Read.val_main_v18, Read.val_main_v17, Read.val_main_v16, Read.val_main_v15, Read.val_main_v14, Read.val_main_v13, Read.val_main_v12, Read.val_main_v11, Read.val_main_cst_2, Read.val_main_v10, Read.val_main_v9, Read.val_main_v8, Read.val_main_v7, Read.val_main_v6, Read.val_main_v5, Read.val_main_cst_1, Read.val_main_v4, Read.val_main_v3, Read.val_main_cst_0, Read.val_main_v2, Read.val_main_v1, Read.val_main_cst, Read.val_main_v0, dot, hidden]

theorem joined_apply (y : Vec Ideal S8x4096x6144 .f32) (r : Fin 32768) (j : Fin 6144) :
    (truncf .bf16 (shapeCast S32768x6144 y Gen.shapeCasts_S8x4096x6144_S32768x6144 : FVec Ideal S32768x6144 .f32) Gen.bitsLt_bf16_f32 : FVec Ideal S32768x6144 .bf16) (ix2 r j)
      = y (ix3 ⟨r.val / 4096, by omega⟩ ⟨r.val % 4096, by omega⟩ j) := by
  pointwise []

theorem heads_apply (y : Vec Ideal S8x4096x4x256 .f32) (b : Fin 8) (s : Fin 4096) (h : Fin 4) (j : Fin 256) :
    shapeCast S8x4096x1024 y Gen.shapeCasts_S8x4096x4x256_S8x4096x1024 (ix3 b s ⟨256 * h.val + j.val, by omega⟩) = y (ix4 b s h j) := by
  pointwise []

theorem unheads_apply (y : Vec Ideal S8x4096x1024 .f32) (b : Fin 8) (s : Fin 4096) (h : Fin 4) (j : Fin 256) :
    shapeCast S8x4096x4x256 y Gen.shapeCasts_S8x4096x1024_S8x4096x4x256 (ix4 b s h j) = y (ix3 b s ⟨256 * h.val + j.val, by omega⟩) := by
  pointwise []
  exact congrArg (fun z => y (ix3 b s z)) (Fin.ext (by show h.val * 256 + j.val = 256 * h.val + j.val; omega))

theorem pair_lo_apply (u v : Vec Ideal S8x4096x4x128 .f32) (b : Fin 8) (s : Fin 4096) (h : Fin 4) (j : Fin 128) :
    concatenate S8x4096x4x256 3 [⟨S8x4096x4x128, u⟩, ⟨S8x4096x4x128, v⟩] Gen.concatenates_S8x4096x4x128_S8x4096x4x128_S8x4096x4x256_d3 (ix4 b s h ⟨j.val, by omega⟩)
      = u (ix4 b s h j) := by
  pointwise []

theorem pair_hi_apply (u v : Vec Ideal S8x4096x4x128 .f32) (b : Fin 8) (s : Fin 4096) (h : Fin 4) (j : Fin 128) :
    concatenate S8x4096x4x256 3 [⟨S8x4096x4x128, u⟩, ⟨S8x4096x4x128, v⟩] Gen.concatenates_S8x4096x4x128_S8x4096x4x128_S8x4096x4x256_d3 (ix4 b s h ⟨128 + j.val, by omega⟩)
      = v (ix4 b s h j) := by
  pointwise []

theorem first_apply (u v : Vec Ideal S8x4096x1024 .f32) (w : Vec Ideal S8x4096x4096 .f32) (b : Fin 8) (s : Fin 4096) (j : Fin 1024) :
    concatenate S8x4096x6144 2 [⟨S8x4096x1024, u⟩, ⟨S8x4096x1024, v⟩, ⟨S8x4096x4096, w⟩] Gen.concatenates_S8x4096x1024_S8x4096x1024_S8x4096x4096_S8x4096x6144_d2 (ix3 b s ⟨j.val, by omega⟩)
      = u (ix3 b s j) := by
  pointwise []

theorem second_apply (u v : Vec Ideal S8x4096x1024 .f32) (w : Vec Ideal S8x4096x4096 .f32) (b : Fin 8) (s : Fin 4096) (j : Fin 1024) :
    concatenate S8x4096x6144 2 [⟨S8x4096x1024, u⟩, ⟨S8x4096x1024, v⟩, ⟨S8x4096x4096, w⟩] Gen.concatenates_S8x4096x1024_S8x4096x1024_S8x4096x4096_S8x4096x6144_d2 (ix3 b s ⟨1024 + j.val, by omega⟩)
      = v (ix3 b s j) := by
  pointwise []

theorem third_apply (u v : Vec Ideal S8x4096x1024 .f32) (w : Vec Ideal S8x4096x4096 .f32) (b : Fin 8) (s : Fin 4096) (j : Fin 4096) :
    concatenate S8x4096x6144 2 [⟨S8x4096x1024, u⟩, ⟨S8x4096x1024, v⟩, ⟨S8x4096x4096, w⟩] Gen.concatenates_S8x4096x1024_S8x4096x1024_S8x4096x4096_S8x4096x6144_d2 (ix3 b s ⟨2048 + j.val, by omega⟩)
      = w (ix3 b s j) := by
  pointwise []
  rw [dif_neg (by omega), dif_neg (by omega)]
  exact congrArg (fun z => w (ix3 b s z)) (Fin.ext (by show 2048 + j.val - 1024 - 1024 = j.val; omega))

section Rotation

variable (x : Vec Ideal S8x4096x1024 .f32) (md : Vec Ideal S8x6x1024 .f32) (w : Vec Ideal S1024x6144 .f32) (b : Fin 8) (s : Fin 4096) (h : Fin 4) (j : Fin 128)

theorem query_lo_apply : Read.val_main_v46 (F := Ideal) x md w (ix4 b s h j)
    = lo (Read.val_main_v20 (F := Ideal) x md w (ix4 b s h ⟨j.val, by omega⟩)) (Read.val_main_v20 (F := Ideal) x md w (ix4 b s h ⟨128 + j.val, by omega⟩))
        (Read.val_main_v34 (F := Ideal) (ix2 s j)) (Read.val_main_v36 (F := Ideal) (ix2 s j)) := by
  pointwise [Read.val_main_v46, Read.val_main_v42, Read.val_main_v45, Read.val_main_v38, Read.val_main_v39, Read.val_main_v41, Read.val_main_v40, Read.val_main_v44, Read.val_main_v43, Read.val_main_v35, Read.val_main_v37, lo]

theorem query_hi_apply : Read.val_main_v53 (F := Ideal) x md w (ix4 b s h j)
    = hi (Read.val_main_v20 (F := Ideal) x md w (ix4 b s h ⟨j.val, by omega⟩)) (Read.val_main_v20 (F := Ideal) x md w (ix4 b s h ⟨128 + j.val, by omega⟩))
        (Read.val_main_v34 (F := Ideal) (ix2 s j)) (Read.val_main_v36 (F := Ideal) (ix2 s j)) := by
  pointwise [Read.val_main_v53, Read.val_main_v49, Read.val_main_v52, Read.val_main_v38, Read.val_main_v39, Read.val_main_v48, Read.val_main_v47, Read.val_main_v51, Read.val_main_v50, Read.val_main_v35, Read.val_main_v37, hi]

theorem key_lo_apply : Read.val_main_v68 (F := Ideal) x md w (ix4 b s h j)
    = lo (Read.val_main_v22 (F := Ideal) x md w (ix4 b s h ⟨j.val, by omega⟩)) (Read.val_main_v22 (F := Ideal) x md w (ix4 b s h ⟨128 + j.val, by omega⟩))
        (Read.val_main_v56 (F := Ideal) (ix2 s j)) (Read.val_main_v58 (F := Ideal) (ix2 s j)) := by
  pointwise [Read.val_main_v68, Read.val_main_v64, Read.val_main_v67, Read.val_main_v60, Read.val_main_v61, Read.val_main_v63, Read.val_main_v62, Read.val_main_v66, Read.val_main_v65, Read.val_main_v57, Read.val_main_v59, lo]

theorem key_hi_apply : Read.val_main_v75 (F := Ideal) x md w (ix4 b s h j)
    = hi (Read.val_main_v22 (F := Ideal) x md w (ix4 b s h ⟨j.val, by omega⟩)) (Read.val_main_v22 (F := Ideal) x md w (ix4 b s h ⟨128 + j.val, by omega⟩))
        (Read.val_main_v56 (F := Ideal) (ix2 s j)) (Read.val_main_v58 (F := Ideal) (ix2 s j)) := by
  pointwise [Read.val_main_v75, Read.val_main_v71, Read.val_main_v74, Read.val_main_v60, Read.val_main_v61, Read.val_main_v70, Read.val_main_v69, Read.val_main_v73, Read.val_main_v72, Read.val_main_v57, Read.val_main_v59, hi]

theorem scaled_apply (k : Fin 256) : Read.val_main_v78 (F := Ideal) x md w (ix4 b s h k) = Read.val_main_v76 (F := Ideal) x md w (ix4 b s h k) * scale := by
  pointwise [Read.val_main_v78, Read.val_main_v77, Read.val_main_cst_7, scale]

theorem query_apply (k : Fin 256) : Read.val_main_v20 (F := Ideal) x md w (ix4 b s h k) = Read.val_main_v18 (F := Ideal) x md w (ix3 b s ⟨256 * h.val + k.val, by omega⟩) := by
  unfold Read.val_main_v20
  refine (unheads_apply _ b s h k).trans ?_
  pointwise [Read.val_main_v19]

theorem key_apply (k : Fin 256) : Read.val_main_v22 (F := Ideal) x md w (ix4 b s h k) = Read.val_main_v18 (F := Ideal) x md w (ix3 b s ⟨1024 + (256 * h.val + k.val), by omega⟩) := by
  unfold Read.val_main_v22
  refine (unheads_apply _ b s h k).trans ?_
  pointwise [Read.val_main_v21]

theorem rest_apply (k : Fin 4096) : Read.val_main_v80 (F := Ideal) x md w (ix3 b s k) = Read.val_main_v18 (F := Ideal) x md w (ix3 b s ⟨2048 + k.val, by omega⟩) := by
  pointwise [Read.val_main_v80]

/-- The columns of the rotated queries, first halves. -/
theorem row_query_lo : Read.val_main_v81 (F := Ideal) x md w (ix3 b s ⟨256 * h.val + j.val, by omega⟩)
    = lo (Read.val_main_v18 (F := Ideal) x md w (ix3 b s ⟨256 * h.val + j.val, by omega⟩)) (Read.val_main_v18 (F := Ideal) x md w (ix3 b s ⟨256 * h.val + (128 + j.val), by omega⟩))
        (Read.val_main_v34 (F := Ideal) (ix2 s j)) (Read.val_main_v36 (F := Ideal) (ix2 s j)) := by
  unfold Read.val_main_v81
  refine (first_apply _ _ _ b s ⟨256 * h.val + j.val, by omega⟩).trans ?_
  unfold Read.val_main_v55
  refine (heads_apply _ b s h ⟨j.val, by omega⟩).trans ?_
  unfold Read.val_main_v54
  refine (pair_lo_apply _ _ b s h j).trans ?_
  rw [query_lo_apply, query_apply, query_apply]

/-- The columns of the rotated queries, second halves. -/
theorem row_query_hi : Read.val_main_v81 (F := Ideal) x md w (ix3 b s ⟨256 * h.val + (128 + j.val), by omega⟩)
    = hi (Read.val_main_v18 (F := Ideal) x md w (ix3 b s ⟨256 * h.val + j.val, by omega⟩)) (Read.val_main_v18 (F := Ideal) x md w (ix3 b s ⟨256 * h.val + (128 + j.val), by omega⟩))
        (Read.val_main_v34 (F := Ideal) (ix2 s j)) (Read.val_main_v36 (F := Ideal) (ix2 s j)) := by
  unfold Read.val_main_v81
  refine (first_apply _ _ _ b s ⟨256 * h.val + (128 + j.val), by omega⟩).trans ?_
  unfold Read.val_main_v55
  refine (heads_apply _ b s h ⟨128 + j.val, by omega⟩).trans ?_
  unfold Read.val_main_v54
  refine (pair_hi_apply _ _ b s h j).trans ?_
  rw [query_hi_apply, query_apply, query_apply]

/-- The columns of the rotated and scaled keys, first halves. -/
theorem row_key_lo : Read.val_main_v81 (F := Ideal) x md w (ix3 b s ⟨1024 + (256 * h.val + j.val), by omega⟩)
    = lo (Read.val_main_v18 (F := Ideal) x md w (ix3 b s ⟨1024 + (256 * h.val + j.val), by omega⟩)) (Read.val_main_v18 (F := Ideal) x md w (ix3 b s ⟨1024 + (256 * h.val + (128 + j.val)), by omega⟩))
        (Read.val_main_v34 (F := Ideal) (ix2 s j)) (Read.val_main_v36 (F := Ideal) (ix2 s j)) * scale := by
  unfold Read.val_main_v81
  refine (second_apply _ _ _ b s ⟨256 * h.val + j.val, by omega⟩).trans ?_
  unfold Read.val_main_v79
  refine (heads_apply _ b s h ⟨j.val, by omega⟩).trans ?_
  rw [scaled_apply]
  refine congrArg (· * scale) ?_
  unfold Read.val_main_v76
  refine (pair_lo_apply _ _ b s h j).trans ?_
  rw [key_lo_apply, key_apply, key_apply]
  rfl

/-- The columns of the rotated and scaled keys, second halves. -/
theorem row_key_hi : Read.val_main_v81 (F := Ideal) x md w (ix3 b s ⟨1024 + (256 * h.val + (128 + j.val)), by omega⟩)
    = hi (Read.val_main_v18 (F := Ideal) x md w (ix3 b s ⟨1024 + (256 * h.val + j.val), by omega⟩)) (Read.val_main_v18 (F := Ideal) x md w (ix3 b s ⟨1024 + (256 * h.val + (128 + j.val)), by omega⟩))
        (Read.val_main_v34 (F := Ideal) (ix2 s j)) (Read.val_main_v36 (F := Ideal) (ix2 s j)) * scale := by
  unfold Read.val_main_v81
  refine (second_apply _ _ _ b s ⟨256 * h.val + (128 + j.val), by omega⟩).trans ?_
  unfold Read.val_main_v79
  refine (heads_apply _ b s h ⟨128 + j.val, by omega⟩).trans ?_
  rw [scaled_apply]
  refine congrArg (· * scale) ?_
  unfold Read.val_main_v76
  refine (pair_hi_apply _ _ b s h j).trans ?_
  rw [key_hi_apply, key_apply, key_apply]
  rfl

/-- The columns that are not rotated. -/
theorem row_rest (k : Fin 4096) : Read.val_main_v81 (F := Ideal) x md w (ix3 b s ⟨2048 + k.val, by omega⟩)
    = Read.val_main_v18 (F := Ideal) x md w (ix3 b s ⟨2048 + k.val, by omega⟩) := by
  unfold Read.val_main_v81
  refine (third_apply _ _ _ b s k).trans ?_
  rw [rest_apply]

end Rotation

theorem reference_apply (x : Vec Ideal S8x4096x1024 .f32) (md : Vec Ideal S8x6x1024 .f32) (w : Vec Ideal S1024x6144 .f32) (r : Fin 32768) (j : Fin 6144) :
    Read.val_main_v83 (F := Ideal) x md w (ix2 r j) = Read.val_main_v81 (F := Ideal) x md w (ix3 ⟨r.val / 4096, by omega⟩ ⟨r.val % 4096, by omega⟩ j) := by
  unfold Read.val_main_v83 Read.val_main_v82
  exact joined_apply _ r j

end Reference

end Cert.RetIn

namespace Cert.RetIn.Array

open Cert.Kernel9Ideal Cert.Kernel9Ideal.Gen
open Idealize.ShloMosaic Idealize.ShloMosaic.TcCoe Idealize.ShloMosaic.Pointwise
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- The column of the weights that a stretch's column is. -/
theorem columns_apply (w : Vec Ideal S1024x6144 .bf16) (o : Nat) (inb : ∀ a, (![0, o] : Fin 2 → Nat) a + S1024x1024.size a ≤ S1024x6144.size a)
    (k j : Fin 1024) (f : Fin 6144) (hf : f.val = o + j.val) :
    View.ld w (Rect.unit (s := S1024x6144) ![0, o] S1024x1024.size inb) (ix2 k j) = w (ix2 k f) := by
  show w _ = w _
  refine congrArg w (funext fun a => Fin.ext ?_)
  match a with
  | ⟨0, _⟩ => show 0 + 1 * k.val = k.val; omega
  | ⟨1, _⟩ => show o + 1 * j.val = f.val; omega

theorem dot_columns (x : Fin 1024 → EReal) (md : Fin 6 → Fin 1024 → EReal) (w : Vec Ideal S1024x6144 .bf16) (o : Nat)
    (inb : ∀ a, (![0, o] : Fin 2 → Nat) a + S1024x1024.size a ≤ S1024x6144.size a) (j : Fin 1024) (f : Fin 6144) (hf : f.val = o + j.val) :
    dot x md (fun k => View.ld w (Rect.unit (s := S1024x6144) ![0, o] S1024x1024.size inb) (ix2 k j)) = dot x md (fun k => w (ix2 k f)) :=
  congrArg (dot x md) (funext fun k => columns_apply w o inb k j f hf)

/-- The column of the block that a store's column is. -/
theorem place {n : Nat} (o : Nat) (inb : ∀ a, (![0, o] : Fin 2 → Nat) a + (![512, n] : Fin 2 → Nat) a ≤ S512x6144.size a) (r : Fin 512) (j : Fin n)
    (f : Fin 6144) (hf : f.val = o + j.val) :
    (Rect.unit (s := S512x6144) ![0, o] ![512, n] inb).emb (ix2 r j) = ix2 r f := by
  funext a
  apply Fin.ext
  match a with
  | ⟨0, _⟩ => show 0 + 1 * r.val = r.val; omega
  | ⟨1, _⟩ => show o + 1 * j.val = f.val; omega

/-- The body's twenty stores, the last first. -/
theorem pieces_eq (c : Dev nD) (i : grid0.Coords) (arg2 : Memref sig .tc .vmem S512x1024 .f32) (harg2 : arg2.IsWhole) (arg3 : Memref sig .tc .vmem S1x6x1024 .f32) (harg3 : arg3.IsWhole)
    (arg4 : Memref sig .tc .vmem S1024x6144 .bf16) (harg4 : arg4.IsWhole) (arg5 : Memref sig .tc .vmem S512x128 .f32) (harg5 : arg5.IsWhole) (arg6 : Memref sig .tc .vmem S512x128 .f32) (harg6 : arg6.IsWhole)
    (arg7 : Memref sig .tc .vmem S512x6144 .bf16) (harg7 : arg7.IsWhole)
    (x0 : Vec Ideal S512x1024 .f32) (x1 : Vec Ideal S1x6x1024 .f32) (x2 : Vec Ideal S1024x6144 .bf16) (x3 x4 : Vec Ideal S512x128 .f32) :
    (kernelRun0_A (F := Ideal) c i arg2 harg2 arg3 harg3 arg4 harg4 arg5 harg5 arg6 harg6 arg7 harg7 x0 x1 x2 x3 x4).1 = [
      ⟨Rect.unit (s := S512x6144) ![0, 5120] S512x1024.size inb_S512x6144_S512x1024_0_5120, k0_pay3 (k0_pay4 x0 x1) (View.ld x2 (Rect.unit (s := S1024x6144) ![0, 5120] S1024x1024.size inb_S1024x6144_S1024x1024_0_5120))⟩,
      ⟨Rect.unit (s := S512x6144) ![0, 4096] S512x1024.size inb_S512x6144_S512x1024_0_4096, k0_pay2 (k0_pay4 x0 x1) (View.ld x2 (Rect.unit (s := S1024x6144) ![0, 4096] S1024x1024.size inb_S1024x6144_S1024x1024_0_4096))⟩,
      ⟨Rect.unit (s := S512x6144) ![0, 3072] S512x1024.size inb_S512x6144_S512x1024_0_3072, k0_pay1 (k0_pay4 x0 x1) (View.ld x2 (Rect.unit (s := S1024x6144) ![0, 3072] S1024x1024.size inb_S1024x6144_S1024x1024_0_3072))⟩,
      ⟨Rect.unit (s := S512x6144) ![0, 2048] S512x1024.size inb_S512x6144_S512x1024_0_2048, k0_pay44 (k0_pay4 x0 x1) (View.ld x2 (Rect.unit (s := S1024x6144) ![0, 2048] S1024x1024.size inb_S1024x6144_S1024x1024_0_2048))⟩,
      ⟨Rect.unit (s := S512x6144) ![0, 1920] S512x128.size inb_S512x6144_S512x128_0_1920, k0_pay43 (k0_pay25 (k0_pay4 x0 x1) (View.ld x2 (Rect.unit (s := S1024x6144) ![0, 1024] S1024x1024.size inb_S1024x6144_S1024x1024_0_1024))) (k0_pay26 x3) (k0_pay27 x4)⟩,
      ⟨Rect.unit (s := S512x6144) ![0, 1792] S512x128.size inb_S512x6144_S512x128_0_1792, k0_pay42 (k0_pay25 (k0_pay4 x0 x1) (View.ld x2 (Rect.unit (s := S1024x6144) ![0, 1024] S1024x1024.size inb_S1024x6144_S1024x1024_0_1024))) (k0_pay26 x3) (k0_pay27 x4)⟩,
      ⟨Rect.unit (s := S512x6144) ![0, 1664] S512x128.size inb_S512x6144_S512x128_0_1664, k0_pay39 (k0_pay25 (k0_pay4 x0 x1) (View.ld x2 (Rect.unit (s := S1024x6144) ![0, 1024] S1024x1024.size inb_S1024x6144_S1024x1024_0_1024))) (k0_pay26 x3) (k0_pay27 x4)⟩,
      ⟨Rect.unit (s := S512x6144) ![0, 1536] S512x128.size inb_S512x6144_S512x128_0_1536, k0_pay38 (k0_pay25 (k0_pay4 x0 x1) (View.ld x2 (Rect.unit (s := S1024x6144) ![0, 1024] S1024x1024.size inb_S1024x6144_S1024x1024_0_1024))) (k0_pay26 x3) (k0_pay27 x4)⟩,
      ⟨Rect.unit (s := S512x6144) ![0, 1408] S512x128.size inb_S512x6144_S512x128_0_1408, k0_pay35 (k0_pay4 x0 x1) (View.ld x2 (Rect.unit (s := S1024x6144) ![0, 1024] S1024x1024.size inb_S1024x6144_S1024x1024_0_1024)) x3 x4⟩,
      ⟨Rect.unit (s := S512x6144) ![0, 1280] S512x128.size inb_S512x6144_S512x128_0_1280, k0_pay34 (k0_pay4 x0 x1) (View.ld x2 (Rect.unit (s := S1024x6144) ![0, 1024] S1024x1024.size inb_S1024x6144_S1024x1024_0_1024)) x3 x4⟩,
      ⟨Rect.unit (s := S512x6144) ![0, 1152] S512x128.size inb_S512x6144_S512x128_0_1152, k0_pay31 (k0_pay4 x0 x1) (View.ld x2 (Rect.unit (s := S1024x6144) ![0, 1024] S1024x1024.size inb_S1024x6144_S1024x1024_0_1024)) x3 x4⟩,
      ⟨Rect.unit (s := S512x6144) ![0, 1024] S512x128.size inb_S512x6144_S512x128_0_1024, k0_pay30 (k0_pay4 x0 x1) (View.ld x2 (Rect.unit (s := S1024x6144) ![0, 1024] S1024x1024.size inb_S1024x6144_S1024x1024_0_1024)) x3 x4⟩,
      ⟨Rect.unit (s := S512x6144) ![0, 896] S512x128.size inb_S512x6144_S512x128_0_896, k0_pay24 (k0_pay5 x0 x1 (View.ld x2 (Rect.unit (s := S1024x6144) ![0, 0] S1024x1024.size inb_S1024x6144_S1024x1024_0_0))) (k0_pay6 x3) (k0_pay7 x4)⟩,
      ⟨Rect.unit (s := S512x6144) ![0, 768] S512x128.size inb_S512x6144_S512x128_0_768, k0_pay23 (k0_pay5 x0 x1 (View.ld x2 (Rect.unit (s := S1024x6144) ![0, 0] S1024x1024.size inb_S1024x6144_S1024x1024_0_0))) (k0_pay6 x3) (k0_pay7 x4)⟩,
      ⟨Rect.unit (s := S512x6144) ![0, 640] S512x128.size inb_S512x6144_S512x128_0_640, k0_pay20 (k0_pay5 x0 x1 (View.ld x2 (Rect.unit (s := S1024x6144) ![0, 0] S1024x1024.size inb_S1024x6144_S1024x1024_0_0))) (k0_pay6 x3) (k0_pay7 x4)⟩,
      ⟨Rect.unit (s := S512x6144) ![0, 512] S512x128.size inb_S512x6144_S512x128_0_512, k0_pay19 (k0_pay5 x0 x1 (View.ld x2 (Rect.unit (s := S1024x6144) ![0, 0] S1024x1024.size inb_S1024x6144_S1024x1024_0_0))) (k0_pay6 x3) (k0_pay7 x4)⟩,
      ⟨Rect.unit (s := S512x6144) ![0, 384] S512x128.size inb_S512x6144_S512x128_0_384, k0_pay16 (k0_pay5 x0 x1 (View.ld x2 (Rect.unit (s := S1024x6144) ![0, 0] S1024x1024.size inb_S1024x6144_S1024x1024_0_0))) (k0_pay6 x3) (k0_pay7 x4)⟩,
      ⟨Rect.unit (s := S512x6144) ![0, 256] S512x128.size inb_S512x6144_S512x128_0_256, k0_pay15 (k0_pay5 x0 x1 (View.ld x2 (Rect.unit (s := S1024x6144) ![0, 0] S1024x1024.size inb_S1024x6144_S1024x1024_0_0))) (k0_pay6 x3) (k0_pay7 x4)⟩,
      ⟨Rect.unit (s := S512x6144) ![0, 128] S512x128.size inb_S512x6144_S512x128_0_128, k0_pay12 (k0_pay10 x0 x1 (View.ld x2 (Rect.unit (s := S1024x6144) ![0, 0] S1024x1024.size inb_S1024x6144_S1024x1024_0_0)) x3 x4)⟩,
      ⟨Rect.unit (s := S512x6144) ![0, 0] S512x128.size inb_S512x6144_S512x128_0_0, k0_pay11 x0 x1 (View.ld x2 (Rect.unit (s := S1024x6144) ![0, 0] S1024x1024.size inb_S1024x6144_S1024x1024_0_0)) x3 x4⟩] := by
  unfold kernelRun0_A
  dsimp only
  unfold kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3
    kernelRun0_A.sl.r_2 kernelRun0_A.sl.r_1 kernelRun0_A.sl.r
  simp only [View.readAt_eq_ld, harg2.read_unread, harg3.read_unread, harg4.read_unread, harg5.read_unread, harg6.read_unread]
  rw [View.ld_unit_zero (S := S512x1024) hz2, View.ld_unit_zero (S := S1x6x1024) hz3, View.ld_unit_zero (S := S512x128) hz2, View.ld_unit_zero (S := S512x128) hz2]

/-- The block the body's stores leave, by what its columns are. -/
theorem out_eq (c : Dev nD) (i : grid0.Coords) (arg2 : Memref sig .tc .vmem S512x1024 .f32) (harg2 : arg2.IsWhole) (arg3 : Memref sig .tc .vmem S1x6x1024 .f32) (harg3 : arg3.IsWhole)
    (arg4 : Memref sig .tc .vmem S1024x6144 .bf16) (harg4 : arg4.IsWhole) (arg5 : Memref sig .tc .vmem S512x128 .f32) (harg5 : arg5.IsWhole) (arg6 : Memref sig .tc .vmem S512x128 .f32) (harg6 : arg6.IsWhole)
    (arg7 : Memref sig .tc .vmem S512x6144 .bf16) (harg7 : arg7.IsWhole)
    (x0 : Vec Ideal S512x1024 .f32) (x1 : Vec Ideal S1x6x1024 .f32) (x2 : Vec Ideal S1024x6144 .bf16) (x3 x4 : Vec Ideal S512x128 .f32) (G : Vec Ideal S512x6144 .bf16)
    (hql : ∀ (h : Fin 4) (a : Fin 512) (j : Fin 128), G (ix2 a ⟨256 * h.val + j.val, by omega⟩) = lo (dot (fun k => x0 (ix2 a k)) (fun e k => x1 (ix3 0 e k)) (fun k => x2 (ix2 k ⟨256 * h.val + j.val, by omega⟩))) (dot (fun k => x0 (ix2 a k)) (fun e k => x1 (ix3 0 e k)) (fun k => x2 (ix2 k ⟨256 * h.val + (128 + j.val), by omega⟩))) (x3 (ix2 a j)) (x4 (ix2 a j)))
    (hqh : ∀ (h : Fin 4) (a : Fin 512) (j : Fin 128), G (ix2 a ⟨256 * h.val + (128 + j.val), by omega⟩) = hi (dot (fun k => x0 (ix2 a k)) (fun e k => x1 (ix3 0 e k)) (fun k => x2 (ix2 k ⟨256 * h.val + j.val, by omega⟩))) (dot (fun k => x0 (ix2 a k)) (fun e k => x1 (ix3 0 e k)) (fun k => x2 (ix2 k ⟨256 * h.val + (128 + j.val), by omega⟩))) (x3 (ix2 a j)) (x4 (ix2 a j)))
    (hkl : ∀ (h : Fin 4) (a : Fin 512) (j : Fin 128), G (ix2 a ⟨1024 + (256 * h.val + j.val), by omega⟩) = lo (dot (fun k => x0 (ix2 a k)) (fun e k => x1 (ix3 0 e k)) (fun k => x2 (ix2 k ⟨1024 + (256 * h.val + j.val), by omega⟩))) (dot (fun k => x0 (ix2 a k)) (fun e k => x1 (ix3 0 e k)) (fun k => x2 (ix2 k ⟨1024 + (256 * h.val + (128 + j.val)), by omega⟩))) (x3 (ix2 a j)) (x4 (ix2 a j)) * scale)
    (hkh : ∀ (h : Fin 4) (a : Fin 512) (j : Fin 128), G (ix2 a ⟨1024 + (256 * h.val + (128 + j.val)), by omega⟩) = hi (dot (fun k => x0 (ix2 a k)) (fun e k => x1 (ix3 0 e k)) (fun k => x2 (ix2 k ⟨1024 + (256 * h.val + j.val), by omega⟩))) (dot (fun k => x0 (ix2 a k)) (fun e k => x1 (ix3 0 e k)) (fun k => x2 (ix2 k ⟨1024 + (256 * h.val + (128 + j.val)), by omega⟩))) (x3 (ix2 a j)) (x4 (ix2 a j)) * scale)
    (hr : ∀ (a : Fin 512) (n : Fin 4096), G (ix2 a ⟨2048 + n.val, by omega⟩) = (dot (fun k => x0 (ix2 a k)) (fun e k => x1 (ix3 0 e k)) (fun k => x2 (ix2 k ⟨2048 + n.val, by omega⟩)))) :
    out0_A_5 (F := Ideal) c i arg2 harg2 arg3 harg3 arg4 harg4 arg5 harg5 arg6 harg6 arg7 harg7 x0 x1 x2 x3 x4 = G := by
  have hc := cover0_A_5 (F := Ideal) c i arg2 harg2 arg3 harg3 arg4 harg4 arg5 harg5 arg6 harg6 arg7 harg7 x0 x1 x2 x3 x4
  unfold out0_A_5
  rw [View.read_writes_junk_eq_canon]
  rw [pieces_eq] at hc ⊢
  funext z
  refine View.canon_apply_of_pieces G _ ?_ z (hc z)
  refine View.PiecesOf.mem ⟨fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, trivial⟩
  · obtain ⟨a, b, rfl⟩ : ∃ (a : Fin 512) (b : Fin 1024), y = ix2 a b := ⟨y 0, y 1, eq_ix2 y⟩
    refine Eq.trans ?_ (congrArg G (place 5120 inb_S512x6144_S512x1024_0_5120 a b ⟨2048 + (⟨3072 + b.val, by omega⟩ : Fin 4096).val, by show 2048 + (3072 + b.val) < 6144; omega⟩ (by show 2048 + (3072 + b.val) = 5120 + b.val; omega))).symm
    refine Eq.trans ?_ (hr a ⟨3072 + b.val, by omega⟩).symm
    exact (rest_d_apply x0 x1 _ a b).trans (dot_columns _ _ x2 5120 inb_S1024x6144_S1024x1024_0_5120 b ⟨2048 + (⟨3072 + b.val, by omega⟩ : Fin 4096).val, by show 2048 + (3072 + b.val) < 6144; omega⟩ (by show 2048 + (3072 + b.val) = 5120 + b.val; omega))
  · obtain ⟨a, b, rfl⟩ : ∃ (a : Fin 512) (b : Fin 1024), y = ix2 a b := ⟨y 0, y 1, eq_ix2 y⟩
    refine Eq.trans ?_ (congrArg G (place 4096 inb_S512x6144_S512x1024_0_4096 a b ⟨2048 + (⟨2048 + b.val, by omega⟩ : Fin 4096).val, by show 2048 + (2048 + b.val) < 6144; omega⟩ (by show 2048 + (2048 + b.val) = 4096 + b.val; omega))).symm
    refine Eq.trans ?_ (hr a ⟨2048 + b.val, by omega⟩).symm
    exact (rest_c_apply x0 x1 _ a b).trans (dot_columns _ _ x2 4096 inb_S1024x6144_S1024x1024_0_4096 b ⟨2048 + (⟨2048 + b.val, by omega⟩ : Fin 4096).val, by show 2048 + (2048 + b.val) < 6144; omega⟩ (by show 2048 + (2048 + b.val) = 4096 + b.val; omega))
  · obtain ⟨a, b, rfl⟩ : ∃ (a : Fin 512) (b : Fin 1024), y = ix2 a b := ⟨y 0, y 1, eq_ix2 y⟩
    refine Eq.trans ?_ (congrArg G (place 3072 inb_S512x6144_S512x1024_0_3072 a b ⟨2048 + (⟨1024 + b.val, by omega⟩ : Fin 4096).val, by show 2048 + (1024 + b.val) < 6144; omega⟩ (by show 2048 + (1024 + b.val) = 3072 + b.val; omega))).symm
    refine Eq.trans ?_ (hr a ⟨1024 + b.val, by omega⟩).symm
    exact (rest_b_apply x0 x1 _ a b).trans (dot_columns _ _ x2 3072 inb_S1024x6144_S1024x1024_0_3072 b ⟨2048 + (⟨1024 + b.val, by omega⟩ : Fin 4096).val, by show 2048 + (1024 + b.val) < 6144; omega⟩ (by show 2048 + (1024 + b.val) = 3072 + b.val; omega))
  · obtain ⟨a, b, rfl⟩ : ∃ (a : Fin 512) (b : Fin 1024), y = ix2 a b := ⟨y 0, y 1, eq_ix2 y⟩
    refine Eq.trans ?_ (congrArg G (place 2048 inb_S512x6144_S512x1024_0_2048 a b ⟨2048 + (⟨0 + b.val, by omega⟩ : Fin 4096).val, by show 2048 + (0 + b.val) < 6144; omega⟩ (by show 2048 + (0 + b.val) = 2048 + b.val; omega))).symm
    refine Eq.trans ?_ (hr a ⟨0 + b.val, by omega⟩).symm
    exact (rest_a_apply x0 x1 _ a b).trans (dot_columns _ _ x2 2048 inb_S1024x6144_S1024x1024_0_2048 b ⟨2048 + (⟨0 + b.val, by omega⟩ : Fin 4096).val, by show 2048 + (0 + b.val) < 6144; omega⟩ (by show 2048 + (0 + b.val) = 2048 + b.val; omega))
  · obtain ⟨a, b, rfl⟩ : ∃ (a : Fin 512) (b : Fin 128), y = ix2 a b := ⟨y 0, y 1, eq_ix2 y⟩
    refine (key_three_hi_apply x0 x1 _ x3 x4 a b).trans ?_
    refine Eq.trans ?_ (congrArg G (place 1920 inb_S512x6144_S512x128_0_1920 a b ⟨1024 + (256 * 3 + (128 + b.val)), by omega⟩ (by show 1024 + (256 * 3 + (128 + b.val)) = 1920 + b.val; omega))).symm
    refine Eq.trans ?_ (hkh ⟨3, by omega⟩ a b).symm
    exact congrArg₂ (fun u v => hi u v (x3 (ix2 a b)) (x4 (ix2 a b)) * scale)
      ((keys_apply x0 x1 _ a _).trans (dot_columns _ _ x2 1024 inb_S1024x6144_S1024x1024_0_1024 _ _ (by show 1024 + (256 * 3 + b.val) = 1024 + (768 + b.val); omega)))
      ((keys_apply x0 x1 _ a _).trans (dot_columns _ _ x2 1024 inb_S1024x6144_S1024x1024_0_1024 _ _ (by show 1024 + (256 * 3 + (128 + b.val)) = 1024 + (896 + b.val); omega)))
  · obtain ⟨a, b, rfl⟩ : ∃ (a : Fin 512) (b : Fin 128), y = ix2 a b := ⟨y 0, y 1, eq_ix2 y⟩
    refine (key_three_lo_apply x0 x1 _ x3 x4 a b).trans ?_
    refine Eq.trans ?_ (congrArg G (place 1792 inb_S512x6144_S512x128_0_1792 a b ⟨1024 + (256 * 3 + b.val), by omega⟩ (by show 1024 + (256 * 3 + b.val) = 1792 + b.val; omega))).symm
    refine Eq.trans ?_ (hkl ⟨3, by omega⟩ a b).symm
    exact congrArg₂ (fun u v => lo u v (x3 (ix2 a b)) (x4 (ix2 a b)) * scale)
      ((keys_apply x0 x1 _ a _).trans (dot_columns _ _ x2 1024 inb_S1024x6144_S1024x1024_0_1024 _ _ (by show 1024 + (256 * 3 + b.val) = 1024 + (768 + b.val); omega)))
      ((keys_apply x0 x1 _ a _).trans (dot_columns _ _ x2 1024 inb_S1024x6144_S1024x1024_0_1024 _ _ (by show 1024 + (256 * 3 + (128 + b.val)) = 1024 + (896 + b.val); omega)))
  · obtain ⟨a, b, rfl⟩ : ∃ (a : Fin 512) (b : Fin 128), y = ix2 a b := ⟨y 0, y 1, eq_ix2 y⟩
    refine (key_two_hi_apply x0 x1 _ x3 x4 a b).trans ?_
    refine Eq.trans ?_ (congrArg G (place 1664 inb_S512x6144_S512x128_0_1664 a b ⟨1024 + (256 * 2 + (128 + b.val)), by omega⟩ (by show 1024 + (256 * 2 + (128 + b.val)) = 1664 + b.val; omega))).symm
    refine Eq.trans ?_ (hkh ⟨2, by omega⟩ a b).symm
    exact congrArg₂ (fun u v => hi u v (x3 (ix2 a b)) (x4 (ix2 a b)) * scale)
      ((keys_apply x0 x1 _ a _).trans (dot_columns _ _ x2 1024 inb_S1024x6144_S1024x1024_0_1024 _ _ (by show 1024 + (256 * 2 + b.val) = 1024 + (512 + b.val); omega)))
      ((keys_apply x0 x1 _ a _).trans (dot_columns _ _ x2 1024 inb_S1024x6144_S1024x1024_0_1024 _ _ (by show 1024 + (256 * 2 + (128 + b.val)) = 1024 + (640 + b.val); omega)))
  · obtain ⟨a, b, rfl⟩ : ∃ (a : Fin 512) (b : Fin 128), y = ix2 a b := ⟨y 0, y 1, eq_ix2 y⟩
    refine (key_two_lo_apply x0 x1 _ x3 x4 a b).trans ?_
    refine Eq.trans ?_ (congrArg G (place 1536 inb_S512x6144_S512x128_0_1536 a b ⟨1024 + (256 * 2 + b.val), by omega⟩ (by show 1024 + (256 * 2 + b.val) = 1536 + b.val; omega))).symm
    refine Eq.trans ?_ (hkl ⟨2, by omega⟩ a b).symm
    exact congrArg₂ (fun u v => lo u v (x3 (ix2 a b)) (x4 (ix2 a b)) * scale)
      ((keys_apply x0 x1 _ a _).trans (dot_columns _ _ x2 1024 inb_S1024x6144_S1024x1024_0_1024 _ _ (by show 1024 + (256 * 2 + b.val) = 1024 + (512 + b.val); omega)))
      ((keys_apply x0 x1 _ a _).trans (dot_columns _ _ x2 1024 inb_S1024x6144_S1024x1024_0_1024 _ _ (by show 1024 + (256 * 2 + (128 + b.val)) = 1024 + (640 + b.val); omega)))
  · obtain ⟨a, b, rfl⟩ : ∃ (a : Fin 512) (b : Fin 128), y = ix2 a b := ⟨y 0, y 1, eq_ix2 y⟩
    refine (key_one_hi_apply x0 x1 _ x3 x4 a b).trans ?_
    refine Eq.trans ?_ (congrArg G (place 1408 inb_S512x6144_S512x128_0_1408 a b ⟨1024 + (256 * 1 + (128 + b.val)), by omega⟩ (by show 1024 + (256 * 1 + (128 + b.val)) = 1408 + b.val; omega))).symm
    refine Eq.trans ?_ (hkh ⟨1, by omega⟩ a b).symm
    exact congrArg₂ (fun u v => hi u v (x3 (ix2 a b)) (x4 (ix2 a b)) * scale)
      ((keys_apply x0 x1 _ a _).trans (dot_columns _ _ x2 1024 inb_S1024x6144_S1024x1024_0_1024 _ _ (by show 1024 + (256 * 1 + b.val) = 1024 + (256 + b.val); omega)))
      ((keys_apply x0 x1 _ a _).trans (dot_columns _ _ x2 1024 inb_S1024x6144_S1024x1024_0_1024 _ _ (by show 1024 + (256 * 1 + (128 + b.val)) = 1024 + (384 + b.val); omega)))
  · obtain ⟨a, b, rfl⟩ : ∃ (a : Fin 512) (b : Fin 128), y = ix2 a b := ⟨y 0, y 1, eq_ix2 y⟩
    refine (key_one_lo_apply x0 x1 _ x3 x4 a b).trans ?_
    refine Eq.trans ?_ (congrArg G (place 1280 inb_S512x6144_S512x128_0_1280 a b ⟨1024 + (256 * 1 + b.val), by omega⟩ (by show 1024 + (256 * 1 + b.val) = 1280 + b.val; omega))).symm
    refine Eq.trans ?_ (hkl ⟨1, by omega⟩ a b).symm
    exact congrArg₂ (fun u v => lo u v (x3 (ix2 a b)) (x4 (ix2 a b)) * scale)
      ((keys_apply x0 x1 _ a _).trans (dot_columns _ _ x2 1024 inb_S1024x6144_S1024x1024_0_1024 _ _ (by show 1024 + (256 * 1 + b.val) = 1024 + (256 + b.val); omega)))
      ((keys_apply x0 x1 _ a _).trans (dot_columns _ _ x2 1024 inb_S1024x6144_S1024x1024_0_1024 _ _ (by show 1024 + (256 * 1 + (128 + b.val)) = 1024 + (384 + b.val); omega)))
  · obtain ⟨a, b, rfl⟩ : ∃ (a : Fin 512) (b : Fin 128), y = ix2 a b := ⟨y 0, y 1, eq_ix2 y⟩
    refine (key_zero_hi_apply x0 x1 _ x3 x4 a b).trans ?_
    refine Eq.trans ?_ (congrArg G (place 1152 inb_S512x6144_S512x128_0_1152 a b ⟨1024 + (256 * 0 + (128 + b.val)), by omega⟩ (by show 1024 + (256 * 0 + (128 + b.val)) = 1152 + b.val; omega))).symm
    refine Eq.trans ?_ (hkh ⟨0, by omega⟩ a b).symm
    exact congrArg₂ (fun u v => hi u v (x3 (ix2 a b)) (x4 (ix2 a b)) * scale)
      ((keys_apply x0 x1 _ a _).trans (dot_columns _ _ x2 1024 inb_S1024x6144_S1024x1024_0_1024 _ _ (by show 1024 + (256 * 0 + b.val) = 1024 + (0 + b.val); omega)))
      ((keys_apply x0 x1 _ a _).trans (dot_columns _ _ x2 1024 inb_S1024x6144_S1024x1024_0_1024 _ _ (by show 1024 + (256 * 0 + (128 + b.val)) = 1024 + (128 + b.val); omega)))
  · obtain ⟨a, b, rfl⟩ : ∃ (a : Fin 512) (b : Fin 128), y = ix2 a b := ⟨y 0, y 1, eq_ix2 y⟩
    refine (key_zero_lo_apply x0 x1 _ x3 x4 a b).trans ?_
    refine Eq.trans ?_ (congrArg G (place 1024 inb_S512x6144_S512x128_0_1024 a b ⟨1024 + (256 * 0 + b.val), by omega⟩ (by show 1024 + (256 * 0 + b.val) = 1024 + b.val; omega))).symm
    refine Eq.trans ?_ (hkl ⟨0, by omega⟩ a b).symm
    exact congrArg₂ (fun u v => lo u v (x3 (ix2 a b)) (x4 (ix2 a b)) * scale)
      ((keys_apply x0 x1 _ a _).trans (dot_columns _ _ x2 1024 inb_S1024x6144_S1024x1024_0_1024 _ _ (by show 1024 + (256 * 0 + b.val) = 1024 + (0 + b.val); omega)))
      ((keys_apply x0 x1 _ a _).trans (dot_columns _ _ x2 1024 inb_S1024x6144_S1024x1024_0_1024 _ _ (by show 1024 + (256 * 0 + (128 + b.val)) = 1024 + (128 + b.val); omega)))
  · obtain ⟨a, b, rfl⟩ : ∃ (a : Fin 512) (b : Fin 128), y = ix2 a b := ⟨y 0, y 1, eq_ix2 y⟩
    refine (query_three_hi_apply x0 x1 _ x3 x4 a b).trans ?_
    refine Eq.trans ?_ (congrArg G (place 896 inb_S512x6144_S512x128_0_896 a b ⟨256 * 3 + (128 + b.val), by omega⟩ (by show 256 * 3 + (128 + b.val) = 896 + b.val; omega))).symm
    refine Eq.trans ?_ (hqh ⟨3, by omega⟩ a b).symm
    exact congrArg₂ (fun u v => hi u v (x3 (ix2 a b)) (x4 (ix2 a b)))
      ((queries_apply x0 x1 _ a _).trans (dot_columns _ _ x2 0 inb_S1024x6144_S1024x1024_0_0 _ _ (by show 256 * 3 + b.val = 0 + (768 + b.val); omega)))
      ((queries_apply x0 x1 _ a _).trans (dot_columns _ _ x2 0 inb_S1024x6144_S1024x1024_0_0 _ _ (by show 256 * 3 + (128 + b.val) = 0 + (896 + b.val); omega)))
  · obtain ⟨a, b, rfl⟩ : ∃ (a : Fin 512) (b : Fin 128), y = ix2 a b := ⟨y 0, y 1, eq_ix2 y⟩
    refine (query_three_lo_apply x0 x1 _ x3 x4 a b).trans ?_
    refine Eq.trans ?_ (congrArg G (place 768 inb_S512x6144_S512x128_0_768 a b ⟨256 * 3 + b.val, by omega⟩ (by show 256 * 3 + b.val = 768 + b.val; omega))).symm
    refine Eq.trans ?_ (hql ⟨3, by omega⟩ a b).symm
    exact congrArg₂ (fun u v => lo u v (x3 (ix2 a b)) (x4 (ix2 a b)))
      ((queries_apply x0 x1 _ a _).trans (dot_columns _ _ x2 0 inb_S1024x6144_S1024x1024_0_0 _ _ (by show 256 * 3 + b.val = 0 + (768 + b.val); omega)))
      ((queries_apply x0 x1 _ a _).trans (dot_columns _ _ x2 0 inb_S1024x6144_S1024x1024_0_0 _ _ (by show 256 * 3 + (128 + b.val) = 0 + (896 + b.val); omega)))
  · obtain ⟨a, b, rfl⟩ : ∃ (a : Fin 512) (b : Fin 128), y = ix2 a b := ⟨y 0, y 1, eq_ix2 y⟩
    refine (query_two_hi_apply x0 x1 _ x3 x4 a b).trans ?_
    refine Eq.trans ?_ (congrArg G (place 640 inb_S512x6144_S512x128_0_640 a b ⟨256 * 2 + (128 + b.val), by omega⟩ (by show 256 * 2 + (128 + b.val) = 640 + b.val; omega))).symm
    refine Eq.trans ?_ (hqh ⟨2, by omega⟩ a b).symm
    exact congrArg₂ (fun u v => hi u v (x3 (ix2 a b)) (x4 (ix2 a b)))
      ((queries_apply x0 x1 _ a _).trans (dot_columns _ _ x2 0 inb_S1024x6144_S1024x1024_0_0 _ _ (by show 256 * 2 + b.val = 0 + (512 + b.val); omega)))
      ((queries_apply x0 x1 _ a _).trans (dot_columns _ _ x2 0 inb_S1024x6144_S1024x1024_0_0 _ _ (by show 256 * 2 + (128 + b.val) = 0 + (640 + b.val); omega)))
  · obtain ⟨a, b, rfl⟩ : ∃ (a : Fin 512) (b : Fin 128), y = ix2 a b := ⟨y 0, y 1, eq_ix2 y⟩
    refine (query_two_lo_apply x0 x1 _ x3 x4 a b).trans ?_
    refine Eq.trans ?_ (congrArg G (place 512 inb_S512x6144_S512x128_0_512 a b ⟨256 * 2 + b.val, by omega⟩ (by show 256 * 2 + b.val = 512 + b.val; omega))).symm
    refine Eq.trans ?_ (hql ⟨2, by omega⟩ a b).symm
    exact congrArg₂ (fun u v => lo u v (x3 (ix2 a b)) (x4 (ix2 a b)))
      ((queries_apply x0 x1 _ a _).trans (dot_columns _ _ x2 0 inb_S1024x6144_S1024x1024_0_0 _ _ (by show 256 * 2 + b.val = 0 + (512 + b.val); omega)))
      ((queries_apply x0 x1 _ a _).trans (dot_columns _ _ x2 0 inb_S1024x6144_S1024x1024_0_0 _ _ (by show 256 * 2 + (128 + b.val) = 0 + (640 + b.val); omega)))
  · obtain ⟨a, b, rfl⟩ : ∃ (a : Fin 512) (b : Fin 128), y = ix2 a b := ⟨y 0, y 1, eq_ix2 y⟩
    refine (query_one_hi_apply x0 x1 _ x3 x4 a b).trans ?_
    refine Eq.trans ?_ (congrArg G (place 384 inb_S512x6144_S512x128_0_384 a b ⟨256 * 1 + (128 + b.val), by omega⟩ (by show 256 * 1 + (128 + b.val) = 384 + b.val; omega))).symm
    refine Eq.trans ?_ (hqh ⟨1, by omega⟩ a b).symm
    exact congrArg₂ (fun u v => hi u v (x3 (ix2 a b)) (x4 (ix2 a b)))
      ((queries_apply x0 x1 _ a _).trans (dot_columns _ _ x2 0 inb_S1024x6144_S1024x1024_0_0 _ _ (by show 256 * 1 + b.val = 0 + (256 + b.val); omega)))
      ((queries_apply x0 x1 _ a _).trans (dot_columns _ _ x2 0 inb_S1024x6144_S1024x1024_0_0 _ _ (by show 256 * 1 + (128 + b.val) = 0 + (384 + b.val); omega)))
  · obtain ⟨a, b, rfl⟩ : ∃ (a : Fin 512) (b : Fin 128), y = ix2 a b := ⟨y 0, y 1, eq_ix2 y⟩
    refine (query_one_lo_apply x0 x1 _ x3 x4 a b).trans ?_
    refine Eq.trans ?_ (congrArg G (place 256 inb_S512x6144_S512x128_0_256 a b ⟨256 * 1 + b.val, by omega⟩ (by show 256 * 1 + b.val = 256 + b.val; omega))).symm
    refine Eq.trans ?_ (hql ⟨1, by omega⟩ a b).symm
    exact congrArg₂ (fun u v => lo u v (x3 (ix2 a b)) (x4 (ix2 a b)))
      ((queries_apply x0 x1 _ a _).trans (dot_columns _ _ x2 0 inb_S1024x6144_S1024x1024_0_0 _ _ (by show 256 * 1 + b.val = 0 + (256 + b.val); omega)))
      ((queries_apply x0 x1 _ a _).trans (dot_columns _ _ x2 0 inb_S1024x6144_S1024x1024_0_0 _ _ (by show 256 * 1 + (128 + b.val) = 0 + (384 + b.val); omega)))
  · obtain ⟨a, b, rfl⟩ : ∃ (a : Fin 512) (b : Fin 128), y = ix2 a b := ⟨y 0, y 1, eq_ix2 y⟩
    refine (query_zero_hi_apply x0 x1 _ x3 x4 a b).trans ?_
    refine Eq.trans ?_ (congrArg G (place 128 inb_S512x6144_S512x128_0_128 a b ⟨256 * 0 + (128 + b.val), by omega⟩ (by show 256 * 0 + (128 + b.val) = 128 + b.val; omega))).symm
    refine Eq.trans ?_ (hqh ⟨0, by omega⟩ a b).symm
    exact congrArg₂ (fun u v => hi u v (x3 (ix2 a b)) (x4 (ix2 a b)))
      ((queries_apply x0 x1 _ a _).trans (dot_columns _ _ x2 0 inb_S1024x6144_S1024x1024_0_0 _ _ (by show 256 * 0 + b.val = 0 + (0 + b.val); omega)))
      ((queries_apply x0 x1 _ a _).trans (dot_columns _ _ x2 0 inb_S1024x6144_S1024x1024_0_0 _ _ (by show 256 * 0 + (128 + b.val) = 0 + (128 + b.val); omega)))
  · obtain ⟨a, b, rfl⟩ : ∃ (a : Fin 512) (b : Fin 128), y = ix2 a b := ⟨y 0, y 1, eq_ix2 y⟩
    refine (query_zero_lo_apply x0 x1 _ x3 x4 a b).trans ?_
    refine Eq.trans ?_ (congrArg G (place 0 inb_S512x6144_S512x128_0_0 a b ⟨256 * 0 + b.val, by omega⟩ (by show 256 * 0 + b.val = 0 + b.val; omega))).symm
    refine Eq.trans ?_ (hql ⟨0, by omega⟩ a b).symm
    exact congrArg₂ (fun u v => lo u v (x3 (ix2 a b)) (x4 (ix2 a b)))
      ((queries_apply x0 x1 _ a _).trans (dot_columns _ _ x2 0 inb_S1024x6144_S1024x1024_0_0 _ _ (by show 256 * 0 + b.val = 0 + (0 + b.val); omega)))
      ((queries_apply x0 x1 _ a _).trans (dot_columns _ _ x2 0 inb_S1024x6144_S1024x1024_0_0 _ _ (by show 256 * 0 + (128 + b.val) = 0 + (128 + b.val); omega)))

variable (m : (ℓ : Loc nD τ sig) → Buf (Elt Ideal) ℓ)

theorem joined_apply (x : Vec Ideal S8x4096x1024 .f32) (r : Fin 32768) (k : Fin 1024) :
    shapeCast S32768x1024 x shapeCasts_S8x4096x1024_S32768x1024 (ix2 r k) = x (ix3 ⟨r.val / 4096, by omega⟩ ⟨r.val % 4096, by omega⟩ k) := by
  pointwise []

/-- The activations as the launch finds them: the argument with its two leading axes joined. -/
theorem V_rows (c : Dev nD) (r : Fin 32768) (k : Fin 1024) :
    V m c main_v14 (ix2 r k) = m ((c : Thread nD τ).loc main_arg0) (ix3 ⟨r.val / 4096, by omega⟩ ⟨r.val % 4096, by omega⟩ k) := by
  have h : V m c main_v14 = shapeCast S32768x1024 (m ((c : Thread nD τ).loc main_arg0) : Vec Ideal S8x4096x1024 .f32) shapeCasts_S8x4096x1024_S32768x1024 := by
    simp only [V, hostOps0, hostOps0_1, hostOps0_2, List.flatten_cons, List.flatten_nil, List.append_nil, List.cons_append, List.nil_append]
    after_results
    rfl
  rw [h]
  exact joined_apply _ r k

theorem V_weight (c : Dev nD) : V m c main_v0 = m ((c : Thread nD τ).loc main_arg2) := by
  simp only [V, hostOps0, hostOps0_1, hostOps0_2, List.flatten_cons, List.flatten_nil, List.append_nil, List.cons_append, List.nil_append]
  after_results
  rfl

/-- The cosines as the launch finds them are the reference's. -/
theorem V_cos (c : Dev nD) : V m c main_v12 = Cert.Reference9Ideal.Read.val_main_v34 (F := Ideal) := by
  simp only [V, hostOps0, hostOps0_1, hostOps0_2, List.flatten_cons, List.flatten_nil, List.append_nil, List.cons_append, List.nil_append]
  after_results
  rfl

/-- The sines as the launch finds them are the reference's. -/
theorem V_sin (c : Dev nD) : V m c main_v13 = Cert.Reference9Ideal.Read.val_main_v36 (F := Ideal) := by
  simp only [V, hostOps0, hostOps0_1, hostOps0_2, List.flatten_cons, List.flatten_nil, List.append_nil, List.cons_append, List.nil_append]
  after_results
  rfl

/-- Where the windows are at a grid point. -/
theorem idx (t : Fin cfg0.N) : win0_0.index t = ![t.val, 0]
    ∧ win0_1.index t = ![t.val / 8, 0, 0]
    ∧ win0_2.index t = ![0, 0]
    ∧ win0_3.index t = ![t.val % 8, 0]
    ∧ win0_4.index t = ![t.val % 8, 0]
    ∧ win0_5.index t = ![t.val, 0] :=
  (by decide +kernel : ∀ t : Fin grid0.N, win0_0.index t = ![t.val, 0]
    ∧ win0_1.index t = ![t.val / 8, 0, 0]
    ∧ win0_2.index t = ![0, 0]
    ∧ win0_3.index t = ![t.val % 8, 0]
    ∧ win0_4.index t = ![t.val % 8, 0]
    ∧ win0_5.index t = ![t.val, 0]) t

theorem lt64 (t : Fin cfg0.N) : t.val < 64 := lt_of_lt_of_eq t.isLt (show cfg0.N = 64 from N_0)

theorem block_rows (c : Dev nD) (t : Fin cfg0.N) (r : Fin 512) (k : Fin 1024) :
    (iblk m c 0 t : Vec Ideal S512x1024 .f32) (ix2 r k)
      = m ((c : Thread nD τ).loc main_arg0) (ix3 ⟨(t.val * 512 + r.val) / 4096, by have := lt64 t; omega⟩ ⟨(t.val * 512 + r.val) % 4096, by omega⟩ k) := by
  refine Eq.trans ?_ (V_rows m c ⟨t.val * 512 + r.val, by have := lt64 t; omega⟩ k)
  unfold iblk
  rw [View.read_apply]
  show V m c main_v14 _ = V m c main_v14 _
  congr 1
  funext a
  apply Fin.ext
  match a with
  | ⟨0, _⟩ => show win0_0.index t 0 * 512 + 1 * r.val = t.val * 512 + r.val; rw [(idx t).1]; simp
  | ⟨1, _⟩ => show win0_0.index t 1 * 1024 + 1 * k.val = k.val; rw [(idx t).1]; simp

theorem block_mod (c : Dev nD) (t : Fin cfg0.N) (b : Fin 6) (k : Fin 1024) :
    (iblk m c 1 t : Vec Ideal S1x6x1024 .f32) (ix3 0 b k)
      = m ((c : Thread nD τ).loc main_arg1) (ix3 ⟨t.val / 8, by have := lt64 t; omega⟩ b k) := by
  unfold iblk
  rw [View.read_apply]
  show V m c main_arg1 _ = _
  rw [V_main_arg1]
  congr 1
  funext a
  apply Fin.ext
  match a with
  | ⟨0, _⟩ => show win0_1.index t 0 * 1 + 1 * 0 = t.val / 8; rw [(idx t).2.1]; simp
  | ⟨1, _⟩ => show win0_1.index t 1 * 6 + 1 * b.val = b.val; rw [(idx t).2.1]; simp
  | ⟨2, _⟩ => show win0_1.index t 2 * 1024 + 1 * k.val = k.val; rw [(idx t).2.1]; simp

theorem block_weight (c : Dev nD) (t : Fin cfg0.N) (k : Fin 1024) (f : Fin 6144) :
    (iblk m c 2 t : Vec Ideal S1024x6144 .bf16) (ix2 k f)
      = m ((c : Thread nD τ).loc main_arg2) (ix2 k f) := by
  unfold iblk
  rw [View.read_apply]
  show V m c main_v0 _ = _
  rw [V_weight]
  congr 1
  funext a
  apply Fin.ext
  match a with
  | ⟨0, _⟩ => show win0_2.index t 0 * 512 + 1 * k.val = k.val; rw [(idx t).2.2.1]; simp
  | ⟨1, _⟩ => show win0_2.index t 1 * 6144 + 1 * f.val = f.val; rw [(idx t).2.2.1]; simp

theorem block_cos (c : Dev nD) (t : Fin cfg0.N) (r : Fin 512) (j : Fin 128) :
    (iblk m c 3 t : Vec Ideal S512x128 .f32) (ix2 r j) = Cert.Reference9Ideal.Read.val_main_v34 (F := Ideal) (ix2 ⟨(t.val * 512 + r.val) % 4096, by omega⟩ j) := by
  unfold iblk
  rw [View.read_apply]
  show V m c main_v12 _ = _
  rw [V_cos]
  congr 1
  funext a
  apply Fin.ext
  match a with
  | ⟨0, _⟩ => show win0_3.index t 0 * 512 + 1 * r.val = (t.val * 512 + r.val) % 4096; rw [(idx t).2.2.2.1]; show t.val % 8 * 512 + 1 * r.val = (t.val * 512 + r.val) % 4096; omega
  | ⟨1, _⟩ => show win0_3.index t 1 * 128 + 1 * j.val = j.val; rw [(idx t).2.2.2.1]; simp

theorem block_sin (c : Dev nD) (t : Fin cfg0.N) (r : Fin 512) (j : Fin 128) :
    (iblk m c 4 t : Vec Ideal S512x128 .f32) (ix2 r j) = Cert.Reference9Ideal.Read.val_main_v36 (F := Ideal) (ix2 ⟨(t.val * 512 + r.val) % 4096, by omega⟩ j) := by
  unfold iblk
  rw [View.read_apply]
  show V m c main_v13 _ = _
  rw [V_sin]
  congr 1
  funext a
  apply Fin.ext
  match a with
  | ⟨0, _⟩ => show win0_4.index t 0 * 512 + 1 * r.val = (t.val * 512 + r.val) % 4096; rw [(idx t).2.2.2.2.1]; show t.val % 8 * 512 + 1 * r.val = (t.val * 512 + r.val) % 4096; omega
  | ⟨1, _⟩ => show win0_4.index t 1 * 128 + 1 * j.val = j.val; rw [(idx t).2.2.2.2.1]; simp

/-- The reference's result, of the kernel's arguments. -/
abbrev result (c : Dev nD) : Vec Ideal S32768x6144 .bf16 :=
  Cert.Reference9Ideal.Read.val_main_v83 (F := Ideal) (m ((c : Thread nD τ).loc main_arg0)) (m ((c : Thread nD τ).loc main_arg1)) (m ((c : Thread nD τ).loc main_arg2))

/-- The reference's rows that a grid point's block is of. -/
def tile (c : Dev nD) (t : Fin cfg0.N) : Vec Ideal S512x6144 .bf16 :=
  fun y => result m c (ix2 ⟨t.val * 512 + (y 0).val, by have := lt64 t; have h : (y 0).val < 512 := (y 0).isLt; omega⟩ (y 1))

theorem tile_row (c : Dev nD) (t : Fin cfg0.N) (r : Fin 512) (j : Fin 6144) :
    tile m c t (ix2 r j) = Cert.Reference9Ideal.Read.val_main_v81 (F := Ideal) (m ((c : Thread nD τ).loc main_arg0)) (m ((c : Thread nD τ).loc main_arg1)) (m ((c : Thread nD τ).loc main_arg2)) (ix3 ⟨t.val / 8, by have := lt64 t; omega⟩ ⟨(t.val * 512 + r.val) % 4096, by omega⟩ j) := by
  refine (reference_apply (m ((c : Thread nD τ).loc main_arg0)) (m ((c : Thread nD τ).loc main_arg1)) (m ((c : Thread nD τ).loc main_arg2)) ⟨t.val * 512 + r.val, by have := lt64 t; omega⟩ j).trans ?_
  have e : (t.val * 512 + r.val) / 4096 = t.val / 8 := by omega
  simp only [e]

/-- The reference's projection of a point's row, of the point's blocks. -/
theorem projected (c : Dev nD) (t : Fin cfg0.N) (r : Fin 512) (j : Fin 6144) :
    Cert.Reference9Ideal.Read.val_main_v18 (F := Ideal) (m ((c : Thread nD τ).loc main_arg0)) (m ((c : Thread nD τ).loc main_arg1)) (m ((c : Thread nD τ).loc main_arg2)) (ix3 ⟨t.val / 8, by have := lt64 t; omega⟩ ⟨(t.val * 512 + r.val) % 4096, by omega⟩ j)
      = dot (fun k => (iblk m c 0 t : Vec Ideal S512x1024 .f32) (ix2 r k)) (fun e k => (iblk m c 1 t : Vec Ideal S1x6x1024 .f32) (ix3 0 e k))
          (fun k => (iblk m c 2 t : Vec Ideal S1024x6144 .bf16) (ix2 k j)) := by
  refine (project_apply (m ((c : Thread nD τ).loc main_arg0)) (m ((c : Thread nD τ).loc main_arg1)) (m ((c : Thread nD τ).loc main_arg2)) _ _ j).trans ?_
  have e : (t.val * 512 + r.val) / 4096 = t.val / 8 := by omega
  simp only [block_rows, block_mod, block_weight, e]

/-- A point's block, by the body's twenty stores, is the reference's rows. -/
theorem body_eq (c : Dev nD) (t : Fin cfg0.N) :
    out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (iblk m c 0 t) (iblk m c 1 t) (iblk m c 2 t) (iblk m c 3 t) (iblk m c 4 t) = tile m c t := by
  refine out_eq c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t) (tile m c t) (fun h a j => ?_) (fun h a j => ?_) (fun h a j => ?_) (fun h a j => ?_) (fun a k => ?_)
  · refine (tile_row m c t a _).trans ((Cert.RetIn.row_query_lo (m ((c : Thread nD τ).loc main_arg0)) (m ((c : Thread nD τ).loc main_arg1)) (m ((c : Thread nD τ).loc main_arg2)) ⟨t.val / 8, by have := lt64 t; omega⟩ ⟨(t.val * 512 + a.val) % 4096, by omega⟩ h j).trans ?_)
    rw [projected m c t a ⟨256 * h.val + j.val, by omega⟩, projected m c t a ⟨256 * h.val + (128 + j.val), by omega⟩, ← block_cos m c t a j, ← block_sin m c t a j]
  · refine (tile_row m c t a _).trans ((Cert.RetIn.row_query_hi (m ((c : Thread nD τ).loc main_arg0)) (m ((c : Thread nD τ).loc main_arg1)) (m ((c : Thread nD τ).loc main_arg2)) ⟨t.val / 8, by have := lt64 t; omega⟩ ⟨(t.val * 512 + a.val) % 4096, by omega⟩ h j).trans ?_)
    rw [projected m c t a ⟨256 * h.val + j.val, by omega⟩, projected m c t a ⟨256 * h.val + (128 + j.val), by omega⟩, ← block_cos m c t a j, ← block_sin m c t a j]
  · refine (tile_row m c t a _).trans ((Cert.RetIn.row_key_lo (m ((c : Thread nD τ).loc main_arg0)) (m ((c : Thread nD τ).loc main_arg1)) (m ((c : Thread nD τ).loc main_arg2)) ⟨t.val / 8, by have := lt64 t; omega⟩ ⟨(t.val * 512 + a.val) % 4096, by omega⟩ h j).trans ?_)
    rw [projected m c t a ⟨1024 + (256 * h.val + j.val), by omega⟩, projected m c t a ⟨1024 + (256 * h.val + (128 + j.val)), by omega⟩, ← block_cos m c t a j, ← block_sin m c t a j]
  · refine (tile_row m c t a _).trans ((Cert.RetIn.row_key_hi (m ((c : Thread nD τ).loc main_arg0)) (m ((c : Thread nD τ).loc main_arg1)) (m ((c : Thread nD τ).loc main_arg2)) ⟨t.val / 8, by have := lt64 t; omega⟩ ⟨(t.val * 512 + a.val) % 4096, by omega⟩ h j).trans ?_)
    rw [projected m c t a ⟨1024 + (256 * h.val + j.val), by omega⟩, projected m c t a ⟨1024 + (256 * h.val + (128 + j.val)), by omega⟩, ← block_cos m c t a j, ← block_sin m c t a j]
  · refine (tile_row m c t a _).trans ((Cert.RetIn.row_rest (m ((c : Thread nD τ).loc main_arg0)) (m ((c : Thread nD τ).loc main_arg1)) (m ((c : Thread nD τ).loc main_arg2)) ⟨t.val / 8, by have := lt64 t; omega⟩ ⟨(t.val * 512 + a.val) % 4096, by omega⟩ k).trans ?_)
    exact projected m c t a _

theorem flushed_eq (c : Dev nD) (t : Fin cfg0.N) (_ : (cfg0.win 5).flush t = true) :
    (dats m 0 c).flushed 5 t = ((cfg0.win 5).blk t).view.read (Elt Ideal) (result m c) := by
  rw [Value.flushed5_A, body_eq]
  funext y
  obtain ⟨r, j, rfl⟩ : ∃ (r : Fin 512) (j : Fin 6144), y = ix2 r j := ⟨y 0, y 1, eq_ix2 y⟩
  rw [View.read_apply]
  show result m c (ix2 ⟨t.val * 512 + r.val, _⟩ j) = result m c _
  congr 1
  funext a
  apply Fin.ext
  match a with
  | ⟨0, _⟩ => show t.val * 512 + r.val = win0_5.index t 0 * 512 + 1 * r.val; rw [(idx t).2.2.2.2.2]; simp
  | ⟨1, _⟩ => show j.val = win0_5.index t 1 * 6144 + 1 * j.val; rw [(idx t).2.2.2.2.2]; simp

theorem mem_blk (t : Fin cfg0.N) (i : S32768x6144.Idx) (h : (i 0 : Nat) / 512 = t.val) : i ∈ ((cfg0.win 5).blk t).view.set := by
  show i ∈ ((View.whole main_v15).slice (win0_5.rect t)).set
  rw [View.set_slice_whole, Rect.mem_set_unit]
  have h1 : (i 1 : Nat) < 6144 := (i 1).isLt
  intro a
  match a with
  | ⟨0, _⟩ =>
    show win0_5.index t 0 * 512 ≤ (i 0 : Nat) ∧ (i 0 : Nat) < win0_5.index t 0 * 512 + 512
    rw [(idx t).2.2.2.2.2]
    show t.val * 512 ≤ (i 0 : Nat) ∧ (i 0 : Nat) < t.val * 512 + 512
    omega
  | ⟨1, _⟩ =>
    show win0_5.index t 1 * 6144 ≤ (i 1 : Nat) ∧ (i 1 : Nat) < win0_5.index t 1 * 6144 + 6144
    rw [(idx t).2.2.2.2.2]
    show 0 * 6144 ≤ (i 1 : Nat) ∧ (i 1 : Nat) < 0 * 6144 + 6144
    omega

/-- The kernel's result array is the reference's result. -/
theorem array_eq (c : Dev nD) : (dats m 0 c).arrAt 5 cfg0.N = result m c :=
  (dats m 0 c).arrAt_eq_of_cover 5 (result m c) (flushed_eq m c) fun (i : S32768x6144.Idx) =>
    ⟨⟨(i 0 : Nat) / 512, lt_of_lt_of_eq (by have h0 : (i 0 : Nat) < 32768 := (i 0).isLt; omega : (i 0 : Nat) / 512 < 64) (show cfg0.N = 64 from N_0).symm⟩,
      flush0_5 _, mem_blk _ i rfl⟩

end Cert.RetIn.Array

end
-- ==== Proof.Modulation.lean ====
/- The modulation's projection: an entry of the result is the conditioning's row, through the sigmoid linear unit, by a column of
   the layer's weights, plus the bias, of the kernel's block and of the reference both. -/
module

public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise
public import Idealize.ShloMosaic.Lib.IdealHost
public import Idealize.ShloMosaic.Lib.Pipeline.Value
public import Idealize.ShloMosaic.Lib.StableHlo.Run
public import Idealize.ShloMosaic.Lib.Tactic

@[expose] public section

set_option maxRecDepth 16384

noncomputable section

namespace Cert.Modulation

open Idealize.ShloMosaic Idealize.ShloMosaic.Pointwise

/-- The sigmoid linear unit of the row, by a column, plus a bias. -/
def out (x w : Fin 1024 → EReal) (b : EReal) : EReal :=
  ∑ k, x k * Ideal.logistic (x k) * w k + b

open Cert.Kernel10Ideal in
theorem payload_apply (x : Vec Ideal S8x1024 .f32) (w : Vec Ideal S1x1024x1024 .f32) (b : Vec Ideal S1x1x1024 .f32) (r : Fin 8) (j : Fin 1024) :
    Cert.Kernel10Ideal.Gen.k0_pay1 (F := Ideal) x w b (ix3 0 r j) = out (fun k => x (ix2 r k)) (fun k => w (ix3 0 k j)) (b (ix3 0 0 j)) := by
  pointwise [Cert.Kernel10Ideal.Gen.k0_pay1, out]

/-- The reference's product has the weight first. -/
theorem out_comm (x w : Fin 1024 → EReal) (b : EReal) : ∑ k, w k * (x k * Ideal.logistic (x k)) + b = out x w b :=
  congrArg (· + b) (Finset.sum_congr rfl fun k _ => mul_comm _ _)

open Cert.Reference10Ideal in
theorem reference_apply (x : Vec Ideal S8x1024 .f32) (w : Vec Ideal S4x1024x6144 .f32) (b : Vec Ideal S4x6144 .f32) (i : Fin 4) (r : Fin 8) (f : Fin 6144) :
    Cert.Reference10Ideal.Read.val_main_v5 (F := Ideal) x w b (ix3 i r f) = out (fun k => x (ix2 r k)) (fun k => w (ix3 i k f)) (b (ix2 i f)) := by
  refine Eq.trans ?_ (out_comm _ _ _)
  pointwise [Read.val_main_v5, Read.val_main_v4, Read.val_main_v3, Read.val_main_v2, Read.val_main_v1, Read.val_main_v0,
    Read.val_main_call0_v0, Read.val_main_call0_v1, Read.val_main_call0_v2, Read.val_main_call0_v3, Read.val_main_call0_v4, Read.val_main_call0_v5,
    Read.val_main_call0_cst, Read.val_main_call0_cst_0]
  rfl

end Cert.Modulation

namespace Cert.Modulation.Array

open Cert.Kernel10Ideal Cert.Kernel10Ideal.Gen
open Idealize.ShloMosaic Idealize.ShloMosaic.TcCoe Idealize.ShloMosaic.Pointwise
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

theorem bias_apply (b : Vec Ideal S4x6144 .f32) (i : Fin 4) (f : Fin 6144) : shapeCast S4x1x6144 b shapeCasts_S4x6144_S4x1x6144 (ix3 i 0 f) = b (ix2 i f) := by
  pointwise []

/-- The bias as the launch finds it: the argument with an axis of one put in. -/
theorem V_bias (c : Dev nD) (i : Fin 4) (f : Fin 6144) : V m c main_v0 (ix3 i 0 f) = m ((c : Thread nD τ).loc main_arg2) (ix2 i f) := by
  have h : V m c main_v0 = shapeCast S4x1x6144 (m ((c : Thread nD τ).loc main_arg2) : Vec Ideal S4x6144 .f32) shapeCasts_S4x6144_S4x1x6144 := by
    show StableHlo.after hostOps0 _ (Proc.devRef .tc main_v0) = _
    after_results
    rfl
  rw [h]
  exact bias_apply _ i f

/-- Where the windows are at a grid point. -/
theorem idx (t : Fin cfg0.N) : win0_0.index t = ![0, 0]
    ∧ win0_1.index t = ![t.val / 6, 0, t.val % 6]
    ∧ win0_2.index t = ![t.val / 6, 0, t.val % 6]
    ∧ win0_3.index t = ![t.val / 6, 0, t.val % 6] :=
  (by decide +kernel : ∀ t : Fin grid0.N, win0_0.index t = ![0, 0]
    ∧ win0_1.index t = ![t.val / 6, 0, t.val % 6]
    ∧ win0_2.index t = ![t.val / 6, 0, t.val % 6]
    ∧ win0_3.index t = ![t.val / 6, 0, t.val % 6]) t

theorem lt24 (t : Fin cfg0.N) : t.val < 24 := lt_of_lt_of_eq t.isLt (show cfg0.N = 24 from N_0)

theorem block_rows (c : Dev nD) (t : Fin cfg0.N) (r : Fin 8) (k : Fin 1024) :
    (iblk m c 0 t : Vec Ideal S8x1024 .f32) (ix2 r k) = m ((c : Thread nD τ).loc main_arg0) (ix2 r k) := by
  unfold iblk
  rw [View.read_apply]
  show V m c main_arg0 _ = _
  rw [V_main_arg0]
  congr 1
  funext a
  apply Fin.ext
  match a with
  | ⟨0, _⟩ => show win0_0.index t 0 * 8 + 1 * r.val = r.val; rw [(idx t).1]; simp
  | ⟨1, _⟩ => show win0_0.index t 1 * 1024 + 1 * k.val = k.val; rw [(idx t).1]; simp

theorem block_weight (c : Dev nD) (t : Fin cfg0.N) (k j : Fin 1024) :
    (iblk m c 1 t : Vec Ideal S1x1024x1024 .f32) (ix3 0 k j)
      = m ((c : Thread nD τ).loc main_arg1) (ix3 ⟨t.val / 6, by have := lt24 t; omega⟩ k ⟨t.val % 6 * 1024 + j.val, by omega⟩) := by
  unfold iblk
  rw [View.read_apply]
  show V m c main_arg1 _ = _
  rw [V_main_arg1]
  congr 1
  funext a
  apply Fin.ext
  match a with
  | ⟨0, _⟩ => show win0_1.index t 0 * 1 + 1 * 0 = t.val / 6; rw [(idx t).2.1]; simp
  | ⟨1, _⟩ => show win0_1.index t 1 * 1024 + 1 * k.val = k.val; rw [(idx t).2.1]; simp
  | ⟨2, _⟩ => show win0_1.index t 2 * 1024 + 1 * j.val = t.val % 6 * 1024 + j.val; rw [(idx t).2.1]; simp

theorem block_bias (c : Dev nD) (t : Fin cfg0.N) (j : Fin 1024) :
    (iblk m c 2 t : Vec Ideal S1x1x1024 .f32) (ix3 0 0 j)
      = m ((c : Thread nD τ).loc main_arg2) (ix2 ⟨t.val / 6, by have := lt24 t; omega⟩ ⟨t.val % 6 * 1024 + j.val, by omega⟩) := by
  refine Eq.trans ?_ (V_bias m c ⟨t.val / 6, by have := lt24 t; omega⟩ ⟨t.val % 6 * 1024 + j.val, by omega⟩)
  unfold iblk
  rw [View.read_apply]
  show V m c main_v0 _ = V m c main_v0 _
  congr 1
  funext a
  apply Fin.ext
  match a with
  | ⟨0, _⟩ => show win0_2.index t 0 * 1 + 1 * 0 = t.val / 6; rw [(idx t).2.2.1]; simp
  | ⟨1, _⟩ => show win0_2.index t 1 * 1 + 1 * 0 = 0; rw [(idx t).2.2.1]; simp
  | ⟨2, _⟩ => show win0_2.index t 2 * 1024 + 1 * j.val = t.val % 6 * 1024 + j.val; rw [(idx t).2.2.1]; simp

/-- The reference's result, of the kernel's arguments. -/
abbrev result (c : Dev nD) : Vec Ideal S4x8x6144 .f32 :=
  Cert.Reference10Ideal.Read.val_main_v5 (F := Ideal) (m ((c : Thread nD τ).loc main_arg0)) (m ((c : Thread nD τ).loc main_arg1)) (m ((c : Thread nD τ).loc main_arg2))

/-- An entry of a point's block, by the body, is the reference's. -/
theorem body_eq (c : Dev nD) (t : Fin cfg0.N) (r : Fin 8) (j : Fin 1024) :
    out0_3 (iblk m c 0 t) (iblk m c 1 t) (iblk m c 2 t) (ix3 0 r j)
      = result m c (ix3 ⟨t.val / 6, by have := lt24 t; omega⟩ r ⟨t.val % 6 * 1024 + j.val, by omega⟩) := by
  unfold out0_3
  rw [View.canon_unit_zero hz3, View.ld_unit_zero (S := S8x1024) hz2, View.ld_unit_zero (S := S1x1024x1024) hz3, View.ld_unit_zero (S := S1x1x1024) hz3]
  refine (payload_apply _ _ _ r j).trans ?_
  rw [result, reference_apply]
  simp only [block_rows, block_weight, block_bias]

theorem flushed_eq (c : Dev nD) (t : Fin cfg0.N) (_ : (cfg0.win 3).flush t = true) :
    (dats m 0 c).flushed 3 t = ((cfg0.win 3).blk t).view.read (Elt Ideal) (result m c) := by
  rw [Value.flushed3]
  funext y
  obtain ⟨z, r, j, rfl⟩ : ∃ (z : Fin 1) (r : Fin 8) (j : Fin 1024), y = ix3 z r j := ⟨y 0, y 1, y 2, eq_ix3 y⟩
  obtain rfl : z = 0 := Subsingleton.elim _ _
  refine (body_eq m c t r j).trans ?_
  rw [View.read_apply]
  show result m c _ = result m c _
  congr 1
  funext a
  apply Fin.ext
  match a with
  | ⟨0, _⟩ => show t.val / 6 = win0_3.index t 0 * 1 + 1 * 0; rw [(idx t).2.2.2]; simp
  | ⟨1, _⟩ => show r.val = win0_3.index t 1 * 8 + 1 * r.val; rw [(idx t).2.2.2]; simp
  | ⟨2, _⟩ => show t.val % 6 * 1024 + j.val = win0_3.index t 2 * 1024 + 1 * j.val; rw [(idx t).2.2.2]; simp

theorem mem_blk (t : Fin cfg0.N) (i : S4x8x6144.Idx) (h : (i 0 : Nat) * 6 + (i 2 : Nat) / 1024 = t.val) : i ∈ ((cfg0.win 3).blk t).view.set := by
  show i ∈ ((View.whole main_v1).slice (win0_3.rect t)).set
  rw [View.set_slice_whole, Rect.mem_set_unit]
  have h1 : (i 1 : Nat) < 8 := (i 1).isLt
  have h2 : (i 2 : Nat) < 6144 := (i 2).isLt
  intro a
  match a with
  | ⟨0, _⟩ =>
    show win0_3.index t 0 * 1 ≤ (i 0 : Nat) ∧ (i 0 : Nat) < win0_3.index t 0 * 1 + 1
    rw [(idx t).2.2.2]
    show t.val / 6 * 1 ≤ (i 0 : Nat) ∧ (i 0 : Nat) < t.val / 6 * 1 + 1
    omega
  | ⟨1, _⟩ =>
    show win0_3.index t 1 * 8 ≤ (i 1 : Nat) ∧ (i 1 : Nat) < win0_3.index t 1 * 8 + 8
    rw [(idx t).2.2.2]
    show 0 * 8 ≤ (i 1 : Nat) ∧ (i 1 : Nat) < 0 * 8 + 8
    omega
  | ⟨2, _⟩ =>
    show win0_3.index t 2 * 1024 ≤ (i 2 : Nat) ∧ (i 2 : Nat) < win0_3.index t 2 * 1024 + 1024
    rw [(idx t).2.2.2]
    show t.val % 6 * 1024 ≤ (i 2 : Nat) ∧ (i 2 : Nat) < t.val % 6 * 1024 + 1024
    omega

/-- The kernel's result array is the reference's result. -/
theorem array_eq (c : Dev nD) : (dats m 0 c).arrAt 3 cfg0.N = result m c :=
  (dats m 0 c).arrAt_eq_of_cover 3 (result m c) (flushed_eq m c) fun (i : S4x8x6144.Idx) =>
    ⟨⟨(i 0 : Nat) * 6 + (i 2 : Nat) / 1024, lt_of_lt_of_eq (by have h0 : (i 0 : Nat) < 4 := (i 0).isLt; have h2 : (i 2 : Nat) < 6144 := (i 2).isLt; omega : (i 0 : Nat) * 6 + (i 2 : Nat) / 1024 < 24) (show cfg0.N = 24 from N_0).symm⟩,
      flush0_3 _, mem_blk _ i rfl⟩

end Cert.Modulation.Array

end
-- ==== Proof.DiffBias.lean ====
/- The bucket of a relative position, as both programs compute it on integers, and its saturation: beyond the greatest distance the
   bucket depends only on the side, so the tile at the rim stands for every tile further out. -/
module

public import Idealize.ShloMosaic.PureOps.Ideal
public import Idealize.ShloMosaic.Lib.Pointwise
public import Mathlib.Analysis.SpecialFunctions.Log.Basic

@[expose] public section

noncomputable section

namespace Cert.Diff

open Idealize.ShloMosaic

/-- The bucket of an absolute distance of at least eight. -/
def large (n : BitVec 32) : BitVec 32 :=
  IntOp.minsi (IntOp.addi 8#32 (FloatOps.fptosi (F := Ideal) (φ := .f32) 32 (FloatOps.mulf (F := Ideal) (φ := .f32)
    (FloatOps.hostDivf (F := Ideal) (φ := .f32) (FloatOps.hostUnary (F := Ideal) (φ := .f32) .log
      (FloatOps.hostDivf (F := Ideal) (φ := .f32) (FloatOps.sitofp (F := Ideal) .f32 (IntOp.maxsi n 1#32)) (FloatOps.ofBits (F := Ideal) .f32 0x41000000#32)))
      (FloatOps.ofBits (F := Ideal) .f32 0x40317218#32)) (FloatOps.ofBits (F := Ideal) .f32 0x41000000#32)))) 15#32

/-- The bucket of a relative position, before negative indices are wrapped. -/
def bucket0 (rel : BitVec 32) : BitVec 32 :=
  IntOp.addi (Scalar.select (IntOp.cmpi .sgt rel 0#32) 16#32 0#32)
    (Scalar.select (IntOp.cmpi .slt (IntOp.absi rel) 8#32) (IntOp.absi rel) (large (IntOp.absi rel)))

/-- The bucket of a relative position. -/
def bucket (rel : BitVec 32) : BitVec 32 :=
  Scalar.select (IntOp.cmpi .slt (bucket0 rel) 0#32) (IntOp.addi (bucket0 rel) 32#32) (bucket0 rel)

theorem eight : Ideal.ofBits .f32 0x41000000#32 = ((8 : ℝ) : EReal) := by
  simp [Ideal.ofBits, Ideal.ieee, -EReal.coe_mul]
  norm_num

theorem spread : Ideal.ofBits .f32 0x40317218#32 = ((11629080 / 4194304 : ℝ) : EReal) := by
  simp [Ideal.ofBits, Ideal.ieee, -EReal.coe_mul]
  norm_num

theorem quotient_coe (x y : ℝ) (hy : 0 < y) : Ideal.div (x : EReal) (y : EReal) = ((x / y : ℝ) : EReal) := by
  unfold Ideal.div
  rw [if_neg (by simpa using hy.ne'), ← EReal.coe_inv, ← EReal.coe_mul, div_eq_mul_inv]

/-- The logarithm's step at a distance between 257 and 4095 is at least seven. -/
theorem step_bounds (z : Int) (h0 : 257 ≤ z) (h1 : z ≤ 4095) :
    7 ≤ ⌊Real.log ((z : ℝ) / 8) / (11629080 / 4194304) * 8⌋ ∧ ⌊Real.log ((z : ℝ) / 8) / (11629080 / 4194304) * 8⌋ ≤ 100 := by
  have z0 : (256 : ℝ) ≤ z := by exact_mod_cast (by omega : (256 : Int) ≤ z)
  have z1 : (z : ℝ) ≤ 4096 := by exact_mod_cast (by omega : z ≤ 4096)
  have lo : 3 ≤ Real.log ((z : ℝ) / 8) := by
    have h : (12 : ℝ) * Real.log (4 / 3) = Real.log ((4 / 3) ^ 12) := by rw [Real.log_pow]; norm_num
    have h' := Real.one_sub_inv_le_log_of_pos (show (0 : ℝ) < 4 / 3 by norm_num)
    have : Real.log ((4 / 3 : ℝ) ^ 12) ≤ Real.log ((z : ℝ) / 8) :=
      Real.log_le_log (by norm_num) (by rw [le_div_iff₀ (by norm_num)]; norm_num; linarith)
    norm_num at h'
    linarith
  have hi : Real.log ((z : ℝ) / 8) ≤ 9 := by
    have h : (9 : ℝ) * Real.log 2 = Real.log (2 ^ 9) := by rw [Real.log_pow]; norm_num
    have h' := Real.log_le_sub_one_of_pos (show (0 : ℝ) < 2 by norm_num)
    have : Real.log ((z : ℝ) / 8) ≤ Real.log (2 ^ 9) := Real.log_le_log (by positivity) (by rw [div_le_iff₀ (by norm_num)]; linarith)
    rw [← h] at this
    linarith
  constructor
  · rw [Int.le_floor]
    push_cast
    rw [div_mul_eq_mul_div, le_div_iff₀ (by norm_num)]
    linarith
  · rw [Int.floor_le_iff]
    push_cast
    rw [div_mul_eq_mul_div, div_lt_iff₀ (by norm_num)]
    linarith

theorem large_far (n : BitVec 32) (h0 : 257 ≤ n.toInt) (h1 : n.toInt ≤ 4095) : large n = 15#32 := by
  have hm : IntOp.maxsi n 1#32 = n := by
    unfold IntOp.maxsi
    rw [if_pos (by rw [BitVec.slt_iff_toInt_lt]; exact lt_of_lt_of_le (by decide) h0)]
  obtain ⟨b0, b1⟩ := step_bounds n.toInt h0 h1
  have hz : (257 : ℝ) ≤ (n.toInt : ℝ) := by exact_mod_cast h0
  have hlog : FloatOps.mulf (F := Ideal) (φ := .f32)
    (FloatOps.hostDivf (F := Ideal) (φ := .f32) (FloatOps.hostUnary (F := Ideal) (φ := .f32) .log
      (FloatOps.hostDivf (F := Ideal) (φ := .f32) (FloatOps.sitofp (F := Ideal) .f32 n) (FloatOps.ofBits (F := Ideal) .f32 0x41000000#32)))
      (FloatOps.ofBits (F := Ideal) .f32 0x40317218#32)) (FloatOps.ofBits (F := Ideal) .f32 0x41000000#32)
      = ((Real.log ((n.toInt : ℝ) / 8) / (11629080 / 4194304) * 8 : ℝ) : EReal) := by
    show Ideal.div (Ideal.log (Ideal.div (((n.toInt : ℝ)) : EReal) (Ideal.ofBits .f32 0x41000000#32))) (Ideal.ofBits .f32 0x40317218#32)
      * Ideal.ofBits .f32 0x41000000#32 = _
    rw [eight, spread, quotient_coe _ _ (by norm_num), Ideal.log_coe, if_neg (by rw [not_le]; positivity), quotient_coe _ _ (by norm_num), ← EReal.coe_mul]
  unfold large
  rw [hm, hlog]
  show IntOp.minsi (IntOp.addi 8#32 (BitVec.ofInt 32 (Ideal.toIntClamped _ _ ((_ : ℝ) : EReal)))) 15#32 = _
  rw [Ideal.toIntClamped_coe]
  generalize hr : Real.log ((n.toInt : ℝ) / 8) / (11629080 / 4194304) * 8 = r at b0 b1
  have hr0 : 0 ≤ r := by
    have : (0 : Int) ≤ ⌊r⌋ := by omega
    exact Int.floor_nonneg.1 this
  rw [if_pos hr0]
  generalize ⌊r⌋ = f at b0 b1
  have hc : max (-(((2 ^ (32 - 1) : Nat)) : Int)) (min ((((2 ^ (32 - 1) : Nat)) : Int) - 1) f) = f := by
    rw [min_eq_right (by norm_num; omega), max_eq_right (by norm_num; omega)]
  rw [hc]
  interval_cases f <;> rfl

theorem bucket_above (rel : BitVec 32) (h0 : 257 ≤ rel.toInt) (h1 : rel.toInt ≤ 4095) : bucket rel = 31#32 := by
  have hm : rel.msb = false := by
    rw [BitVec.msb_eq_toInt]
    exact decide_eq_false (by omega)
  have ha : IntOp.absi rel = rel := by unfold IntOp.absi; rw [hm]; rfl
  have hg : IntOp.cmpi .sgt rel 0#32 = 1#1 := by
    have : BitVec.slt 0#32 rel = true := by rw [BitVec.slt_iff_toInt_lt]; exact lt_of_lt_of_le (by decide) h0
    show BitVec.ofBool (BitVec.slt 0#32 rel) = _
    rw [this]; rfl
  have hl : IntOp.cmpi .slt rel 8#32 = 0#1 := by
    have : BitVec.slt rel 8#32 = false := by
      rw [Bool.eq_false_iff, Ne, BitVec.slt_iff_toInt_lt, not_lt]
      exact le_trans (by decide) h0
    show BitVec.ofBool (BitVec.slt rel 8#32) = _
    rw [this]; rfl
  have hb : bucket0 rel = 31#32 := by
    unfold bucket0
    rw [ha, hg, hl, large_far rel h0 h1]
    rfl
  unfold bucket
  rw [hb]
  rfl

theorem bucket_below (rel : BitVec 32) (h0 : rel.toInt ≤ -257) (h1 : -4095 ≤ rel.toInt) : bucket rel = 15#32 := by
  have hm : rel.msb = true := by
    rw [BitVec.msb_eq_toInt]
    exact decide_eq_true (by omega)
  have hn : (-rel).toInt = -rel.toInt := by
    rw [BitVec.toInt_neg]
    rw [Int.bmod_eq_of_le (by norm_num; omega) (by norm_num; omega)]
  have ha : IntOp.absi rel = -rel := by unfold IntOp.absi; rw [hm]; rfl
  have hg : IntOp.cmpi .sgt rel 0#32 = 0#1 := by
    have : BitVec.slt 0#32 rel = false := by
      rw [Bool.eq_false_iff, Ne, BitVec.slt_iff_toInt_lt, not_lt]
      exact le_trans h0 (by decide)
    show BitVec.ofBool (BitVec.slt 0#32 rel) = _
    rw [this]; rfl
  have hl : IntOp.cmpi .slt (-rel) 8#32 = 0#1 := by
    have : BitVec.slt (-rel) 8#32 = false := by
      rw [Bool.eq_false_iff, Ne, BitVec.slt_iff_toInt_lt, not_lt, hn]
      exact le_trans (by decide : (8#32 : BitVec 32).toInt ≤ 257) (by omega)
    show BitVec.ofBool (BitVec.slt (-rel) 8#32) = _
    rw [this]; rfl
  have hb : bucket0 rel = 15#32 := by
    unfold bucket0
    rw [ha, hg, hl, large_far (-rel) (by omega) (by omega)]
    rfl
  unfold bucket
  rw [hb]
  rfl

/-- The relative position at a place of a tile. -/
def tileRel (t r l : Nat) : BitVec 32 :=
  IntOp.subi (IntOp.addi (BitVec.ofNat 32 l) (IntOp.muli (IntOp.subi (BitVec.ofNat 32 t) 2#32) 256#32)) (BitVec.ofNat 32 r)

/-- The relative position of a key and a query. -/
def keyRel (key s : Nat) : BitVec 32 := IntOp.subi (BitVec.ofNat 32 key) (BitVec.ofNat 32 s)

theorem ofNat_toInt (n : Nat) (h : n < 8192) : (BitVec.ofNat 32 n).toInt = n := by
  rw [BitVec.toInt_eq_toNat_cond, BitVec.toNat_ofNat, Nat.mod_eq_of_lt (by omega), if_pos (by omega)]

theorem sub_toInt (x y : BitVec 32) (hx : -100000 ≤ x.toInt ∧ x.toInt ≤ 100000) (hy : -100000 ≤ y.toInt ∧ y.toInt ≤ 100000) :
    (IntOp.subi x y).toInt = x.toInt - y.toInt := by
  show (x - y).toInt = _
  rw [BitVec.toInt_sub, Int.bmod_eq_of_le (by norm_num; omega) (by norm_num; omega)]

theorem add_toInt (x y : BitVec 32) (hx : -100000 ≤ x.toInt ∧ x.toInt ≤ 100000) (hy : -100000 ≤ y.toInt ∧ y.toInt ≤ 100000) :
    (IntOp.addi x y).toInt = x.toInt + y.toInt := by
  show (x + y).toInt = _
  rw [BitVec.toInt_add, Int.bmod_eq_of_le (by norm_num; omega) (by norm_num; omega)]

theorem keyRel_toInt (key s : Nat) (hk : key < 4096) (hs : s < 4096) : (keyRel key s).toInt = (key : Int) - s := by
  unfold keyRel
  have e1 := ofNat_toInt key (by omega)
  have e2 := ofNat_toInt s (by omega)
  rw [sub_toInt _ _ (by omega) (by omega), e1, e2]

theorem offset_toInt (t : Nat) (ht : t < 5) : (IntOp.muli (IntOp.subi (BitVec.ofNat 32 t) 2#32) 256#32).toInt = ((t : Int) - 2) * 256 := by
  interval_cases t <;> rfl

theorem tileRel_toInt (t r l : Nat) (ht : t < 5) (hr : r < 256) (hl : l < 256) : (tileRel t r l).toInt = (l : Int) + ((t : Int) - 2) * 256 - r := by
  unfold tileRel
  have e1 := ofNat_toInt l (by omega)
  have e2 := ofNat_toInt r (by omega)
  have e3 := offset_toInt t ht
  have e4 := add_toInt (BitVec.ofNat 32 l) (IntOp.muli (IntOp.subi (BitVec.ofNat 32 t) 2#32) 256#32) (by omega) (by omega)
  rw [sub_toInt _ _ (by omega) (by omega), e4, e1, e2, e3]

/-- The tile a block of queries takes against a block of keys holds the buckets of their relative positions. -/
theorem bucket_tile (n m t r l : Nat) (hn : n < 16) (hm : m < 16) (hr : r < 256) (hl : l < 256)
    (ht : (t : Int) = max (-2) (min 2 ((n : Int) - m)) + 2) :
    bucket (tileRel t r l) = bucket (keyRel (256 * n + l) (256 * m + r)) := by
  have h5 : t < 5 := by omega
  have e1 := tileRel_toInt t r l h5 hr hl
  have e2 := keyRel_toInt (256 * n + l) (256 * m + r) (by omega) (by omega)
  push_cast at e2
  by_cases ha : (n : Int) - m ≤ -3
  · rw [bucket_below _ (by omega) (by omega), bucket_below _ (by omega) (by omega)]
  by_cases hb : 3 ≤ (n : Int) - m
  · rw [bucket_above _ (by omega) (by omega), bucket_above _ (by omega) (by omega)]
  · congr 1
    apply BitVec.eq_of_toInt_eq
    omega

end Cert.Diff

end
-- ==== Proof.DiffTile.lean ====
/- The differential attention's arguments as the launch finds them: the packed rows, the bias tiles, the four vectors of the second
   softmax's weight, and the gain. -/
module

public import proofs.«01_k».proof.Proof.Gen.Kernel4Ideal.Value
public import proofs.«01_k».proof.Proof.DiffBias
public import Idealize.ShloMosaic.Lib.Pointwise
public import Idealize.ShloMosaic.Lib.StableHlo.Run
public import Idealize.ShloMosaic.Lib.Tactic

@[expose] public section

set_option maxRecDepth 16384

noncomputable section

namespace Cert.Diff

open Cert.Kernel4Ideal Cert.Kernel4Ideal.Gen
open Idealize.ShloMosaic Idealize.ShloMosaic.TcCoe Idealize.ShloMosaic.Pointwise

/-- How far each element of a tile lies from its query. -/
def tileRels : IVec S5x256x256 32 :=
  subi (broadcastInDim S5x256x256 ![0, 1, 2] bcast_S5x1x256_S5x256x256_0_1_2
      (addi (broadcastInDim S5x1x256 ![0, 1, 2] bcast_S1x1x256_S5x1x256_0_1_2 (broadcastInDim S1x1x256 ![2] bcast_S256_S1x1x256_2 (iotaInDim S256 32 0)))
        (broadcastInDim S5x1x256 ![0, 1, 2] bcast_S5x1x1_S5x1x256_0_1_2 (broadcastInDim S5x1x1 ![0] bcast_S5_S5x1x1_0
          (muli (subi (iotaInDim S5 32 0) (broadcastInDim S5 ![] bcast_S_S5 (constantI S_ 32 2#32))) (broadcastInDim S5 ![] bcast_S_S5 (constantI S_ 32 256#32)))))))
    (broadcastInDim S5x256x256 ![0, 1, 2] bcast_S1x256x1_S5x256x256_0_1_2 (broadcastInDim S1x256x1 ![1] bcast_S256_S1x256x1_1 (iotaInDim S256 32 0)))

/-- A word at every element of the tiles. -/
abbrev every (x : BitVec 32) : IVec S5x256x256 32 := broadcastInDim S5x256x256 ![] bcast_S_S5x256x256 (constantI S_ 32 x)

/-- A value at every element of the tiles. -/
abbrev everyF (x : BitVec 32) : FVec Ideal S5x256x256 .f32 := broadcastInDim S5x256x256 ![] bcast_S_S5x256x256 (constant S_ .f32 x)

/-- The buckets of the far distances. -/
def tileLarge (d : IVec S5x256x256 32) : IVec S5x256x256 32 :=
  minsi (addi (every 8#32) (fptosi (F := Ideal) 32 (mulf (Host.divf (Host.log (Host.divf (sitofp .f32 (maxsi d (every 1#32))) (everyF 0x41000000#32)))
    (everyF 0x40317218#32)) (everyF 0x41000000#32)))) (every 15#32)

/-- The buckets before negative ones are wrapped. -/
def tileBuckets0 (r : IVec S5x256x256 32) : IVec S5x256x256 32 :=
  addi (id (select (cmpi .sgt r (every 0#32)) (every 16#32) (every 0#32))) (select (cmpi .slt (absi r) (every 8#32)) (absi r) (tileLarge (absi r)))

/-- The buckets from the unwrapped ones. -/
def wrapped (r : IVec S5x256x256 32) : IVec S5x256x256 32 := select (cmpi .slt r (every 0#32)) (addi r (every 32#32)) r

theorem tileRels_apply (t : Fin 5) (r l : Fin 256) : tileRels (ix3 t r l) = tileRel t.val r.val l.val := by
  unfold tileRels tileRel
  pointwise []

theorem wrapped_apply (i : S5x256x256.Idx) : wrapped (tileBuckets0 tileRels) i = bucket (tileRels i) := rfl

/-- The row of the bias table that a bucket reads. -/
abbrev tileRow (b : BitVec 32) : Fin 32 := ⟨min b.toInt.toNat 31, by omega⟩

/-- The place of a bucket among the tiles' buckets. -/
abbrev tilePlace (t : Fin 5) (r l : Fin 256) : S5x256x256x1.Idx := ix4 t r l 0

/-- How the table's rows are picked by the tiles' buckets. -/
abbrev tilePick (wf : GatherDims.WF S32x8 S5x256x256x1 S5x256x256x8 [3] [0] [] [0] [] 3 ![1, 8]) : GatherDims S32x8 S5x256x256x1 S5x256x256x8 where
  offsetDims := [3]
  collapsedSliceDims := [0]
  operandBatchingDims := []
  startIndicesBatchingDims := []
  startIndexMap := [0]
  indexVectorDim := 3
  sliceSizes := ![1, 8]
  wf := wf

theorem tilePick_row (wf) (idx : IVec S5x256x256x1 32) (t : Fin 5) (r l : Fin 256) (h : Fin 8) :
    (tilePick wf).start (ix4 t r l h) idx 0 + (tilePick wf).batchCoord (ix4 t r l h) 0 + (tilePick wf).offCoord (ix4 t r l h) 0
      = min (idx (tilePlace t r l)).toInt.toNat 31 := by
  rw [GatherDims.batchCoord_eq_zero _ _ _ List.not_mem_nil,
    GatherDims.offCoord_eq_zero _ _ _ (fun q => ((GatherDims.mem_sKept _ _).mp q).1 (List.mem_singleton.mpr rfl))]
  unfold GatherDims.start
  rw [dif_pos (show (0 : Fin 2) ∈ (tilePick wf).startIndexMap from List.mem_singleton.mpr rfl)]
  have e : (tilePick wf).siIdx (ix4 t r l h) ⟨List.idxOf (0 : Fin 2) (tilePick wf).startIndexMap,
      List.idxOf_lt_length_iff.2 (List.mem_singleton.mpr rfl)⟩ = tilePlace t r l := by
    funext b
    refine Fin.ext ?_
    match b with
    | ⟨0, _⟩ => rfl
    | ⟨1, _⟩ => rfl
    | ⟨2, _⟩ => rfl
    | ⟨3, _⟩ => rfl
  rw [e]
  rfl

theorem tilePick_column (wf) (idx : IVec S5x256x256x1 32) (t : Fin 5) (r l : Fin 256) (h : Fin 8) :
    (tilePick wf).start (ix4 t r l h) idx 1 + (tilePick wf).batchCoord (ix4 t r l h) 1 + (tilePick wf).offCoord (ix4 t r l h) 1 = h.val := by
  have no : (1 : Fin 2) ∉ (tilePick wf).startIndexMap := fun q => absurd (List.mem_singleton.mp q) (by decide)
  rw [GatherDims.batchCoord_eq_zero _ _ _ List.not_mem_nil]
  unfold GatherDims.start GatherDims.offCoord
  rw [dif_neg no, dif_pos ((GatherDims.mem_sKept _ _).mpr ⟨no, List.not_mem_nil⟩)]
  show 0 + 0 + h.val = h.val
  omega

/-- The table's rows picked by the tiles' buckets, with the heads in front. -/
theorem tiles_apply (x : Vec Ideal S32x8 .f32) (w : IVec S5x256x256 32) (h : Fin 8) (t : Fin 5) (r l : Fin 256) :
    transpose S8x5x256x256 [3, 0, 1, 2] (Host.gather gather_S32x8_S5x256x256x1_S5x256x256x8_3_0_n_n_0_3_18 x
        (broadcastInDim S5x256x256x1 ![0, 1, 2] bcast_S5x256x256_S5x256x256x1_0_1_2 w)) transposes_S5x256x256x8_S8x5x256x256_3_0_1_2 (ix4 h t r l)
      = x (ix2 (tileRow (w (ix3 t r l))) h) := by
  have e : broadcastInDim S5x256x256x1 ![0, 1, 2] bcast_S5x256x256_S5x256x256x1_0_1_2 w (tilePlace t r l) = w (ix3 t r l) := by
    pointwise []
  rw [← e]
  generalize broadcastInDim S5x256x256x1 ![0, 1, 2] bcast_S5x256x256_S5x256x256x1_0_1_2 w = idx
  have g : Host.gather gather_S32x8_S5x256x256x1_S5x256x256x8_3_0_n_n_0_3_18 x idx (ix4 t r l h) = x (ix2 (tileRow (idx (tilePlace t r l))) h) := by
    unfold Host.gather
    refine congrArg x ?_
    funext a
    refine Fin.ext ?_
    match a with
    | ⟨0, _⟩ => exact tilePick_row gather_S32x8_S5x256x256x1_S5x256x256x8_3_0_n_n_0_3_18.wf idx t r l h
    | ⟨1, _⟩ => exact tilePick_column gather_S32x8_S5x256x256x1_S5x256x256x8_3_0_n_n_0_3_18.wf idx t r l h
  rw [← g]
  generalize Host.gather gather_S32x8_S5x256x256x1_S5x256x256x8_3_0_n_n_0_3_18 x idx = y
  pointwise []

theorem rows_apply (x : Vec Ideal S8x4096x3072 .f32) (n : Fin 32768) (j : Fin 3072) :
    truncf (F := Ideal) .bf16 (shapeCast S32768x3072 x shapeCasts_S8x4096x3072_S32768x3072) bitsLt_bf16_f32 (ix2 n j)
      = x (ix3 ⟨n.val / 4096, by omega⟩ ⟨n.val % 4096, by omega⟩ j) := by
  pointwise []

theorem gain_apply (x : Vec Ideal S128 .f32) (z : Fin 1) (l : Fin 128) :
    shapeCast S1x128 x shapeCasts_S128_S1x128 (ix2 z l) = x (ix1 l) := by
  pointwise []

theorem lam_apply (a b c d : Vec Ideal S64 .f32) (x : Fin 64) :
    let L := concatenate S4x64 0 [⟨S1x64, broadcastInDim S1x64 ![1] bcast_S64_S1x64_1 a⟩, ⟨S1x64, broadcastInDim S1x64 ![1] bcast_S64_S1x64_1 b⟩,
        ⟨S1x64, broadcastInDim S1x64 ![1] bcast_S64_S1x64_1 c⟩, ⟨S1x64, broadcastInDim S1x64 ![1] bcast_S64_S1x64_1 d⟩] concatenates_S1x64_S1x64_S1x64_S1x64_S4x64_d0
    L (ix2 0 x) = a (ix1 x) ∧ L (ix2 1 x) = b (ix1 x) ∧ L (ix2 2 x) = c (ix1 x) ∧ L (ix2 3 x) = d (ix1 x) := by
  refine ⟨?_, ?_, ?_, ?_⟩
  · pointwise []
  · pointwise []
  · pointwise []
  · pointwise []

variable (m : (ℓ : Loc nD τ sig) → Buf (Elt Ideal) ℓ)

theorem V_bias (c : Dev nD) : V m c main_v48
    = transpose S8x5x256x256 [3, 0, 1, 2] (Host.gather gather_S32x8_S5x256x256x1_S5x256x256x8_3_0_n_n_0_3_18
        (m ((c : Thread nD τ).loc main_arg1) : Vec Ideal S32x8 .f32)
        (broadcastInDim S5x256x256x1 ![0, 1, 2] bcast_S5x256x256_S5x256x256x1_0_1_2 (wrapped (tileBuckets0 tileRels))))
        transposes_S5x256x256x8_S8x5x256x256_3_0_1_2 := by
  show StableHlo.after (List.flatten [hostOps0, hostOps0_1, hostOps0_2, hostOps0_3, hostOps0_4]) _ (Proc.devRef .tc main_v48) = _
  simp only [List.flatten_cons, List.flatten_nil, List.cons_append, List.nil_append, List.append_nil]
  after_results
  unfold wrapped tileBuckets0 tileLarge tileRels
  rfl

theorem V_rows (c : Dev nD) : V m c main_v1
    = truncf (F := Ideal) .bf16 (shapeCast S32768x3072 (m ((c : Thread nD τ).loc main_arg0) : Vec Ideal S8x4096x3072 .f32) shapeCasts_S8x4096x3072_S32768x3072) bitsLt_bf16_f32 := by
  show StableHlo.after (List.flatten [hostOps0, hostOps0_1, hostOps0_2, hostOps0_3, hostOps0_4]) _ (Proc.devRef .tc main_v1) = _
  simp only [List.flatten_cons, List.flatten_nil, List.cons_append, List.nil_append, List.append_nil]
  after_results
  rfl

theorem V_gain (c : Dev nD) : V m c main_v54
    = shapeCast S1x128 (m ((c : Thread nD τ).loc main_arg6) : Vec Ideal S128 .f32) shapeCasts_S128_S1x128 := by
  show StableHlo.after (List.flatten [hostOps0, hostOps0_1, hostOps0_2, hostOps0_3, hostOps0_4]) _ (Proc.devRef .tc main_v54) = _
  simp only [List.flatten_cons, List.flatten_nil, List.cons_append, List.nil_append, List.append_nil]
  after_results
  rfl

theorem V_lam (c : Dev nD) : V m c main_v53
    = concatenate S4x64 0 [⟨S1x64, broadcastInDim S1x64 ![1] bcast_S64_S1x64_1 (m ((c : Thread nD τ).loc main_arg2) : Vec Ideal S64 .f32)⟩,
        ⟨S1x64, broadcastInDim S1x64 ![1] bcast_S64_S1x64_1 (m ((c : Thread nD τ).loc main_arg3) : Vec Ideal S64 .f32)⟩,
        ⟨S1x64, broadcastInDim S1x64 ![1] bcast_S64_S1x64_1 (m ((c : Thread nD τ).loc main_arg4) : Vec Ideal S64 .f32)⟩,
        ⟨S1x64, broadcastInDim S1x64 ![1] bcast_S64_S1x64_1 (m ((c : Thread nD τ).loc main_arg5) : Vec Ideal S64 .f32)⟩]
      concatenates_S1x64_S1x64_S1x64_S1x64_S4x64_d0 := by
  show StableHlo.after (List.flatten [hostOps0, hostOps0_1, hostOps0_2, hostOps0_3, hostOps0_4]) _ (Proc.devRef .tc main_v53) = _
  simp only [List.flatten_cons, List.flatten_nil, List.cons_append, List.nil_append, List.append_nil]
  after_results
  rfl

end Cert.Diff

end
-- ==== Proof.BiasRange.lean ====
/- The bucket of every distance a bias tile holds is one of the table's thirty-two rows. -/
module

public import proofs.«01_k».proof.Proof.DiffBias

@[expose] public section

noncomputable section

namespace Cert.BiasTiles

open Idealize.ShloMosaic Cert.Diff

/-- The logarithm's step at a distance between 8 and 4095 is not negative, and small. -/
theorem step_range (z : Int) (h0 : 8 ≤ z) (h1 : z ≤ 4095) :
    0 ≤ ⌊Real.log ((z : ℝ) / 8) / (11629080 / 4194304) * 8⌋ ∧ ⌊Real.log ((z : ℝ) / 8) / (11629080 / 4194304) * 8⌋ ≤ 100 := by
  have z0 : (8 : ℝ) ≤ z := by exact_mod_cast h0
  have z1 : (z : ℝ) ≤ 4096 := by exact_mod_cast (by omega : z ≤ 4096)
  have lo : 0 ≤ Real.log ((z : ℝ) / 8) := Real.log_nonneg (by rw [le_div_iff₀ (by norm_num)]; linarith)
  have hi : Real.log ((z : ℝ) / 8) ≤ 9 := by
    have h : (9 : ℝ) * Real.log 2 = Real.log (2 ^ 9) := by rw [Real.log_pow]; norm_num
    have h' := Real.log_le_sub_one_of_pos (show (0 : ℝ) < 2 by norm_num)
    have : Real.log ((z : ℝ) / 8) ≤ Real.log (2 ^ 9) := Real.log_le_log (by positivity) (by rw [div_le_iff₀ (by norm_num)]; linarith)
    rw [← h] at this
    linarith
  constructor
  · rw [Int.le_floor]
    push_cast
    positivity
  · rw [Int.floor_le_iff]
    push_cast
    rw [div_mul_eq_mul_div, div_lt_iff₀ (by norm_num)]
    linarith

theorem large_range (n : BitVec 32) (h0 : 8 ≤ n.toInt) (h1 : n.toInt ≤ 4095) : ∃ k : Fin 16, large n = BitVec.ofNat 32 k.val := by
  have hm : IntOp.maxsi n 1#32 = n := by
    unfold IntOp.maxsi
    rw [if_pos (by rw [BitVec.slt_iff_toInt_lt]; exact lt_of_lt_of_le (by decide) h0)]
  obtain ⟨b0, b1⟩ := step_range n.toInt h0 h1
  have hz : (8 : ℝ) ≤ (n.toInt : ℝ) := by exact_mod_cast h0
  have hlog : FloatOps.mulf (F := Ideal) (φ := .f32)
    (FloatOps.hostDivf (F := Ideal) (φ := .f32) (FloatOps.hostUnary (F := Ideal) (φ := .f32) .log
      (FloatOps.hostDivf (F := Ideal) (φ := .f32) (FloatOps.sitofp (F := Ideal) .f32 n) (FloatOps.ofBits (F := Ideal) .f32 0x41000000#32)))
      (FloatOps.ofBits (F := Ideal) .f32 0x40317218#32)) (FloatOps.ofBits (F := Ideal) .f32 0x41000000#32)
      = ((Real.log ((n.toInt : ℝ) / 8) / (11629080 / 4194304) * 8 : ℝ) : EReal) := by
    show Ideal.div (Ideal.log (Ideal.div (((n.toInt : ℝ)) : EReal) (Ideal.ofBits .f32 0x41000000#32))) (Ideal.ofBits .f32 0x40317218#32)
      * Ideal.ofBits .f32 0x41000000#32 = _
    rw [eight, spread, quotient_coe _ _ (by norm_num), Ideal.log_coe, if_neg (by rw [not_le]; positivity), quotient_coe _ _ (by norm_num), ← EReal.coe_mul]
  unfold large
  rw [hm, hlog]
  show ∃ k : Fin 16, IntOp.minsi (IntOp.addi 8#32 (BitVec.ofInt 32 (Ideal.toIntClamped _ _ ((_ : ℝ) : EReal)))) 15#32 = _
  rw [Ideal.toIntClamped_coe]
  generalize hr : Real.log ((n.toInt : ℝ) / 8) / (11629080 / 4194304) * 8 = r at b0 b1
  have hr0 : 0 ≤ r := Int.floor_nonneg.1 b0
  rw [if_pos hr0]
  generalize ⌊r⌋ = f at b0 b1
  have hc : max (-(((2 ^ (32 - 1) : Nat)) : Int)) (min ((((2 ^ (32 - 1) : Nat)) : Int) - 1) f) = f := by
    rw [min_eq_right (by norm_num; omega), max_eq_right (by norm_num; omega)]
  rw [hc]
  by_cases h7 : 7 ≤ f
  · exact ⟨15, by interval_cases f <;> rfl⟩
  · refine ⟨⟨8 + f.toNat, by omega⟩, ?_⟩
    interval_cases f <;> rfl

/-- A bucket of one side: the distance itself when it is small, the logarithm's step otherwise. -/
theorem side_range (d : BitVec 32) (h0 : 0 ≤ d.toInt) (h1 : d.toInt ≤ 4095) :
    ∃ k : Fin 16, Scalar.select (IntOp.cmpi .slt d 8#32) d (large d) = BitVec.ofNat 32 k.val := by
  by_cases h : d.toInt < 8
  · have hl : IntOp.cmpi .slt d 8#32 = 1#1 := by
      have : BitVec.slt d 8#32 = true := by rw [BitVec.slt_iff_toInt_lt]; exact h
      show BitVec.ofBool (BitVec.slt d 8#32) = _
      rw [this]; rfl
    rw [hl]
    refine ⟨⟨d.toInt.toNat, by omega⟩, ?_⟩
    show d = _
    apply BitVec.eq_of_toInt_eq
    rw [ofNat_toInt _ (by show d.toInt.toNat < 8192; omega)]
    show d.toInt = ((d.toInt.toNat : Nat) : Int)
    omega
  · have hl : IntOp.cmpi .slt d 8#32 = 0#1 := by
      have : BitVec.slt d 8#32 = false := by
        rw [Bool.eq_false_iff, Ne, BitVec.slt_iff_toInt_lt]
        exact h
      show BitVec.ofBool (BitVec.slt d 8#32) = _
      rw [this]; rfl
    rw [hl]
    exact large_range d (by omega) h1

theorem bucket_range (rel : BitVec 32) (h0 : -4095 ≤ rel.toInt) (h1 : rel.toInt ≤ 4095) : ∃ k : Fin 32, bucket0 rel = BitVec.ofNat 32 k.val := by
  have ha : 0 ≤ (IntOp.absi rel).toInt ∧ (IntOp.absi rel).toInt ≤ 4095 := by
    by_cases hs : rel.toInt < 0
    · have hm : rel.msb = true := by
        rw [BitVec.msb_eq_toInt]
        exact decide_eq_true hs
      have hn : (-rel).toInt = -rel.toInt := by
        rw [BitVec.toInt_neg]
        rw [Int.bmod_eq_of_le (by norm_num; omega) (by norm_num; omega)]
      have e : IntOp.absi rel = -rel := by unfold IntOp.absi; rw [hm]; rfl
      rw [e, hn]
      omega
    · have hm : rel.msb = false := by
        rw [BitVec.msb_eq_toInt]
        exact decide_eq_false hs
      have e : IntOp.absi rel = rel := by unfold IntOp.absi; rw [hm]; rfl
      rw [e]
      omega
  obtain ⟨k, hk⟩ := side_range (IntOp.absi rel) ha.1 ha.2
  unfold bucket0
  rw [hk]
  by_cases hg : BitVec.slt 0#32 rel = true
  · have e : IntOp.cmpi .sgt rel 0#32 = 1#1 := by
      show BitVec.ofBool (BitVec.slt 0#32 rel) = _
      rw [hg]; rfl
    rw [e]
    refine ⟨⟨16 + k.val, by omega⟩, ?_⟩
    fin_cases k <;> rfl
  · have e : IntOp.cmpi .sgt rel 0#32 = 0#1 := by
      show BitVec.ofBool (BitVec.slt 0#32 rel) = _
      rw [Bool.eq_false_iff.2 hg]; rfl
    rw [e]
    refine ⟨⟨k.val, by omega⟩, ?_⟩
    fin_cases k <;> rfl

/-- The distances of the tiles. -/
theorem tile_range (t : Fin 5) (r l : Fin 256) : ∃ k : Fin 32, bucket0 (tileRel t.val r.val l.val) = BitVec.ofNat 32 k.val := by
  have e := tileRel_toInt t.val r.val l.val t.isLt r.isLt l.isLt
  exact bucket_range _ (by omega) (by omega)

/-- A bucket among the table's rows is not wrapped. -/
theorem bucket_eq (rel : BitVec 32) (k : Fin 32) (h : bucket0 rel = BitVec.ofNat 32 k.val) : bucket rel = BitVec.ofNat 32 k.val := by
  unfold bucket
  rw [h]
  fin_cases k <;> rfl

end Cert.BiasTiles

end
-- ==== Proof.BiasTiles.lean ====
/- The bias tiles: an element of a tile is the table's entry at the bucket of its distance, of the kernel's selects and of the
   reference's lookup both. -/
module

public import proofs.«01_k».proof.Proof.Gen.Kernel11Ideal.Value
public import proofs.«01_k».proof.Proof.Gen.Reference11Ideal.Run
public import proofs.«01_k».proof.Proof.Gen.Reference11Ideal.Read
public import proofs.«01_k».proof.Proof.DiffTile
public import proofs.«01_k».proof.Proof.BiasRange
public import Idealize.ShloMosaic.Lib.Pointwise
public import Idealize.ShloMosaic.Lib.IdealHost
public import Idealize.ShloMosaic.Lib.Pipeline.Value
public import Idealize.ShloMosaic.Lib.StableHlo.Run
public import Idealize.ShloMosaic.Lib.Tactic

@[expose] public section

set_option maxRecDepth 16384

noncomputable section

namespace Cert.BiasTiles

open Idealize.ShloMosaic Idealize.ShloMosaic.Pointwise

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The thirty-two selects of the body, one bucket after another. -/
def picked (b : BitVec 32) (x : Fin 32 → EReal) : EReal :=
  ([0, 1, 2, 3, 4, 5, 6, 7, 8, 9, 10, 11, 12, 13, 14, 15, 16, 17, 18, 19, 20, 21, 22, 23, 24, 25, 26, 27, 28, 29, 30, 31] : List (Fin 32)).foldl (fun acc k => Scalar.select (IntOp.cmpi .eq b (BitVec.ofNat 32 k.val)) (x k) acc) 0

theorem picked_eq (x : Fin 32 → EReal) (k : Fin 32) : picked (BitVec.ofNat 32 k.val) x = x k := by
  fin_cases k <;> rfl

open Cert.Kernel11Ideal Cert.Kernel11Ideal.Gen in
theorem payload_apply (v : Vec Ideal S1x256x256 .i32) (x : Fin 32 → EReal) (r l : Fin 256) :
    k0_pay1 (F := Ideal) (k0_pay2 (F := Ideal) v) (k0_pay10 (F := Ideal) (k0_pay2 (F := Ideal) v) (k0_pay8 (F := Ideal) (k0_pay2 (F := Ideal) v)
        (k0_pay5 (F := Ideal) (k0_pay2 (F := Ideal) v) (k0_pay3 (F := Ideal) v (x 0) (x 1) (x 2) (x 3) (x 4) (x 5)) (k0_pay4 (F := Ideal) v)
          (x 6) (x 7) (x 8) (x 9) (x 10) (x 11) (x 12))
        (k0_pay6 (k0_pay2 (F := Ideal) v)) (k0_pay7 (F := Ideal) (x 13)) (x 14) (x 15) (x 16) (x 17) (x 18) (x 19) (x 20))
      (k0_pay9 (k0_pay2 (F := Ideal) v)) (x 21) (x 22) (x 23) (x 24) (x 25) (x 26) (x 27))
      (k0_pay11 (k0_pay2 (F := Ideal) v)) (k0_pay12 (F := Ideal) (x 28)) (x 29) (x 30) (x 31) (ix4 0 0 r l)
      = picked (v (ix3 0 r l)) x := by
  have e : k0_pay2 (F := Ideal) v (ix2 r l) = v (ix3 0 r l) := by
    pointwise [k0_pay2]
  rw [← e]
  unfold k0_pay3 k0_pay4
  generalize k0_pay2 (F := Ideal) v = w
  pointwise [k0_pay1, k0_pay10, k0_pay8, k0_pay5, k0_pay6, k0_pay7, k0_pay9, k0_pay11, k0_pay12]
  rfl

open Cert.Kernel4Ideal Cert.Kernel4Ideal.Gen in
theorem reference_eq (x : Vec Ideal S32x8 .f32) : Cert.Reference11Ideal.Read.val_main_v46 (F := Ideal) x
    = transpose S8x5x256x256 [3, 0, 1, 2] (Host.gather gather_S32x8_S5x256x256x1_S5x256x256x8_3_0_n_n_0_3_18 x
        (broadcastInDim S5x256x256x1 ![0, 1, 2] bcast_S5x256x256_S5x256x256x1_0_1_2 (Cert.Diff.wrapped (Cert.Diff.tileBuckets0 Cert.Diff.tileRels))))
        transposes_S5x256x256x8_S8x5x256x256_3_0_1_2 := by
  unfold Cert.Diff.wrapped Cert.Diff.tileBuckets0 Cert.Diff.tileLarge Cert.Diff.tileRels
  rfl

open Cert.Kernel11Ideal Cert.Kernel11Ideal.Gen Idealize.ShloMosaic.TcCoe in
theorem V_bucket (m : (ℓ : Loc nD τ sig) → Buf (Elt Ideal) ℓ) (c : Dev nD) : V m c main_v38 = Cert.Diff.tileBuckets0 Cert.Diff.tileRels := by
  show StableHlo.after (List.flatten [hostOps0, hostOps0_1, hostOps0_2, hostOps0_3, hostOps0_4]) _ (Proc.devRef .tc main_v38) = _
  simp only [List.flatten_cons, List.flatten_nil, List.cons_append, List.nil_append, List.append_nil]
  after_results
  unfold Cert.Diff.tileBuckets0 Cert.Diff.tileLarge Cert.Diff.tileRels
  rfl

/-- A word of the table, read at its row and its head. -/
theorem entry (x : Vec Ideal Cert.Kernel11Ideal.S32x8 .f32) (off : Fin 2 → Nat) (inb) (p) (h : Fin 8) (k : Fin 32) (e : off = ![k.val, h.val]) :
    View.ld x (Rect.unit (s := Cert.Kernel11Ideal.S32x8) off ![1, 1] inb) (Shape.Idx.first p) = x (ix2 k h) := by
  subst e
  show x _ = x _
  congr 1
  funext a
  apply Fin.ext
  match a with
  | ⟨0, _⟩ => show k.val + 1 * 0 = k.val; omega
  | ⟨1, _⟩ => show h.val + 1 * 0 = h.val; omega

theorem head (n : Nat) (h : n < 8) : (Scalar.indexCast (BitVec.ofNat 32 n) : Index).toNat = n := by
  interval_cases n <;> rfl

open Cert.Kernel11Ideal Cert.Kernel11Ideal.Gen Idealize.ShloMosaic.TcCoe in
theorem out_eq (c : Dev nD) (i : grid0.Coords) (arg2 : Memref sig .tc .smem S32x8 .f32) (harg2 : arg2.IsWhole) (arg3 : Memref sig .tc .vmem S1x256x256 .i32) (harg3 : arg3.IsWhole) (arg4 : Memref sig .tc .vmem S1x1x256x256 .f32) (harg4 : arg4.IsWhole)
    (x0 : Vec Ideal S32x8 .f32) (x1 : Vec Ideal S1x256x256 .i32) (h : Fin 8) (hh : (i 0).val = h.val) (r l : Fin 256) :
    out0_A_2 (F := Ideal) c i arg2 harg2 arg3 harg3 arg4 harg4 x0 x1 (ix4 0 0 r l) = picked (x1 (ix3 0 r l)) (fun k => x0 (ix2 k h)) := by
  unfold out0_A_2
  rw [View.read_writes_junk_eq_canon]
  unfold kernelRun0_A
  dsimp only
  unfold kernelRun0_A.sl.r_42 kernelRun0_A.sl.r_41 kernelRun0_A.sl.r_40 kernelRun0_A.sl.r_39 kernelRun0_A.sl.r_38 kernelRun0_A.sl.r_37 kernelRun0_A.sl.r_36 kernelRun0_A.sl.r_35 kernelRun0_A.sl.r_34 kernelRun0_A.sl.r_33 kernelRun0_A.sl.r_32 kernelRun0_A.sl.r_31 kernelRun0_A.sl.r_30 kernelRun0_A.sl.r_29 kernelRun0_A.sl.r_28 kernelRun0_A.sl.r_27 kernelRun0_A.sl.r_26 kernelRun0_A.sl.r_25 kernelRun0_A.sl.r_24 kernelRun0_A.sl.r_23 kernelRun0_A.sl.r_22 kernelRun0_A.sl.r_21 kernelRun0_A.sl.r_20 kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
  simp only [View.readAt_eq_ld, harg2.read_unread, harg3.read_unread]
  rw [View.canon_unit_zero hz4, View.ld_unit_zero (S := Cert.Kernel11Ideal.S1x256x256) hz3]
  rw [entry x0 (k0_off1 i) (k0_off1_inb i) _ h 0 (by show ![0, (Scalar.indexCast (BitVec.ofNat 32 (i 0).val) : Index).toNat] = _; rw [hh, head _ h.isLt]; rfl)]
  rw [entry x0 (k0_off2 i) (k0_off2_inb i) _ h 1 (by show ![1, (Scalar.indexCast (BitVec.ofNat 32 (i 0).val) : Index).toNat] = _; rw [hh, head _ h.isLt]; rfl)]
  rw [entry x0 (k0_off3 i) (k0_off3_inb i) _ h 2 (by show ![2, (Scalar.indexCast (BitVec.ofNat 32 (i 0).val) : Index).toNat] = _; rw [hh, head _ h.isLt]; rfl)]
  rw [entry x0 (k0_off4 i) (k0_off4_inb i) _ h 3 (by show ![3, (Scalar.indexCast (BitVec.ofNat 32 (i 0).val) : Index).toNat] = _; rw [hh, head _ h.isLt]; rfl)]
  rw [entry x0 (k0_off5 i) (k0_off5_inb i) _ h 4 (by show ![4, (Scalar.indexCast (BitVec.ofNat 32 (i 0).val) : Index).toNat] = _; rw [hh, head _ h.isLt]; rfl)]
  rw [entry x0 (k0_off6 i) (k0_off6_inb i) _ h 5 (by show ![5, (Scalar.indexCast (BitVec.ofNat 32 (i 0).val) : Index).toNat] = _; rw [hh, head _ h.isLt]; rfl)]
  rw [entry x0 (k0_off7 i) (k0_off7_inb i) _ h 6 (by show ![6, (Scalar.indexCast (BitVec.ofNat 32 (i 0).val) : Index).toNat] = _; rw [hh, head _ h.isLt]; rfl)]
  rw [entry x0 (k0_off8 i) (k0_off8_inb i) _ h 7 (by show ![7, (Scalar.indexCast (BitVec.ofNat 32 (i 0).val) : Index).toNat] = _; rw [hh, head _ h.isLt]; rfl)]
  rw [entry x0 (k0_off9 i) (k0_off9_inb i) _ h 8 (by show ![8, (Scalar.indexCast (BitVec.ofNat 32 (i 0).val) : Index).toNat] = _; rw [hh, head _ h.isLt]; rfl)]
  rw [entry x0 (k0_off10 i) (k0_off10_inb i) _ h 9 (by show ![9, (Scalar.indexCast (BitVec.ofNat 32 (i 0).val) : Index).toNat] = _; rw [hh, head _ h.isLt]; rfl)]
  rw [entry x0 (k0_off11 i) (k0_off11_inb i) _ h 10 (by show ![10, (Scalar.indexCast (BitVec.ofNat 32 (i 0).val) : Index).toNat] = _; rw [hh, head _ h.isLt]; rfl)]
  rw [entry x0 (k0_off12 i) (k0_off12_inb i) _ h 11 (by show ![11, (Scalar.indexCast (BitVec.ofNat 32 (i 0).val) : Index).toNat] = _; rw [hh, head _ h.isLt]; rfl)]
  rw [entry x0 (k0_off13 i) (k0_off13_inb i) _ h 12 (by show ![12, (Scalar.indexCast (BitVec.ofNat 32 (i 0).val) : Index).toNat] = _; rw [hh, head _ h.isLt]; rfl)]
  rw [entry x0 (k0_off14 i) (k0_off14_inb i) _ h 13 (by show ![13, (Scalar.indexCast (BitVec.ofNat 32 (i 0).val) : Index).toNat] = _; rw [hh, head _ h.isLt]; rfl)]
  rw [entry x0 (k0_off15 i) (k0_off15_inb i) _ h 14 (by show ![14, (Scalar.indexCast (BitVec.ofNat 32 (i 0).val) : Index).toNat] = _; rw [hh, head _ h.isLt]; rfl)]
  rw [entry x0 (k0_off16 i) (k0_off16_inb i) _ h 15 (by show ![15, (Scalar.indexCast (BitVec.ofNat 32 (i 0).val) : Index).toNat] = _; rw [hh, head _ h.isLt]; rfl)]
  rw [entry x0 (k0_off17 i) (k0_off17_inb i) _ h 16 (by show ![16, (Scalar.indexCast (BitVec.ofNat 32 (i 0).val) : Index).toNat] = _; rw [hh, head _ h.isLt]; rfl)]
  rw [entry x0 (k0_off18 i) (k0_off18_inb i) _ h 17 (by show ![17, (Scalar.indexCast (BitVec.ofNat 32 (i 0).val) : Index).toNat] = _; rw [hh, head _ h.isLt]; rfl)]
  rw [entry x0 (k0_off19 i) (k0_off19_inb i) _ h 18 (by show ![18, (Scalar.indexCast (BitVec.ofNat 32 (i 0).val) : Index).toNat] = _; rw [hh, head _ h.isLt]; rfl)]
  rw [entry x0 (k0_off20 i) (k0_off20_inb i) _ h 19 (by show ![19, (Scalar.indexCast (BitVec.ofNat 32 (i 0).val) : Index).toNat] = _; rw [hh, head _ h.isLt]; rfl)]
  rw [entry x0 (k0_off21 i) (k0_off21_inb i) _ h 20 (by show ![20, (Scalar.indexCast (BitVec.ofNat 32 (i 0).val) : Index).toNat] = _; rw [hh, head _ h.isLt]; rfl)]
  rw [entry x0 (k0_off22 i) (k0_off22_inb i) _ h 21 (by show ![21, (Scalar.indexCast (BitVec.ofNat 32 (i 0).val) : Index).toNat] = _; rw [hh, head _ h.isLt]; rfl)]
  rw [entry x0 (k0_off23 i) (k0_off23_inb i) _ h 22 (by show ![22, (Scalar.indexCast (BitVec.ofNat 32 (i 0).val) : Index).toNat] = _; rw [hh, head _ h.isLt]; rfl)]
  rw [entry x0 (k0_off24 i) (k0_off24_inb i) _ h 23 (by show ![23, (Scalar.indexCast (BitVec.ofNat 32 (i 0).val) : Index).toNat] = _; rw [hh, head _ h.isLt]; rfl)]
  rw [entry x0 (k0_off25 i) (k0_off25_inb i) _ h 24 (by show ![24, (Scalar.indexCast (BitVec.ofNat 32 (i 0).val) : Index).toNat] = _; rw [hh, head _ h.isLt]; rfl)]
  rw [entry x0 (k0_off26 i) (k0_off26_inb i) _ h 25 (by show ![25, (Scalar.indexCast (BitVec.ofNat 32 (i 0).val) : Index).toNat] = _; rw [hh, head _ h.isLt]; rfl)]
  rw [entry x0 (k0_off27 i) (k0_off27_inb i) _ h 26 (by show ![26, (Scalar.indexCast (BitVec.ofNat 32 (i 0).val) : Index).toNat] = _; rw [hh, head _ h.isLt]; rfl)]
  rw [entry x0 (k0_off28 i) (k0_off28_inb i) _ h 27 (by show ![27, (Scalar.indexCast (BitVec.ofNat 32 (i 0).val) : Index).toNat] = _; rw [hh, head _ h.isLt]; rfl)]
  rw [entry x0 (k0_off29 i) (k0_off29_inb i) _ h 28 (by show ![28, (Scalar.indexCast (BitVec.ofNat 32 (i 0).val) : Index).toNat] = _; rw [hh, head _ h.isLt]; rfl)]
  rw [entry x0 (k0_off30 i) (k0_off30_inb i) _ h 29 (by show ![29, (Scalar.indexCast (BitVec.ofNat 32 (i 0).val) : Index).toNat] = _; rw [hh, head _ h.isLt]; rfl)]
  rw [entry x0 (k0_off31 i) (k0_off31_inb i) _ h 30 (by show ![30, (Scalar.indexCast (BitVec.ofNat 32 (i 0).val) : Index).toNat] = _; rw [hh, head _ h.isLt]; rfl)]
  rw [entry x0 (k0_off32 i) (k0_off32_inb i) _ h 31 (by show ![31, (Scalar.indexCast (BitVec.ofNat 32 (i 0).val) : Index).toNat] = _; rw [hh, head _ h.isLt]; rfl)]
  exact payload_apply x1 (fun k => x0 (ix2 k h)) r l

end Cert.BiasTiles

namespace Cert.BiasTiles.Array

open Cert.Kernel11Ideal Cert.Kernel11Ideal.Gen
open Idealize.ShloMosaic Idealize.ShloMosaic.TcCoe Idealize.ShloMosaic.Pointwise
open Idealize.ShloMosaic.Pipeline (Dat)

variable (m : (ℓ : Loc nD τ sig) → Buf (Elt Ideal) ℓ)

theorem lt40 (t : Fin cfg0.N) : t.val < 40 := lt_of_lt_of_eq t.isLt (show cfg0.N = 40 from N_0)

/-- Where the windows are at a grid point. -/
theorem idx (t : Fin cfg0.N) : win0_0.index t = ![0, 0]
    ∧ win0_1.index t = ![t.val % 5, 0, 0]
    ∧ win0_2.index t = ![t.val / 5, t.val % 5, 0, 0]
    ∧ (grid0.coords t 0).val = t.val / 5 :=
  (by decide +kernel : ∀ t : Fin grid0.N, win0_0.index t = ![0, 0]
    ∧ win0_1.index t = ![t.val % 5, 0, 0]
    ∧ win0_2.index t = ![t.val / 5, t.val % 5, 0, 0]
    ∧ (grid0.coords t 0).val = t.val / 5) t

theorem block_table (c : Dev nD) (t : Fin cfg0.N) (k : Fin 32) (h : Fin 8) :
    (iblk m c 0 t : Vec Ideal S32x8 .f32) (ix2 k h) = m ((c : Thread nD τ).loc main_arg0) (ix2 k h) := by
  unfold iblk
  rw [View.read_apply]
  show V m c main_arg0 _ = _
  rw [V_main_arg0]
  congr 1
  funext a
  apply Fin.ext
  match a with
  | ⟨0, _⟩ => show win0_0.index t 0 * 32 + 1 * k.val = k.val; rw [(idx t).1]; simp
  | ⟨1, _⟩ => show win0_0.index t 1 * 8 + 1 * h.val = h.val; rw [(idx t).1]; simp

theorem block_bucket (c : Dev nD) (t : Fin cfg0.N) (r l : Fin 256) :
    (iblk m c 1 t : Vec Ideal S1x256x256 .i32) (ix3 0 r l) = Cert.Diff.bucket0 (Cert.Diff.tileRel (t.val % 5) r.val l.val) := by
  refine Eq.trans ?_ (congrArg Cert.Diff.bucket0 (Cert.Diff.tileRels_apply ⟨t.val % 5, Nat.mod_lt _ (by norm_num)⟩ r l))
  unfold iblk
  rw [View.read_apply]
  show V m c main_v38 _ = _
  rw [V_bucket]
  refine Eq.trans (congrArg (Cert.Diff.tileBuckets0 Cert.Diff.tileRels) ?_) (show Cert.Diff.tileBuckets0 Cert.Diff.tileRels (ix3 (⟨t.val % 5, Nat.mod_lt _ (by norm_num)⟩ : Fin 5) r l) = _ from rfl)
  funext a
  apply Fin.ext
  match a with
  | ⟨0, _⟩ => show win0_1.index t 0 * 1 + 1 * 0 = t.val % 5; rw [(idx t).2.1]; simp
  | ⟨1, _⟩ => show win0_1.index t 1 * 256 + 1 * r.val = r.val; rw [(idx t).2.1]; simp
  | ⟨2, _⟩ => show win0_1.index t 2 * 256 + 1 * l.val = l.val; rw [(idx t).2.1]; simp

/-- The reference's result, of the kernel's argument. -/
abbrev result (c : Dev nD) : Vec Ideal S8x5x256x256 .f32 :=
  Cert.Reference11Ideal.Read.val_main_v46 (F := Ideal) (m ((c : Thread nD τ).loc main_arg0))

/-- The reference's element: the table's entry at the distance's bucket. -/
theorem result_apply (c : Dev nD) (h : Fin 8) (t : Fin 5) (r l : Fin 256) (k : Fin 32)
    (e : Cert.Diff.bucket0 (Cert.Diff.tileRel t.val r.val l.val) = BitVec.ofNat 32 k.val) :
    result m c (ix4 h t r l) = m ((c : Thread nD τ).loc main_arg0) (ix2 k h) := by
  rw [result, reference_eq]
  refine (Cert.Diff.tiles_apply _ _ h t r l).trans ?_
  rw [Cert.Diff.wrapped_apply, Cert.Diff.tileRels_apply, bucket_eq _ k e]
  congr 1
  have hk : Cert.Diff.tileRow (BitVec.ofNat 32 k.val) = k := by
    apply Fin.ext
    show min (BitVec.ofNat 32 k.val).toInt.toNat 31 = k.val
    rw [Cert.Diff.ofNat_toInt _ (by omega)]
    omega
  rw [hk]

/-- An element of a point's block, by the body, is the reference's. -/
theorem body_eq (c : Dev nD) (t : Fin cfg0.N) (r l : Fin 256) :
    out0_A_2 c (grid0.coords t) (ms0_0 t) (hs0_0 t) (ms0_1 t) (hs0_1 t) (ms0_2 t) (hs0_2 t) (iblk m c 0 t) (iblk m c 1 t) (ix4 0 0 r l)
      = result m c (ix4 ⟨t.val / 5, by have := lt40 t; omega⟩ ⟨t.val % 5, Nat.mod_lt _ (by norm_num)⟩ r l) := by
  obtain ⟨k, hk⟩ := tile_range ⟨t.val % 5, Nat.mod_lt _ (by norm_num)⟩ r l
  rw [result_apply m c _ _ r l k hk]
  refine (out_eq c (grid0.coords t) _ _ _ _ _ _ _ _ ⟨t.val / 5, by have := lt40 t; omega⟩ (idx t).2.2.2 r l).trans ?_
  rw [block_bucket, hk, picked_eq, block_table]

theorem flushed_eq (c : Dev nD) (t : Fin cfg0.N) (_ : (cfg0.win 2).flush t = true) :
    (dats m 0 c).flushed 2 t = ((cfg0.win 2).blk t).view.read (Elt Ideal) (result m c) := by
  rw [Value.flushed2_A]
  funext y
  obtain ⟨z, z', r, l, rfl⟩ : ∃ (z z' : Fin 1) (r l : Fin 256), y = ix4 z z' r l := ⟨y 0, y 1, y 2, y 3, eq_ix4 y⟩
  obtain rfl : z = 0 := Subsingleton.elim _ _
  obtain rfl : z' = 0 := Subsingleton.elim _ _
  refine (body_eq m c t r l).trans ?_
  rw [View.read_apply]
  show result m c _ = result m c _
  congr 1
  funext a
  apply Fin.ext
  match a with
  | ⟨0, _⟩ => show t.val / 5 = win0_2.index t 0 * 1 + 1 * 0; rw [(idx t).2.2.1]; simp
  | ⟨1, _⟩ => show t.val % 5 = win0_2.index t 1 * 1 + 1 * 0; rw [(idx t).2.2.1]; simp
  | ⟨2, _⟩ => show r.val = win0_2.index t 2 * 256 + 1 * r.val; rw [(idx t).2.2.1]; simp
  | ⟨3, _⟩ => show l.val = win0_2.index t 3 * 256 + 1 * l.val; rw [(idx t).2.2.1]; simp

theorem mem_blk (t : Fin cfg0.N) (i : S8x5x256x256.Idx) (h : (i 0 : Nat) * 5 + (i 1 : Nat) = t.val) : i ∈ ((cfg0.win 2).blk t).view.set := by
  show i ∈ ((View.whole main_v39).slice (win0_2.rect t)).set
  rw [View.set_slice_whole, Rect.mem_set_unit]
  have h1 : (i 1 : Nat) < 5 := (i 1).isLt
  have h2 : (i 2 : Nat) < 256 := (i 2).isLt
  have h3 : (i 3 : Nat) < 256 := (i 3).isLt
  intro a
  match a with
  | ⟨0, _⟩ =>
    show win0_2.index t 0 * 1 ≤ (i 0 : Nat) ∧ (i 0 : Nat) < win0_2.index t 0 * 1 + 1
    rw [(idx t).2.2.1]
    show t.val / 5 * 1 ≤ (i 0 : Nat) ∧ (i 0 : Nat) < t.val / 5 * 1 + 1
    omega
  | ⟨1, _⟩ =>
    show win0_2.index t 1 * 1 ≤ (i 1 : Nat) ∧ (i 1 : Nat) < win0_2.index t 1 * 1 + 1
    rw [(idx t).2.2.1]
    show t.val % 5 * 1 ≤ (i 1 : Nat) ∧ (i 1 : Nat) < t.val % 5 * 1 + 1
    omega
  | ⟨2, _⟩ =>
    show win0_2.index t 2 * 256 ≤ (i 2 : Nat) ∧ (i 2 : Nat) < win0_2.index t 2 * 256 + 256
    rw [(idx t).2.2.1]
    show 0 * 256 ≤ (i 2 : Nat) ∧ (i 2 : Nat) < 0 * 256 + 256
    omega
  | ⟨3, _⟩ =>
    show win0_2.index t 3 * 256 ≤ (i 3 : Nat) ∧ (i 3 : Nat) < win0_2.index t 3 * 256 + 256
    rw [(idx t).2.2.1]
    show 0 * 256 ≤ (i 3 : Nat) ∧ (i 3 : Nat) < 0 * 256 + 256
    omega

/-- The kernel's result array is the reference's result. -/
theorem array_eq (c : Dev nD) : (dats m 0 c).arrAt 2 cfg0.N = result m c :=
  (dats m 0 c).arrAt_eq_of_cover 2 (result m c) (flushed_eq m c) fun (i : S8x5x256x256.Idx) =>
    ⟨⟨(i 0 : Nat) * 5 + (i 1 : Nat), lt_of_lt_of_eq (by have h0 : (i 0 : Nat) < 8 := (i 0).isLt; have h1 : (i 1 : Nat) < 5 := (i 1).isLt; omega : (i 0 : Nat) * 5 + (i 1 : Nat) < 40) (show cfg0.N = 40 from N_0).symm⟩,
      flush0_2 _, mem_blk _ i rfl⟩

end Cert.BiasTiles.Array

end
-- ==== Proof.AttnBody.lean ====
/- The attention body's scratch memory, read back: the scores of every slab of keys, the running maximum over the slabs, and the
   accumulator of weighted values, each written out as a value of the query, key and value blocks. -/
module

public import proofs.«01_k».proof.Proof.Gen.KernelIdeal.Value
public import Idealize.ShloMosaic.Lib.Pipeline.Value
public import Idealize.ShloMosaic.Lib.Pipeline.ReadBack
public import Idealize.ShloMosaic.Lib.Pointwise

@[expose] public section

set_option maxRecDepth 16384

noncomputable section

namespace Cert.Attention

open Cert.KernelIdeal Cert.KernelIdeal.Gen
open Idealize.ShloMosaic Idealize.ShloMosaic.TcCoe Idealize.ShloMosaic.Pointwise

theorem hz2 : (![0, 0] : Fin 2 → Nat) = fun _ => 0 := funext fun a => by fin_cases a <;> rfl

/-- Slab `n` of the keys: rows `256 n` to `256 n + 255`. -/
def slabKeys (k : Vec Ideal S4096x128 .bf16) (n : Nat) : Vec Ideal S256x128 .bf16 :=
  fun y => k (ix2 ⟨(256 * n + (y 0).val) % 4096, Nat.mod_lt _ (by decide)⟩ (y 1))

/-- The four heads' queries of the block, one under another, scaled and with the other head's lanes cleared. -/
def stacked (q : Vec Ideal S512x256 .f32) : FVec Ideal S2048x128 .bf16 := k0_pay26 q

/-- The scores of slab `n`. -/
def slabScores (q : Vec Ideal S512x256 .f32) (k : Vec Ideal S4096x128 .bf16) (n : Nat) : FVec Ideal S2048x256 .f32 :=
  k0_pay31 (stacked q) (slabKeys k n)

/-- The lane-wise maximum of the first `n` slabs' scores. -/
def laneMax (q : Vec Ideal S512x256 .f32) (k : Vec Ideal S4096x128 .bf16) : Nat → FVec Ideal S2048x128 .f32
  | 0 => k0_pay27
  | n + 1 => k0_pay39 (slabScores q k n) (laneMax q k n)

/-- The scores of slab `n`, as the scratch memory holds them. -/
def slab (q : Vec Ideal S512x256 .f32) (k : Vec Ideal S4096x128 .bf16) (n : Nat) : Vec Ideal S1x2048x256 .f32 :=
  fun y => slabScores q k n (ix2 (y 1) (y 2))

/-- All the scores, as the scratch memory holds them. -/
def allScores (q : Vec Ideal S512x256 .f32) (k : Vec Ideal S4096x128 .bf16) : Vec Ideal S16x2048x256 .f32 :=
  fun y => slabScores q k (y 0).val (ix2 (y 1) (y 2))

theorem ld_slabKeys (k : Vec Ideal S4096x128 .bf16) (n : Nat) (off : Fin 2 → Nat) (inb : ∀ a, off a + S256x128.size a ≤ S4096x128.size a)
    (h : off = ![256 * n, 0]) (hn : n < 16) : View.ld k (Rect.unit (s := S4096x128) off S256x128.size inb) = slabKeys k n := by
  subst h
  rw [View.ld_unit]
  funext y
  refine congrArg k (funext fun a => Fin.ext ?_)
  have hy : (y 0).val < 256 := (y 0).isLt
  match a with
  | 0 => show 256 * n + (y 0).val = (256 * n + (y 0).val) % 4096; omega
  | 1 => show 0 + (y 1).val = (y 1).val; omega

section Run

variable (c : Dev nD) (arg3 : Memref sig .tc .vmem S512x256 .f32) (harg3 : arg3.IsWhole)
  (arg4 : Memref sig .tc .vmem S4096x128 .bf16) (harg4 : arg4.IsWhole) (arg7 : Memref sig .tc .vmem S16x2048x256 .f32)
  (arg8 : Memref sig .tc .vmem S2048x128 .f32) (x0 : Vec Ideal S512x256 .f32) (x1 : Vec Ideal S4096x128 .bf16)

theorem q_read : View.readAt (Elt Ideal) arg3.view (Rect.unit (s := S512x256) ![0, 0] S512x256.size inb_S512x256_S512x256_0_0).toLoadRect (harg3.unread x0) = x0 := by
  rw [View.readAt_eq_ld, harg3.read_unread, View.ld_unit_zero (S := S512x256) hz2]

theorem k_read (n : Nat) (off : Fin 2 → Nat) (inb : ∀ a, off a + S256x128.size a ≤ S4096x128.size a) (h : off = ![256 * n, 0]) (hn : n < 16) :
    View.readAt (Elt Ideal) arg4.view (Rect.unit (s := S4096x128) off S256x128.size inb).toLoadRect (harg4.unread x1) = slabKeys x1 n := by
  rw [View.readAt_eq_ld, harg4.read_unread, ld_slabKeys x1 n off inb h hn]

theorem r_eq : kernelRun0_A.sl.r c arg3 harg3 x0 = stacked x0 := by
  unfold kernelRun0_A.sl.r
  rw [q_read]
  rfl

theorem max_0 : kernelRun0_A.sl.v26 (F := Ideal) c arg8 = laneMax x0 x1 0 := by
  unfold kernelRun0_A.sl.v26 kernelRun0_A.sl.HS1_1
  exact View.readCov_cons_toLoadRect _ _ _ _

theorem max_1 : kernelRun0_A.sl.v40 c arg3 harg3 arg4 harg4 arg8 x0 x1 = laneMax x0 x1 1 := by
  unfold kernelRun0_A.sl.v40 kernelRun0_A.sl.HS1_2
  refine (View.readCov_cons_toLoadRect _ _ _ _).trans ?_
  skip
  rw [q_read, k_read arg4 harg4 x1 0 _ _ (by decide) (by decide), max_0 c arg8 x0 x1]
  rfl

theorem max_2 : kernelRun0_A.sl.v54 c arg3 harg3 arg4 harg4 arg8 x0 x1 = laneMax x0 x1 2 := by
  unfold kernelRun0_A.sl.v54 kernelRun0_A.sl.HS1_3
  refine (View.readCov_cons_toLoadRect _ _ _ _).trans ?_
  skip
  rw [r_eq, k_read arg4 harg4 x1 1 _ _ (by decide) (by decide), max_1 c arg3 harg3 arg4 harg4 arg8 x0 x1]
  rfl

theorem max_3 : kernelRun0_A.sl.v68 c arg3 harg3 arg4 harg4 arg8 x0 x1 = laneMax x0 x1 3 := by
  unfold kernelRun0_A.sl.v68 kernelRun0_A.sl.HS1_4
  refine (View.readCov_cons_toLoadRect _ _ _ _).trans ?_
  skip
  rw [r_eq, k_read arg4 harg4 x1 2 _ _ (by decide) (by decide), max_2 c arg3 harg3 arg4 harg4 arg8 x0 x1]
  rfl

theorem max_4 : kernelRun0_A.sl.v82 c arg3 harg3 arg4 harg4 arg8 x0 x1 = laneMax x0 x1 4 := by
  unfold kernelRun0_A.sl.v82 kernelRun0_A.sl.HS1_5
  refine (View.readCov_cons_toLoadRect _ _ _ _).trans ?_
  unfold kernelRun0_A.sl.r_1
  rw [r_eq, k_read arg4 harg4 x1 3 _ _ (by decide) (by decide), max_3 c arg3 harg3 arg4 harg4 arg8 x0 x1]
  rfl

theorem max_5 : kernelRun0_A.sl.v96 c arg3 harg3 arg4 harg4 arg8 x0 x1 = laneMax x0 x1 5 := by
  unfold kernelRun0_A.sl.v96 kernelRun0_A.sl.HS1_6
  refine (View.readCov_cons_toLoadRect _ _ _ _).trans ?_
  skip
  rw [r_eq, k_read arg4 harg4 x1 4 _ _ (by decide) (by decide), max_4 c arg3 harg3 arg4 harg4 arg8 x0 x1]
  rfl

theorem max_6 : kernelRun0_A.sl.v110 c arg3 harg3 arg4 harg4 arg8 x0 x1 = laneMax x0 x1 6 := by
  unfold kernelRun0_A.sl.v110 kernelRun0_A.sl.HS1_7
  refine (View.readCov_cons_toLoadRect _ _ _ _).trans ?_
  unfold kernelRun0_A.sl.r_2 kernelRun0_A.sl.r_3
  rw [r_eq, k_read arg4 harg4 x1 5 _ _ (by decide) (by decide), max_5 c arg3 harg3 arg4 harg4 arg8 x0 x1]
  rfl

theorem max_7 : kernelRun0_A.sl.v124 c arg3 harg3 arg4 harg4 arg8 x0 x1 = laneMax x0 x1 7 := by
  unfold kernelRun0_A.sl.v124 kernelRun0_A.sl.HS1_8
  refine (View.readCov_cons_toLoadRect _ _ _ _).trans ?_
  skip
  rw [r_eq, k_read arg4 harg4 x1 6 _ _ (by decide) (by decide), max_6 c arg3 harg3 arg4 harg4 arg8 x0 x1]
  rfl

theorem max_8 : kernelRun0_A.sl.v138 c arg3 harg3 arg4 harg4 arg8 x0 x1 = laneMax x0 x1 8 := by
  unfold kernelRun0_A.sl.v138 kernelRun0_A.sl.HS1_9
  refine (View.readCov_cons_toLoadRect _ _ _ _).trans ?_
  skip
  rw [r_eq, k_read arg4 harg4 x1 7 _ _ (by decide) (by decide), max_7 c arg3 harg3 arg4 harg4 arg8 x0 x1]
  rfl

theorem max_9 : kernelRun0_A.sl.v152 c arg3 harg3 arg4 harg4 arg8 x0 x1 = laneMax x0 x1 9 := by
  unfold kernelRun0_A.sl.v152 kernelRun0_A.sl.HS1_10
  refine (View.readCov_cons_toLoadRect _ _ _ _).trans ?_
  skip
  rw [r_eq, k_read arg4 harg4 x1 8 _ _ (by decide) (by decide), max_8 c arg3 harg3 arg4 harg4 arg8 x0 x1]
  rfl

theorem max_10 : kernelRun0_A.sl.v166 c arg3 harg3 arg4 harg4 arg8 x0 x1 = laneMax x0 x1 10 := by
  unfold kernelRun0_A.sl.v166 kernelRun0_A.sl.HS1_11
  refine (View.readCov_cons_toLoadRect _ _ _ _).trans ?_
  skip
  rw [r_eq, k_read arg4 harg4 x1 9 _ _ (by decide) (by decide), max_9 c arg3 harg3 arg4 harg4 arg8 x0 x1]
  rfl

theorem max_11 : kernelRun0_A.sl.v180 c arg3 harg3 arg4 harg4 arg8 x0 x1 = laneMax x0 x1 11 := by
  unfold kernelRun0_A.sl.v180 kernelRun0_A.sl.HS1_12
  refine (View.readCov_cons_toLoadRect _ _ _ _).trans ?_
  unfold kernelRun0_A.sl.r_4
  rw [r_eq, k_read arg4 harg4 x1 10 _ _ (by decide) (by decide), max_10 c arg3 harg3 arg4 harg4 arg8 x0 x1]
  rfl

theorem max_12 : kernelRun0_A.sl.v194 c arg3 harg3 arg4 harg4 arg8 x0 x1 = laneMax x0 x1 12 := by
  unfold kernelRun0_A.sl.v194 kernelRun0_A.sl.HS1_13
  refine (View.readCov_cons_toLoadRect _ _ _ _).trans ?_
  skip
  rw [r_eq, k_read arg4 harg4 x1 11 _ _ (by decide) (by decide), max_11 c arg3 harg3 arg4 harg4 arg8 x0 x1]
  rfl

theorem max_13 : kernelRun0_A.sl.v208 c arg3 harg3 arg4 harg4 arg8 x0 x1 = laneMax x0 x1 13 := by
  unfold kernelRun0_A.sl.v208 kernelRun0_A.sl.HS1_14
  refine (View.readCov_cons_toLoadRect _ _ _ _).trans ?_
  unfold kernelRun0_A.sl.r_5
  rw [r_eq, k_read arg4 harg4 x1 12 _ _ (by decide) (by decide), max_12 c arg3 harg3 arg4 harg4 arg8 x0 x1]
  rfl

theorem max_14 : kernelRun0_A.sl.v222 c arg3 harg3 arg4 harg4 arg8 x0 x1 = laneMax x0 x1 14 := by
  unfold kernelRun0_A.sl.v222 kernelRun0_A.sl.HS1_15
  refine (View.readCov_cons_toLoadRect _ _ _ _).trans ?_
  skip
  rw [r_eq, k_read arg4 harg4 x1 13 _ _ (by decide) (by decide), max_13 c arg3 harg3 arg4 harg4 arg8 x0 x1]
  rfl

theorem max_15 : kernelRun0_A.sl.v236 c arg3 harg3 arg4 harg4 arg8 x0 x1 = laneMax x0 x1 15 := by
  unfold kernelRun0_A.sl.v236 kernelRun0_A.sl.HS1_16
  refine (View.readCov_cons_toLoadRect _ _ _ _).trans ?_
  unfold kernelRun0_A.sl.r_6
  rw [r_eq, k_read arg4 harg4 x1 14 _ _ (by decide) (by decide), max_14 c arg3 harg3 arg4 harg4 arg8 x0 x1]
  rfl

theorem max_16 : kernelRun0_A.sl.v244 c arg3 harg3 arg4 harg4 arg8 x0 x1 = laneMax x0 x1 16 := by
  unfold kernelRun0_A.sl.v244 kernelRun0_A.sl.HS1_17
  refine (View.readCov_cons_toLoadRect _ _ _ _).trans ?_
  skip
  rw [r_eq, k_read arg4 harg4 x1 15 _ _ (by decide) (by decide), max_15 c arg3 harg3 arg4 harg4 arg8 x0 x1]
  rfl

theorem readMax : View.readAt (Elt Ideal) arg8.view (Rect.unit (s := S2048x128) ![0, 0] S2048x128.size inb_S2048x128_S2048x128_0_0).toLoadRect
    (arg8.view.writes (Elt Ideal) arg8.view.junk (kernelRun0_A.sl.HS1_18 c arg3 harg3 arg4 harg4 arg8 x0 x1)) = k0_pay79 (F := Ideal) (laneMax x0 x1 16) := by
  rw [View.readAt_writes_junk_eq_canon, ← View.readCov_eq_canon' arg8.view]
  unfold kernelRun0_A.sl.HS1_18
  refine (View.readCov_cons_toLoadRect _ _ _ _).trans ?_
  rw [max_16]

theorem slab_piece (n : Nat) (hn : n < 16) (off : Fin 3 → Nat) (inb : ∀ a, off a + S1x2048x256.size a ≤ S16x2048x256.size a) (h : off = ![n, 0, 0])
    (w : Vec Ideal S1x2048x256 .f32) (hw : w = slab x0 x1 n) (x : S1x2048x256.Idx) :
    w x = allScores x0 x1 ((Rect.unit (s := S16x2048x256) off S1x2048x256.size inb).emb x) := by
  subst h hw
  have h0 : (x 0).val = 0 := by have : (x 0).val < 1 := (x 0).isLt; omega
  have e0 : ((Rect.unit (s := S16x2048x256) ![n, 0, 0] S1x2048x256.size inb).emb x 0).val = n := by
    show n + 1 * (x 0).val = n
    omega
  have e1 : (Rect.unit (s := S16x2048x256) ![n, 0, 0] S1x2048x256.size inb).emb x 1 = x 1 := Fin.ext (by show 0 + 1 * (x 1).val = (x 1).val; omega)
  have e2 : (Rect.unit (s := S16x2048x256) ![n, 0, 0] S1x2048x256.size inb).emb x 2 = x 2 := Fin.ext (by show 0 + 1 * (x 2).val = (x 2).val; omega)
  unfold slab allScores
  rw [e0, e1, e2]

theorem cast_slab (n : Nat) : shapeCast S1x2048x256 (slabScores x0 x1 n) shapeCasts_S2048x256_S1x2048x256 = slab x0 x1 n := by
  funext y
  obtain ⟨a, b, d, rfl⟩ : ∃ a b d, y = ix3 a b d := ⟨y 0, y 1, y 2, eq_ix3 y⟩
  generalize hs : slabScores x0 x1 n = s
  unfold slab
  rw [hs]
  pointwise []

theorem stored_0 : k0_pay29 (View.readAt (Elt Ideal) arg3.view (Rect.unit (s := S512x256) ![0, 0] S512x256.size inb_S512x256_S512x256_0_0).toLoadRect (harg3.unread x0)) (View.readAt (Elt Ideal) arg4.view (Rect.unit (s := S4096x128) ![0, 0] S256x128.size inb_S4096x128_S256x128_0_0).toLoadRect (harg4.unread x1)) = slab x0 x1 0 := by
  skip
  rw [q_read, k_read arg4 harg4 x1 0 _ _ (by decide) (by decide), ← cast_slab]
  rfl

theorem stored_1 : k0_pay32 (kernelRun0_A.sl.r c arg3 harg3 x0) (View.readAt (Elt Ideal) arg4.view (Rect.unit (s := S4096x128) ![256, 0] S256x128.size inb_S4096x128_S256x128_256_0).toLoadRect (harg4.unread x1)) = slab x0 x1 1 := by
  skip
  rw [r_eq, k_read arg4 harg4 x1 1 _ _ (by decide) (by decide), ← cast_slab]
  rfl

theorem stored_2 : k0_pay35 (kernelRun0_A.sl.r c arg3 harg3 x0) (View.readAt (Elt Ideal) arg4.view (Rect.unit (s := S4096x128) ![512, 0] S256x128.size inb_S4096x128_S256x128_512_0).toLoadRect (harg4.unread x1)) = slab x0 x1 2 := by
  skip
  rw [r_eq, k_read arg4 harg4 x1 2 _ _ (by decide) (by decide), ← cast_slab]
  rfl

theorem stored_3 : k0_pay38 (kernelRun0_A.sl.r_1 c arg3 harg3 arg4 harg4 x0 x1) = slab x0 x1 3 := by
  unfold kernelRun0_A.sl.r_1
  rw [r_eq, k_read arg4 harg4 x1 3 _ _ (by decide) (by decide), ← cast_slab]
  rfl

theorem stored_4 : k0_pay41 (kernelRun0_A.sl.r c arg3 harg3 x0) (View.readAt (Elt Ideal) arg4.view (Rect.unit (s := S4096x128) ![1024, 0] S256x128.size inb_S4096x128_S256x128_1024_0).toLoadRect (harg4.unread x1)) = slab x0 x1 4 := by
  skip
  rw [r_eq, k_read arg4 harg4 x1 4 _ _ (by decide) (by decide), ← cast_slab]
  rfl

theorem stored_5 : k0_pay44 (kernelRun0_A.sl.r c arg3 harg3 x0) (View.readAt (Elt Ideal) arg4.view (Rect.unit (s := S4096x128) ![1280, 0] S256x128.size inb_S4096x128_S256x128_1280_0).toLoadRect (harg4.unread x1)) = slab x0 x1 5 := by
  skip
  rw [r_eq, k_read arg4 harg4 x1 5 _ _ (by decide) (by decide), ← cast_slab]
  rfl

theorem stored_6 : k0_pay49 (kernelRun0_A.sl.r c arg3 harg3 x0) (View.readAt (Elt Ideal) arg4.view (Rect.unit (s := S4096x128) ![1536, 0] S256x128.size inb_S4096x128_S256x128_1536_0).toLoadRect (harg4.unread x1)) = slab x0 x1 6 := by
  skip
  rw [r_eq, k_read arg4 harg4 x1 6 _ _ (by decide) (by decide), ← cast_slab]
  rfl

theorem stored_7 : k0_pay52 (kernelRun0_A.sl.r c arg3 harg3 x0) (View.readAt (Elt Ideal) arg4.view (Rect.unit (s := S4096x128) ![1792, 0] S256x128.size inb_S4096x128_S256x128_1792_0).toLoadRect (harg4.unread x1)) = slab x0 x1 7 := by
  skip
  rw [r_eq, k_read arg4 harg4 x1 7 _ _ (by decide) (by decide), ← cast_slab]
  rfl

theorem stored_8 : k0_pay55 (kernelRun0_A.sl.r c arg3 harg3 x0) (View.readAt (Elt Ideal) arg4.view (Rect.unit (s := S4096x128) ![2048, 0] S256x128.size inb_S4096x128_S256x128_2048_0).toLoadRect (harg4.unread x1)) = slab x0 x1 8 := by
  skip
  rw [r_eq, k_read arg4 harg4 x1 8 _ _ (by decide) (by decide), ← cast_slab]
  rfl

theorem stored_9 : k0_pay58 (kernelRun0_A.sl.r c arg3 harg3 x0) (View.readAt (Elt Ideal) arg4.view (Rect.unit (s := S4096x128) ![2304, 0] S256x128.size inb_S4096x128_S256x128_2304_0).toLoadRect (harg4.unread x1)) = slab x0 x1 9 := by
  skip
  rw [r_eq, k_read arg4 harg4 x1 9 _ _ (by decide) (by decide), ← cast_slab]
  rfl

theorem stored_10 : k0_pay61 (kernelRun0_A.sl.r_4 c arg3 harg3 arg4 harg4 x0 x1) = slab x0 x1 10 := by
  unfold kernelRun0_A.sl.r_4
  rw [r_eq, k_read arg4 harg4 x1 10 _ _ (by decide) (by decide), ← cast_slab]
  rfl

theorem stored_11 : k0_pay64 (kernelRun0_A.sl.r c arg3 harg3 x0) (View.readAt (Elt Ideal) arg4.view (Rect.unit (s := S4096x128) ![2816, 0] S256x128.size inb_S4096x128_S256x128_2816_0).toLoadRect (harg4.unread x1)) = slab x0 x1 11 := by
  skip
  rw [r_eq, k_read arg4 harg4 x1 11 _ _ (by decide) (by decide), ← cast_slab]
  rfl

theorem stored_12 : k0_pay67 (kernelRun0_A.sl.r c arg3 harg3 x0) (View.readAt (Elt Ideal) arg4.view (Rect.unit (s := S4096x128) ![3072, 0] S256x128.size inb_S4096x128_S256x128_3072_0).toLoadRect (harg4.unread x1)) = slab x0 x1 12 := by
  skip
  rw [r_eq, k_read arg4 harg4 x1 12 _ _ (by decide) (by decide), ← cast_slab]
  rfl

theorem stored_13 : k0_pay70 (kernelRun0_A.sl.r c arg3 harg3 x0) (View.readAt (Elt Ideal) arg4.view (Rect.unit (s := S4096x128) ![3328, 0] S256x128.size inb_S4096x128_S256x128_3328_0).toLoadRect (harg4.unread x1)) = slab x0 x1 13 := by
  skip
  rw [r_eq, k_read arg4 harg4 x1 13 _ _ (by decide) (by decide), ← cast_slab]
  rfl

theorem stored_14 : k0_pay73 (kernelRun0_A.sl.r c arg3 harg3 x0) (View.readAt (Elt Ideal) arg4.view (Rect.unit (s := S4096x128) ![3584, 0] S256x128.size inb_S4096x128_S256x128_3584_0).toLoadRect (harg4.unread x1)) = slab x0 x1 14 := by
  skip
  rw [r_eq, k_read arg4 harg4 x1 14 _ _ (by decide) (by decide), ← cast_slab]
  rfl

theorem stored_15 : k0_pay77 (kernelRun0_A.sl.r c arg3 harg3 x0) (View.readAt (Elt Ideal) arg4.view (Rect.unit (s := S4096x128) ![3840, 0] S256x128.size inb_S4096x128_S256x128_3840_0).toLoadRect (harg4.unread x1)) = slab x0 x1 15 := by
  skip
  rw [r_eq, k_read arg4 harg4 x1 15 _ _ (by decide) (by decide), ← cast_slab]
  rfl

theorem slabs_pieces : View.PiecesOf (allScores x0 x1) (kernelRun0_A.sl.HS0_16 c arg3 harg3 arg4 harg4 x0 x1) := by
  unfold kernelRun0_A.sl.HS0_16
  exact ⟨slab_piece x0 x1 15 (by decide) ![15, 0, 0] inb_S16x2048x256_S1x2048x256_15_0_0 rfl _ (stored_15 c arg3 harg3 arg4 harg4 x0 x1),
    slab_piece x0 x1 14 (by decide) ![14, 0, 0] inb_S16x2048x256_S1x2048x256_14_0_0 rfl _ (stored_14 c arg3 harg3 arg4 harg4 x0 x1),
    slab_piece x0 x1 13 (by decide) ![13, 0, 0] inb_S16x2048x256_S1x2048x256_13_0_0 rfl _ (stored_13 c arg3 harg3 arg4 harg4 x0 x1),
    slab_piece x0 x1 12 (by decide) ![12, 0, 0] inb_S16x2048x256_S1x2048x256_12_0_0 rfl _ (stored_12 c arg3 harg3 arg4 harg4 x0 x1),
    slab_piece x0 x1 11 (by decide) ![11, 0, 0] inb_S16x2048x256_S1x2048x256_11_0_0 rfl _ (stored_11 c arg3 harg3 arg4 harg4 x0 x1),
    slab_piece x0 x1 10 (by decide) ![10, 0, 0] inb_S16x2048x256_S1x2048x256_10_0_0 rfl _ (stored_10 c arg3 harg3 arg4 harg4 x0 x1),
    slab_piece x0 x1 9 (by decide) ![9, 0, 0] inb_S16x2048x256_S1x2048x256_9_0_0 rfl _ (stored_9 c arg3 harg3 arg4 harg4 x0 x1),
    slab_piece x0 x1 8 (by decide) ![8, 0, 0] inb_S16x2048x256_S1x2048x256_8_0_0 rfl _ (stored_8 c arg3 harg3 arg4 harg4 x0 x1),
    slab_piece x0 x1 7 (by decide) ![7, 0, 0] inb_S16x2048x256_S1x2048x256_7_0_0 rfl _ (stored_7 c arg3 harg3 arg4 harg4 x0 x1),
    slab_piece x0 x1 6 (by decide) ![6, 0, 0] inb_S16x2048x256_S1x2048x256_6_0_0 rfl _ (stored_6 c arg3 harg3 arg4 harg4 x0 x1),
    slab_piece x0 x1 5 (by decide) ![5, 0, 0] inb_S16x2048x256_S1x2048x256_5_0_0 rfl _ (stored_5 c arg3 harg3 arg4 harg4 x0 x1),
    slab_piece x0 x1 4 (by decide) ![4, 0, 0] inb_S16x2048x256_S1x2048x256_4_0_0 rfl _ (stored_4 c arg3 harg3 arg4 harg4 x0 x1),
    slab_piece x0 x1 3 (by decide) ![3, 0, 0] inb_S16x2048x256_S1x2048x256_3_0_0 rfl _ (stored_3 c arg3 harg3 arg4 harg4 x0 x1),
    slab_piece x0 x1 2 (by decide) ![2, 0, 0] inb_S16x2048x256_S1x2048x256_2_0_0 rfl _ (stored_2 c arg3 harg3 arg4 harg4 x0 x1),
    slab_piece x0 x1 1 (by decide) ![1, 0, 0] inb_S16x2048x256_S1x2048x256_1_0_0 rfl _ (stored_1 c arg3 harg3 arg4 harg4 x0 x1),
    slab_piece x0 x1 0 (by decide) ![0, 0, 0] inb_S16x2048x256_S1x2048x256_0_0_0 rfl _ (stored_0 arg3 harg3 arg4 harg4 x0 x1), trivial⟩

theorem slabs_cover (y : S16x2048x256.Idx) : ∃ p ∈ kernelRun0_A.sl.HS0_16 c arg3 harg3 arg4 harg4 x0 x1, y ∈ p.1.set := by
  have h1 : (y 1).val < 2048 := (y 1).isLt
  have h2 : (y 2).val < 256 := (y 2).isLt
  have key : ∀ (n : Nat) (off : Fin 3 → Nat) (inb : ∀ a, off a + S1x2048x256.size a ≤ S16x2048x256.size a), off = ![n, 0, 0] → (y 0).val = n →
      y ∈ (Rect.unit (s := S16x2048x256) off S1x2048x256.size inb).set := by
    intro n off inb h hy
    subst h
    refine Rect.mem_set_unit.mpr ?_
    intro a
    match a with
    | 0 => exact ⟨by show n ≤ (y 0).val; omega, by show (y 0).val < n + 1; omega⟩
    | 1 => exact ⟨by show 0 ≤ (y 1).val; omega, by show (y 1).val < 0 + 2048; omega⟩
    | 2 => exact ⟨by show 0 ≤ (y 2).val; omega, by show (y 2).val < 0 + 256; omega⟩
  unfold kernelRun0_A.sl.HS0_16
  have h0 : (y 0).val < 16 := (y 0).isLt
  generalize hn : (y 0).val = n at h0
  interval_cases n
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), key 0 ![0, 0, 0] inb_S16x2048x256_S1x2048x256_0_0_0 rfl hn⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), key 1 ![1, 0, 0] inb_S16x2048x256_S1x2048x256_1_0_0 rfl hn⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), key 2 ![2, 0, 0] inb_S16x2048x256_S1x2048x256_2_0_0 rfl hn⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), key 3 ![3, 0, 0] inb_S16x2048x256_S1x2048x256_3_0_0 rfl hn⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), key 4 ![4, 0, 0] inb_S16x2048x256_S1x2048x256_4_0_0 rfl hn⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), key 5 ![5, 0, 0] inb_S16x2048x256_S1x2048x256_5_0_0 rfl hn⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), key 6 ![6, 0, 0] inb_S16x2048x256_S1x2048x256_6_0_0 rfl hn⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), key 7 ![7, 0, 0] inb_S16x2048x256_S1x2048x256_7_0_0 rfl hn⟩
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), key 8 ![8, 0, 0] inb_S16x2048x256_S1x2048x256_8_0_0 rfl hn⟩
  · exact ⟨_, (List.mem_cons_of_mem _ (List.mem_cons_of_mem _ (List.mem_cons_of_mem _ (List.mem_cons_of_mem _ (List.mem_cons_of_mem _ (List.mem_cons_of_mem _ List.mem_cons_self)))))), key 9 ![9, 0, 0] inb_S16x2048x256_S1x2048x256_9_0_0 rfl hn⟩
  · exact ⟨_, (List.mem_cons_of_mem _ (List.mem_cons_of_mem _ (List.mem_cons_of_mem _ (List.mem_cons_of_mem _ (List.mem_cons_of_mem _ List.mem_cons_self))))), key 10 ![10, 0, 0] inb_S16x2048x256_S1x2048x256_10_0_0 rfl hn⟩
  · exact ⟨_, (List.mem_cons_of_mem _ (List.mem_cons_of_mem _ (List.mem_cons_of_mem _ (List.mem_cons_of_mem _ List.mem_cons_self)))), key 11 ![11, 0, 0] inb_S16x2048x256_S1x2048x256_11_0_0 rfl hn⟩
  · exact ⟨_, (List.mem_cons_of_mem _ (List.mem_cons_of_mem _ (List.mem_cons_of_mem _ List.mem_cons_self))), key 12 ![12, 0, 0] inb_S16x2048x256_S1x2048x256_12_0_0 rfl hn⟩
  · exact ⟨_, (List.mem_cons_of_mem _ (List.mem_cons_of_mem _ List.mem_cons_self)), key 13 ![13, 0, 0] inb_S16x2048x256_S1x2048x256_13_0_0 rfl hn⟩
  · exact ⟨_, (List.mem_cons_of_mem _ List.mem_cons_self), key 14 ![14, 0, 0] inb_S16x2048x256_S1x2048x256_14_0_0 rfl hn⟩
  · exact ⟨_, List.mem_cons_self, key 15 ![15, 0, 0] inb_S16x2048x256_S1x2048x256_15_0_0 rfl hn⟩

theorem readSlab (n : Nat) (hn : n < 16) (off : Fin 3 → Nat) (inb : ∀ a, off a + S1x2048x256.size a ≤ S16x2048x256.size a) (h : off = ![n, 0, 0]) :
    View.readAt (Elt Ideal) arg7.view (Rect.unit (s := S16x2048x256) off S1x2048x256.size inb).toLoadRect
      (arg7.view.writes (Elt Ideal) arg7.view.junk (kernelRun0_A.sl.HS0_16 c arg3 harg3 arg4 harg4 x0 x1)) = slab x0 x1 n := by
  rw [View.readAt_writes_junk_eq_canon]
  funext y
  exact (View.canon_apply_of_pieces _ _ (slabs_pieces c arg3 harg3 arg4 harg4 x0 x1).mem _ (slabs_cover c arg3 harg3 arg4 harg4 x0 x1 _)).trans
    (slab_piece x0 x1 n hn off inb h _ rfl y).symm

end Run

/-- The weights of a trip's eight slabs, side by side. -/
def weights (M : Vec Ideal S2048x128 .f32) (s : Fin 8 → Vec Ideal S1x2048x256 .f32) : FVec Ideal S2048x2048 .bf16 :=
  k0_pay83 (k0_pay5 M (s 0)) (k0_pay6 M (s 0)) (k0_pay5 M (s 1)) (k0_pay6 M (s 1)) (k0_pay5 M (s 2)) (k0_pay6 M (s 2))
    (k0_pay5 M (s 3)) (k0_pay6 M (s 3)) (k0_pay5 M (s 4)) (k0_pay6 M (s 4)) (k0_pay5 M (s 5)) (k0_pay6 M (s 5))
    (k0_pay5 M (s 6)) (subf (k0_pay24 (s 6)) M) (k0_pay81 M (k0_pay4 (s 7))) (k0_pay82 M (k0_pay4 (s 7)))

theorem trip_weights (arg7 : Memref sig .tc .vmem S16x2048x256 .f32) (arg8 : Memref sig .tc .vmem S2048x128 .f32)
    (X7 : BufTy.Contents (Elt Ideal) arg7.view.ty) (X8 : BufTy.Contents (Elt Ideal) arg8.view.ty) (t : Fin k0_t1_loop.trips)
    (M : Vec Ideal S2048x128 .f32) (s : Fin 8 → Vec Ideal S1x2048x256 .f32)
    (hM : View.readAt (Elt Ideal) arg8.view (Rect.unit (s := S2048x128) ![0, 0] S2048x128.size inb_S2048x128_S2048x128_0_0).toLoadRect X8 = M)
    (hs : ∀ u : Fin 8, View.readAt (Elt Ideal) arg7.view (Rect.unit (s := S16x2048x256) (k0_off1 t (BitVec.ofNat 32 u.val)) S1x2048x256.size (k0_off1_inb t u)).toLoadRect X7 = s u) :
    trip_k0_t1.sl.v377 arg7 arg8 X7 X8 t = weights M s := by
  subst hM
  obtain rfl := funext hs
  rfl

end Cert.Attention

end
-- ==== Proof.AttnOut.lean ====
/- The attention body's result block as a value of its query, key and value blocks. -/
module

public import proofs.«01_k».proof.Proof.AttnBody

@[expose] public section

set_option maxRecDepth 16384

noncomputable section

namespace Cert.Attention

open Cert.KernelIdeal Cert.KernelIdeal.Gen
open Idealize.ShloMosaic Idealize.ShloMosaic.TcCoe Idealize.ShloMosaic.Pointwise

/-- Half `t` of the values: rows `2048 t` to `2048 t + 2047`. -/
def halfValues (v : Vec Ideal S4096x128 .bf16) (t : Nat) : Vec Ideal S2048x128 .bf16 :=
  fun y => v (ix2 ⟨(2048 * t + (y 0).val) % 4096, Nat.mod_lt _ (by decide)⟩ (y 1))

theorem ld_halfValues (v : Vec Ideal S4096x128 .bf16) (t : Nat) (off : Fin 2 → Nat) (inb : ∀ a, off a + S2048x128.size a ≤ S4096x128.size a)
    (h : off = ![2048 * t, 0]) (ht : t < 2) : View.ld v (Rect.unit (s := S4096x128) off S2048x128.size inb) = halfValues v t := by
  subst h
  rw [View.ld_unit]
  funext y
  refine congrArg v (funext fun a => Fin.ext ?_)
  have hy : (y 0).val < 2048 := (y 0).isLt
  match a with
  | 0 => show 2048 * t + (y 0).val = (2048 * t + (y 0).val) % 4096; omega
  | 1 => show 0 + (y 1).val = (y 1).val; omega

/-- The row maximum, in every lane. -/
def rowMax (q : Vec Ideal S512x256 .f32) (k : Vec Ideal S4096x128 .bf16) : FVec Ideal S2048x128 .f32 := k0_pay79 (laneMax q k 16)

/-- The accumulator after `n` trips. -/
def acc (q : Vec Ideal S512x256 .f32) (k v : Vec Ideal S4096x128 .bf16) : Nat → FVec Ideal S2048x256 .f32
  | 0 => k0_pay80
  | t + 1 => k0_pay84 (weights (rowMax q k) fun u => slab q k (8 * t + u.val)) (halfValues v t) (acc q k v t)

theorem trips_eq : k0_t1_loop.trips = 2 := by decide

section Run

variable (c : Dev nD) (i : grid0.Coords) (arg3 : Memref sig .tc .vmem S512x256 .f32) (harg3 : arg3.IsWhole)
  (arg4 : Memref sig .tc .vmem S4096x128 .bf16) (harg4 : arg4.IsWhole) (arg5 : Memref sig .tc .vmem S4096x128 .bf16) (harg5 : arg5.IsWhole)
  (arg6 : Memref sig .tc .vmem S512x256 .bf16) (harg6 : arg6.IsWhole) (arg7 : Memref sig .tc .vmem S16x2048x256 .f32) (harg7 : arg7.IsWhole)
  (arg8 : Memref sig .tc .vmem S2048x128 .f32) (harg8 : arg8.IsWhole) (arg9 : Memref sig .tc .vmem S2048x256 .f32) (harg9 : arg9.IsWhole)
  (x0 : Vec Ideal S512x256 .f32) (x1 x2 : Vec Ideal S4096x128 .bf16)

/-- One trip's write over contents `f` of the accumulator. -/
theorem trip_write (v15 : FVec Ideal S2048x128 .bf16) (v226 : FVec Ideal S2048x128 .f32) (t : Fin k0_t1_loop.trips)
    (f : BufTy.Contents (Elt Ideal) arg9.view.ty) (a : FVec Ideal S2048x256 .f32)
    (hf : View.readAt (Elt Ideal) arg9.view (Rect.unit (s := S2048x256) ![0, 0] S2048x256.size inb_S2048x256_S2048x256_0_0).toLoadRect f = a) :
    tripL_k0_t1 (F := Ideal) Variants.none c none i arg3 harg3 arg4 harg4 arg5 harg5 arg6 harg6 arg7 harg7 arg8 harg8 arg9 harg9 v15 v226
      (harg5.unread x2) (arg7.view.writes (Elt Ideal) arg7.view.junk (kernelRun0_A.sl.HS0_16 c arg3 harg3 arg4 harg4 x0 x1))
      (arg8.view.writes (Elt Ideal) arg8.view.junk (kernelRun0_A.sl.HS1_18 c arg3 harg3 arg4 harg4 arg8 x0 x1)) t f
      = [⟨Rect.unit ![0, 0] S2048x256.size inb_S2048x256_S2048x256_0_0,
          k0_pay84 (weights (rowMax x0 x1) fun u => slab x0 x1 (8 * t.val + u.val)) (halfValues x2 t.val) a⟩] := by
  have ht : t.val < 2 := lt_of_lt_of_eq t.isLt trips_eq
  have hw := trip_weights arg7 arg8 (arg7.view.writes (Elt Ideal) arg7.view.junk (kernelRun0_A.sl.HS0_16 c arg3 harg3 arg4 harg4 x0 x1))
    (arg8.view.writes (Elt Ideal) arg8.view.junk (kernelRun0_A.sl.HS1_18 c arg3 harg3 arg4 harg4 arg8 x0 x1)) t (rowMax x0 x1)
    (fun u => slab x0 x1 (8 * t.val + u.val)) (readMax c arg3 harg3 arg4 harg4 arg8 x0 x1)
    (fun u => readSlab c arg3 harg3 arg4 harg4 arg7 x0 x1 (8 * t.val + u.val) (by omega) _ _ (k0_off1_eq t u))
  have hv : View.readAt (Elt Ideal) arg5.view (Rect.unit (s := S4096x128) (k0_off2 t) S2048x128.size (k0_off2_inb t)).toLoadRect (harg5.unread x2)
      = halfValues x2 t.val := by
    rw [View.readAt_eq_ld, harg5.read_unread, ld_halfValues x2 t.val _ _ (k0_off2_eq t) ht]
  unfold tripL_k0_t1 trip_k0_t1
  dsimp only
  rw [hw, hv, hf]

/-- The pieces the first `n` trips leave in the accumulator. -/
abbrev tripPieces (v15 : FVec Ideal S2048x128 .bf16) (v226 : FVec Ideal S2048x128 .f32) (n : Nat) : List (View.Piece (Elt Ideal) S2048x256 .f32) :=
  pb_k0_t1 (F := Ideal) Variants.none c none i arg3 harg3 arg4 harg4 arg5 harg5 arg6 harg6 arg7 harg7 arg8 harg8 arg9 harg9 v15 v226
      (harg5.unread x2) (arg7.view.writes (Elt Ideal) arg7.view.junk (kernelRun0_A.sl.HS0_16 c arg3 harg3 arg4 harg4 x0 x1))
      (arg8.view.writes (Elt Ideal) arg8.view.junk (kernelRun0_A.sl.HS1_18 c arg3 harg3 arg4 harg4 arg8 x0 x1))
      (arg9.view.writes (Elt Ideal) arg9.view.junk kernelRun0_A.sl.HS2_1) n

theorem pieces_eq (v15 : FVec Ideal S2048x128 .bf16) (v226 : FVec Ideal S2048x128 .f32) : ∀ n : Nat, n ≤ 2 →
    ∃ L, tripPieces c i arg3 harg3 arg4 harg4 arg5 harg5 arg6 harg6 arg7 harg7 arg8 harg8 arg9 harg9 x0 x1 x2 v15 v226 n ++ kernelRun0_A.sl.HS2_1
      = (⟨Rect.unit (s := S2048x256) ![0, 0] S2048x256.size inb_S2048x256_S2048x256_0_0, acc x0 x1 x2 n⟩ : View.Piece (Elt Ideal) S2048x256 .f32) :: L
  | 0, _ => ⟨[], rfl⟩
  | n + 1, hn => by
    obtain ⟨L, hL⟩ := pieces_eq v15 v226 n (by omega)
    have ht : n < k0_t1_loop.trips := by rw [trips_eq]; omega
    have hf : View.readAt (Elt Ideal) arg9.view (Rect.unit (s := S2048x256) ![0, 0] S2048x256.size inb_S2048x256_S2048x256_0_0).toLoadRect
        (arg9.view.writes (Elt Ideal) (arg9.view.writes (Elt Ideal) arg9.view.junk kernelRun0_A.sl.HS2_1) (tripPieces c i arg3 harg3 arg4 harg4 arg5 harg5 arg6 harg6 arg7 harg7 arg8 harg8 arg9 harg9 x0 x1 x2 v15 v226 n)) = acc x0 x1 x2 n := by
      rw [← View.writes_append, hL, View.readAt_writes_junk_eq_canon, ← View.readCov_eq_canon' arg9.view]
      exact View.readCov_cons_toLoadRect _ _ _ _
    have hs := pb_k0_t1_succ (F := Ideal) Variants.none c none i arg3 harg3 arg4 harg4 arg5 harg5 arg6 harg6 arg7 harg7 arg8 harg8 arg9 harg9 v15 v226
      (harg5.unread x2) (arg7.view.writes (Elt Ideal) arg7.view.junk (kernelRun0_A.sl.HS0_16 c arg3 harg3 arg4 harg4 x0 x1))
      (arg8.view.writes (Elt Ideal) arg8.view.junk (kernelRun0_A.sl.HS1_18 c arg3 harg3 arg4 harg4 arg8 x0 x1))
      (arg9.view.writes (Elt Ideal) arg9.view.junk kernelRun0_A.sl.HS2_1) ⟨n, ht⟩
    have hw := trip_write c i arg3 harg3 arg4 harg4 arg5 harg5 arg6 harg6 arg7 harg7 arg8 harg8 arg9 harg9 x0 x1 x2 v15 v226 ⟨n, ht⟩ _ _ hf
    exact ⟨_, congrArg (· ++ kernelRun0_A.sl.HS2_1) (hs.trans (congrArg (· ++ tripPieces c i arg3 harg3 arg4 harg4 arg5 harg5 arg6 harg6 arg7 harg7 arg8 harg8 arg9 harg9 x0 x1 x2 v15 v226 n) hw))⟩

theorem acc_eq : kernelRun0_A.sl.v258 c i arg3 harg3 arg4 harg4 arg5 harg5 arg6 harg6 arg7 harg7 arg8 harg8 arg9 harg9 x0 x1 x2
    = acc x0 x1 x2 2 := by
  unfold kernelRun0_A.sl.v258
  obtain ⟨L, hL⟩ := pieces_eq c i arg3 harg3 arg4 harg4 arg5 harg5 arg6 harg6 arg7 harg7 arg8 harg8 arg9 harg9 x0 x1 x2
    (kernelRun0_A.sl.r c arg3 harg3 x0) (kernelRun0_A.sl.r_6 c arg3 harg3 arg4 harg4 arg8 x0 x1) 2 (by omega)
  rw [show Scf.trips k0_t1_loop.lb k0_t1_loop.ub k0_t1_loop.st = 2 from trips_eq, hL]
  exact View.readCov_cons_toLoadRect _ _ _ _

end Run

/-- Two halves side by side. -/
def joined (L R : Vec Ideal S512x128 .bf16) : Vec Ideal S512x256 .bf16 :=
  fun y => if h : (y 1).val < 128 then L (ix2 (y 0) ⟨(y 1).val, h⟩)
    else R (ix2 (y 0) ⟨(y 1).val - 128, by have : (y 1).val < 256 := (y 1).isLt; omega⟩)

theorem joined_left (L R : Vec Ideal S512x128 .bf16) (y : S512x256.Idx) (x : S512x128.Idx) (h0 : (y 0).val = (x 0).val) (h1 : (y 1).val = (x 1).val) :
    L x = joined L R y := by
  have hx : (x 1).val < 128 := (x 1).isLt
  have h : (y 1).val < 128 := by omega
  unfold joined
  rw [dif_pos h]
  refine congrArg L (funext fun a => Fin.ext ?_)
  match a with
  | 0 => exact h0.symm
  | 1 => exact h1.symm

theorem joined_right (L R : Vec Ideal S512x128 .bf16) (y : S512x256.Idx) (x : S512x128.Idx) (h0 : (y 0).val = (x 0).val) (h1 : (y 1).val = 128 + (x 1).val) :
    R x = joined L R y := by
  have h : ¬ (y 1).val < 128 := by omega
  unfold joined
  rw [dif_neg h]
  refine congrArg R (funext fun a => Fin.ext ?_)
  match a with
  | 0 => exact h0.symm
  | 1 => show (x 1).val = (y 1).val - 128; omega

theorem canon_joined (L R : Vec Ideal S512x128 .bf16) :
    View.canon ([⟨Rect.unit (s := S512x256) ![0, 128] ![512, 128] inb_S512x256_S512x128_0_128, R⟩,
      ⟨Rect.unit (s := S512x256) ![0, 0] ![512, 128] inb_S512x256_S512x128_0_0, L⟩] : List (View.Piece (Elt Ideal) S512x256 .bf16)) = joined L R := by
  funext y
  have hy0 : (y 0).val < 512 := (y 0).isLt
  have hy1 : (y 1).val < 256 := (y 1).isLt
  have e0 : ∀ x : S512x128.Idx, ((Rect.unit (s := S512x256) ![0, 0] S512x128.size inb_S512x256_S512x128_0_0).emb x 0).val = (x 0).val
      ∧ ((Rect.unit (s := S512x256) ![0, 0] S512x128.size inb_S512x256_S512x128_0_0).emb x 1).val = (x 1).val := fun x =>
    ⟨by show 0 + 1 * (x 0).val = _; omega, by show 0 + 1 * (x 1).val = _; omega⟩
  have e1 : ∀ x : S512x128.Idx, ((Rect.unit (s := S512x256) ![0, 128] S512x128.size inb_S512x256_S512x128_0_128).emb x 0).val = (x 0).val
      ∧ ((Rect.unit (s := S512x256) ![0, 128] S512x128.size inb_S512x256_S512x128_0_128).emb x 1).val = 128 + (x 1).val := fun x =>
    ⟨by show 0 + 1 * (x 0).val = _; omega, by show 128 + 1 * (x 1).val = _; omega⟩
  refine View.canon_apply_of_pieces (joined L R) _ ?_ y ?_
  · exact View.PiecesOf.mem ⟨fun x => joined_right L R _ x (e1 x).1 (e1 x).2, fun x => joined_left L R _ x (e0 x).1 (e0 x).2, trivial⟩
  · by_cases h : (y 1).val < 128
    · refine ⟨_, List.mem_cons_of_mem _ List.mem_cons_self, (Rect.mem_set_unit (inb := inb_S512x256_S512x128_0_0)).mpr fun a => ?_⟩
      match a with
      | 0 => exact ⟨by show 0 ≤ (y 0).val; omega, by show (y 0).val < 0 + 512; omega⟩
      | 1 => exact ⟨by show 0 ≤ (y 1).val; omega, by show (y 1).val < 0 + 128; omega⟩
    · refine ⟨_, List.mem_cons_self, (Rect.mem_set_unit (inb := inb_S512x256_S512x128_0_128)).mpr fun a => ?_⟩
      match a with
      | 0 => exact ⟨by show 0 ≤ (y 0).val; omega, by show (y 0).val < 0 + 512; omega⟩
      | 1 => exact ⟨by show 128 ≤ (y 1).val; omega, by show (y 1).val < 128 + 128; omega⟩

/-- The block the body stores: the first two heads' lanes in the left half, the last two's in the right. -/
def block (q : Vec Ideal S512x256 .f32) (k v : Vec Ideal S4096x128 .bf16) : Vec Ideal S512x256 .bf16 :=
  joined (k0_pay2 (F := Ideal) k0_pay25 (acc q k v 2)) (k0_pay3 (F := Ideal) k0_pay25 (acc q k v 2))

theorem out_eq (c : Dev nD) (i : grid0.Coords) (arg3 : Memref sig .tc .vmem S512x256 .f32) (harg3 : arg3.IsWhole)
    (arg4 : Memref sig .tc .vmem S4096x128 .bf16) (harg4 : arg4.IsWhole) (arg5 : Memref sig .tc .vmem S4096x128 .bf16) (harg5 : arg5.IsWhole)
    (arg6 : Memref sig .tc .vmem S512x256 .bf16) (harg6 : arg6.IsWhole) (arg7 : Memref sig .tc .vmem S16x2048x256 .f32) (harg7 : arg7.IsWhole)
    (arg8 : Memref sig .tc .vmem S2048x128 .f32) (harg8 : arg8.IsWhole) (arg9 : Memref sig .tc .vmem S2048x256 .f32) (harg9 : arg9.IsWhole)
    (x0 : Vec Ideal S512x256 .f32) (x1 x2 : Vec Ideal S4096x128 .bf16) :
    out0_A_3 c i arg3 harg3 arg4 harg4 arg5 harg5 arg6 harg6 arg7 harg7 arg8 harg8 arg9 harg9 x0 x1 x2 = block x0 x1 x2 := by
  unfold out0_A_3
  rw [View.read_writes_junk_eq_canon]
  unfold kernelRun0_A
  dsimp only
  rw [acc_eq]
  exact canon_joined _ _

end Cert.Attention

end
-- ==== Proof.AttnRow.lean ====
/- The attention body, read element by element: the scores, the row maximum, the weights, the accumulator and the stored block. -/
module

public import proofs.«01_k».proof.Proof.AttnOut
public import Idealize.ShloMosaic.Lib.Pointwise

@[expose] public section
set_option maxRecDepth 16384
noncomputable section
namespace Cert.Attention
open Cert.KernelIdeal Cert.KernelIdeal.Gen
open Idealize.ShloMosaic Idealize.ShloMosaic.TcCoe Idealize.ShloMosaic.Pointwise

theorem low_apply (M : Vec Ideal S2048x128 .f32) (s : Vec Ideal S1x2048x256 .f32) (r : Fin 2048) (l : Fin 128) :
    k0_pay5 (F := Ideal) M s (ix2 r l) = Ideal.exp2 (s (ix3 0 r ⟨128 * 0 + l.val, by omega⟩) - M (ix2 r l)) := by
  have e : (⟨128 * 0 + l.val, by omega⟩ : Fin 256) = ⟨l.val, by omega⟩ := Fin.ext (by simp)
  rw [e]
  pointwise [k0_pay5, k0_pay4]
  rfl

theorem high_apply (M : Vec Ideal S2048x128 .f32) (s : Vec Ideal S1x2048x256 .f32) (r : Fin 2048) (l : Fin 128) :
    k0_pay6 (F := Ideal) M s (ix2 r l) = Ideal.exp2 (s (ix3 0 r ⟨128 * 1 + l.val, by omega⟩) - M (ix2 r l)) := by
  pointwise [k0_pay6, k0_pay4]
  rfl

/-- The sixteen half slabs of weights. -/
def halves (M : Vec Ideal S2048x128 .f32) (s : Fin 8 → Vec Ideal S1x2048x256 .f32) : Fin 16 → FVec Ideal S2048x128 .bf16 :=
  fun n => if n.val % 2 = 0 then k0_pay5 M (s ⟨n.val / 2, by omega⟩) else k0_pay6 M (s ⟨n.val / 2, by omega⟩)

theorem weights_eq (M : Vec Ideal S2048x128 .f32) (s : Fin 8 → Vec Ideal S1x2048x256 .f32) :
    weights M s = concatenate S2048x2048 1 (List.ofFn fun n : Fin 16 => (⟨S2048x128, halves M s n⟩ : (s : Shape) × (s.Idx → Ideal .bf16)))
      concatenates_S2048x128_S2048x128_S2048x128_S2048x128_S2048x128_S2048x128_S2048x128_S2048x128_S2048x128_S2048x128_S2048x128_S2048x128_S2048x128_S2048x128_S2048x128_S2048x128_S2048x2048_d1 := by
  rfl

theorem halves_apply (M : Vec Ideal S2048x128 .f32) (s : Fin 8 → Vec Ideal S1x2048x256 .f32) (n : Fin 16) (r : Fin 2048) (l : Fin 128) :
    halves M s n (ix2 r l) = Ideal.exp2 (s ⟨n.val / 2, by omega⟩ (ix3 0 r ⟨128 * (n.val % 2) + l.val, by omega⟩) - M (ix2 r l)) := by
  unfold halves
  by_cases h : n.val % 2 = 0
  · rw [if_pos h, low_apply]
    simp only [h]
  · have h1 : n.val % 2 = 1 := by omega
    rw [if_neg h, high_apply]
    simp only [h1]

theorem weights_apply (M : Vec Ideal S2048x128 .f32) (s : Fin 8 → Vec Ideal S1x2048x256 .f32) (r : Fin 2048) (κ : Fin 2048) :
    weights M s (ix2 r κ) = Ideal.exp2 (s ⟨κ.val / 256, by omega⟩ (ix3 0 r ⟨κ.val % 256, by omega⟩) - M (ix2 r ⟨κ.val % 128, by omega⟩)) := by
  refine (congrFun (weights_eq M s) _).trans ((Idealize.ShloMosaic.concatenate_ofFn_apply (t := S2048x2048) (s₁ := S2048x128) 1 (halves M s) _ rfl 128 rfl
    (ix2 r κ) ⟨κ.val / 128, by omega⟩ rfl (ix2 r ⟨κ.val % 128, by omega⟩) rfl ?_).trans ?_)
  · intro b hb
    match b with
    | 0 => rfl
    | 1 => exact absurd rfl hb
  rw [halves_apply]
  have e1 : κ.val / 128 / 2 = κ.val / 256 := by omega
  have e2 : 128 * (κ.val / 128 % 2) + κ.val % 128 = κ.val % 256 := by omega
  simp only [e1, e2]

/-- The scale the queries are multiplied by. -/
def scale : EReal := Named.named (F := Ideal) (φ := .f32) κ "score_scale" 0x3E38AA3B#32

theorem low_lane (l : Fin 128) : IntOp.cmpi CmpIPredicate.slt (BitVec.ofNat 32 l.val) 64#32 = if l.val < 64 then 1#1 else 0#1 := by
  revert l
  decide +kernel

theorem select_low {α : Type} (l : Fin 128) (a b : α) :
    Scalar.select (IntOp.cmpi CmpIPredicate.slt (BitVec.ofNat 32 l.val) 64#32) a b = if l.val < 64 then a else b := by
  rw [low_lane]
  by_cases h : l.val < 64
  · rw [if_pos h, if_pos h]; rfl
  · rw [if_neg h, if_neg h]; rfl

theorem stacked_form (q : Vec Ideal S512x256 .f32) (r : Fin 2048) (l : Fin 128) :
    stacked q (ix2 r l) = if h : r.val < 512 then if l.val < 64 then q (ix2 ⟨r.val, h⟩ ⟨l.val, by omega⟩) * scale else 0
      else if h : r.val - 512 < 512 then if l.val < 64 then 0 else q (ix2 ⟨r.val - 512, h⟩ ⟨l.val, by omega⟩) * scale
      else if h : r.val - 512 - 512 < 512 then if l.val < 64 then q (ix2 ⟨r.val - 512 - 512, h⟩ ⟨128 + l.val, by omega⟩) * scale else 0
      else if l.val < 64 then 0 else q (ix2 ⟨r.val - 512 - 512 - 512, by omega⟩ ⟨128 + l.val, by omega⟩) * scale := by
  simp only [← select_low]
  unfold stacked scale
  pointwise [k0_pay26, k0_pay25]

/-- Row `u * 512 + r` of the stacked queries holds head `u`'s query in its half of the lanes, and zeros in the other half. -/
theorem stacked_apply (q : Vec Ideal S512x256 .f32) (u : Fin 4) (r : Fin 512) (l : Fin 128) :
    stacked q (ix2 ⟨u.val * 512 + r.val, by omega⟩ l)
      = if l.val / 64 = u.val % 2 then q (ix2 r ⟨u.val / 2 * 128 + l.val, by omega⟩) * scale else 0 := by
  rw [stacked_form]
  have hl := l.isLt
  have hr := r.isLt
  match u with
  | ⟨0, _⟩ =>
    simp only [Nat.zero_mul, Nat.zero_add, Nat.zero_mod, Nat.zero_div]
    rw [dif_pos hr]
    by_cases h : l.val < 64
    · rw [if_pos h, if_pos (by omega)]
    · rw [if_neg h, if_neg (by omega)]
  | ⟨1, _⟩ =>
    have e : 1 * 512 + r.val - 512 = r.val := by omega
    simp only [e]
    rw [dif_neg (by omega), dif_pos hr]
    by_cases h : l.val < 64
    · rw [if_pos h, if_neg (by omega)]
    · rw [if_neg h, if_pos (by omega)]
      simp
  | ⟨2, _⟩ =>
    have e : 2 * 512 + r.val - 512 - 512 = r.val := by omega
    simp only [e]
    rw [dif_neg (by omega), dif_neg (by omega), dif_pos hr]
    by_cases h : l.val < 64
    · rw [if_pos h, if_pos (by omega)]
    · rw [if_neg h, if_neg (by omega)]
  | ⟨3, _⟩ =>
    have e : 3 * 512 + r.val - 512 - 512 - 512 = r.val := by omega
    simp only [e]
    rw [dif_neg (by omega), dif_neg (by omega), dif_neg (by omega)]
    by_cases h : l.val < 64
    · rw [if_pos h, if_neg (by omega)]
    · rw [if_neg h, if_pos (by omega)]

theorem product_apply (a : Vec Ideal S2048x128 .bf16) (b : Vec Ideal S256x128 .bf16) (r : Fin 2048) (l : Fin 256) :
    k0_pay31 (F := Ideal) a b (ix2 r l) = ∑ x : Fin 128, a (ix2 r x) * b (ix2 l x) := by
  pointwise [k0_pay31]

/-- The score of head `u`'s query in row `r` against key `key`. -/
def score (q : Vec Ideal S512x256 .f32) (k : Vec Ideal S4096x128 .bf16) (u : Fin 4) (r : Fin 512) (key : Fin 4096) : EReal :=
  ∑ d : Fin 64, q (ix2 r ⟨u.val * 64 + d.val, by omega⟩) * scale * k (ix2 key ⟨u.val % 2 * 64 + d.val, by omega⟩)

theorem slabScores_apply (q : Vec Ideal S512x256 .f32) (k : Vec Ideal S4096x128 .bf16) (u : Fin 4) (r : Fin 512) (n : Nat) (hn : n < 16) (l : Fin 256) :
    slabScores q k n (ix2 ⟨u.val * 512 + r.val, by omega⟩ l) = score q k u r ⟨256 * n + l.val, by omega⟩ := by
  unfold slabScores
  rw [product_apply, Fin.sum_univ_two_halves 64 64 rfl]
  have hk : ∀ x : Fin 128, slabKeys k n (ix2 l x) = k (ix2 ⟨256 * n + l.val, by omega⟩ x) := fun x => by
    show k (ix2 ⟨(256 * n + l.val) % 4096, _⟩ x) = _
    congr 2
    exact Fin.ext (by show (256 * n + l.val) % 4096 = 256 * n + l.val; omega)
  simp only [stacked_apply, hk]
  unfold score
  have hu := u.isLt
  by_cases h : u.val % 2 = 0
  · have h1 : ∀ x : Fin 64, x.val / 64 = u.val % 2 := fun x => by omega
    have h2 : ∀ x : Fin 64, ¬ (64 + x.val) / 64 = u.val % 2 := fun x => by omega
    simp only [h1, h2, if_true, if_false, zero_mul, Finset.sum_const_zero, add_zero]
    refine Finset.sum_congr rfl fun x _ => ?_
    have e1 : u.val / 2 * 128 + x.val = u.val * 64 + x.val := by omega
    have e2 : x.val = u.val % 2 * 64 + x.val := by omega
    congr 1
    · simp only [e1]
    · exact congrArg (fun z => k (ix2 _ z)) (Fin.ext e2)
  · have h1 : ∀ x : Fin 64, ¬ x.val / 64 = u.val % 2 := fun x => by omega
    have h2 : ∀ x : Fin 64, (64 + x.val) / 64 = u.val % 2 := fun x => by omega
    simp only [h1, h2, if_true, if_false, zero_mul, Finset.sum_const_zero, zero_add]
    refine Finset.sum_congr rfl fun x _ => ?_
    have e1 : u.val / 2 * 128 + (64 + x.val) = u.val * 64 + x.val := by omega
    have e2 : 64 + x.val = u.val % 2 * 64 + x.val := by omega
    congr 1
    · simp only [e1]
    · exact congrArg (fun z => k (ix2 _ z)) (Fin.ext e2)

theorem bottom : Ideal.ofBits .f32 0xFF800000#32 = ⊥ := by
  simp [Ideal.ofBits, Ideal.ieee]

theorem step_apply (a : Vec Ideal S2048x256 .f32) (b : Vec Ideal S2048x128 .f32) (r : Fin 2048) (l : Fin 128) :
    k0_pay39 (F := Ideal) a b (ix2 r l) = max (b (ix2 r l)) (max (a (ix2 r ⟨l.val, by omega⟩)) (a (ix2 r ⟨128 + l.val, by omega⟩))) := by
  pointwise [k0_pay39]

theorem start_apply (r : Fin 2048) (l : Fin 128) : k0_pay27 (F := Ideal) (ix2 r l) = ⊥ := by
  rw [← bottom]
  pointwise [k0_pay27]

theorem spread_apply (b : Vec Ideal S2048x128 .f32) (r : Fin 2048) (l : Fin 128) :
    k0_pay79 (F := Ideal) b (ix2 r l) = Finset.univ.fold max ⊥ (fun x : Fin 128 => b (ix2 r x)) := by
  rw [← bottom]
  pointwise [k0_pay79]

theorem laneMax_le (q : Vec Ideal S512x256 .f32) (k : Vec Ideal S4096x128 .bf16) (r : Fin 2048) (l : Fin 128) (z : EReal) (n : Nat) :
    laneMax q k n (ix2 r l) ≤ z ↔ ∀ j, j < n → slabScores q k j (ix2 r ⟨l.val, by omega⟩) ≤ z ∧ slabScores q k j (ix2 r ⟨128 + l.val, by omega⟩) ≤ z := by
  induction n with
  | zero =>
    show k0_pay27 (F := Ideal) (ix2 r l) ≤ z ↔ _
    rw [start_apply]
    exact ⟨fun _ j hj => absurd hj (Nat.not_lt_zero j), fun _ => bot_le⟩
  | succ n ih =>
    show k0_pay39 (F := Ideal) (slabScores q k n) (laneMax q k n) (ix2 r l) ≤ z ↔ _
    rw [step_apply, max_le_iff, max_le_iff, ih]
    constructor
    · rintro ⟨h1, h2⟩ j hj
      rcases Nat.lt_succ_iff_lt_or_eq.mp hj with h | rfl
      · exact h1 j h
      · exact h2
    · exact fun h => ⟨fun j hj => h j (by omega), h n (by omega)⟩

theorem rowMax_le (q : Vec Ideal S512x256 .f32) (k : Vec Ideal S4096x128 .bf16) (u : Fin 4) (r : Fin 512) (l : Fin 128) (z : EReal) :
    rowMax q k (ix2 ⟨u.val * 512 + r.val, by omega⟩ l) ≤ z ↔ ∀ key : Fin 4096, score q k u r key ≤ z := by
  unfold rowMax
  rw [spread_apply, Finset.fold_max_le]
  simp only [laneMax_le, Finset.mem_univ, true_implies, bot_le, true_and]
  constructor
  · intro h key
    have hk := key.isLt
    have h' := h ⟨key.val % 128, by omega⟩ (key.val / 256) (by omega)
    rw [slabScores_apply q k u r _ (by omega), slabScores_apply q k u r _ (by omega)] at h'
    by_cases hh : key.val % 256 < 128
    · have e : (⟨256 * (key.val / 256) + key.val % 128, by omega⟩ : Fin 4096) = key := Fin.ext (by show 256 * (key.val / 256) + key.val % 128 = key.val; omega)
      have := h'.1
      simp only [e] at this
      exact this
    · have e : (⟨256 * (key.val / 256) + (128 + key.val % 128), by omega⟩ : Fin 4096) = key := Fin.ext (by show 256 * (key.val / 256) + (128 + key.val % 128) = key.val; omega)
      have := h'.2
      simp only [e] at this
      exact this
  · intro h x j hj
    rw [slabScores_apply q k u r j hj, slabScores_apply q k u r j hj]
    exact ⟨h _, h _⟩

theorem rowMax_lane (q : Vec Ideal S512x256 .f32) (k : Vec Ideal S4096x128 .bf16) (r : Fin 2048) (l l' : Fin 128) :
    rowMax q k (ix2 r l) = rowMax q k (ix2 r l') := by
  unfold rowMax
  rw [spread_apply, spread_apply]

theorem add_apply (a : Vec Ideal S2048x2048 .bf16) (b : Vec Ideal S2048x128 .bf16) (d : Vec Ideal S2048x256 .f32) (r : Fin 2048) (l : Fin 256) :
    k0_pay84 (F := Ideal) a b d (ix2 r l) = d (ix2 r l) + ∑ x : Fin 2048, a (ix2 r x) * (if h : l.val < 128 then b (ix2 x ⟨l.val, h⟩) else 1) := by
  pointwise [k0_pay84]

theorem clear_apply (r : Fin 2048) (l : Fin 256) : k0_pay80 (F := Ideal) (ix2 r l) = 0 := by
  pointwise [k0_pay80]

/-- The weight of key `key` for head `u`'s query in row `r`. -/
def weight (q : Vec Ideal S512x256 .f32) (k : Vec Ideal S4096x128 .bf16) (u : Fin 4) (r : Fin 512) (key : Fin 4096) : EReal :=
  Ideal.exp2 (score q k u r key - rowMax q k (ix2 ⟨u.val * 512 + r.val, by omega⟩ 0))

theorem trip_weight (q : Vec Ideal S512x256 .f32) (k : Vec Ideal S4096x128 .bf16) (u : Fin 4) (r : Fin 512) (t : Nat) (ht : t < 2) (κ : Fin 2048) :
    weights (rowMax q k) (fun w => slab q k (8 * t + w.val)) (ix2 ⟨u.val * 512 + r.val, by omega⟩ κ) = weight q k u r ⟨2048 * t + κ.val, by omega⟩ := by
  have hκ := κ.isLt
  rw [weights_apply]
  unfold weight
  rw [rowMax_lane q k _ _ 0]
  have e : slab q k (8 * t + κ.val / 256) (ix3 0 ⟨u.val * 512 + r.val, by omega⟩ ⟨κ.val % 256, by omega⟩) = score q k u r ⟨2048 * t + κ.val, by omega⟩ := by
    refine (slabScores_apply q k u r (8 * t + κ.val / 256) (by omega) ⟨κ.val % 256, by omega⟩).trans (congrArg (score q k u r) (Fin.ext ?_))
    show 256 * (8 * t + κ.val / 256) + κ.val % 256 = 2048 * t + κ.val
    omega
  rw [e]

theorem acc_apply (q : Vec Ideal S512x256 .f32) (k v : Vec Ideal S4096x128 .bf16) (u : Fin 4) (r : Fin 512) (l : Fin 256) :
    acc q k v 2 (ix2 ⟨u.val * 512 + r.val, by omega⟩ l)
      = ∑ key : Fin 4096, weight q k u r key * (if h : l.val < 128 then v (ix2 key ⟨l.val, h⟩) else 1) := by
  have hv : ∀ (t : Nat) (ht : t < 2) (x : Fin 2048) (z : Fin 128), halfValues v t (ix2 x z) = v (ix2 ⟨2048 * t + x.val, by omega⟩ z) := fun t ht x z => by
    show v (ix2 ⟨(2048 * t + x.val) % 4096, _⟩ z) = _
    congr 2
    exact Fin.ext (by show (2048 * t + x.val) % 4096 = 2048 * t + x.val; omega)
  show k0_pay84 (F := Ideal) _ _ (k0_pay84 (F := Ideal) _ _ (k0_pay80 (F := Ideal))) _ = _
  rw [add_apply, add_apply, clear_apply, zero_add, Fin.sum_univ_two_halves 2048 2048 rfl]
  simp only [trip_weight q k u r 0 (by decide), trip_weight q k u r 1 (by decide), hv 0 (by decide), hv 1 (by decide)]
  simp only [Nat.mul_zero, Nat.mul_one, Nat.zero_add]

theorem left_apply (a : Vec Ideal S2048x256 .f32) (r : Fin 512) (l : Fin 128) :
    k0_pay2 (F := Ideal) k0_pay25 a (ix2 r l)
      = if l.val < 64 then Ideal.div (a (ix2 ⟨r.val, by omega⟩ ⟨l.val, by omega⟩)) (a (ix2 ⟨r.val, by omega⟩ ⟨128 + l.val, by omega⟩))
        else Ideal.div (a (ix2 ⟨512 + r.val, by omega⟩ ⟨l.val, by omega⟩)) (a (ix2 ⟨512 + r.val, by omega⟩ ⟨128 + l.val, by omega⟩)) := by
  rw [← select_low]
  pointwise [k0_pay2, k0_pay25, k0_pay1]

theorem right_apply (a : Vec Ideal S2048x256 .f32) (r : Fin 512) (l : Fin 128) :
    k0_pay3 (F := Ideal) k0_pay25 a (ix2 r l)
      = if l.val < 64 then Ideal.div (a (ix2 ⟨1024 + r.val, by omega⟩ ⟨l.val, by omega⟩)) (a (ix2 ⟨1024 + r.val, by omega⟩ ⟨128 + l.val, by omega⟩))
        else Ideal.div (a (ix2 ⟨1536 + r.val, by omega⟩ ⟨l.val, by omega⟩)) (a (ix2 ⟨1536 + r.val, by omega⟩ ⟨128 + l.val, by omega⟩)) := by
  rw [← select_low]
  pointwise [k0_pay3, k0_pay25, k0_pay1]

/-- Head `u`'s lane `d` of the stored block: its accumulator over its sum of weights. -/
theorem block_form (q : Vec Ideal S512x256 .f32) (k v : Vec Ideal S4096x128 .bf16) (u : Fin 4) (r : Fin 512) (d : Fin 64) :
    block q k v (ix2 r ⟨u.val * 64 + d.val, by omega⟩)
      = Ideal.div (acc q k v 2 (ix2 ⟨u.val * 512 + r.val, by omega⟩ ⟨u.val % 2 * 64 + d.val, by omega⟩))
          (acc q k v 2 (ix2 ⟨u.val * 512 + r.val, by omega⟩ ⟨128 + (u.val % 2 * 64 + d.val), by omega⟩)) := by
  have hd := d.isLt
  unfold block
  generalize acc q k v 2 = a
  match u with
  | ⟨0, _⟩ =>
    refine (joined_left _ _ _ (ix2 r ⟨d.val, by omega⟩) rfl (by show 0 * 64 + d.val = d.val; omega)).symm.trans ?_
    rw [left_apply, if_pos (by omega)]
    simp
  | ⟨1, _⟩ =>
    refine (joined_left _ _ _ (ix2 r ⟨64 + d.val, by omega⟩) rfl (by show 1 * 64 + d.val = 64 + d.val; omega)).symm.trans ?_
    rw [left_apply, if_neg (by simp)]
    simp
  | ⟨2, _⟩ =>
    refine (joined_right _ _ _ (ix2 r ⟨d.val, by omega⟩) rfl (by show 2 * 64 + d.val = 128 + d.val; omega)).symm.trans ?_
    rw [right_apply, if_pos (by omega)]
    simp
  | ⟨3, _⟩ =>
    refine (joined_right _ _ _ (ix2 r ⟨64 + d.val, by omega⟩) rfl (by show 3 * 64 + d.val = 128 + (64 + d.val); omega)).symm.trans ?_
    rw [right_apply, if_neg (by simp)]
    simp

theorem block_apply (q : Vec Ideal S512x256 .f32) (k v : Vec Ideal S4096x128 .bf16) (u : Fin 4) (r : Fin 512) (d : Fin 64) :
    block q k v (ix2 r ⟨u.val * 64 + d.val, by omega⟩)
      = Ideal.div (∑ key : Fin 4096, weight q k u r key * v (ix2 key ⟨u.val % 2 * 64 + d.val, by omega⟩)) (∑ key : Fin 4096, weight q k u r key) := by
  have hu := u.isLt
  have hd := d.isLt
  rw [block_form, acc_apply, acc_apply]
  simp only [dif_pos (show u.val % 2 * 64 + d.val < 128 by omega), dif_neg (show ¬ 128 + (u.val % 2 * 64 + d.val) < 128 by omega), mul_one]

end Cert.Attention

end
-- ==== Proof.AttnRef.lean ====
/- The attention's reference, read element by element: an element of its result is the values' sum weighted by the softmax of
   the query's scaled scores. -/
module

public import proofs.«01_k».proof.Proof.Gen.ReferenceIdeal.Read
public import Idealize.ShloMosaic.Lib.Pointwise

@[expose] public section

set_option maxRecDepth 16384

noncomputable section

namespace Cert.Attention

open Cert.ReferenceIdeal Cert.ReferenceIdeal.Gen Cert.ReferenceIdeal.Read
open Idealize.ShloMosaic Idealize.ShloMosaic.TcCoe Idealize.ShloMosaic.Pointwise

variable (x0 : Vec Ideal S8x4096x16x64 .f32) (x1 x2 : Vec Ideal S8x4096x4x64 .f32)

/-- The place of a score: batch, group, head of the group, query, key. -/
abbrev place (b : Fin 8) (g u : Fin 4) (s key : Fin 4096) : S8x4x4x4096x4096.Idx := fun a => match a with
  | ⟨0, _⟩ => b
  | ⟨1, _⟩ => g
  | ⟨2, _⟩ => u
  | ⟨3, _⟩ => s
  | ⟨4, _⟩ => key

/-- A query's scaled score against a key, as the reference computes it. -/
def refScore (b : Fin 8) (g u : Fin 4) (s key : Fin 4096) : EReal :=
  (∑ d : Fin 64, x1 (ix4 b key g d) * x0 (ix4 b s ⟨g.val * 4 + u.val, by omega⟩ d)) * Ideal.ofBits .f32 0x3E000000#32

theorem query_apply (i : S8x4096x4x4x64.Idx) (b : Fin 8) (s : Fin 4096) (g u : Fin 4) (d : Fin 64)
    (h0 : (i 0).val = b.val) (h1 : (i 1).val = s.val) (h2 : (i 2).val = g.val) (h3 : (i 3).val = u.val) (h4 : (i 4).val = d.val) :
    val_main_v0 (F := Ideal) x0 i = x0 (ix4 b s ⟨g.val * 4 + u.val, by omega⟩ d) := by
  rw [val_main_v0_apply]
  congr 1
  funext a
  apply Fin.ext
  have hb := b.isLt
  have hs := s.isLt
  have hg := g.isLt
  have hu := u.isLt
  have hd := d.isLt
  match a with
  | ⟨0, _⟩ => show (((((i 0).val * 4096 + (i 1).val) * 4 + (i 2).val) * 4 + (i 3).val) * 64 + (i 4).val) / 4194304 = b.val; rw [h0, h1, h2, h3, h4]; omega
  | ⟨1, _⟩ => show (((((i 0).val * 4096 + (i 1).val) * 4 + (i 2).val) * 4 + (i 3).val) * 64 + (i 4).val) / 1024 % 4096 = s.val; rw [h0, h1, h2, h3, h4]; omega
  | ⟨2, _⟩ => show (((((i 0).val * 4096 + (i 1).val) * 4 + (i 2).val) * 4 + (i 3).val) * 64 + (i 4).val) / 64 % 16 = g.val * 4 + u.val; rw [h0, h1, h2, h3, h4]; omega
  | ⟨3, _⟩ => show (((((i 0).val * 4096 + (i 1).val) * 4 + (i 2).val) * 4 + (i 3).val) * 64 + (i 4).val) % 64 = d.val; rw [h0, h1, h2, h3, h4]; omega

theorem refScore_apply (b : Fin 8) (g u : Fin 4) (s key : Fin 4096) :
    val_main_v4 (F := Ideal) x0 x1 (place b g u s key) = refScore x0 x1 b g u s key := by
  rw [val_main_v4_apply, val_main_v2_apply, val_main_v1_apply, val_main_v3_apply, val_main_cst_apply]
  show (∑ _, _) * _ = _
  unfold refScore
  refine congrArg (· * Ideal.ofBits .f32 0x3E000000#32) (Finset.sum_congr rfl fun d _ => ?_)
  rw [query_apply x0 _ b s g u d rfl rfl rfl rfl rfl]
  congr 2
  funext a
  apply Fin.ext
  match a with
  | ⟨0, _⟩ => rfl
  | ⟨1, _⟩ => rfl
  | ⟨2, _⟩ => rfl
  | ⟨3, _⟩ => rfl

/-- A query's row maximum, as the reference computes it. -/
def refMax (b : Fin 8) (g u : Fin 4) (s : Fin 4096) : EReal := val_main_v7 (F := Ideal) x0 x1 (ix4 b g u s)

theorem refMax_le (b : Fin 8) (g u : Fin 4) (s : Fin 4096) (z : EReal) :
    refMax x0 x1 b g u s ≤ z ↔ ∀ key, refScore x0 x1 b g u s key ≤ z := by
  have hbot : Ideal.ofBits .f32 0xFF800000#32 = ⊥ := by simp [Ideal.ofBits, Ideal.ieee]
  unfold refMax
  rw [val_main_v7_apply, val_main_v6_apply, val_main_cst_1_apply]
  show max (Ideal.ofBits .f32 0xFF800000#32) _ ≤ z ↔ _
  rw [hbot, max_le_iff]
  unfold val_main_v5
  simp only [← refScore_apply]
  generalize val_main_v4 (F := Ideal) x0 x1 = y
  have hr : S8x4x4x4096x4096.Reduces [4] S8x4x4x4096 := by decide
  rw [Host.reduce_eq_fold_single _ y _ _ hr]
  show ⊥ ≤ z ∧ Finset.univ.fold max (Ideal.ofBits .f32 0xFF800000#32) _ ≤ z ↔ _
  rw [hbot, Finset.fold_max_le]
  simp only [bot_le, true_and, Finset.mem_univ, true_implies]
  refine forall_congr' fun key => ?_
  have e : hr.lift (ix4 b g u s) key = place b g u s key := by
    funext a
    apply Fin.ext
    match a with
    | ⟨0, _⟩ => rfl
    | ⟨1, _⟩ => rfl
    | ⟨2, _⟩ => rfl
    | ⟨3, _⟩ => rfl
    | ⟨4, _⟩ => rfl
  show y (hr.lift (ix4 b g u s) key) ≤ z ↔ _
  rw [e]

theorem refExp_apply (b : Fin 8) (g u : Fin 4) (s key : Fin 4096) :
    val_main_v11 (F := Ideal) x0 x1 (place b g u s key) = Ideal.exp (refScore x0 x1 b g u s key - refMax x0 x1 b g u s) := by
  rw [val_main_v11_apply, val_main_v10_apply, refScore_apply, val_main_v9_apply, val_main_v8_apply]
  have e : idx_main_v8 (idx_main_v9 (place b g u s key)) = ix4 b g u s := by
    funext a
    apply Fin.ext
    match a with
    | ⟨0, _⟩ => rfl
    | ⟨1, _⟩ => rfl
    | ⟨2, _⟩ => rfl
    | ⟨3, _⟩ => rfl
  rw [e]
  rfl

theorem refSum_apply (b : Fin 8) (g u : Fin 4) (s : Fin 4096) :
    val_main_v12 (F := Ideal) x0 x1 (ix4 b g u s) = ∑ key, Ideal.exp (refScore x0 x1 b g u s key - refMax x0 x1 b g u s) := by
  rw [val_main_v12_apply, val_main_cst_2_apply]
  show Ideal.ofBits .f32 0x00000000#32 + _ = _
  rw [show Ideal.ofBits .f32 0x00000000#32 = 0 by simp [Ideal.ofBits, Ideal.ieee], zero_add]
  refine Finset.sum_congr rfl fun key _ => ?_
  rw [← refExp_apply]
  congr 1

theorem refWeight_apply (b : Fin 8) (g u : Fin 4) (s key : Fin 4096) :
    val_main_v15 (F := Ideal) x0 x1 (place b g u s key)
      = Ideal.div (Ideal.exp (refScore x0 x1 b g u s key - refMax x0 x1 b g u s))
          (∑ j, Ideal.exp (refScore x0 x1 b g u s j - refMax x0 x1 b g u s)) := by
  rw [val_main_v15_apply, refExp_apply, val_main_v14_apply, val_main_v13_apply]
  have e : idx_main_v13 (idx_main_v14 (place b g u s key)) = ix4 b g u s := by
    funext a
    apply Fin.ext
    match a with
    | ⟨0, _⟩ => rfl
    | ⟨1, _⟩ => rfl
    | ⟨2, _⟩ => rfl
    | ⟨3, _⟩ => rfl
  rw [e, refSum_apply]
  rfl

/-- The reference's result at query `s` of batch `b`, head `u` of group `g`, lane `d`. -/
theorem reference_apply (b : Fin 8) (g u : Fin 4) (s : Fin 4096) (d : Fin 64) (n : Fin 32768) (j : Fin 1024)
    (hn : n.val = b.val * 4096 + s.val) (hj : j.val = g.val * 256 + u.val * 64 + d.val) :
    val_main_v19 (F := Ideal) x0 x1 x2 (ix2 n j)
      = ∑ key, x2 (ix4 b key g d) * Ideal.div (Ideal.exp (refScore x0 x1 b g u s key - refMax x0 x1 b g u s))
          (∑ k, Ideal.exp (refScore x0 x1 b g u s k - refMax x0 x1 b g u s)) := by
  rw [val_main_v19_apply]
  show val_main_v18 (F := Ideal) x0 x1 x2 (ix2 n j) = _
  rw [val_main_v18_apply, val_main_v17_apply, val_main_v16_apply]
  have hb := b.isLt
  have hs := s.isLt
  have hg := g.isLt
  have hu := u.isLt
  have hd := d.isLt
  have t0 : (n.val * 1024 + j.val) / 4194304 = b.val := by omega
  have t1 : (n.val * 1024 + j.val) / 1024 % 4096 = s.val := by omega
  have t2 : (n.val * 1024 + j.val) / 256 % 4 = g.val := by omega
  have t3 : (n.val * 1024 + j.val) / 64 % 4 = u.val := by omega
  have t4 : (n.val * 1024 + j.val) % 64 = d.val := by omega
  refine Finset.sum_congr rfl fun key _ => ?_
  have e1 : lidx_main_v16 (idx_main_v17 (idx_main_v18 (ix2 n j))) key = ix4 b key g d := by
    funext a
    apply Fin.ext
    match a with
    | ⟨0, _⟩ => exact t0
    | ⟨1, _⟩ => rfl
    | ⟨2, _⟩ => exact t2
    | ⟨3, _⟩ => exact t4
  have e2 : ridx_main_v16 (idx_main_v17 (idx_main_v18 (ix2 n j))) key = place b g u s key := by
    funext a
    apply Fin.ext
    match a with
    | ⟨0, _⟩ => exact t0
    | ⟨1, _⟩ => exact t2
    | ⟨2, _⟩ => exact t3
    | ⟨3, _⟩ => exact t1
    | ⟨4, _⟩ => rfl
  rw [e1, e2, refWeight_apply]

end Cert.Attention

end
-- ==== Proof.AttnScalar.lean ====
/- The scalar mathematics of the attention: at real scores, the weights in base two of a row are the weights in base e of the
   reference, and the quotient of the two sums is the sum over the quotients. -/
module

public import Idealize.ShloMosaic.PureOps.Ideal
public import Idealize.ShloMosaic.Lib.Pointwise
public import Mathlib.Analysis.SpecialFunctions.Pow.Real
public import Mathlib.Data.EReal.Inv

@[expose] public section

noncomputable section

namespace Cert.Attention

open Idealize.ShloMosaic

/-- A number at most exactly what every one of some positive multiples of reals is at most: the multiple of the greatest. -/
theorem greatest {n : Nat} [NeZero n] (c : ℝ) (hc : 0 < c) (f : Fin n → ℝ) (M : EReal) (h : ∀ z, M ≤ z ↔ ∀ i, ((c * f i : ℝ) : EReal) ≤ z) :
    M = ((c * Finset.univ.sup' Finset.univ_nonempty f : ℝ) : EReal) := by
  apply le_antisymm
  · refine (h _).2 fun i => EReal.coe_le_coe_iff.2 ?_
    exact mul_le_mul_of_nonneg_left (Finset.le_sup' f (Finset.mem_univ i)) hc.le
  · obtain ⟨i, -, hi⟩ := Finset.exists_mem_eq_sup' Finset.univ_nonempty f
    rw [hi]
    exact (h M).1 le_rfl i

theorem two_power (x y : ℝ) :
    Ideal.exp2 (((8 * Real.log 2)⁻¹ * x : ℝ) - ((8 * Real.log 2)⁻¹ * y : ℝ)) = ((Real.exp ((x - y) / 8) : ℝ) : EReal) := by
  rw [← EReal.coe_sub, Ideal.exp2_coe]
  congr 1
  refine (Real.rpow_def_of_pos two_pos _).trans (congrArg Real.exp ?_)
  have := (Real.log_pos one_lt_two).ne'
  field_simp

theorem e_power (x y : ℝ) : Ideal.exp ((8⁻¹ * x : ℝ) - (8⁻¹ * y : ℝ)) = ((Real.exp ((x - y) / 8) : ℝ) : EReal) := by
  rw [← EReal.coe_sub, Ideal.exp_coe]
  congr 2
  ring

theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem sum_scaled {ι : Type} (s : Finset ι) (f : ι → EReal) (w : ℝ) (hw : 0 ≤ w) : (∑ i ∈ s, f i) * (w : EReal) = ∑ i ∈ s, f i * (w : EReal) := by
  classical
  induction s using Finset.induction_on with
  | empty => simp
  | insert a s ha ih =>
    rw [Finset.sum_insert ha, Finset.sum_insert ha, EReal.right_distrib_of_nonneg_of_ne_top (EReal.coe_nonneg.2 hw) (EReal.coe_ne_top w), ih]

theorem div_real (x : EReal) (w : ℝ) (hw : 0 < w) : Ideal.div x (w : EReal) = x * ((w⁻¹ : ℝ) : EReal) := by
  unfold Ideal.div
  rw [if_neg (by simpa using hw.ne'), EReal.coe_inv]

/-- Dividing the weighted sum by the sum of the weights is weighting by the quotients. -/
theorem quotient_sum {n : Nat} [NeZero n] (e : Fin n → ℝ) (he : ∀ i, 0 < e i) (v : Fin n → EReal) :
    Ideal.div (∑ i, (e i : EReal) * v i) (∑ i, (e i : EReal)) = ∑ i, v i * Ideal.div (e i : EReal) (∑ j, (e j : EReal)) := by
  have hs : 0 < ∑ i, e i := Finset.sum_pos (fun i _ => he i) Finset.univ_nonempty
  rw [sum_coe, div_real _ _ hs, sum_scaled _ _ _ (inv_nonneg.2 hs.le)]
  refine Finset.sum_congr rfl fun i _ => ?_
  rw [div_real _ _ hs, mul_comm ((e i : EReal)) (v i), mul_assoc]

/-- A head's scores, as real numbers. -/
def dot {n d : Nat} (q : Fin d → ℝ) (k : Fin n → Fin d → ℝ) (i : Fin n) : ℝ := ∑ x, q x * k i x

theorem kernel_score {n d : Nat} (q : Fin d → ℝ) (k : Fin n → Fin d → ℝ) (c : ℝ) (i : Fin n) :
    ∑ x, (q x : EReal) * (c : EReal) * (k i x : EReal) = ((c * dot q k i : ℝ) : EReal) := by
  unfold dot
  rw [Finset.mul_sum, ← sum_coe]
  refine Finset.sum_congr rfl fun x _ => ?_
  rw [← EReal.coe_mul, ← EReal.coe_mul]
  congr 1
  ring

theorem reference_score {n d : Nat} (q : Fin d → ℝ) (k : Fin n → Fin d → ℝ) (i : Fin n) :
    (∑ x, (k i x : EReal) * (q x : EReal)) * ((8⁻¹ : ℝ) : EReal) = ((8⁻¹ * dot q k i : ℝ) : EReal) := by
  unfold dot
  simp only [← EReal.coe_mul]
  rw [sum_coe, ← EReal.coe_mul, mul_comm]
  simp only [mul_comm]

/-- The attention of one query: a row's quotient of sums in base two is the weighting by the softmax in base e. -/
theorem attend {n d : Nat} [NeZero n] (q : Fin d → ℝ) (k : Fin n → Fin d → ℝ) (v : Fin n → EReal) (S T : Fin n → EReal) (M m : EReal)
    (hS : ∀ i, S i = (((8 * Real.log 2)⁻¹ * dot q k i : ℝ) : EReal)) (hM : ∀ z, M ≤ z ↔ ∀ i, S i ≤ z)
    (hT : ∀ i, T i = ((8⁻¹ * dot q k i : ℝ) : EReal)) (hm : ∀ z, m ≤ z ↔ ∀ i, T i ≤ z) :
    Ideal.div (∑ i, Ideal.exp2 (S i - M) * v i) (∑ i, Ideal.exp2 (S i - M))
      = ∑ i, v i * Ideal.div (Ideal.exp (T i - m)) (∑ j, Ideal.exp (T j - m)) := by
  have hlog : 0 < (8 * Real.log 2)⁻¹ := inv_pos.2 (mul_pos (by norm_num) (Real.log_pos one_lt_two))
  have eM := greatest _ hlog (dot q k) M (fun z => by rw [hM]; simp only [hS])
  have em := greatest (8⁻¹) (by norm_num) (dot q k) m (fun z => by rw [hm]; simp only [hT])
  simp only [hS, hT, eM, em, two_power, e_power]
  exact quotient_sum _ (fun i => Real.exp_pos _) v

/-- A number whose absolute value is below positive infinity is a real. -/
theorem real_of_finite (x : EReal) (h : Ideal.cmp .olt (max x (-x)) (Ideal.ofBits .f32 0x7F800000#32) = 1#1) : ∃ r : ℝ, x = (r : EReal) := by
  have hb : Ideal.ofBits .f32 0x7F800000#32 = ⊤ := by simp [Ideal.ofBits, Ideal.ieee]
  rw [hb] at h
  induction x using EReal.rec with
  | bot => simp [Ideal.cmp] at h
  | coe r => exact ⟨r, rfl⟩
  | top => simp [Ideal.cmp] at h

end Cert.Attention

end
-- ==== Proof.AttnArray.lean ====
/- The attention: the result array after the kernel's run, read element by element, is the reference's result when the queries
   and keys are finite. -/
module

public import proofs.«01_k».proof.Proof.AttnRow
public import proofs.«01_k».proof.Proof.AttnRef
public import proofs.«01_k».proof.Proof.AttnScalar
public import proofs.«01_k».proof.Proof.Gen.KernelIdeal.Value
public import proofs.«01_k».proof.Proof.Gen.Pre_scores_finite
public import Idealize.ShloMosaic.Lib.ReduceAll
public import Idealize.ShloMosaic.Lib.Pipeline.Value
public import Idealize.ShloMosaic.Lib.StableHlo.Run
public import Idealize.ShloMosaic.Lib.Tactic

@[expose] public section

set_option maxRecDepth 16384

noncomputable section

namespace Cert.Attention

open Cert.KernelIdeal Cert.KernelIdeal.Gen
open Idealize.ShloMosaic Idealize.ShloMosaic.TcCoe Idealize.ShloMosaic.Pointwise
open Idealize.ShloMosaic.Pipeline (Dat)

/-- What the precondition says: every query and every key element is a real number. -/
theorem real_args (x0 : Vec Ideal S8x4096x16x64 .f32) (x1 x2 : Vec Ideal S8x4096x4x64 .f32)
    (h : Cert.Pre_scores_finite.fn (F := Ideal) x0 x1 x2 = fun _ => 1#1) :
    (∀ i, ∃ r : ℝ, x0 i = (r : EReal)) ∧ ∀ i, ∃ r : ℝ, x1 i = (r : EReal) := by
  have e := congrFun h (Shape.Idx.first Cert.Pre_scores_finite.Facts.h_S_)
  haveI : Subsingleton Cert.Pre_scores_finite.S_.Idx := ⟨fun a b => funext fun k => k.elim0⟩
  obtain ⟨ea, eb⟩ := IntOp.andi_eq_one.1 e
  exact ⟨fun i => real_of_finite _ (Host.reduce_andi_all _ _ _ _ _ ea i), fun i => real_of_finite _ (Host.reduce_andi_all _ _ _ _ _ eb i)⟩

theorem scale_eq : scale = (((8 * Real.log 2)⁻¹ : ℝ) : EReal) := rfl

theorem eighth : Ideal.ofBits .f32 0x3E000000#32 = ((8⁻¹ : ℝ) : EReal) := by
  simp [Ideal.ofBits, Ideal.ieee, -EReal.coe_mul]
  norm_num

theorem query_rows (x : Vec Ideal S8x4096x16x64 .f32) (r : Fin 32768) (j : Fin 1024) :
    shapeCast S32768x1024 x shapeCasts_S8x4096x16x64_S32768x1024 (ix2 r j)
      = x (ix4 ⟨r.val / 4096, by omega⟩ ⟨r.val % 4096, by omega⟩ ⟨j.val / 64, by omega⟩ ⟨j.val % 64, by omega⟩) := by
  pointwise []

/-- The keys or values as the launch finds them: each head's lanes twice over. -/
theorem twice_apply (x : Vec Ideal S8x4096x4x64 .f32) (r : Fin 32768) (j : Fin 512) :
    shapeCast S32768x512 (shapeCast S8x4096x8x64 (broadcastInDim S8x4096x4x2x64 ![0, 1, 2, 4] bcast_S8x4096x4x64_S8x4096x4x2x64_0_1_2_4
        (truncf (F := Ideal) .bf16 x bitsLt_bf16_f32)) shapeCasts_S8x4096x4x2x64_S8x4096x8x64) shapeCasts_S8x4096x8x64_S32768x512 (ix2 r j)
      = x (ix4 ⟨r.val / 4096, by omega⟩ ⟨r.val % 4096, by omega⟩ ⟨j.val / 128, by omega⟩ ⟨j.val % 64, by omega⟩) := by
  pointwise []

variable (m : (ℓ : Loc nD τ sig) → Buf (Elt Ideal) ℓ)

theorem V_query (c : Dev nD) (r : Fin 32768) (j : Fin 1024) :
    V m c main_v0 (ix2 r j)
      = m ((c : Thread nD τ).loc main_arg0) (ix4 ⟨r.val / 4096, by omega⟩ ⟨r.val % 4096, by omega⟩ ⟨j.val / 64, by omega⟩ ⟨j.val % 64, by omega⟩) := by
  have h : V m c main_v0 = shapeCast S32768x1024 (m ((c : Thread nD τ).loc main_arg0) : Vec Ideal S8x4096x16x64 .f32) shapeCasts_S8x4096x16x64_S32768x1024 := by
    show StableHlo.after hostOps0 _ (Proc.devRef .tc main_v0) = _
    after_results
    rfl
  rw [h]
  exact query_rows _ r j

theorem V_key (c : Dev nD) (r : Fin 32768) (j : Fin 512) :
    V m c main_v4 (ix2 r j)
      = m ((c : Thread nD τ).loc main_arg1) (ix4 ⟨r.val / 4096, by omega⟩ ⟨r.val % 4096, by omega⟩ ⟨j.val / 128, by omega⟩ ⟨j.val % 64, by omega⟩) := by
  have h : V m c main_v4 = shapeCast S32768x512 (shapeCast S8x4096x8x64 (broadcastInDim S8x4096x4x2x64 ![0, 1, 2, 4] bcast_S8x4096x4x64_S8x4096x4x2x64_0_1_2_4
        (truncf (F := Ideal) .bf16 (m ((c : Thread nD τ).loc main_arg1) : Vec Ideal S8x4096x4x64 .f32) bitsLt_bf16_f32))
        shapeCasts_S8x4096x4x2x64_S8x4096x8x64) shapeCasts_S8x4096x8x64_S32768x512 := by
    show StableHlo.after hostOps0 _ (Proc.devRef .tc main_v4) = _
    after_results
    rfl
  rw [h]
  exact twice_apply _ r j

theorem V_value (c : Dev nD) (r : Fin 32768) (j : Fin 512) :
    V m c main_v8 (ix2 r j)
      = m ((c : Thread nD τ).loc main_arg2) (ix4 ⟨r.val / 4096, by omega⟩ ⟨r.val % 4096, by omega⟩ ⟨j.val / 128, by omega⟩ ⟨j.val % 64, by omega⟩) := by
  have h : V m c main_v8 = shapeCast S32768x512 (shapeCast S8x4096x8x64 (broadcastInDim S8x4096x4x2x64 ![0, 1, 2, 4] bcast_S8x4096x4x64_S8x4096x4x2x64_0_1_2_4
        (truncf (F := Ideal) .bf16 (m ((c : Thread nD τ).loc main_arg2) : Vec Ideal S8x4096x4x64 .f32) bitsLt_bf16_f32))
        shapeCasts_S8x4096x4x2x64_S8x4096x8x64) shapeCasts_S8x4096x8x64_S32768x512 := by
    show StableHlo.after hostOps0 _ (Proc.devRef .tc main_v8) = _
    after_results
    rfl
  rw [h]
  exact twice_apply _ r j

/-- Where the windows are at a grid point. -/
theorem places (t : Fin cfg0.N) : win0_0.index t = ![t.val / 32 * 8 + t.val % 8, t.val / 8 % 4] ∧ win0_1.index t = ![t.val / 32, t.val / 8 % 4]
    ∧ win0_2.index t = ![t.val / 32, t.val / 8 % 4] ∧ win0_3.index t = ![t.val / 32 * 8 + t.val % 8, t.val / 8 % 4] :=
  (by decide +kernel : ∀ t : Fin grid0.N, win0_0.index t = ![t.val / 32 * 8 + t.val % 8, t.val / 8 % 4] ∧ win0_1.index t = ![t.val / 32, t.val / 8 % 4]
    ∧ win0_2.index t = ![t.val / 32, t.val / 8 % 4] ∧ win0_3.index t = ![t.val / 32 * 8 + t.val % 8, t.val / 8 % 4]) t

theorem lt256 (t : Fin cfg0.N) : t.val < 256 := lt_of_lt_of_eq t.isLt (show cfg0.N = 256 from N_0)

/-- A grid point's batch, group and first query. -/
abbrev batch (t : Fin cfg0.N) : Fin 8 := ⟨t.val / 32, by have := lt256 t; omega⟩
abbrev group (t : Fin cfg0.N) : Fin 4 := ⟨t.val / 8 % 4, by omega⟩
abbrev query (t : Fin cfg0.N) (r : Fin 512) : Fin 4096 := ⟨t.val % 8 * 512 + r.val, by omega⟩

theorem block_query (c : Dev nD) (t : Fin cfg0.N) (r : Fin 512) (u : Fin 4) (d : Fin 64) :
    (iblk m c 0 t : Vec Ideal S512x256 .f32) (ix2 r ⟨u.val * 64 + d.val, by omega⟩)
      = m ((c : Thread nD τ).loc main_arg0) (ix4 (batch t) (query t r) ⟨(group t).val * 4 + u.val, by have := (group t).isLt; omega⟩ d) := by
  have ht := lt256 t
  have hr := r.isLt
  have hu := u.isLt
  have hd := d.isLt
  refine Eq.trans ?_ ((V_query m c ⟨(t.val / 32 * 8 + t.val % 8) * 512 + r.val, by omega⟩ ⟨t.val / 8 % 4 * 256 + (u.val * 64 + d.val), by omega⟩).trans ?_)
  · unfold iblk
    rw [View.read_apply]
    show V m c main_v0 _ = V m c main_v0 _
    congr 1
    funext a
    apply Fin.ext
    match a with
    | ⟨0, _⟩ => show win0_0.index t 0 * 512 + 1 * r.val = (t.val / 32 * 8 + t.val % 8) * 512 + r.val; rw [(places t).1]; simp
    | ⟨1, _⟩ => show win0_0.index t 1 * 256 + 1 * (u.val * 64 + d.val) = t.val / 8 % 4 * 256 + (u.val * 64 + d.val); rw [(places t).1]; simp
  · congr 1
    funext a
    apply Fin.ext
    match a with
    | ⟨0, _⟩ => show ((t.val / 32 * 8 + t.val % 8) * 512 + r.val) / 4096 = t.val / 32; omega
    | ⟨1, _⟩ => show ((t.val / 32 * 8 + t.val % 8) * 512 + r.val) % 4096 = t.val % 8 * 512 + r.val; omega
    | ⟨2, _⟩ => show (t.val / 8 % 4 * 256 + (u.val * 64 + d.val)) / 64 = t.val / 8 % 4 * 4 + u.val; omega
    | ⟨3, _⟩ => show (t.val / 8 % 4 * 256 + (u.val * 64 + d.val)) % 64 = d.val; omega

theorem block_key (c : Dev nD) (t : Fin cfg0.N) (key : Fin 4096) (u : Fin 4) (d : Fin 64) :
    (iblk m c 1 t : Vec Ideal S4096x128 .bf16) (ix2 key ⟨u.val % 2 * 64 + d.val, by omega⟩)
      = m ((c : Thread nD τ).loc main_arg1) (ix4 (batch t) key (group t) d) := by
  have ht := lt256 t
  have hk := key.isLt
  have hd := d.isLt
  refine Eq.trans ?_ ((V_key m c ⟨t.val / 32 * 4096 + key.val, by omega⟩ ⟨t.val / 8 % 4 * 128 + (u.val % 2 * 64 + d.val), by omega⟩).trans ?_)
  · unfold iblk
    rw [View.read_apply]
    show V m c main_v4 _ = V m c main_v4 _
    congr 1
    funext a
    apply Fin.ext
    match a with
    | ⟨0, _⟩ => show win0_1.index t 0 * 4096 + 1 * key.val = t.val / 32 * 4096 + key.val; rw [(places t).2.1]; simp
    | ⟨1, _⟩ => show win0_1.index t 1 * 128 + 1 * (u.val % 2 * 64 + d.val) = t.val / 8 % 4 * 128 + (u.val % 2 * 64 + d.val); rw [(places t).2.1]; simp
  · congr 1
    funext a
    apply Fin.ext
    match a with
    | ⟨0, _⟩ => show (t.val / 32 * 4096 + key.val) / 4096 = t.val / 32; omega
    | ⟨1, _⟩ => show (t.val / 32 * 4096 + key.val) % 4096 = key.val; omega
    | ⟨2, _⟩ => show (t.val / 8 % 4 * 128 + (u.val % 2 * 64 + d.val)) / 128 = t.val / 8 % 4; omega
    | ⟨3, _⟩ => show (t.val / 8 % 4 * 128 + (u.val % 2 * 64 + d.val)) % 64 = d.val; omega

theorem block_value (c : Dev nD) (t : Fin cfg0.N) (key : Fin 4096) (u : Fin 4) (d : Fin 64) :
    (iblk m c 2 t : Vec Ideal S4096x128 .bf16) (ix2 key ⟨u.val % 2 * 64 + d.val, by omega⟩)
      = m ((c : Thread nD τ).loc main_arg2) (ix4 (batch t) key (group t) d) := by
  have ht := lt256 t
  have hk := key.isLt
  have hd := d.isLt
  refine Eq.trans ?_ ((V_value m c ⟨t.val / 32 * 4096 + key.val, by omega⟩ ⟨t.val / 8 % 4 * 128 + (u.val % 2 * 64 + d.val), by omega⟩).trans ?_)
  · unfold iblk
    rw [View.read_apply]
    show V m c main_v8 _ = V m c main_v8 _
    congr 1
    funext a
    apply Fin.ext
    match a with
    | ⟨0, _⟩ => show win0_2.index t 0 * 4096 + 1 * key.val = t.val / 32 * 4096 + key.val; rw [(places t).2.2.1]; simp
    | ⟨1, _⟩ => show win0_2.index t 1 * 128 + 1 * (u.val % 2 * 64 + d.val) = t.val / 8 % 4 * 128 + (u.val % 2 * 64 + d.val); rw [(places t).2.2.1]; simp
  · congr 1
    funext a
    apply Fin.ext
    match a with
    | ⟨0, _⟩ => show (t.val / 32 * 4096 + key.val) / 4096 = t.val / 32; omega
    | ⟨1, _⟩ => show (t.val / 32 * 4096 + key.val) % 4096 = key.val; omega
    | ⟨2, _⟩ => show (t.val / 8 % 4 * 128 + (u.val % 2 * 64 + d.val)) / 128 = t.val / 8 % 4; omega
    | ⟨3, _⟩ => show (t.val / 8 % 4 * 128 + (u.val % 2 * 64 + d.val)) % 64 = d.val; omega

/-- A block of the kernel's result, when its blocks of queries and keys are the reference's arguments and real. -/
theorem block_eq (x0 : Vec Ideal S8x4096x16x64 .f32) (x1 x2 : Vec Ideal S8x4096x4x64 .f32)
    (h0 : ∀ i, ∃ r : ℝ, x0 i = (r : EReal)) (h1 : ∀ i, ∃ r : ℝ, x1 i = (r : EReal))
    (q : Vec Ideal S512x256 .f32) (k v : Vec Ideal S4096x128 .bf16) (b : Fin 8) (g : Fin 4) (u : Fin 4) (r : Fin 512) (s : Fin 4096) (d : Fin 64)
    (hq : ∀ d : Fin 64, q (ix2 r ⟨u.val * 64 + d.val, by omega⟩) = x0 (ix4 b s ⟨g.val * 4 + u.val, by omega⟩ d))
    (hk : ∀ (key : Fin 4096) (d : Fin 64), k (ix2 key ⟨u.val % 2 * 64 + d.val, by omega⟩) = x1 (ix4 b key g d))
    (hv : ∀ (key : Fin 4096) (d : Fin 64), v (ix2 key ⟨u.val % 2 * 64 + d.val, by omega⟩) = x2 (ix4 b key g d))
    (n : Fin 32768) (j : Fin 1024) (hn : n.val = b.val * 4096 + s.val) (hj : j.val = g.val * 256 + u.val * 64 + d.val) :
    block q k v (ix2 r ⟨u.val * 64 + d.val, by omega⟩) = Cert.ReferenceIdeal.Read.val_main_v19 (F := Ideal) x0 x1 x2 (ix2 n j) := by
  choose y0 hy0 using h0
  choose y1 hy1 using h1
  rw [block_apply, reference_apply x0 x1 x2 b g u s d n j hn hj]
  unfold weight
  simp only [hv]
  refine attend (n := 4096) (d := 64) (fun d => y0 (ix4 b s ⟨g.val * 4 + u.val, by omega⟩ d)) (fun key d => y1 (ix4 b key g d))
    (fun key => x2 (ix4 b key g d)) (score q k u r) (refScore x0 x1 b g u s) _ (refMax x0 x1 b g u s) ?_ (rowMax_le q k u r 0) ?_ (refMax_le x0 x1 b g u s)
  · intro key
    rw [← kernel_score]
    unfold score
    rw [scale_eq]
    exact Finset.sum_congr rfl fun x _ => by rw [hq, hk, hy0, hy1]
  · intro key
    rw [← reference_score]
    unfold refScore
    rw [eighth]
    exact congrArg (· * ((8⁻¹ : ℝ) : EReal)) (Finset.sum_congr rfl fun x _ => by rw [hy0, hy1])

/-- The reference's result, of the kernel's arguments. -/
abbrev result (c : Dev nD) : Vec Ideal S32768x1024 .bf16 :=
  Cert.ReferenceIdeal.Read.val_main_v19 (F := Ideal) (m ((c : Thread nD τ).loc main_arg0)) (m ((c : Thread nD τ).loc main_arg1))
    (m ((c : Thread nD τ).loc main_arg2))

/-- The precondition, of the kernel's arguments. -/
abbrev Finite (c : Dev nD) : Prop :=
  Cert.Pre_scores_finite.fn (F := Ideal) (m ((c : Thread nD τ).loc main_arg0)) (m ((c : Thread nD τ).loc main_arg1)) (m ((c : Thread nD τ).loc main_arg2)) = fun _ => 1#1

theorem body_eq (c : Dev nD) (hf : Finite m c) (t : Fin cfg0.N) (r : Fin 512) (l : Fin 256) :
    block (iblk m c 0 t) (iblk m c 1 t) (iblk m c 2 t) (ix2 r l)
      = result m c (ix2 ⟨(t.val / 32 * 8 + t.val % 8) * 512 + r.val, by have := lt256 t; omega⟩ ⟨t.val / 8 % 4 * 256 + l.val, by omega⟩) := by
  have ht := lt256 t
  obtain ⟨h0, h1⟩ := real_args _ _ _ hf
  have hl : l = ⟨(⟨l.val / 64, by omega⟩ : Fin 4).val * 64 + (⟨l.val % 64, by omega⟩ : Fin 64).val, by
      show l.val / 64 * 64 + l.val % 64 < 256; omega⟩ := Fin.ext (by show l.val = l.val / 64 * 64 + l.val % 64; omega)
  refine (congrArg (fun z => block (iblk m c 0 t) (iblk m c 1 t) (iblk m c 2 t) (ix2 r z)) hl).trans ?_
  exact block_eq _ _ _ h0 h1 (iblk m c 0 t) (iblk m c 1 t) (iblk m c 2 t) (batch t) (group t) ⟨l.val / 64, by omega⟩ r (query t r) ⟨l.val % 64, by omega⟩
    (fun d => block_query m c t r _ d) (fun key d => block_key m c t key _ d) (fun key d => block_value m c t key _ d) _ _
    (by show (t.val / 32 * 8 + t.val % 8) * 512 + r.val = t.val / 32 * 4096 + (t.val % 8 * 512 + r.val); omega)
    (by show t.val / 8 % 4 * 256 + l.val = t.val / 8 % 4 * 256 + l.val / 64 * 64 + l.val % 64; omega)

theorem flushed_eq (c : Dev nD) (hf : Finite m c) (t : Fin cfg0.N) (_ : (cfg0.win 3).flush t = true) :
    (dats m 0 c).flushed 3 t = ((cfg0.win 3).blk t).view.read (Elt Ideal) (result m c) := by
  rw [Value.flushed3_A, out_eq]
  funext y
  obtain ⟨r, j, rfl⟩ : ∃ (r : Fin 512) (j : Fin 256), y = ix2 r j := ⟨y 0, y 1, eq_ix2 y⟩
  refine (body_eq m c hf t r j).trans ?_
  rw [View.read_apply]
  show result m c _ = result m c _
  congr 1
  funext a
  apply Fin.ext
  match a with
  | ⟨0, _⟩ => show (t.val / 32 * 8 + t.val % 8) * 512 + r.val = win0_3.index t 0 * 512 + 1 * r.val; rw [(places t).2.2.2]; simp
  | ⟨1, _⟩ => show t.val / 8 % 4 * 256 + j.val = win0_3.index t 1 * 256 + 1 * j.val; rw [(places t).2.2.2]; simp

theorem mem_blk (t : Fin cfg0.N) (i : S32768x1024.Idx) (h : t.val = (i 0 : Nat) / 4096 * 32 + (i 1 : Nat) / 256 * 8 + (i 0 : Nat) / 512 % 8) :
    i ∈ ((cfg0.win 3).blk t).view.set := by
  show i ∈ ((View.whole main_v9).slice (win0_3.rect t)).set
  rw [View.set_slice_whole, Rect.mem_set_unit]
  have h0 : (i 0 : Nat) < 32768 := (i 0).isLt
  have h1 : (i 1 : Nat) < 1024 := (i 1).isLt
  intro a
  match a with
  | ⟨0, _⟩ =>
    show win0_3.index t 0 * 512 ≤ (i 0 : Nat) ∧ (i 0 : Nat) < win0_3.index t 0 * 512 + 512
    rw [(places t).2.2.2]
    show (t.val / 32 * 8 + t.val % 8) * 512 ≤ (i 0 : Nat) ∧ (i 0 : Nat) < (t.val / 32 * 8 + t.val % 8) * 512 + 512
    omega
  | ⟨1, _⟩ =>
    show win0_3.index t 1 * 256 ≤ (i 1 : Nat) ∧ (i 1 : Nat) < win0_3.index t 1 * 256 + 256
    rw [(places t).2.2.2]
    show t.val / 8 % 4 * 256 ≤ (i 1 : Nat) ∧ (i 1 : Nat) < t.val / 8 % 4 * 256 + 256
    omega

/-- The kernel's result array is the reference's result. -/
theorem array_eq (c : Dev nD) (hf : Finite m c) : (dats m 0 c).arrAt 3 cfg0.N = result m c :=
  (dats m 0 c).arrAt_eq_of_cover 3 (result m c) (flushed_eq m c hf) fun (i : S32768x1024.Idx) =>
    ⟨⟨(i 0 : Nat) / 4096 * 32 + (i 1 : Nat) / 256 * 8 + (i 0 : Nat) / 512 % 8,
      lt_of_lt_of_eq (by have h0 : (i 0 : Nat) < 32768 := (i 0).isLt; have h1 : (i 1 : Nat) < 1024 := (i 1).isLt; omega :
        (i 0 : Nat) / 4096 * 32 + (i 1 : Nat) / 256 * 8 + (i 0 : Nat) / 512 % 8 < 256) (show cfg0.N = 256 from N_0).symm⟩,
      flush0_3 _, mem_blk _ i rfl⟩

end Cert.Attention

end
-- ==== Proof.DiffBody.lean ====
/- The differential attention body's scratch memory, read back: the scores of every slab of keys with their bias, and the running
   maximum over the slabs, each written out as a value of the query, key and bias blocks. -/
module

public import proofs.«01_k».proof.Proof.Gen.Kernel4Ideal.Value
public import Idealize.ShloMosaic.Lib.Pipeline.Value
public import Idealize.ShloMosaic.Lib.Pipeline.ReadBack
public import Idealize.ShloMosaic.Lib.Pointwise

@[expose] public section

set_option maxRecDepth 16384

noncomputable section

namespace Cert.Diff

open Cert.Kernel4Ideal Cert.Kernel4Ideal.Gen
open Idealize.ShloMosaic Idealize.ShloMosaic.TcCoe Idealize.ShloMosaic.Pointwise

theorem hz2 : (![0, 0] : Fin 2 → Nat) = fun _ => 0 := funext fun a => by fin_cases a <;> rfl

/-- Slab `n` of the keys: rows `256 n` to `256 n + 255`. -/
def slabKeys (k : Vec Ideal S4096x128 .bf16) (n : Nat) : Vec Ideal S256x128 .bf16 :=
  fun y => k (ix2 ⟨(256 * n + (y 0).val) % 4096, Nat.mod_lt _ (by decide)⟩ (y 1))

/-- The two components' queries of the block, one under the other, scaled and with the other component's lanes cleared. -/
def stacked (q : Vec Ideal S1024x128 .bf16) : FVec Ideal S2048x128 .bf16 := k0_pay23 q

/-- The bias tile that query rows `256 a` to `256 a + 255` of the block take against slab `n` of the keys. -/
def biasTile (w : Vec Ideal S1x5x256x256 .f32) (i : grid0.Coords) (n a : Nat) : Vec Ideal S1x1x256x256 .f32 :=
  fun y => w (ix4 0 ⟨k0_off1 i (BitVec.ofNat 32 n) (BitVec.ofNat 32 a) 1 % 5, Nat.mod_lt _ (by decide)⟩ (y 2) (y 3))

/-- The scores of slab `n`. -/
def slabScores (q : Vec Ideal S1024x128 .bf16) (k : Vec Ideal S4096x128 .bf16) (w : Vec Ideal S1x5x256x256 .f32) (i : grid0.Coords) (n : Nat) :
    FVec Ideal S2048x256 .f32 :=
  k0_pay33 (k0_pay30 (stacked q) (slabKeys k n)) (k0_pay31 (biasTile w i n 0)) (k0_pay32 (biasTile w i n 1)) (biasTile w i n 2) (biasTile w i n 3)

/-- The lane-wise maximum of the first `n` slabs' scores. -/
def laneMax (q : Vec Ideal S1024x128 .bf16) (k : Vec Ideal S4096x128 .bf16) (w : Vec Ideal S1x5x256x256 .f32) (i : grid0.Coords) : Nat → FVec Ideal S2048x128 .f32
  | 0 => k0_pay24
  | n + 1 => k0_pay29 (slabScores q k w i n) (laneMax q k w i n)

/-- The scores of slab `n`, as the scratch memory holds them. -/
def slab (q : Vec Ideal S1024x128 .bf16) (k : Vec Ideal S4096x128 .bf16) (w : Vec Ideal S1x5x256x256 .f32) (i : grid0.Coords) (n : Nat) : Vec Ideal S1x2048x256 .f32 :=
  fun y => slabScores q k w i n (ix2 (y 1) (y 2))

/-- All the scores, as the scratch memory holds them. -/
def allScores (q : Vec Ideal S1024x128 .bf16) (k : Vec Ideal S4096x128 .bf16) (w : Vec Ideal S1x5x256x256 .f32) (i : grid0.Coords) : Vec Ideal S16x2048x256 .f32 :=
  fun y => slabScores q k w i (y 0).val (ix2 (y 1) (y 2))

theorem ld_slabKeys (k : Vec Ideal S4096x128 .bf16) (n : Nat) (off : Fin 2 → Nat) (inb : ∀ a, off a + S256x128.size a ≤ S4096x128.size a)
    (h : off = ![256 * n, 0]) (hn : n < 16) : View.ld k (Rect.unit (s := S4096x128) off S256x128.size inb) = slabKeys k n := by
  subst h
  rw [View.ld_unit]
  funext y
  refine congrArg k (funext fun a => Fin.ext ?_)
  have hy : (y 0).val < 256 := (y 0).isLt
  match a with
  | 0 => show 256 * n + (y 0).val = (256 * n + (y 0).val) % 4096; omega
  | 1 => show 0 + (y 1).val = (y 1).val; omega

theorem off1_form (i : grid0.Coords) (u v : BitVec 32) : k0_off1 i u v = ![0, k0_off1 i u v 1, 0, 0] := by
  funext a
  match a with
  | 0 => rfl
  | 1 => rfl
  | 2 => rfl
  | 3 => rfl

theorem ld_tile (w : Vec Ideal S1x5x256x256 .f32) (o : Nat) (off : Fin 4 → Nat) (inb : ∀ a, off a + S1x1x256x256.size a ≤ S1x5x256x256.size a)
    (h : off = ![0, o, 0, 0]) : View.ld w (Rect.unit (s := S1x5x256x256) off S1x1x256x256.size inb)
      = fun y => w (ix4 0 ⟨o % 5, Nat.mod_lt _ (by decide)⟩ (y 2) (y 3)) := by
  subst h
  rw [View.ld_unit]
  funext y
  refine congrArg w (funext fun a => Fin.ext ?_)
  have ho : o + 1 ≤ 5 := inb 1
  have hy : (y 0).val < 1 := (y 0).isLt
  have hy1 : (y 1).val < 1 := (y 1).isLt
  match a with
  | 0 => show 0 + (y 0).val = 0; omega
  | 1 => show o + (y 1).val = o % 5; omega
  | 2 => show 0 + (y 2).val = (y 2).val; omega
  | 3 => show 0 + (y 3).val = (y 3).val; omega

section Run

variable (c : Dev nD) (i : grid0.Coords) (arg3 : Memref sig .tc .vmem S1024x128 .bf16) (harg3 : arg3.IsWhole)
  (arg4 : Memref sig .tc .vmem S4096x128 .bf16) (harg4 : arg4.IsWhole) (arg6 : Memref sig .tc .vmem S1x5x256x256 .f32) (harg6 : arg6.IsWhole)
  (arg10 : Memref sig .tc .vmem S16x2048x256 .f32)
  (arg11 : Memref sig .tc .vmem S2048x128 .f32) (x0 : Vec Ideal S1024x128 .bf16) (x1 : Vec Ideal S4096x128 .bf16) (x3 : Vec Ideal S1x5x256x256 .f32)

theorem q_read : View.readAt (Elt Ideal) arg3.view (Rect.unit (s := S1024x128) ![0, 0] S1024x128.size inb_S1024x128_S1024x128_0_0).toLoadRect (harg3.unread x0) = x0 := by
  rw [View.readAt_eq_ld, harg3.read_unread, View.ld_unit_zero (S := S1024x128) hz2]

theorem k_read (n : Nat) (off : Fin 2 → Nat) (inb : ∀ a, off a + S256x128.size a ≤ S4096x128.size a) (h : off = ![256 * n, 0]) (hn : n < 16) :
    View.readAt (Elt Ideal) arg4.view (Rect.unit (s := S4096x128) off S256x128.size inb).toLoadRect (harg4.unread x1) = slabKeys x1 n := by
  rw [View.readAt_eq_ld, harg4.read_unread, ld_slabKeys x1 n off inb h hn]

theorem t_read (n a : Nat) (inb : ∀ b, k0_off1 i (BitVec.ofNat 32 n) (BitVec.ofNat 32 a) b + S1x1x256x256.size b ≤ S1x5x256x256.size b) :
    View.readAt (Elt Ideal) arg6.view (Rect.unit (s := S1x5x256x256) (k0_off1 i (BitVec.ofNat 32 n) (BitVec.ofNat 32 a)) S1x1x256x256.size inb).toLoadRect (harg6.unread x3)
      = biasTile x3 i n a := by
  rw [View.readAt_eq_ld, harg6.read_unread, ld_tile x3 _ _ inb (off1_form i _ _)]
  rfl

theorem r_eq : kernelRun0_A.sl.r c arg3 harg3 x0 = stacked x0 := by
  unfold kernelRun0_A.sl.r
  rw [q_read]
  rfl

theorem max_0 : kernelRun0_A.sl.v63 (F := Ideal) c arg11 = laneMax x0 x1 x3 i 0 := by
  unfold kernelRun0_A.sl.v63 kernelRun0_A.sl.HS1_1
  exact View.readCov_cons_toLoadRect _ _ _ _

theorem max_1 : kernelRun0_A.sl.v117 c i arg3 harg3 arg4 harg4 arg6 harg6 arg11 x0 x1 x3 = laneMax x0 x1 x3 i 1 := by
  unfold kernelRun0_A.sl.v117 kernelRun0_A.sl.HS1_2
  refine (View.readCov_cons_toLoadRect _ _ _ _).trans ?_
  try unfold kernelRun0_A.sl.r_3
  try unfold kernelRun0_A.sl.r_2
  try unfold kernelRun0_A.sl.r_1
  rw [q_read, k_read arg4 harg4 x1 0 _ _ (by decide) (by decide), t_read i arg6 harg6 x3 0 0, t_read i arg6 harg6 x3 0 1, t_read i arg6 harg6 x3 0 2, t_read i arg6 harg6 x3 0 3, max_0 c i arg11 x0 x1 x3]
  rfl

theorem max_2 : kernelRun0_A.sl.v171 c i arg3 harg3 arg4 harg4 arg6 harg6 arg11 x0 x1 x3 = laneMax x0 x1 x3 i 2 := by
  unfold kernelRun0_A.sl.v171 kernelRun0_A.sl.HS1_3
  refine (View.readCov_cons_toLoadRect _ _ _ _).trans ?_
  try unfold kernelRun0_A.sl.r_6
  try unfold kernelRun0_A.sl.r_5
  try unfold kernelRun0_A.sl.r_4
  rw [r_eq, k_read arg4 harg4 x1 1 _ _ (by decide) (by decide), t_read i arg6 harg6 x3 1 0, t_read i arg6 harg6 x3 1 1, t_read i arg6 harg6 x3 1 2, t_read i arg6 harg6 x3 1 3, max_1 c i arg3 harg3 arg4 harg4 arg6 harg6 arg11 x0 x1 x3]
  rfl

theorem max_3 : kernelRun0_A.sl.v225 c i arg3 harg3 arg4 harg4 arg6 harg6 arg11 x0 x1 x3 = laneMax x0 x1 x3 i 3 := by
  unfold kernelRun0_A.sl.v225 kernelRun0_A.sl.HS1_4
  refine (View.readCov_cons_toLoadRect _ _ _ _).trans ?_
  try unfold kernelRun0_A.sl.r_11
  try unfold kernelRun0_A.sl.r_10
  try unfold kernelRun0_A.sl.r_9
  try unfold kernelRun0_A.sl.r_8
  try unfold kernelRun0_A.sl.r_7
  try unfold kernelRun0_A.sl.cst_92
  rw [r_eq, k_read arg4 harg4 x1 2 _ _ (by decide) (by decide), t_read i arg6 harg6 x3 2 0, t_read i arg6 harg6 x3 2 1, t_read i arg6 harg6 x3 2 2, t_read i arg6 harg6 x3 2 3, max_2 c i arg3 harg3 arg4 harg4 arg6 harg6 arg11 x0 x1 x3]
  rfl

theorem max_4 : kernelRun0_A.sl.v279 c i arg3 harg3 arg4 harg4 arg6 harg6 arg11 x0 x1 x3 = laneMax x0 x1 x3 i 4 := by
  unfold kernelRun0_A.sl.v279 kernelRun0_A.sl.HS1_5
  refine (View.readCov_cons_toLoadRect _ _ _ _).trans ?_
  try unfold kernelRun0_A.sl.r_13
  try unfold kernelRun0_A.sl.r_12
  rw [r_eq, k_read arg4 harg4 x1 3 _ _ (by decide) (by decide), t_read i arg6 harg6 x3 3 0, t_read i arg6 harg6 x3 3 1, t_read i arg6 harg6 x3 3 2, t_read i arg6 harg6 x3 3 3, max_3 c i arg3 harg3 arg4 harg4 arg6 harg6 arg11 x0 x1 x3]
  rfl

theorem max_5 : kernelRun0_A.sl.v333 c i arg3 harg3 arg4 harg4 arg6 harg6 arg11 x0 x1 x3 = laneMax x0 x1 x3 i 5 := by
  unfold kernelRun0_A.sl.v333 kernelRun0_A.sl.HS1_6
  refine (View.readCov_cons_toLoadRect _ _ _ _).trans ?_
  try unfold kernelRun0_A.sl.r_16
  try unfold kernelRun0_A.sl.r_15
  try unfold kernelRun0_A.sl.r_14
  rw [r_eq, k_read arg4 harg4 x1 4 _ _ (by decide) (by decide), t_read i arg6 harg6 x3 4 0, t_read i arg6 harg6 x3 4 1, t_read i arg6 harg6 x3 4 2, t_read i arg6 harg6 x3 4 3, max_4 c i arg3 harg3 arg4 harg4 arg6 harg6 arg11 x0 x1 x3]
  rfl

theorem max_6 : kernelRun0_A.sl.v387 c i arg3 harg3 arg4 harg4 arg6 harg6 arg11 x0 x1 x3 = laneMax x0 x1 x3 i 6 := by
  unfold kernelRun0_A.sl.v387 kernelRun0_A.sl.HS1_7
  refine (View.readCov_cons_toLoadRect _ _ _ _).trans ?_
  try unfold kernelRun0_A.sl.r_19
  try unfold kernelRun0_A.sl.r_18
  try unfold kernelRun0_A.sl.r_17
  rw [r_eq, k_read arg4 harg4 x1 5 _ _ (by decide) (by decide), t_read i arg6 harg6 x3 5 0, t_read i arg6 harg6 x3 5 1, t_read i arg6 harg6 x3 5 2, t_read i arg6 harg6 x3 5 3, max_5 c i arg3 harg3 arg4 harg4 arg6 harg6 arg11 x0 x1 x3]
  rfl

theorem max_7 : kernelRun0_A.sl.v441 c i arg3 harg3 arg4 harg4 arg6 harg6 arg11 x0 x1 x3 = laneMax x0 x1 x3 i 7 := by
  unfold kernelRun0_A.sl.v441 kernelRun0_A.sl.HS1_8
  refine (View.readCov_cons_toLoadRect _ _ _ _).trans ?_
  try unfold kernelRun0_A.sl.r_23
  try unfold kernelRun0_A.sl.r_22
  try unfold kernelRun0_A.sl.r_21
  try unfold kernelRun0_A.sl.r_20
  rw [r_eq, k_read arg4 harg4 x1 6 _ _ (by decide) (by decide), t_read i arg6 harg6 x3 6 0, t_read i arg6 harg6 x3 6 1, t_read i arg6 harg6 x3 6 2, t_read i arg6 harg6 x3 6 3, max_6 c i arg3 harg3 arg4 harg4 arg6 harg6 arg11 x0 x1 x3]
  rfl

theorem max_8 : kernelRun0_A.sl.v495 c i arg3 harg3 arg4 harg4 arg6 harg6 arg11 x0 x1 x3 = laneMax x0 x1 x3 i 8 := by
  unfold kernelRun0_A.sl.v495 kernelRun0_A.sl.HS1_9
  refine (View.readCov_cons_toLoadRect _ _ _ _).trans ?_
  try unfold kernelRun0_A.sl.r_26
  try unfold kernelRun0_A.sl.r_25
  try unfold kernelRun0_A.sl.r_24
  rw [r_eq, k_read arg4 harg4 x1 7 _ _ (by decide) (by decide), t_read i arg6 harg6 x3 7 0, t_read i arg6 harg6 x3 7 1, t_read i arg6 harg6 x3 7 2, t_read i arg6 harg6 x3 7 3, max_7 c i arg3 harg3 arg4 harg4 arg6 harg6 arg11 x0 x1 x3]
  rfl

theorem max_9 : kernelRun0_A.sl.v549 c i arg3 harg3 arg4 harg4 arg6 harg6 arg11 x0 x1 x3 = laneMax x0 x1 x3 i 9 := by
  unfold kernelRun0_A.sl.v549 kernelRun0_A.sl.HS1_10
  refine (View.readCov_cons_toLoadRect _ _ _ _).trans ?_
  try unfold kernelRun0_A.sl.r_29
  try unfold kernelRun0_A.sl.r_28
  try unfold kernelRun0_A.sl.r_27
  rw [r_eq, k_read arg4 harg4 x1 8 _ _ (by decide) (by decide), t_read i arg6 harg6 x3 8 0, t_read i arg6 harg6 x3 8 1, t_read i arg6 harg6 x3 8 2, t_read i arg6 harg6 x3 8 3, max_8 c i arg3 harg3 arg4 harg4 arg6 harg6 arg11 x0 x1 x3]
  rfl

theorem max_10 : kernelRun0_A.sl.v603 c i arg3 harg3 arg4 harg4 arg6 harg6 arg11 x0 x1 x3 = laneMax x0 x1 x3 i 10 := by
  unfold kernelRun0_A.sl.v603 kernelRun0_A.sl.HS1_11
  refine (View.readCov_cons_toLoadRect _ _ _ _).trans ?_
  try unfold kernelRun0_A.sl.r_34
  try unfold kernelRun0_A.sl.r_33
  try unfold kernelRun0_A.sl.r_32
  try unfold kernelRun0_A.sl.r_31
  try unfold kernelRun0_A.sl.r_30
  rw [r_eq, k_read arg4 harg4 x1 9 _ _ (by decide) (by decide), t_read i arg6 harg6 x3 9 0, t_read i arg6 harg6 x3 9 1, t_read i arg6 harg6 x3 9 2, t_read i arg6 harg6 x3 9 3, max_9 c i arg3 harg3 arg4 harg4 arg6 harg6 arg11 x0 x1 x3]
  rfl

theorem max_11 : kernelRun0_A.sl.v657 c i arg3 harg3 arg4 harg4 arg6 harg6 arg11 x0 x1 x3 = laneMax x0 x1 x3 i 11 := by
  unfold kernelRun0_A.sl.v657 kernelRun0_A.sl.HS1_12
  refine (View.readCov_cons_toLoadRect _ _ _ _).trans ?_
  try unfold kernelRun0_A.sl.r_36
  try unfold kernelRun0_A.sl.r_35
  rw [r_eq, k_read arg4 harg4 x1 10 _ _ (by decide) (by decide), t_read i arg6 harg6 x3 10 0, t_read i arg6 harg6 x3 10 1, t_read i arg6 harg6 x3 10 2, t_read i arg6 harg6 x3 10 3, max_10 c i arg3 harg3 arg4 harg4 arg6 harg6 arg11 x0 x1 x3]
  rfl

theorem max_12 : kernelRun0_A.sl.v711 c i arg3 harg3 arg4 harg4 arg6 harg6 arg11 x0 x1 x3 = laneMax x0 x1 x3 i 12 := by
  unfold kernelRun0_A.sl.v711 kernelRun0_A.sl.HS1_13
  refine (View.readCov_cons_toLoadRect _ _ _ _).trans ?_
  try unfold kernelRun0_A.sl.r_39
  try unfold kernelRun0_A.sl.r_38
  try unfold kernelRun0_A.sl.r_37
  rw [r_eq, k_read arg4 harg4 x1 11 _ _ (by decide) (by decide), t_read i arg6 harg6 x3 11 0, t_read i arg6 harg6 x3 11 1, t_read i arg6 harg6 x3 11 2, t_read i arg6 harg6 x3 11 3, max_11 c i arg3 harg3 arg4 harg4 arg6 harg6 arg11 x0 x1 x3]
  rfl

theorem max_13 : kernelRun0_A.sl.v765 c i arg3 harg3 arg4 harg4 arg6 harg6 arg11 x0 x1 x3 = laneMax x0 x1 x3 i 13 := by
  unfold kernelRun0_A.sl.v765 kernelRun0_A.sl.HS1_14
  refine (View.readCov_cons_toLoadRect _ _ _ _).trans ?_
  try unfold kernelRun0_A.sl.r_42
  try unfold kernelRun0_A.sl.r_41
  try unfold kernelRun0_A.sl.r_40
  rw [r_eq, k_read arg4 harg4 x1 12 _ _ (by decide) (by decide), t_read i arg6 harg6 x3 12 0, t_read i arg6 harg6 x3 12 1, t_read i arg6 harg6 x3 12 2, t_read i arg6 harg6 x3 12 3, max_12 c i arg3 harg3 arg4 harg4 arg6 harg6 arg11 x0 x1 x3]
  rfl

theorem max_14 : kernelRun0_A.sl.v819 c i arg3 harg3 arg4 harg4 arg6 harg6 arg11 x0 x1 x3 = laneMax x0 x1 x3 i 14 := by
  unfold kernelRun0_A.sl.v819 kernelRun0_A.sl.HS1_15
  refine (View.readCov_cons_toLoadRect _ _ _ _).trans ?_
  try unfold kernelRun0_A.sl.r_46
  try unfold kernelRun0_A.sl.r_45
  try unfold kernelRun0_A.sl.r_44
  try unfold kernelRun0_A.sl.r_43
  rw [r_eq, k_read arg4 harg4 x1 13 _ _ (by decide) (by decide), t_read i arg6 harg6 x3 13 0, t_read i arg6 harg6 x3 13 1, t_read i arg6 harg6 x3 13 2, t_read i arg6 harg6 x3 13 3, max_13 c i arg3 harg3 arg4 harg4 arg6 harg6 arg11 x0 x1 x3]
  rfl

theorem max_15 : kernelRun0_A.sl.v873 c i arg3 harg3 arg4 harg4 arg6 harg6 arg11 x0 x1 x3 = laneMax x0 x1 x3 i 15 := by
  unfold kernelRun0_A.sl.v873 kernelRun0_A.sl.HS1_16
  refine (View.readCov_cons_toLoadRect _ _ _ _).trans ?_
  try unfold kernelRun0_A.sl.r_50
  try unfold kernelRun0_A.sl.r_49
  try unfold kernelRun0_A.sl.r_48
  try unfold kernelRun0_A.sl.r_47
  rw [r_eq, k_read arg4 harg4 x1 14 _ _ (by decide) (by decide), t_read i arg6 harg6 x3 14 0, t_read i arg6 harg6 x3 14 1, t_read i arg6 harg6 x3 14 2, t_read i arg6 harg6 x3 14 3, max_14 c i arg3 harg3 arg4 harg4 arg6 harg6 arg11 x0 x1 x3]
  rfl

theorem max_16 : kernelRun0_A.sl.v c i arg3 harg3 arg4 harg4 arg6 harg6 arg11 x0 x1 x3 = laneMax x0 x1 x3 i 16 := by
  unfold kernelRun0_A.sl.v kernelRun0_A.sl.HS1_17
  refine (View.readCov_cons_toLoadRect _ _ _ _).trans ?_
  try unfold kernelRun0_A.sl.r_53
  try unfold kernelRun0_A.sl.r_52
  try unfold kernelRun0_A.sl.r_51
  rw [r_eq, k_read arg4 harg4 x1 15 _ _ (by decide) (by decide), t_read i arg6 harg6 x3 15 0, t_read i arg6 harg6 x3 15 1, t_read i arg6 harg6 x3 15 2, t_read i arg6 harg6 x3 15 3, max_15 c i arg3 harg3 arg4 harg4 arg6 harg6 arg11 x0 x1 x3]
  rfl

theorem readMax : View.readAt (Elt Ideal) arg11.view (Rect.unit (s := S2048x128) ![0, 0] S2048x128.size inb_S2048x128_S2048x128_0_0).toLoadRect
    (arg11.view.writes (Elt Ideal) arg11.view.junk (kernelRun0_A.sl.HS1_18 c i arg3 harg3 arg4 harg4 arg6 harg6 arg11 x0 x1 x3)) = k0_pay123 (F := Ideal) (laneMax x0 x1 x3 i 16) := by
  rw [View.readAt_writes_junk_eq_canon, ← View.readCov_eq_canon' arg11.view]
  unfold kernelRun0_A.sl.HS1_18
  refine (View.readCov_cons_toLoadRect _ _ _ _).trans ?_
  rw [max_16]

theorem slab_piece (n : Nat) (hn : n < 16) (off : Fin 3 → Nat) (inb : ∀ a, off a + S1x2048x256.size a ≤ S16x2048x256.size a) (h : off = ![n, 0, 0])
    (w : Vec Ideal S1x2048x256 .f32) (hw : w = slab x0 x1 x3 i n) (x : S1x2048x256.Idx) :
    w x = allScores x0 x1 x3 i ((Rect.unit (s := S16x2048x256) off S1x2048x256.size inb).emb x) := by
  subst h hw
  have h0 : (x 0).val = 0 := by have : (x 0).val < 1 := (x 0).isLt; omega
  have e0 : ((Rect.unit (s := S16x2048x256) ![n, 0, 0] S1x2048x256.size inb).emb x 0).val = n := by
    show n + 1 * (x 0).val = n
    omega
  have e1 : (Rect.unit (s := S16x2048x256) ![n, 0, 0] S1x2048x256.size inb).emb x 1 = x 1 := Fin.ext (by show 0 + 1 * (x 1).val = (x 1).val; omega)
  have e2 : (Rect.unit (s := S16x2048x256) ![n, 0, 0] S1x2048x256.size inb).emb x 2 = x 2 := Fin.ext (by show 0 + 1 * (x 2).val = (x 2).val; omega)
  unfold slab allScores
  rw [e0, e1, e2]

theorem cast_slab (n : Nat) : shapeCast S1x2048x256 (slabScores x0 x1 x3 i n) shapeCasts_S2048x256_S1x2048x256 = slab x0 x1 x3 i n := by
  funext y
  obtain ⟨a, b, d, rfl⟩ : ∃ a b d, y = ix3 a b d := ⟨y 0, y 1, y 2, eq_ix3 y⟩
  generalize hs : slabScores x0 x1 x3 i n = s
  unfold slab
  rw [hs]
  pointwise []

theorem slabs_pieces : View.PiecesOf (allScores x0 x1 x3 i) (kernelRun0_A.sl.HS0_16 c i arg3 harg3 arg4 harg4 arg6 harg6 x0 x1 x3) := by
  unfold kernelRun0_A.sl.HS0_16
  refine ⟨slab_piece i x0 x1 x3 15 (by decide) ![15, 0, 0] inb_S16x2048x256_S1x2048x256_15_0_0 rfl _ ?_15,
    slab_piece i x0 x1 x3 14 (by decide) ![14, 0, 0] inb_S16x2048x256_S1x2048x256_14_0_0 rfl _ ?_14,
    slab_piece i x0 x1 x3 13 (by decide) ![13, 0, 0] inb_S16x2048x256_S1x2048x256_13_0_0 rfl _ ?_13,
    slab_piece i x0 x1 x3 12 (by decide) ![12, 0, 0] inb_S16x2048x256_S1x2048x256_12_0_0 rfl _ ?_12,
    slab_piece i x0 x1 x3 11 (by decide) ![11, 0, 0] inb_S16x2048x256_S1x2048x256_11_0_0 rfl _ ?_11,
    slab_piece i x0 x1 x3 10 (by decide) ![10, 0, 0] inb_S16x2048x256_S1x2048x256_10_0_0 rfl _ ?_10,
    slab_piece i x0 x1 x3 9 (by decide) ![9, 0, 0] inb_S16x2048x256_S1x2048x256_9_0_0 rfl _ ?_9,
    slab_piece i x0 x1 x3 8 (by decide) ![8, 0, 0] inb_S16x2048x256_S1x2048x256_8_0_0 rfl _ ?_8,
    slab_piece i x0 x1 x3 7 (by decide) ![7, 0, 0] inb_S16x2048x256_S1x2048x256_7_0_0 rfl _ ?_7,
    slab_piece i x0 x1 x3 6 (by decide) ![6, 0, 0] inb_S16x2048x256_S1x2048x256_6_0_0 rfl _ ?_6,
    slab_piece i x0 x1 x3 5 (by decide) ![5, 0, 0] inb_S16x2048x256_S1x2048x256_5_0_0 rfl _ ?_5,
    slab_piece i x0 x1 x3 4 (by decide) ![4, 0, 0] inb_S16x2048x256_S1x2048x256_4_0_0 rfl _ ?_4,
    slab_piece i x0 x1 x3 3 (by decide) ![3, 0, 0] inb_S16x2048x256_S1x2048x256_3_0_0 rfl _ ?_3,
    slab_piece i x0 x1 x3 2 (by decide) ![2, 0, 0] inb_S16x2048x256_S1x2048x256_2_0_0 rfl _ ?_2,
    slab_piece i x0 x1 x3 1 (by decide) ![1, 0, 0] inb_S16x2048x256_S1x2048x256_1_0_0 rfl _ ?_1,
    slab_piece i x0 x1 x3 0 (by decide) ![0, 0, 0] inb_S16x2048x256_S1x2048x256_0_0_0 rfl _ ?_0, trivial⟩
  case _15 =>
    try unfold kernelRun0_A.sl.r_53
    try unfold kernelRun0_A.sl.r_52
    try unfold kernelRun0_A.sl.r_51
    rw [r_eq, k_read arg4 harg4 x1 15 _ _ (by decide) (by decide), t_read i arg6 harg6 x3 15 0, t_read i arg6 harg6 x3 15 1, t_read i arg6 harg6 x3 15 2, t_read i arg6 harg6 x3 15 3, ← cast_slab]
    rfl
  case _14 =>
    try unfold kernelRun0_A.sl.r_50
    try unfold kernelRun0_A.sl.r_49
    try unfold kernelRun0_A.sl.r_48
    try unfold kernelRun0_A.sl.r_47
    rw [r_eq, k_read arg4 harg4 x1 14 _ _ (by decide) (by decide), t_read i arg6 harg6 x3 14 0, t_read i arg6 harg6 x3 14 1, t_read i arg6 harg6 x3 14 2, t_read i arg6 harg6 x3 14 3, ← cast_slab]
    rfl
  case _13 =>
    try unfold kernelRun0_A.sl.r_46
    try unfold kernelRun0_A.sl.r_45
    try unfold kernelRun0_A.sl.r_44
    try unfold kernelRun0_A.sl.r_43
    rw [r_eq, k_read arg4 harg4 x1 13 _ _ (by decide) (by decide), t_read i arg6 harg6 x3 13 0, t_read i arg6 harg6 x3 13 1, t_read i arg6 harg6 x3 13 2, t_read i arg6 harg6 x3 13 3, ← cast_slab]
    rfl
  case _12 =>
    try unfold kernelRun0_A.sl.r_42
    try unfold kernelRun0_A.sl.r_41
    try unfold kernelRun0_A.sl.r_40
    rw [r_eq, k_read arg4 harg4 x1 12 _ _ (by decide) (by decide), t_read i arg6 harg6 x3 12 0, t_read i arg6 harg6 x3 12 1, t_read i arg6 harg6 x3 12 2, t_read i arg6 harg6 x3 12 3, ← cast_slab]
    rfl
  case _11 =>
    try unfold kernelRun0_A.sl.r_39
    try unfold kernelRun0_A.sl.r_38
    try unfold kernelRun0_A.sl.r_37
    rw [r_eq, k_read arg4 harg4 x1 11 _ _ (by decide) (by decide), t_read i arg6 harg6 x3 11 0, t_read i arg6 harg6 x3 11 1, t_read i arg6 harg6 x3 11 2, t_read i arg6 harg6 x3 11 3, ← cast_slab]
    rfl
  case _10 =>
    try unfold kernelRun0_A.sl.r_36
    try unfold kernelRun0_A.sl.r_35
    rw [r_eq, k_read arg4 harg4 x1 10 _ _ (by decide) (by decide), t_read i arg6 harg6 x3 10 0, t_read i arg6 harg6 x3 10 1, t_read i arg6 harg6 x3 10 2, t_read i arg6 harg6 x3 10 3, ← cast_slab]
    rfl
  case _9 =>
    try unfold kernelRun0_A.sl.r_34
    try unfold kernelRun0_A.sl.r_33
    try unfold kernelRun0_A.sl.r_32
    try unfold kernelRun0_A.sl.r_31
    try unfold kernelRun0_A.sl.r_30
    rw [r_eq, k_read arg4 harg4 x1 9 _ _ (by decide) (by decide), t_read i arg6 harg6 x3 9 0, t_read i arg6 harg6 x3 9 1, t_read i arg6 harg6 x3 9 2, t_read i arg6 harg6 x3 9 3, ← cast_slab]
    rfl
  case _8 =>
    try unfold kernelRun0_A.sl.r_29
    try unfold kernelRun0_A.sl.r_28
    try unfold kernelRun0_A.sl.r_27
    rw [r_eq, k_read arg4 harg4 x1 8 _ _ (by decide) (by decide), t_read i arg6 harg6 x3 8 0, t_read i arg6 harg6 x3 8 1, t_read i arg6 harg6 x3 8 2, t_read i arg6 harg6 x3 8 3, ← cast_slab]
    rfl
  case _7 =>
    try unfold kernelRun0_A.sl.r_26
    try unfold kernelRun0_A.sl.r_25
    try unfold kernelRun0_A.sl.r_24
    rw [r_eq, k_read arg4 harg4 x1 7 _ _ (by decide) (by decide), t_read i arg6 harg6 x3 7 0, t_read i arg6 harg6 x3 7 1, t_read i arg6 harg6 x3 7 2, t_read i arg6 harg6 x3 7 3, ← cast_slab]
    rfl
  case _6 =>
    try unfold kernelRun0_A.sl.r_23
    try unfold kernelRun0_A.sl.r_22
    try unfold kernelRun0_A.sl.r_21
    try unfold kernelRun0_A.sl.r_20
    rw [r_eq, k_read arg4 harg4 x1 6 _ _ (by decide) (by decide), t_read i arg6 harg6 x3 6 0, t_read i arg6 harg6 x3 6 1, t_read i arg6 harg6 x3 6 2, t_read i arg6 harg6 x3 6 3, ← cast_slab]
    rfl
  case _5 =>
    try unfold kernelRun0_A.sl.r_19
    try unfold kernelRun0_A.sl.r_18
    try unfold kernelRun0_A.sl.r_17
    rw [r_eq, k_read arg4 harg4 x1 5 _ _ (by decide) (by decide), t_read i arg6 harg6 x3 5 0, t_read i arg6 harg6 x3 5 1, t_read i arg6 harg6 x3 5 2, t_read i arg6 harg6 x3 5 3, ← cast_slab]
    rfl
  case _4 =>
    try unfold kernelRun0_A.sl.r_16
    try unfold kernelRun0_A.sl.r_15
    try unfold kernelRun0_A.sl.r_14
    rw [r_eq, k_read arg4 harg4 x1 4 _ _ (by decide) (by decide), t_read i arg6 harg6 x3 4 0, t_read i arg6 harg6 x3 4 1, t_read i arg6 harg6 x3 4 2, t_read i arg6 harg6 x3 4 3, ← cast_slab]
    rfl
  case _3 =>
    try unfold kernelRun0_A.sl.r_13
    try unfold kernelRun0_A.sl.r_12
    rw [r_eq, k_read arg4 harg4 x1 3 _ _ (by decide) (by decide), t_read i arg6 harg6 x3 3 0, t_read i arg6 harg6 x3 3 1, t_read i arg6 harg6 x3 3 2, t_read i arg6 harg6 x3 3 3, ← cast_slab]
    rfl
  case _2 =>
    try unfold kernelRun0_A.sl.r_11
    try unfold kernelRun0_A.sl.r_10
    try unfold kernelRun0_A.sl.r_9
    try unfold kernelRun0_A.sl.r_8
    try unfold kernelRun0_A.sl.r_7
    try unfold kernelRun0_A.sl.cst_92
    rw [r_eq, k_read arg4 harg4 x1 2 _ _ (by decide) (by decide), t_read i arg6 harg6 x3 2 0, t_read i arg6 harg6 x3 2 1, t_read i arg6 harg6 x3 2 2, t_read i arg6 harg6 x3 2 3, ← cast_slab]
    rfl
  case _1 =>
    try unfold kernelRun0_A.sl.r_6
    try unfold kernelRun0_A.sl.r_5
    try unfold kernelRun0_A.sl.r_4
    rw [r_eq, k_read arg4 harg4 x1 1 _ _ (by decide) (by decide), t_read i arg6 harg6 x3 1 0, t_read i arg6 harg6 x3 1 1, t_read i arg6 harg6 x3 1 2, t_read i arg6 harg6 x3 1 3, ← cast_slab]
    rfl
  case _0 =>
    try unfold kernelRun0_A.sl.r_3
    try unfold kernelRun0_A.sl.r_2
    try unfold kernelRun0_A.sl.r_1
    rw [q_read, k_read arg4 harg4 x1 0 _ _ (by decide) (by decide), t_read i arg6 harg6 x3 0 0, t_read i arg6 harg6 x3 0 1, t_read i arg6 harg6 x3 0 2, t_read i arg6 harg6 x3 0 3, ← cast_slab]
    rfl

theorem slabs_cover (y : S16x2048x256.Idx) : ∃ p ∈ kernelRun0_A.sl.HS0_16 c i arg3 harg3 arg4 harg4 arg6 harg6 x0 x1 x3, y ∈ p.1.set := by
  have h1 : (y 1).val < 2048 := (y 1).isLt
  have h2 : (y 2).val < 256 := (y 2).isLt
  have key : ∀ (n : Nat) (off : Fin 3 → Nat) (inb : ∀ a, off a + S1x2048x256.size a ≤ S16x2048x256.size a), off = ![n, 0, 0] → (y 0).val = n →
      y ∈ (Rect.unit (s := S16x2048x256) off S1x2048x256.size inb).set := by
    intro n off inb h hy
    subst h
    refine Rect.mem_set_unit.mpr ?_
    intro a
    match a with
    | 0 => exact ⟨by show n ≤ (y 0).val; omega, by show (y 0).val < n + 1; omega⟩
    | 1 => exact ⟨by show 0 ≤ (y 1).val; omega, by show (y 1).val < 0 + 2048; omega⟩
    | 2 => exact ⟨by show 0 ≤ (y 2).val; omega, by show (y 2).val < 0 + 256; omega⟩
  unfold kernelRun0_A.sl.HS0_16
  have h0 : (y 0).val < 16 := (y 0).isLt
  generalize hn : (y 0).val = n at h0
  interval_cases n
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), key 0 ![0, 0, 0] inb_S16x2048x256_S1x2048x256_0_0_0 rfl hn⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), key 1 ![1, 0, 0] inb_S16x2048x256_S1x2048x256_1_0_0 rfl hn⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), key 2 ![2, 0, 0] inb_S16x2048x256_S1x2048x256_2_0_0 rfl hn⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), key 3 ![3, 0, 0] inb_S16x2048x256_S1x2048x256_3_0_0 rfl hn⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), key 4 ![4, 0, 0] inb_S16x2048x256_S1x2048x256_4_0_0 rfl hn⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), key 5 ![5, 0, 0] inb_S16x2048x256_S1x2048x256_5_0_0 rfl hn⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), key 6 ![6, 0, 0] inb_S16x2048x256_S1x2048x256_6_0_0 rfl hn⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), key 7 ![7, 0, 0] inb_S16x2048x256_S1x2048x256_7_0_0 rfl hn⟩
  · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), key 8 ![8, 0, 0] inb_S16x2048x256_S1x2048x256_8_0_0 rfl hn⟩
  · exact ⟨_, (List.mem_cons_of_mem _ (List.mem_cons_of_mem _ (List.mem_cons_of_mem _ (List.mem_cons_of_mem _ (List.mem_cons_of_mem _ (List.mem_cons_of_mem _ List.mem_cons_self)))))), key 9 ![9, 0, 0] inb_S16x2048x256_S1x2048x256_9_0_0 rfl hn⟩
  · exact ⟨_, (List.mem_cons_of_mem _ (List.mem_cons_of_mem _ (List.mem_cons_of_mem _ (List.mem_cons_of_mem _ (List.mem_cons_of_mem _ List.mem_cons_self))))), key 10 ![10, 0, 0] inb_S16x2048x256_S1x2048x256_10_0_0 rfl hn⟩
  · exact ⟨_, (List.mem_cons_of_mem _ (List.mem_cons_of_mem _ (List.mem_cons_of_mem _ (List.mem_cons_of_mem _ List.mem_cons_self)))), key 11 ![11, 0, 0] inb_S16x2048x256_S1x2048x256_11_0_0 rfl hn⟩
  · exact ⟨_, (List.mem_cons_of_mem _ (List.mem_cons_of_mem _ (List.mem_cons_of_mem _ List.mem_cons_self))), key 12 ![12, 0, 0] inb_S16x2048x256_S1x2048x256_12_0_0 rfl hn⟩
  · exact ⟨_, (List.mem_cons_of_mem _ (List.mem_cons_of_mem _ List.mem_cons_self)), key 13 ![13, 0, 0] inb_S16x2048x256_S1x2048x256_13_0_0 rfl hn⟩
  · exact ⟨_, (List.mem_cons_of_mem _ List.mem_cons_self), key 14 ![14, 0, 0] inb_S16x2048x256_S1x2048x256_14_0_0 rfl hn⟩
  · exact ⟨_, List.mem_cons_self, key 15 ![15, 0, 0] inb_S16x2048x256_S1x2048x256_15_0_0 rfl hn⟩

theorem readSlab (n : Nat) (hn : n < 16) (off : Fin 3 → Nat) (inb : ∀ a, off a + S1x2048x256.size a ≤ S16x2048x256.size a) (h : off = ![n, 0, 0]) :
    View.readAt (Elt Ideal) arg10.view (Rect.unit (s := S16x2048x256) off S1x2048x256.size inb).toLoadRect
      (arg10.view.writes (Elt Ideal) arg10.view.junk (kernelRun0_A.sl.HS0_16 c i arg3 harg3 arg4 harg4 arg6 harg6 x0 x1 x3)) = slab x0 x1 x3 i n := by
  rw [View.readAt_writes_junk_eq_canon]
  funext y
  exact (View.canon_apply_of_pieces _ _ (slabs_pieces c i arg3 harg3 arg4 harg4 arg6 harg6 x0 x1 x3).mem _ (slabs_cover c i arg3 harg3 arg4 harg4 arg6 harg6 x0 x1 x3 _)).trans
    (slab_piece i x0 x1 x3 n hn off inb h _ rfl y).symm

end Run

/-- The weights of a trip's eight slabs, side by side. -/
def weights (M : Vec Ideal S2048x128 .f32) (s : Fin 8 → Vec Ideal S1x2048x256 .f32) : FVec Ideal S2048x2048 .bf16 :=
  k0_pay127 (k0_pay3 M (s 0)) (k0_pay4 M (s 0)) (k0_pay3 M (s 1)) (k0_pay4 M (s 1)) (k0_pay3 M (s 2)) (k0_pay4 M (s 2))
    (k0_pay3 M (s 3)) (k0_pay4 M (s 3)) (k0_pay3 M (s 4)) (k0_pay4 M (s 4)) (k0_pay3 M (s 5)) (k0_pay4 M (s 5))
    (k0_pay3 M (s 6)) (subf (k0_pay22 (s 6)) M) (k0_pay125 M (k0_pay2 (s 7))) (k0_pay126 M (k0_pay2 (s 7)))

theorem trip_weights (arg10 : Memref sig .tc .vmem S16x2048x256 .f32) (arg11 : Memref sig .tc .vmem S2048x128 .f32)
    (X10 : BufTy.Contents (Elt Ideal) arg10.view.ty) (X11 : BufTy.Contents (Elt Ideal) arg11.view.ty) (t : Fin k0_t1_loop.trips)
    (M : Vec Ideal S2048x128 .f32) (s : Fin 8 → Vec Ideal S1x2048x256 .f32)
    (hM : View.readAt (Elt Ideal) arg11.view (Rect.unit (s := S2048x128) ![0, 0] S2048x128.size inb_S2048x128_S2048x128_0_0).toLoadRect X11 = M)
    (hs : ∀ u : Fin 8, View.readAt (Elt Ideal) arg10.view (Rect.unit (s := S16x2048x256) (k0_off2 t (BitVec.ofNat 32 u.val)) S1x2048x256.size (k0_off2_inb t u)).toLoadRect X10 = s u) :
    trip_k0_t1.sl.v1044 arg10 arg11 X10 X11 t = weights M s := by
  subst hM
  obtain rfl := funext hs
  rfl

end Cert.Diff

end
-- ==== Proof.DiffOut.lean ====
/- The differential attention body's result block as a value of its blocks. -/
module

public import proofs.«01_k».proof.Proof.DiffBody

@[expose] public section

set_option maxRecDepth 16384

noncomputable section

namespace Cert.Diff

open Cert.Kernel4Ideal Cert.Kernel4Ideal.Gen
open Idealize.ShloMosaic Idealize.ShloMosaic.TcCoe Idealize.ShloMosaic.Pointwise

/-- Half `t` of the values: rows `2048 t` to `2048 t + 2047`. -/
def halfValues (v : Vec Ideal S4096x128 .bf16) (t : Nat) : Vec Ideal S2048x128 .bf16 :=
  fun y => v (ix2 ⟨(2048 * t + (y 0).val) % 4096, Nat.mod_lt _ (by decide)⟩ (y 1))

theorem ld_halfValues (v : Vec Ideal S4096x128 .bf16) (t : Nat) (off : Fin 2 → Nat) (inb : ∀ a, off a + S2048x128.size a ≤ S4096x128.size a)
    (h : off = ![2048 * t, 0]) (ht : t < 2) : View.ld v (Rect.unit (s := S4096x128) off S2048x128.size inb) = halfValues v t := by
  subst h
  rw [View.ld_unit]
  funext y
  refine congrArg v (funext fun a => Fin.ext ?_)
  have hy : (y 0).val < 2048 := (y 0).isLt
  match a with
  | 0 => show 2048 * t + (y 0).val = (2048 * t + (y 0).val) % 4096; omega
  | 1 => show 0 + (y 1).val = (y 1).val; omega

/-- The row maximum, in every lane. -/
def rowMax (q : Vec Ideal S1024x128 .bf16) (k : Vec Ideal S4096x128 .bf16) (w : Vec Ideal S1x5x256x256 .f32) (i : grid0.Coords) : FVec Ideal S2048x128 .f32 := k0_pay123 (laneMax q k w i 16)

/-- The accumulator after `n` trips. -/
def acc (q : Vec Ideal S1024x128 .bf16) (k v : Vec Ideal S4096x128 .bf16) (w : Vec Ideal S1x5x256x256 .f32) (i : grid0.Coords) : Nat → FVec Ideal S2048x256 .f32
  | 0 => k0_pay124
  | t + 1 => k0_pay128 (weights (rowMax q k w i) fun u => slab q k w i (8 * t + u.val)) (halfValues v t) (acc q k v w i t)

theorem trips_eq : k0_t1_loop.trips = 2 := by decide

section Run

variable (c : Dev nD) (i : grid0.Coords) (arg3 : Memref sig .tc .vmem S1024x128 .bf16) (harg3 : arg3.IsWhole)
  (arg4 : Memref sig .tc .vmem S4096x128 .bf16) (harg4 : arg4.IsWhole) (arg5 : Memref sig .tc .vmem S4096x128 .bf16) (harg5 : arg5.IsWhole)
  (arg6 : Memref sig .tc .vmem S1x5x256x256 .f32) (harg6 : arg6.IsWhole) (arg7 : Memref sig .tc .vmem S4x64 .f32) (harg7 : arg7.IsWhole)
  (arg8 : Memref sig .tc .vmem S1x128 .f32) (harg8 : arg8.IsWhole) (arg9 : Memref sig .tc .vmem S1024x128 .bf16) (harg9 : arg9.IsWhole)
  (arg10 : Memref sig .tc .vmem S16x2048x256 .f32) (harg10 : arg10.IsWhole)
  (arg11 : Memref sig .tc .vmem S2048x128 .f32) (harg11 : arg11.IsWhole) (arg12 : Memref sig .tc .vmem S2048x256 .f32) (harg12 : arg12.IsWhole)
  (x0 : Vec Ideal S1024x128 .bf16) (x1 x2 : Vec Ideal S4096x128 .bf16) (x3 : Vec Ideal S1x5x256x256 .f32)

/-- One trip's write over contents `f` of the accumulator. -/
theorem trip_write (v881 : FVec Ideal S2048x128 .f32) (t : Fin k0_t1_loop.trips)
    (f : BufTy.Contents (Elt Ideal) arg12.view.ty) (a : FVec Ideal S2048x256 .f32)
    (hf : View.readAt (Elt Ideal) arg12.view (Rect.unit (s := S2048x256) ![0, 0] S2048x256.size inb_S2048x256_S2048x256_0_0).toLoadRect f = a) :
    tripL_k0_t1 (F := Ideal) Variants.none c none i arg3 harg3 arg4 harg4 arg5 harg5 arg6 harg6 arg7 harg7 arg8 harg8 arg9 harg9 arg10 harg10 arg11 harg11 arg12 harg12 v881
      (harg5.unread x2) (arg10.view.writes (Elt Ideal) arg10.view.junk (kernelRun0_A.sl.HS0_16 c i arg3 harg3 arg4 harg4 arg6 harg6 x0 x1 x3))
      (arg11.view.writes (Elt Ideal) arg11.view.junk (kernelRun0_A.sl.HS1_18 c i arg3 harg3 arg4 harg4 arg6 harg6 arg11 x0 x1 x3)) t f
      = [⟨Rect.unit ![0, 0] S2048x256.size inb_S2048x256_S2048x256_0_0,
          k0_pay128 (weights (rowMax x0 x1 x3 i) fun u => slab x0 x1 x3 i (8 * t.val + u.val)) (halfValues x2 t.val) a⟩] := by
  have ht : t.val < 2 := lt_of_lt_of_eq t.isLt trips_eq
  have hw := trip_weights arg10 arg11 (arg10.view.writes (Elt Ideal) arg10.view.junk (kernelRun0_A.sl.HS0_16 c i arg3 harg3 arg4 harg4 arg6 harg6 x0 x1 x3))
    (arg11.view.writes (Elt Ideal) arg11.view.junk (kernelRun0_A.sl.HS1_18 c i arg3 harg3 arg4 harg4 arg6 harg6 arg11 x0 x1 x3)) t (rowMax x0 x1 x3 i)
    (fun u => slab x0 x1 x3 i (8 * t.val + u.val)) (readMax c i arg3 harg3 arg4 harg4 arg6 harg6 arg11 x0 x1 x3)
    (fun u => readSlab c i arg3 harg3 arg4 harg4 arg6 harg6 arg10 x0 x1 x3 (8 * t.val + u.val) (by omega) _ _ (k0_off2_eq t u))
  have hv : View.readAt (Elt Ideal) arg5.view (Rect.unit (s := S4096x128) (k0_off3 t) S2048x128.size (k0_off3_inb t)).toLoadRect (harg5.unread x2)
      = halfValues x2 t.val := by
    rw [View.readAt_eq_ld, harg5.read_unread, ld_halfValues x2 t.val _ _ (k0_off3_eq t) ht]
  unfold tripL_k0_t1 trip_k0_t1
  dsimp only
  rw [hw, hv, hf]

/-- The pieces the first `n` trips leave in the accumulator. -/
abbrev tripPieces (v881 : FVec Ideal S2048x128 .f32) (n : Nat) : List (View.Piece (Elt Ideal) S2048x256 .f32) :=
  pb_k0_t1 (F := Ideal) Variants.none c none i arg3 harg3 arg4 harg4 arg5 harg5 arg6 harg6 arg7 harg7 arg8 harg8 arg9 harg9 arg10 harg10 arg11 harg11 arg12 harg12 v881
      (harg5.unread x2) (arg10.view.writes (Elt Ideal) arg10.view.junk (kernelRun0_A.sl.HS0_16 c i arg3 harg3 arg4 harg4 arg6 harg6 x0 x1 x3))
      (arg11.view.writes (Elt Ideal) arg11.view.junk (kernelRun0_A.sl.HS1_18 c i arg3 harg3 arg4 harg4 arg6 harg6 arg11 x0 x1 x3))
      (arg12.view.writes (Elt Ideal) arg12.view.junk kernelRun0_A.sl.HS2_1) n

theorem pieces_eq (v881 : FVec Ideal S2048x128 .f32) : ∀ n : Nat, n ≤ 2 →
    ∃ L, tripPieces c i arg3 harg3 arg4 harg4 arg5 harg5 arg6 harg6 arg7 harg7 arg8 harg8 arg9 harg9 arg10 harg10 arg11 harg11 arg12 harg12 x0 x1 x2 x3 v881 n ++ kernelRun0_A.sl.HS2_1
      = (⟨Rect.unit (s := S2048x256) ![0, 0] S2048x256.size inb_S2048x256_S2048x256_0_0, acc x0 x1 x2 x3 i n⟩ : View.Piece (Elt Ideal) S2048x256 .f32) :: L
  | 0, _ => ⟨[], rfl⟩
  | n + 1, hn => by
    obtain ⟨L, hL⟩ := pieces_eq v881 n (by omega)
    have ht : n < k0_t1_loop.trips := by rw [trips_eq]; omega
    have hf : View.readAt (Elt Ideal) arg12.view (Rect.unit (s := S2048x256) ![0, 0] S2048x256.size inb_S2048x256_S2048x256_0_0).toLoadRect
        (arg12.view.writes (Elt Ideal) (arg12.view.writes (Elt Ideal) arg12.view.junk kernelRun0_A.sl.HS2_1) (tripPieces c i arg3 harg3 arg4 harg4 arg5 harg5 arg6 harg6 arg7 harg7 arg8 harg8 arg9 harg9 arg10 harg10 arg11 harg11 arg12 harg12 x0 x1 x2 x3 v881 n)) = acc x0 x1 x2 x3 i n := by
      rw [← View.writes_append, hL, View.readAt_writes_junk_eq_canon, ← View.readCov_eq_canon' arg12.view]
      exact View.readCov_cons_toLoadRect _ _ _ _
    have hs := pb_k0_t1_succ (F := Ideal) Variants.none c none i arg3 harg3 arg4 harg4 arg5 harg5 arg6 harg6 arg7 harg7 arg8 harg8 arg9 harg9 arg10 harg10 arg11 harg11 arg12 harg12 v881
      (harg5.unread x2) (arg10.view.writes (Elt Ideal) arg10.view.junk (kernelRun0_A.sl.HS0_16 c i arg3 harg3 arg4 harg4 arg6 harg6 x0 x1 x3))
      (arg11.view.writes (Elt Ideal) arg11.view.junk (kernelRun0_A.sl.HS1_18 c i arg3 harg3 arg4 harg4 arg6 harg6 arg11 x0 x1 x3))
      (arg12.view.writes (Elt Ideal) arg12.view.junk kernelRun0_A.sl.HS2_1) ⟨n, ht⟩
    have hw := trip_write c i arg3 harg3 arg4 harg4 arg5 harg5 arg6 harg6 arg7 harg7 arg8 harg8 arg9 harg9 arg10 harg10 arg11 harg11 arg12 harg12 x0 x1 x2 x3 v881 ⟨n, ht⟩ _ _ hf
    exact ⟨_, congrArg (· ++ kernelRun0_A.sl.HS2_1) (hs.trans (congrArg (· ++ tripPieces c i arg3 harg3 arg4 harg4 arg5 harg5 arg6 harg6 arg7 harg7 arg8 harg8 arg9 harg9 arg10 harg10 arg11 harg11 arg12 harg12 x0 x1 x2 x3 v881 n) hw))⟩

theorem acc_eq : kernelRun0_A.sl.v895 c i arg3 harg3 arg4 harg4 arg5 harg5 arg6 harg6 arg7 harg7 arg8 harg8 arg9 harg9 arg10 harg10 arg11 harg11 arg12 harg12 x0 x1 x2 x3
    = acc x0 x1 x2 x3 i 2 := by
  unfold kernelRun0_A.sl.v895
  obtain ⟨L, hL⟩ := pieces_eq c i arg3 harg3 arg4 harg4 arg5 harg5 arg6 harg6 arg7 harg7 arg8 harg8 arg9 harg9 arg10 harg10 arg11 harg11 arg12 harg12 x0 x1 x2 x3
    (kernelRun0_A.sl.v c i arg3 harg3 arg4 harg4 arg6 harg6 arg11 x0 x1 x3) 2 (by omega)
  rw [show Scf.trips k0_t1_loop.lb k0_t1_loop.ub k0_t1_loop.st = 2 from trips_eq, hL]
  exact View.readCov_cons_toLoadRect _ _ _ _

end Run

/-- The block the body stores. -/
def block (q : Vec Ideal S1024x128 .bf16) (k v : Vec Ideal S4096x128 .bf16) (w : Vec Ideal S1x5x256x256 .f32) (lam : Vec Ideal S4x64 .f32)
    (gain : Vec Ideal S1x128 .f32) (i : grid0.Coords) : Vec Ideal S1024x128 .bf16 :=
  k0_pay1 (F := Ideal) (k0_pay129 (F := Ideal) (acc q k v w i 2) lam) gain

theorem out_eq (c : Dev nD) (i : grid0.Coords) (arg3 : Memref sig .tc .vmem S1024x128 .bf16) (harg3 : arg3.IsWhole)
    (arg4 : Memref sig .tc .vmem S4096x128 .bf16) (harg4 : arg4.IsWhole) (arg5 : Memref sig .tc .vmem S4096x128 .bf16) (harg5 : arg5.IsWhole)
    (arg6 : Memref sig .tc .vmem S1x5x256x256 .f32) (harg6 : arg6.IsWhole) (arg7 : Memref sig .tc .vmem S4x64 .f32) (harg7 : arg7.IsWhole)
    (arg8 : Memref sig .tc .vmem S1x128 .f32) (harg8 : arg8.IsWhole) (arg9 : Memref sig .tc .vmem S1024x128 .bf16) (harg9 : arg9.IsWhole)
    (arg10 : Memref sig .tc .vmem S16x2048x256 .f32) (harg10 : arg10.IsWhole)
    (arg11 : Memref sig .tc .vmem S2048x128 .f32) (harg11 : arg11.IsWhole) (arg12 : Memref sig .tc .vmem S2048x256 .f32) (harg12 : arg12.IsWhole)
    (x0 : Vec Ideal S1024x128 .bf16) (x1 x2 : Vec Ideal S4096x128 .bf16) (x3 : Vec Ideal S1x5x256x256 .f32) (x4 : Vec Ideal S4x64 .f32) (x5 : Vec Ideal S1x128 .f32) :
    out0_A_6 c i arg3 harg3 arg4 harg4 arg5 harg5 arg6 harg6 arg7 harg7 arg8 harg8 arg9 harg9 arg10 harg10 arg11 harg11 arg12 harg12 x0 x1 x2 x3 x4 x5
      = block x0 x1 x2 x3 x4 x5 i := by
  have h7 : View.readAt (Elt Ideal) arg7.view (Rect.unit (s := S4x64) ![0, 0] S4x64.size inb_S4x64_S4x64_0_0).toLoadRect (harg7.unread x4) = x4 := by
    rw [View.readAt_eq_ld, harg7.read_unread, View.ld_unit_zero (S := S4x64) hz2]
  have h8 : View.readAt (Elt Ideal) arg8.view (Rect.unit (s := S1x128) ![0, 0] S1x128.size inb_S1x128_S1x128_0_0).toLoadRect (harg8.unread x5) = x5 := by
    rw [View.readAt_eq_ld, harg8.read_unread, View.ld_unit_zero (S := S1x128) hz2]
  unfold out0_A_6
  rw [View.read_writes_junk_eq_canon]
  unfold kernelRun0_A
  dsimp only
  unfold kernelRun0_A.sl.r_54
  rw [acc_eq, h7, h8]
  exact View.canon_unit_zero (S := S1024x128) hz2 _ _

end Cert.Diff

end
-- ==== Proof.DiffRow.lean ====
/- The differential attention body, read element by element: the scores, the row maximum, the weights, the accumulator and the stored block. -/
module

public import proofs.«01_k».proof.Proof.DiffOut
public import Idealize.ShloMosaic.Lib.Pointwise

@[expose] public section
set_option maxRecDepth 16384
noncomputable section
namespace Cert.Diff
open Cert.Kernel4Ideal Cert.Kernel4Ideal.Gen
open Idealize.ShloMosaic Idealize.ShloMosaic.TcCoe Idealize.ShloMosaic.Pointwise

theorem low_apply (M : Vec Ideal S2048x128 .f32) (s : Vec Ideal S1x2048x256 .f32) (r : Fin 2048) (l : Fin 128) :
    k0_pay3 (F := Ideal) M s (ix2 r l) = Ideal.exp2 (s (ix3 0 r ⟨128 * 0 + l.val, by omega⟩) - M (ix2 r l)) := by
  have e : (⟨128 * 0 + l.val, by omega⟩ : Fin 256) = ⟨l.val, by omega⟩ := Fin.ext (by simp)
  rw [e]
  pointwise [k0_pay3, k0_pay2]
  rfl

theorem high_apply (M : Vec Ideal S2048x128 .f32) (s : Vec Ideal S1x2048x256 .f32) (r : Fin 2048) (l : Fin 128) :
    k0_pay4 (F := Ideal) M s (ix2 r l) = Ideal.exp2 (s (ix3 0 r ⟨128 * 1 + l.val, by omega⟩) - M (ix2 r l)) := by
  pointwise [k0_pay4, k0_pay2]
  rfl

/-- The sixteen half slabs of weights. -/
def halves (M : Vec Ideal S2048x128 .f32) (s : Fin 8 → Vec Ideal S1x2048x256 .f32) : Fin 16 → FVec Ideal S2048x128 .bf16 :=
  fun n => if n.val % 2 = 0 then k0_pay3 M (s ⟨n.val / 2, by omega⟩) else k0_pay4 M (s ⟨n.val / 2, by omega⟩)

theorem weights_eq (M : Vec Ideal S2048x128 .f32) (s : Fin 8 → Vec Ideal S1x2048x256 .f32) :
    weights M s = concatenate S2048x2048 1 (List.ofFn fun n : Fin 16 => (⟨S2048x128, halves M s n⟩ : (s : Shape) × (s.Idx → Ideal .bf16)))
      concatenates_S2048x128_S2048x128_S2048x128_S2048x128_S2048x128_S2048x128_S2048x128_S2048x128_S2048x128_S2048x128_S2048x128_S2048x128_S2048x128_S2048x128_S2048x128_S2048x128_S2048x2048_d1 := by
  rfl

theorem halves_apply (M : Vec Ideal S2048x128 .f32) (s : Fin 8 → Vec Ideal S1x2048x256 .f32) (n : Fin 16) (r : Fin 2048) (l : Fin 128) :
    halves M s n (ix2 r l) = Ideal.exp2 (s ⟨n.val / 2, by omega⟩ (ix3 0 r ⟨128 * (n.val % 2) + l.val, by omega⟩) - M (ix2 r l)) := by
  unfold halves
  by_cases h : n.val % 2 = 0
  · rw [if_pos h, low_apply]
    simp only [h]
  · have h1 : n.val % 2 = 1 := by omega
    rw [if_neg h, high_apply]
    simp only [h1]

theorem weights_apply (M : Vec Ideal S2048x128 .f32) (s : Fin 8 → Vec Ideal S1x2048x256 .f32) (r : Fin 2048) (κ : Fin 2048) :
    weights M s (ix2 r κ) = Ideal.exp2 (s ⟨κ.val / 256, by omega⟩ (ix3 0 r ⟨κ.val % 256, by omega⟩) - M (ix2 r ⟨κ.val % 128, by omega⟩)) := by
  refine (congrFun (weights_eq M s) _).trans ((Idealize.ShloMosaic.concatenate_ofFn_apply (t := S2048x2048) (s₁ := S2048x128) 1 (halves M s) _ rfl 128 rfl
    (ix2 r κ) ⟨κ.val / 128, by omega⟩ rfl (ix2 r ⟨κ.val % 128, by omega⟩) rfl ?_).trans ?_)
  · intro b hb
    match b with
    | 0 => rfl
    | 1 => exact absurd rfl hb
  rw [halves_apply]
  have e1 : κ.val / 128 / 2 = κ.val / 256 := by omega
  have e2 : 128 * (κ.val / 128 % 2) + κ.val % 128 = κ.val % 256 := by omega
  simp only [e1, e2]

/-- The scale the queries are multiplied by. -/
def scale : EReal := Named.named (F := Ideal) (φ := .f32) κ "diff_scale" 0x3E38AA3B#32

/-- The factor the bias is multiplied by. -/
def biasScale : EReal := Named.named (F := Ideal) (φ := .f32) κ "log2e" 0x3FB8AA3B#32

theorem low_lane (l : Fin 128) : IntOp.cmpi CmpIPredicate.slt (BitVec.ofNat 32 l.val) 64#32 = if l.val < 64 then 1#1 else 0#1 := by
  revert l
  decide +kernel

theorem select_low {α : Type} (l : Fin 128) (a b : α) :
    Scalar.select (IntOp.cmpi CmpIPredicate.slt (BitVec.ofNat 32 l.val) 64#32) a b = if l.val < 64 then a else b := by
  rw [low_lane]
  by_cases h : l.val < 64
  · rw [if_pos h, if_pos h]; rfl
  · rw [if_neg h, if_neg h]; rfl

theorem stacked_form (q : Vec Ideal S1024x128 .bf16) (r : Fin 2048) (l : Fin 128) :
    stacked q (ix2 r l) = if h : r.val < 1024 then if l.val < 64 then q (ix2 ⟨r.val, h⟩ l) * scale else 0
      else if l.val < 64 then 0 else q (ix2 ⟨r.val - 1024, by omega⟩ l) * scale := by
  simp only [← select_low]
  unfold stacked scale
  pointwise [k0_pay23]

/-- Row `u * 1024 + r` of the stacked queries holds component `u`'s query in its half of the lanes, and zeros in the other half. -/
theorem stacked_apply (q : Vec Ideal S1024x128 .bf16) (u : Fin 2) (r : Fin 1024) (l : Fin 128) :
    stacked q (ix2 ⟨u.val * 1024 + r.val, by omega⟩ l) = if l.val / 64 = u.val then q (ix2 r l) * scale else 0 := by
  rw [stacked_form]
  have hl := l.isLt
  have hr := r.isLt
  match u with
  | ⟨0, _⟩ =>
    simp only [Nat.zero_mul, Nat.zero_add]
    rw [dif_pos hr]
    by_cases h : l.val < 64
    · rw [if_pos h, if_pos (by omega)]
    · rw [if_neg h, if_neg (by omega)]
  | ⟨1, _⟩ =>
    have e : 1 * 1024 + r.val - 1024 = r.val := by omega
    simp only [e]
    rw [dif_neg (by omega)]
    by_cases h : l.val < 64
    · rw [if_pos h, if_neg (by omega)]
    · rw [if_neg h, if_pos (by omega)]

theorem product_apply (a : Vec Ideal S2048x128 .bf16) (b : Vec Ideal S256x128 .bf16) (r : Fin 2048) (l : Fin 256) :
    k0_pay30 (F := Ideal) a b (ix2 r l) = ∑ x : Fin 128, a (ix2 r x) * b (ix2 l x) := by
  pointwise [k0_pay30]

theorem tile_cast (T : Vec Ideal S1x1x256x256 .f32) (r l : Fin 256) :
    shapeCast S256x256 T shapeCasts_S1x1x256x256_S256x256 (ix2 r l) = T (ix4 0 0 r l) := by
  pointwise []

theorem bias_add_apply (p : FVec Ideal S2048x256 .f32) (T : Fin 4 → Vec Ideal S1x1x256x256 .f32) (R : Fin 2048) (l : Fin 256) :
    k0_pay33 (F := Ideal) p (k0_pay31 (T 0)) (k0_pay32 (T 1)) (T 2) (T 3) (ix2 R l)
      = p (ix2 R l) + T ⟨R.val / 256 % 4, by omega⟩ (ix4 0 0 ⟨R.val % 256, by omega⟩ l) * biasScale := by
  have e : k0_pay33 (F := Ideal) p (k0_pay31 (T 0)) (k0_pay32 (T 1)) (T 2) (T 3) (ix2 R l)
      = p (ix2 R l) + concatenate S2048x256 0 (List.ofFn fun n : Fin 8 => (⟨S256x256, shapeCast S256x256 (T ⟨n.val % 4, by omega⟩)
          shapeCasts_S1x1x256x256_S256x256⟩ : (s : Shape) × (s.Idx → Ideal .f32)))
          concatenates_S256x256_S256x256_S256x256_S256x256_S256x256_S256x256_S256x256_S256x256_S2048x256_d0 (ix2 R l) * biasScale := rfl
  rw [e]
  refine congrArg (fun z => p (ix2 R l) + z * biasScale) ?_
  refine (Idealize.ShloMosaic.concatenate_ofFn_apply (t := S2048x256) (s₁ := S256x256) 0 (fun n : Fin 8 => shapeCast S256x256 (T ⟨n.val % 4, by omega⟩)
          shapeCasts_S1x1x256x256_S256x256) _ rfl 256 rfl
    (ix2 R l) ⟨R.val / 256, by omega⟩ rfl (ix2 ⟨R.val % 256, by omega⟩ l) rfl ?_).trans ?_
  · intro b hb
    match b with
    | 0 => exact absurd rfl hb
    | 1 => rfl
  exact tile_cast _ _ _

/-- The bias of the query in row `r` against key `key`. -/
def tileBias (w : Vec Ideal S1x5x256x256 .f32) (i : grid0.Coords) (r : Fin 1024) (key : Fin 4096) : EReal :=
  w (ix4 0 ⟨k0_off1 i (BitVec.ofNat 32 (key.val / 256)) (BitVec.ofNat 32 (r.val / 256)) 1 % 5, Nat.mod_lt _ (by decide)⟩
    ⟨r.val % 256, by omega⟩ ⟨key.val % 256, by omega⟩)

/-- The score of component `u`'s query in row `r` against key `key`. -/
def score (q : Vec Ideal S1024x128 .bf16) (k : Vec Ideal S4096x128 .bf16) (w : Vec Ideal S1x5x256x256 .f32) (i : grid0.Coords)
    (u : Fin 2) (r : Fin 1024) (key : Fin 4096) : EReal :=
  (∑ d : Fin 64, q (ix2 r ⟨u.val * 64 + d.val, by omega⟩) * scale * k (ix2 key ⟨u.val * 64 + d.val, by omega⟩)) + tileBias w i r key * biasScale

theorem slabScores_apply (q : Vec Ideal S1024x128 .bf16) (k : Vec Ideal S4096x128 .bf16) (w : Vec Ideal S1x5x256x256 .f32) (i : grid0.Coords)
    (u : Fin 2) (r : Fin 1024) (n : Nat) (hn : n < 16) (l : Fin 256) :
    slabScores q k w i n (ix2 ⟨u.val * 1024 + r.val, by omega⟩ l) = score q k w i u r ⟨256 * n + l.val, by omega⟩ := by
  have hr := r.isLt
  have hl := l.isLt
  unfold slabScores
  refine (bias_add_apply _ (fun a => biasTile w i n a.val) _ _).trans ?_
  rw [product_apply, Fin.sum_univ_two_halves 64 64 rfl]
  have hk : ∀ x : Fin 128, slabKeys k n (ix2 l x) = k (ix2 ⟨256 * n + l.val, by omega⟩ x) := fun x => by
    show k (ix2 ⟨(256 * n + l.val) % 4096, _⟩ x) = _
    congr 2
    exact Fin.ext (by show (256 * n + l.val) % 4096 = 256 * n + l.val; omega)
  simp only [stacked_apply, hk]
  unfold score
  have ht : biasTile w i n ((u.val * 1024 + r.val) / 256 % 4) (ix4 0 0 ⟨(u.val * 1024 + r.val) % 256, by omega⟩ l) = tileBias w i r ⟨256 * n + l.val, by omega⟩ := by
    have e1 : (u.val * 1024 + r.val) / 256 % 4 = r.val / 256 := by omega
    have e2 : (u.val * 1024 + r.val) % 256 = r.val % 256 := by omega
    have e3 : (256 * n + l.val) / 256 = n := by omega
    have e4 : (256 * n + l.val) % 256 = l.val := by omega
    unfold tileBias
    simp only [e1, e2, e3, e4]
    rfl
  refine congrArg₂ (· + ·) ?_ (congrArg (· * biasScale) ht)
  match u with
  | ⟨0, _⟩ =>
    have h1 : ∀ x : Fin 64, x.val / 64 = 0 := fun x => by omega
    have h2 : ∀ x : Fin 64, ¬ (64 + x.val) / 64 = 0 := fun x => by omega
    simp only [h1, h2, if_true, if_false, zero_mul, Finset.sum_const_zero, add_zero, Nat.zero_mul, Nat.zero_add]
  | ⟨1, _⟩ =>
    have h1 : ∀ x : Fin 64, ¬ x.val / 64 = 1 := fun x => by omega
    have h2 : ∀ x : Fin 64, (64 + x.val) / 64 = 1 := fun x => by omega
    simp only [h1, h2, if_true, if_false, zero_mul, Finset.sum_const_zero, zero_add, Nat.one_mul]

theorem bottom : Ideal.ofBits .f32 0xFF800000#32 = ⊥ := by
  simp [Ideal.ofBits, Ideal.ieee]

theorem step_apply (a : Vec Ideal S2048x256 .f32) (b : Vec Ideal S2048x128 .f32) (r : Fin 2048) (l : Fin 128) :
    k0_pay29 (F := Ideal) a b (ix2 r l) = max (b (ix2 r l)) (max (a (ix2 r ⟨l.val, by omega⟩)) (a (ix2 r ⟨128 + l.val, by omega⟩))) := by
  pointwise [k0_pay29]

theorem start_apply (r : Fin 2048) (l : Fin 128) : k0_pay24 (F := Ideal) (ix2 r l) = ⊥ := by
  rw [← bottom]
  pointwise [k0_pay24]

theorem spread_apply (b : Vec Ideal S2048x128 .f32) (r : Fin 2048) (l : Fin 128) :
    k0_pay123 (F := Ideal) b (ix2 r l) = Finset.univ.fold max ⊥ (fun x : Fin 128 => b (ix2 r x)) := by
  rw [← bottom]
  pointwise [k0_pay123]

theorem laneMax_le (q : Vec Ideal S1024x128 .bf16) (k : Vec Ideal S4096x128 .bf16) (w : Vec Ideal S1x5x256x256 .f32) (i : grid0.Coords) (r : Fin 2048) (l : Fin 128) (z : EReal) (n : Nat) :
    laneMax q k w i n (ix2 r l) ≤ z ↔ ∀ j, j < n → slabScores q k w i j (ix2 r ⟨l.val, by omega⟩) ≤ z ∧ slabScores q k w i j (ix2 r ⟨128 + l.val, by omega⟩) ≤ z := by
  induction n with
  | zero =>
    show k0_pay24 (F := Ideal) (ix2 r l) ≤ z ↔ _
    rw [start_apply]
    exact ⟨fun _ j hj => absurd hj (Nat.not_lt_zero j), fun _ => bot_le⟩
  | succ n ih =>
    show k0_pay29 (F := Ideal) (slabScores q k w i n) (laneMax q k w i n) (ix2 r l) ≤ z ↔ _
    rw [step_apply, max_le_iff, max_le_iff, ih]
    constructor
    · rintro ⟨h1, h2⟩ j hj
      rcases Nat.lt_succ_iff_lt_or_eq.mp hj with h | rfl
      · exact h1 j h
      · exact h2
    · exact fun h => ⟨fun j hj => h j (by omega), h n (by omega)⟩

theorem rowMax_le (q : Vec Ideal S1024x128 .bf16) (k : Vec Ideal S4096x128 .bf16) (w : Vec Ideal S1x5x256x256 .f32) (i : grid0.Coords) (u : Fin 2) (r : Fin 1024) (l : Fin 128) (z : EReal) :
    rowMax q k w i (ix2 ⟨u.val * 1024 + r.val, by omega⟩ l) ≤ z ↔ ∀ key : Fin 4096, score q k w i u r key ≤ z := by
  unfold rowMax
  rw [spread_apply, Finset.fold_max_le]
  simp only [laneMax_le, Finset.mem_univ, true_implies, bot_le, true_and]
  constructor
  · intro h key
    have hk := key.isLt
    have h' := h ⟨key.val % 128, by omega⟩ (key.val / 256) (by omega)
    rw [slabScores_apply q k w i u r _ (by omega), slabScores_apply q k w i u r _ (by omega)] at h'
    by_cases hh : key.val % 256 < 128
    · have e : (⟨256 * (key.val / 256) + key.val % 128, by omega⟩ : Fin 4096) = key := Fin.ext (by show 256 * (key.val / 256) + key.val % 128 = key.val; omega)
      have := h'.1
      simp only [e] at this
      exact this
    · have e : (⟨256 * (key.val / 256) + (128 + key.val % 128), by omega⟩ : Fin 4096) = key := Fin.ext (by show 256 * (key.val / 256) + (128 + key.val % 128) = key.val; omega)
      have := h'.2
      simp only [e] at this
      exact this
  · intro h x j hj
    rw [slabScores_apply q k w i u r j hj, slabScores_apply q k w i u r j hj]
    exact ⟨h _, h _⟩

theorem rowMax_lane (q : Vec Ideal S1024x128 .bf16) (k : Vec Ideal S4096x128 .bf16) (w : Vec Ideal S1x5x256x256 .f32) (i : grid0.Coords) (r : Fin 2048) (l l' : Fin 128) :
    rowMax q k w i (ix2 r l) = rowMax q k w i (ix2 r l') := by
  unfold rowMax
  rw [spread_apply, spread_apply]

theorem add_apply (a : Vec Ideal S2048x2048 .bf16) (b : Vec Ideal S2048x128 .bf16) (d : Vec Ideal S2048x256 .f32) (r : Fin 2048) (l : Fin 256) :
    k0_pay128 (F := Ideal) a b d (ix2 r l) = d (ix2 r l) + ∑ x : Fin 2048, a (ix2 r x) * (if h : l.val < 128 then b (ix2 x ⟨l.val, h⟩) else 1) := by
  pointwise [k0_pay128]

theorem clear_apply (r : Fin 2048) (l : Fin 256) : k0_pay124 (F := Ideal) (ix2 r l) = 0 := by
  pointwise [k0_pay124]

/-- The weight of key `key` for component `u`'s query in row `r`. -/
def weight (q : Vec Ideal S1024x128 .bf16) (k : Vec Ideal S4096x128 .bf16) (w : Vec Ideal S1x5x256x256 .f32) (i : grid0.Coords) (u : Fin 2) (r : Fin 1024) (key : Fin 4096) : EReal :=
  Ideal.exp2 (score q k w i u r key - rowMax q k w i (ix2 ⟨u.val * 1024 + r.val, by omega⟩ 0))

theorem trip_weight (q : Vec Ideal S1024x128 .bf16) (k : Vec Ideal S4096x128 .bf16) (w : Vec Ideal S1x5x256x256 .f32) (i : grid0.Coords) (u : Fin 2) (r : Fin 1024) (t : Nat) (ht : t < 2) (κ : Fin 2048) :
    weights (rowMax q k w i) (fun z => slab q k w i (8 * t + z.val)) (ix2 ⟨u.val * 1024 + r.val, by omega⟩ κ) = weight q k w i u r ⟨2048 * t + κ.val, by omega⟩ := by
  have hκ := κ.isLt
  rw [weights_apply]
  unfold weight
  rw [rowMax_lane q k w i _ _ 0]
  have e : slab q k w i (8 * t + κ.val / 256) (ix3 0 ⟨u.val * 1024 + r.val, by omega⟩ ⟨κ.val % 256, by omega⟩) = score q k w i u r ⟨2048 * t + κ.val, by omega⟩ := by
    refine (slabScores_apply q k w i u r (8 * t + κ.val / 256) (by omega) ⟨κ.val % 256, by omega⟩).trans (congrArg (score q k w i u r) (Fin.ext ?_))
    show 256 * (8 * t + κ.val / 256) + κ.val % 256 = 2048 * t + κ.val
    omega
  rw [e]

theorem acc_apply (q : Vec Ideal S1024x128 .bf16) (k v : Vec Ideal S4096x128 .bf16) (w : Vec Ideal S1x5x256x256 .f32) (i : grid0.Coords) (u : Fin 2) (r : Fin 1024) (l : Fin 256) :
    acc q k v w i 2 (ix2 ⟨u.val * 1024 + r.val, by omega⟩ l)
      = ∑ key : Fin 4096, weight q k w i u r key * (if h : l.val < 128 then v (ix2 key ⟨l.val, h⟩) else 1) := by
  have hv : ∀ (t : Nat) (ht : t < 2) (x : Fin 2048) (z : Fin 128), halfValues v t (ix2 x z) = v (ix2 ⟨2048 * t + x.val, by omega⟩ z) := fun t ht x z => by
    show v (ix2 ⟨(2048 * t + x.val) % 4096, _⟩ z) = _
    congr 2
    exact Fin.ext (by show (2048 * t + x.val) % 4096 = 2048 * t + x.val; omega)
  show k0_pay128 (F := Ideal) _ _ (k0_pay128 (F := Ideal) _ _ (k0_pay124 (F := Ideal))) _ = _
  rw [add_apply, add_apply, clear_apply, zero_add, Fin.sum_univ_two_halves 2048 2048 rfl]
  simp only [trip_weight q k w i u r 0 (by decide), trip_weight q k w i u r 1 (by decide), hv 0 (by decide), hv 1 (by decide)]
  simp only [Nat.mul_zero, Nat.mul_one, Nat.zero_add]

/-- The weight of the second attention. -/
def lamOf (L : Vec Ideal S4x64 .f32) : EReal :=
  Ideal.exp (∑ x : Fin 64, L (ix2 0 x) * L (ix2 1 x)) - Ideal.exp (∑ x : Fin 64, L (ix2 2 x) * L (ix2 3 x)) + Ideal.ofBits .f32 0x3F0E59D5#32

theorem difference_apply (a : Vec Ideal S2048x256 .f32) (L : Vec Ideal S4x64 .f32) (r : Fin 1024) (l : Fin 128) :
    k0_pay129 (F := Ideal) a L (ix2 r l)
      = Ideal.div (a (ix2 ⟨r.val, by omega⟩ ⟨l.val, by omega⟩)) (a (ix2 ⟨r.val, by omega⟩ ⟨128 + l.val, by omega⟩))
        - lamOf L * Ideal.div (a (ix2 ⟨1024 + r.val, by omega⟩ ⟨l.val, by omega⟩)) (a (ix2 ⟨1024 + r.val, by omega⟩ ⟨128 + l.val, by omega⟩)) := by
  unfold lamOf
  pointwise [k0_pay129]

theorem norm_apply (y : FVec Ideal S1024x128 .f32) (g : Vec Ideal S1x128 .f32) (r : Fin 1024) (l : Fin 128) :
    k0_pay1 (F := Ideal) y g (ix2 r l)
      = y (ix2 r l) * Ideal.rsqrt (Ideal.div (∑ x : Fin 128, y (ix2 r x) * y (ix2 r x)) (Ideal.ofBits .f32 0x43000000#32) + Ideal.ofBits .f32 0x358637BD#32)
        * g (ix2 0 l) * Ideal.ofBits .f32 0x3EE34C57#32 := by
  pointwise [k0_pay1]

/-- The difference of the two attentions before the norm. -/
def mixed (q : Vec Ideal S1024x128 .bf16) (k v : Vec Ideal S4096x128 .bf16) (w : Vec Ideal S1x5x256x256 .f32) (L : Vec Ideal S4x64 .f32) (i : grid0.Coords)
    (r : Fin 1024) (l : Fin 128) : EReal :=
  Ideal.div (∑ key : Fin 4096, weight q k w i 0 r key * v (ix2 key l)) (∑ key : Fin 4096, weight q k w i 0 r key)
    - lamOf L * Ideal.div (∑ key : Fin 4096, weight q k w i 1 r key * v (ix2 key l)) (∑ key : Fin 4096, weight q k w i 1 r key)

theorem mixed_apply (q : Vec Ideal S1024x128 .bf16) (k v : Vec Ideal S4096x128 .bf16) (w : Vec Ideal S1x5x256x256 .f32) (L : Vec Ideal S4x64 .f32) (i : grid0.Coords)
    (r : Fin 1024) (l : Fin 128) : k0_pay129 (F := Ideal) (acc q k v w i 2) L (ix2 r l) = mixed q k v w L i r l := by
  have hl := l.isLt
  have e0 : ∀ z : Fin 256, acc q k v w i 2 (ix2 ⟨r.val, by omega⟩ z) = ∑ key : Fin 4096, weight q k w i 0 r key * (if h : z.val < 128 then v (ix2 key ⟨z.val, h⟩) else 1) := fun z => by
    rw [← acc_apply q k v w i 0 r z]
    exact congrArg (fun R => acc q k v w i 2 (ix2 R z)) (Fin.ext (by show r.val = 0 * 1024 + r.val; omega))
  have e1 : ∀ z : Fin 256, acc q k v w i 2 (ix2 ⟨1024 + r.val, by omega⟩ z) = ∑ key : Fin 4096, weight q k w i 1 r key * (if h : z.val < 128 then v (ix2 key ⟨z.val, h⟩) else 1) := fun z => by
    rw [← acc_apply q k v w i 1 r z]
    exact congrArg (fun R => acc q k v w i 2 (ix2 R z)) (Fin.ext (by show 1024 + r.val = 1 * 1024 + r.val; omega))
  rw [difference_apply]
  unfold mixed
  rw [e0, e0, e1, e1]
  simp only [dif_pos hl, dif_neg (show ¬ 128 + l.val < 128 by omega), mul_one]

theorem block_apply (q : Vec Ideal S1024x128 .bf16) (k v : Vec Ideal S4096x128 .bf16) (w : Vec Ideal S1x5x256x256 .f32) (L : Vec Ideal S4x64 .f32)
    (g : Vec Ideal S1x128 .f32) (i : grid0.Coords) (r : Fin 1024) (l : Fin 128) :
    block q k v w L g i (ix2 r l)
      = mixed q k v w L i r l * Ideal.rsqrt (Ideal.div (∑ x : Fin 128, mixed q k v w L i r x * mixed q k v w L i r x) (Ideal.ofBits .f32 0x43000000#32)
          + Ideal.ofBits .f32 0x358637BD#32) * g (ix2 0 l) * Ideal.ofBits .f32 0x3EE34C57#32 := by
  unfold block
  rw [norm_apply]
  simp only [mixed_apply]

end Cert.Diff

end
-- ==== Proof.DiffRef.lean ====
/- The differential attention's reference, read element by element: the two softmaxes' difference weights the values, and the
   weighted values are normalized over their lanes. -/
module

public import proofs.«01_k».proof.Proof.Gen.Reference4Ideal.Read
public import proofs.«01_k».proof.Proof.DiffBias
public import Idealize.ShloMosaic.Lib.Pointwise

@[expose] public section

set_option maxRecDepth 16384

noncomputable section

namespace Cert.DiffRef

open Cert.Reference4Ideal Cert.Reference4Ideal.Gen Cert.Reference4Ideal.Read Cert.Diff
open Idealize.ShloMosaic Idealize.ShloMosaic.TcCoe Idealize.ShloMosaic.Pointwise

/-- The row of the bias table that a bucket reads. -/
abbrev tableRow (b : BitVec 32) : Fin 32 := ⟨min b.toInt.toNat 31, by omega⟩

/-- The place of a bucket among the reference's buckets. -/
abbrev bucketPlace (s key : Fin 4096) : S4096x4096x1.Idx := fun a => match a with
  | ⟨0, _⟩ => s
  | ⟨1, _⟩ => key
  | ⟨2, _⟩ => ⟨0, Nat.one_pos⟩

/-- How the table's rows are picked by the buckets. -/
abbrev pick (wf : GatherDims.WF S32x8 S4096x4096x1 S4096x4096x8 [2] [0] [] [0] [] 2 ![1, 8]) : GatherDims S32x8 S4096x4096x1 S4096x4096x8 where
  offsetDims := [2]
  collapsedSliceDims := [0]
  operandBatchingDims := []
  startIndicesBatchingDims := []
  startIndexMap := [0]
  indexVectorDim := 2
  sliceSizes := ![1, 8]
  wf := wf

theorem pick_row (wf) (idx : IVec S4096x4096x1 32) (s key : Fin 4096) (h : Fin 8) :
    (pick wf).start (ix3 s key h) idx 0 + (pick wf).batchCoord (ix3 s key h) 0 + (pick wf).offCoord (ix3 s key h) 0
      = min (idx (bucketPlace s key)).toInt.toNat 31 := by
  rw [GatherDims.batchCoord_eq_zero _ _ _ List.not_mem_nil,
    GatherDims.offCoord_eq_zero _ _ _ (fun q => ((GatherDims.mem_sKept _ _).mp q).1 (List.mem_singleton.mpr rfl))]
  unfold GatherDims.start
  rw [dif_pos (show (0 : Fin 2) ∈ (pick wf).startIndexMap from List.mem_singleton.mpr rfl)]
  have e : (pick wf).siIdx (ix3 s key h) ⟨List.idxOf (0 : Fin 2) (pick wf).startIndexMap,
      List.idxOf_lt_length_iff.2 (List.mem_singleton.mpr rfl)⟩ = bucketPlace s key := by
    funext b
    refine Fin.ext ?_
    match b with
    | ⟨0, _⟩ => rfl
    | ⟨1, _⟩ => rfl
    | ⟨2, _⟩ => rfl
  rw [e]
  rfl

theorem pick_column (wf) (idx : IVec S4096x4096x1 32) (s key : Fin 4096) (h : Fin 8) :
    (pick wf).start (ix3 s key h) idx 1 + (pick wf).batchCoord (ix3 s key h) 1 + (pick wf).offCoord (ix3 s key h) 1 = h.val := by
  have no : (1 : Fin 2) ∉ (pick wf).startIndexMap := fun q => absurd (List.mem_singleton.mp q) (by decide)
  rw [GatherDims.batchCoord_eq_zero _ _ _ List.not_mem_nil]
  unfold GatherDims.start GatherDims.offCoord
  rw [dif_neg no, dif_pos ((GatherDims.mem_sKept _ _).mpr ⟨no, List.not_mem_nil⟩)]
  show 0 + 0 + h.val = h.val
  omega

/-- The table's rows picked by the buckets: the element of a query and a key is the picked row's, in the head's column. -/
theorem table_apply (x : Vec Ideal S32x8 .f32) (idx : IVec S4096x4096x1 32) (s key : Fin 4096) (h : Fin 8) :
    Host.gather gather_S32x8_S4096x4096x1_S4096x4096x8_2_0_n_n_0_2_18 x idx (ix3 s key h)
      = x (ix2 (tableRow (idx (bucketPlace s key))) h) := by
  unfold Host.gather
  refine congrArg x ?_
  funext a
  refine Fin.ext ?_
  match a with
  | ⟨0, _⟩ => exact pick_row gather_S32x8_S4096x4096x1_S4096x4096x8_2_0_n_n_0_2_18.wf idx s key h
  | ⟨1, _⟩ => exact pick_column gather_S32x8_S4096x4096x1_S4096x4096x8_2_0_n_n_0_2_18.wf idx s key h

theorem rel_apply (s key : Fin 4096) : val_main_v19 (F := Ideal) (ix2 s key) = keyRel key.val s.val := by
  rw [val_main_v19_apply, val_main_v17_apply, val_main_v15_apply, val_main_v18_apply, val_main_v16_apply]
  rfl

theorem bucket_apply (i : S4096x4096.Idx) : val_main_v48 (F := Ideal) i = bucket (val_main_v19 (F := Ideal) i) := by
  have h20 : val_main_v20 (F := Ideal) i = IntOp.absi (val_main_v19 (F := Ideal) i) := rfl
  have h35 : val_main_v35 (F := Ideal) i = large (val_main_v20 (F := Ideal) i) := rfl
  have h43 : val_main_v43 (F := Ideal) i = bucket0 (val_main_v19 (F := Ideal) i) := by
    unfold bucket0
    rw [← h20, ← h35]
    rfl
  unfold bucket
  rw [← h43]
  rfl

variable (x0 : Vec Ideal S8x4096x3072 .f32) (x1 : Vec Ideal S32x8 .f32) (x2 x3 x4 x5 : Vec Ideal S64 .f32)
variable (x6 : Vec Ideal S128 .f32)

/-- The place of a score: batch, head, component, query, key. -/
abbrev place (b h : Fin 8) (c : Fin 2) (s key : Fin 4096) : S8x8x2x4096x4096.Idx := fun a => match a with
  | ⟨0, _⟩ => b
  | ⟨1, _⟩ => h
  | ⟨2, _⟩ => c
  | ⟨3, _⟩ => s
  | ⟨4, _⟩ => key

/-- The bias of a query and a key in a head. -/
def refBias (h : Fin 8) (s key : Fin 4096) : EReal := x1 (ix2 (tableRow (bucket (keyRel key.val s.val))) h)

/-- A query's biased score against a key in one of the two components. -/
def refScore (b h : Fin 8) (c : Fin 2) (s key : Fin 4096) : EReal :=
  (∑ d : Fin 64, x0 (ix3 b s ⟨h.val * 128 + c.val * 64 + d.val, by omega⟩)
    * x0 (ix3 b key ⟨1024 + (h.val * 128 + c.val * 64 + d.val), by omega⟩)) * Ideal.ofBits .f32 0x3E000000#32
    + refBias x1 h s key

theorem bias_apply (h : Fin 8) (s key : Fin 4096) (i : S8x4096x4096.Idx) (h0 : (i 0).val = h.val) (h1 : (i 1).val = s.val)
    (h2 : (i 2).val = key.val) : val_main_v51 (F := Ideal) x1 i = refBias x1 h s key := by
  rw [val_main_v51_apply]
  have e : idx_main_v51 i = ix3 s key h := by
    funext a
    apply Fin.ext
    match a with
    | ⟨0, _⟩ => exact h1
    | ⟨1, _⟩ => exact h2
    | ⟨2, _⟩ => exact h0
  rw [e]
  unfold val_main_v50 refBias
  rw [table_apply, val_main_v49_apply]
  have e' : idx_main_v49 (bucketPlace s key) = ix2 s key := by
    funext a
    apply Fin.ext
    match a with
    | ⟨0, _⟩ => rfl
    | ⟨1, _⟩ => rfl
  rw [e', bucket_apply, rel_apply]

theorem query_apply (i : S8x4096x8x2x64.Idx) (b : Fin 8) (s : Fin 4096) (h : Fin 8) (c : Fin 2) (d : Fin 64)
    (h0 : (i 0).val = b.val) (h1 : (i 1).val = s.val) (h2 : (i 2).val = h.val) (h3 : (i 3).val = c.val) (h4 : (i 4).val = d.val) :
    val_main_v1 (F := Ideal) x0 i = x0 (ix3 b s ⟨h.val * 128 + c.val * 64 + d.val, by omega⟩) := by
  rw [val_main_v1_apply, val_main_v0_apply]
  congr 1
  funext a
  apply Fin.ext
  have hb := b.isLt
  have hs := s.isLt
  have hh := h.isLt
  have hc := c.isLt
  have hd := d.isLt
  match a with
  | ⟨0, _⟩ => show (((((i 0).val * 4096 + (i 1).val) * 8 + (i 2).val) * 2 + (i 3).val) * 64 + (i 4).val) / 4194304 = b.val; rw [h0, h1, h2, h3, h4]; omega
  | ⟨1, _⟩ => show (((((i 0).val * 4096 + (i 1).val) * 8 + (i 2).val) * 2 + (i 3).val) * 64 + (i 4).val) / 1024 % 4096 = s.val; rw [h0, h1, h2, h3, h4]; omega
  | ⟨2, _⟩ => show (((((i 0).val * 4096 + (i 1).val) * 8 + (i 2).val) * 2 + (i 3).val) * 64 + (i 4).val) % 1024 = h.val * 128 + c.val * 64 + d.val; rw [h0, h1, h2, h3, h4]; omega

theorem key_apply (i : S8x4096x8x2x64.Idx) (b : Fin 8) (s : Fin 4096) (h : Fin 8) (c : Fin 2) (d : Fin 64)
    (h0 : (i 0).val = b.val) (h1 : (i 1).val = s.val) (h2 : (i 2).val = h.val) (h3 : (i 3).val = c.val) (h4 : (i 4).val = d.val) :
    val_main_v3 (F := Ideal) x0 i = x0 (ix3 b s ⟨1024 + (h.val * 128 + c.val * 64 + d.val), by omega⟩) := by
  rw [val_main_v3_apply, val_main_v2_apply]
  congr 1
  funext a
  apply Fin.ext
  have hb := b.isLt
  have hs := s.isLt
  have hh := h.isLt
  have hc := c.isLt
  have hd := d.isLt
  match a with
  | ⟨0, _⟩ => show (((((i 0).val * 4096 + (i 1).val) * 8 + (i 2).val) * 2 + (i 3).val) * 64 + (i 4).val) / 4194304 = b.val; rw [h0, h1, h2, h3, h4]; omega
  | ⟨1, _⟩ => show (((((i 0).val * 4096 + (i 1).val) * 8 + (i 2).val) * 2 + (i 3).val) * 64 + (i 4).val) / 1024 % 4096 = s.val; rw [h0, h1, h2, h3, h4]; omega
  | ⟨2, _⟩ => show 1024 + (((((i 0).val * 4096 + (i 1).val) * 8 + (i 2).val) * 2 + (i 3).val) * 64 + (i 4).val) % 1024 = 1024 + (h.val * 128 + c.val * 64 + d.val); rw [h0, h1, h2, h3, h4]; omega

theorem value_apply (i : S8x4096x8x128.Idx) (b : Fin 8) (s : Fin 4096) (h : Fin 8) (l : Fin 128)
    (h0 : (i 0).val = b.val) (h1 : (i 1).val = s.val) (h2 : (i 2).val = h.val) (h3 : (i 3).val = l.val) :
    val_main_v5 (F := Ideal) x0 i = x0 (ix3 b s ⟨2048 + (h.val * 128 + l.val), by omega⟩) := by
  rw [val_main_v5_apply, val_main_v4_apply]
  congr 1
  funext a
  apply Fin.ext
  have hb := b.isLt
  have hs := s.isLt
  have hh := h.isLt
  have hl := l.isLt
  match a with
  | ⟨0, _⟩ => show ((((i 0).val * 4096 + (i 1).val) * 8 + (i 2).val) * 128 + (i 3).val) / 4194304 = b.val; rw [h0, h1, h2, h3]; omega
  | ⟨1, _⟩ => show ((((i 0).val * 4096 + (i 1).val) * 8 + (i 2).val) * 128 + (i 3).val) / 1024 % 4096 = s.val; rw [h0, h1, h2, h3]; omega
  | ⟨2, _⟩ => show 2048 + ((((i 0).val * 4096 + (i 1).val) * 8 + (i 2).val) * 128 + (i 3).val) % 1024 = 2048 + (h.val * 128 + l.val); rw [h0, h1, h2, h3]; omega

theorem refScore_apply (b h : Fin 8) (c : Fin 2) (s key : Fin 4096) :
    val_main_v57 (F := Ideal) x0 x1 (place b h c s key) = refScore x0 x1 b h c s key := by
  rw [val_main_v57_apply, val_main_v54_apply, val_main_v52_apply, val_main_v53_apply, val_main_cst_13_apply, val_main_v56_apply, val_main_v55_apply,
    bias_apply x1 h s key _ rfl rfl rfl]
  show (∑ _, _) * _ + _ = _
  unfold refScore
  refine congrArg (· * Ideal.ofBits .f32 0x3E000000#32 + _) (Finset.sum_congr rfl fun d _ => ?_)
  rw [query_apply x0 _ b s h c d rfl rfl rfl rfl rfl, key_apply x0 _ b key h c d rfl rfl rfl rfl rfl]

/-- A query's place among the row statistics. -/
abbrev rowPlace (b h : Fin 8) (c : Fin 2) (s : Fin 4096) : S8x8x2x4096.Idx := ix4 b h c s

/-- A query's row maximum, as the reference computes it. -/
def refMax (b h : Fin 8) (c : Fin 2) (s : Fin 4096) : EReal := val_main_v60 (F := Ideal) x0 x1 (rowPlace b h c s)

theorem refMax_le (b h : Fin 8) (c : Fin 2) (s : Fin 4096) (z : EReal) :
    refMax x0 x1 b h c s ≤ z ↔ ∀ key, refScore x0 x1 b h c s key ≤ z := by
  have hbot : Ideal.ofBits .f32 0xFF800000#32 = ⊥ := by simp [Ideal.ofBits, Ideal.ieee]
  unfold refMax
  rw [val_main_v60_apply, val_main_v59_apply, val_main_cst_15_apply]
  show max (Ideal.ofBits .f32 0xFF800000#32) _ ≤ z ↔ _
  rw [hbot, max_le_iff]
  unfold val_main_v58
  simp only [← refScore_apply]
  generalize val_main_v57 (F := Ideal) x0 x1 = y
  have hr : S8x8x2x4096x4096.Reduces [4] S8x8x2x4096 := by decide
  rw [Host.reduce_eq_fold_single _ y _ _ hr]
  show ⊥ ≤ z ∧ Finset.univ.fold max (Ideal.ofBits .f32 0xFF800000#32) _ ≤ z ↔ _
  rw [hbot, Finset.fold_max_le]
  simp only [bot_le, true_and, Finset.mem_univ, true_implies]
  refine forall_congr' fun key => ?_
  have e : hr.lift (ix4 b h c s) key = place b h c s key := by
    funext a
    apply Fin.ext
    match a with
    | ⟨0, _⟩ => rfl
    | ⟨1, _⟩ => rfl
    | ⟨2, _⟩ => rfl
    | ⟨3, _⟩ => rfl
    | ⟨4, _⟩ => rfl
  show y (hr.lift (ix4 b h c s) key) ≤ z ↔ _
  rw [e]

theorem refExp_apply (b h : Fin 8) (c : Fin 2) (s key : Fin 4096) :
    val_main_v64 (F := Ideal) x0 x1 (place b h c s key) = Ideal.exp (refScore x0 x1 b h c s key - refMax x0 x1 b h c s) := by
  rw [val_main_v64_apply, val_main_v63_apply, refScore_apply, val_main_v62_apply, val_main_v61_apply]
  have e : idx_main_v61 (idx_main_v62 (place b h c s key)) = rowPlace b h c s := by
    funext a
    apply Fin.ext
    match a with
    | ⟨0, _⟩ => rfl
    | ⟨1, _⟩ => rfl
    | ⟨2, _⟩ => rfl
    | ⟨3, _⟩ => rfl
  rw [e]
  rfl

theorem zero_bits : Ideal.ofBits .f32 0x00000000#32 = 0 := by simp [Ideal.ofBits, Ideal.ieee]

theorem refSum_apply (b h : Fin 8) (c : Fin 2) (s : Fin 4096) :
    val_main_v65 (F := Ideal) x0 x1 (rowPlace b h c s) = ∑ key, Ideal.exp (refScore x0 x1 b h c s key - refMax x0 x1 b h c s) := by
  rw [val_main_v65_apply, val_main_cst_16_apply]
  show Ideal.ofBits .f32 0x00000000#32 + _ = _
  rw [zero_bits, zero_add]
  refine Finset.sum_congr rfl fun key _ => ?_
  rw [← refExp_apply]
  congr 1

/-- A query's softmax weight on a key in one of the two components. -/
def refWeight (b h : Fin 8) (c : Fin 2) (s key : Fin 4096) : EReal :=
  Ideal.div (Ideal.exp (refScore x0 x1 b h c s key - refMax x0 x1 b h c s))
    (∑ j, Ideal.exp (refScore x0 x1 b h c s j - refMax x0 x1 b h c s))

theorem refWeight_apply (b h : Fin 8) (c : Fin 2) (s key : Fin 4096) (i : S8x8x2x4096x4096.Idx) (h0 : (i 0).val = b.val)
    (h1 : (i 1).val = h.val) (h2 : (i 2).val = c.val) (h3 : (i 3).val = s.val) (h4 : (i 4).val = key.val) :
    val_main_v68 (F := Ideal) x0 x1 i = refWeight x0 x1 b h c s key := by
  have hi : i = place b h c s key := by
    funext a
    apply Fin.ext
    match a with
    | ⟨0, _⟩ => exact h0
    | ⟨1, _⟩ => exact h1
    | ⟨2, _⟩ => exact h2
    | ⟨3, _⟩ => exact h3
    | ⟨4, _⟩ => exact h4
  rw [hi, val_main_v68_apply, refExp_apply, val_main_v67_apply, val_main_v66_apply]
  have e : idx_main_v66 (idx_main_v67 (place b h c s key)) = rowPlace b h c s := by
    funext a
    apply Fin.ext
    match a with
    | ⟨0, _⟩ => rfl
    | ⟨1, _⟩ => rfl
    | ⟨2, _⟩ => rfl
    | ⟨3, _⟩ => rfl
  rw [e, refSum_apply]
  rfl

/-- The weight of the second softmax. -/
def refLam : EReal :=
  Ideal.exp (∑ d : Fin 64, x2 (ix1 d) * x3 (ix1 d)) - Ideal.exp (∑ d : Fin 64, x4 (ix1 d) * x5 (ix1 d)) + Ideal.ofBits .f32 0x3F0E59D5#32

/-- A sum over the places of a row of 64. -/
theorem sum_row (f : S64.Idx → EReal) : ∑ j : S64.Idx, f j = ∑ d : Fin 64, f (ix1 d) := by
  refine Fintype.sum_equiv ⟨fun j => j 0, fun d => ix1 d, fun j => ?_, fun d => rfl⟩ _ _ fun j => ?_
  · funext a
    match a with
    | ⟨0, _⟩ => rfl
  · refine congrArg f ?_
    funext a
    match a with
    | ⟨0, _⟩ => rfl

theorem refLam_apply (i : S_.Idx) : val_main_v13 (F := Ideal) x2 x3 x4 x5 i = refLam x2 x3 x4 x5 := by
  rw [val_main_v13_apply, val_main_v12_apply, val_main_v8_apply, val_main_v11_apply, val_main_v7_apply, val_main_v10_apply,
    val_main_cst_1_apply, val_main_cst_apply, val_main_cst_0_apply]
  rw [sum_row, sum_row]
  show Ideal.exp (Ideal.ofBits .f32 0x00000000#32 + _) - Ideal.exp (Ideal.ofBits .f32 0x00000000#32 + _) + _ = _
  rw [zero_bits, zero_add, zero_add]
  rfl

/-- A query's weighted values in a lane, by the difference of the two softmaxes. -/
def refMixed (b h : Fin 8) (s : Fin 4096) (l : Fin 128) : EReal :=
  ∑ key : Fin 4096, x0 (ix3 b key ⟨2048 + (h.val * 128 + l.val), by omega⟩)
    * (refWeight x0 x1 b h 0 s key - refLam x2 x3 x4 x5 * refWeight x0 x1 b h 1 s key)

theorem refMixed_apply (b h : Fin 8) (s : Fin 4096) (l : Fin 128) (i : S8x4096x8x128.Idx) (h0 : (i 0).val = b.val)
    (h1 : (i 1).val = s.val) (h2 : (i 2).val = h.val) (h3 : (i 3).val = l.val) :
    val_main_v77 (F := Ideal) x0 x1 x2 x3 x4 x5 i = refMixed x0 x1 x2 x3 x4 x5 b h s l := by
  have hb := b.isLt
  have hs := s.isLt
  have hh := h.isLt
  rw [val_main_v77_apply, val_main_v76_apply]
  unfold refMixed
  refine Finset.sum_congr rfl fun key _ => ?_
  have hk := key.isLt
  rw [value_apply x0 (lidx_main_v76 (idx_main_v77 i) key) b key h l h0 rfl h2 h3, val_main_v75_apply, val_main_v70_apply, val_main_v69_apply, val_main_v74_apply,
    val_main_v73_apply, refLam_apply, val_main_v72_apply, val_main_v71_apply,
    refWeight_apply x0 x1 b h 0 s key _ ?_ ?_ rfl ?_ ?_, refWeight_apply x0 x1 b h 1 s key _ ?_ ?_ rfl ?_ ?_]
  · rfl
  all_goals first
    | (show ((((i 0).val * 8 + (i 2).val) * 4096 + (i 1).val) * 4096 + key.val) / 134217728 = b.val; rw [h0, h1, h2]; omega)
    | (show ((((i 0).val * 8 + (i 2).val) * 4096 + (i 1).val) * 4096 + key.val) / 16777216 % 8 = h.val; rw [h0, h1, h2]; omega)
    | (show ((((i 0).val * 8 + (i 2).val) * 4096 + (i 1).val) * 4096 + key.val) / 4096 % 4096 = s.val; rw [h0, h1, h2]; omega)
    | (show ((((i 0).val * 8 + (i 2).val) * 4096 + (i 1).val) * 4096 + key.val) % 4096 = key.val; rw [h0, h1, h2]; omega)

/-- The normalization of a row: the lane's value over the row's root mean square, scaled by the gain and by a constant. -/
def normed (f : Fin 128 → EReal) (g : EReal) (l : Fin 128) : EReal :=
  f l * Ideal.rsqrt (Ideal.div (∑ x : Fin 128, f x * f x) (Ideal.ofBits .f32 0x43000000#32) + Ideal.ofBits .f32 0x358637BD#32) * g
    * Ideal.ofBits .f32 0x3EE34C57#32

/-- The reference's result at query `s` of batch `b`, head `h`, lane `l`. -/
theorem reference_apply (b h : Fin 8) (s : Fin 4096) (l : Fin 128) (n : Fin 32768) (j : Fin 1024)
    (hn : n.val = b.val * 4096 + s.val) (hj : j.val = h.val * 128 + l.val) :
    val_main_v94 (F := Ideal) x0 x1 x2 x3 x4 x5 x6 (ix2 n j)
      = normed (refMixed x0 x1 x2 x3 x4 x5 b h s) (x6 (ix1 l)) l := by
  have hb := b.isLt
  have hs := s.isLt
  have hh := h.isLt
  have hl := l.isLt
  have t0 : (n.val * 1024 + j.val) / 4194304 = b.val := by omega
  have t1 : (n.val * 1024 + j.val) / 1024 % 4096 = s.val := by omega
  have t2 : (n.val * 1024 + j.val) / 128 % 8 = h.val := by omega
  have t3 : (n.val * 1024 + j.val) % 128 = l.val := by omega
  have e : idx_main_v93 (ix2 n j) = ix4 b s h l := by
    funext a
    apply Fin.ext
    match a with
    | ⟨0, _⟩ => exact t0
    | ⟨1, _⟩ => exact t1
    | ⟨2, _⟩ => exact t2
    | ⟨3, _⟩ => exact t3
  have e6 : idx_main_v88 (idx_main_v89 (ix4 b s h l)) = ix1 l := by
    funext a
    apply Fin.ext
    match a with
    | ⟨0, _⟩ => rfl
  rw [val_main_v94_apply]
  show val_main_v93 (F := Ideal) x0 x1 x2 x3 x4 x5 x6 (ix2 n j) = _
  rw [val_main_v93_apply, e, val_main_v92_apply, val_main_v90_apply, val_main_v87_apply, val_main_v91_apply, val_main_cst_20_apply,
    val_main_v89_apply, val_main_v88_apply, e6, val_main_v86_apply, val_main_v85_apply, val_main_v84_apply, val_main_v82_apply,
    val_main_v83_apply, val_main_cst_19_apply, val_main_v81_apply, val_main_cst_18_apply, val_main_v80_apply, val_main_v79_apply,
    val_main_cst_17_apply, refMixed_apply x0 x1 x2 x3 x4 x5 b h s l _ rfl rfl rfl rfl]
  show _ * Ideal.rsqrt (Ideal.div (Ideal.ofBits .f32 0x00000000#32 + _) _ + _) * _ * _ = _
  rw [zero_bits, zero_add]
  unfold normed
  congr 4
  refine congrArg (fun y => Ideal.div y (Ideal.ofBits .f32 0x43000000#32) + Ideal.ofBits .f32 0x358637BD#32) (Finset.sum_congr rfl fun x _ => ?_)
  rw [val_main_v78_apply, refMixed_apply x0 x1 x2 x3 x4 x5 b h s x _ rfl rfl rfl rfl]
  rfl

end Cert.DiffRef

end
-- ==== Proof.DiffScalar.lean ====
/- The scalar mathematics of the differential attention: at real scores the weights in base two are the weights in base e, and the
   difference of the two quotients is the values' sum weighted by the difference of the two softmaxes. -/
module

public import proofs.«01_k».proof.Proof.AttnScalar

@[expose] public section

noncomputable section

namespace Cert.Diff

open Idealize.ShloMosaic
open Cert.Attention (greatest sum_coe div_real)

theorem two_power (x y : ℝ) :
    Ideal.exp2 (((Real.log 2)⁻¹ * x : ℝ) - ((Real.log 2)⁻¹ * y : ℝ)) = ((Real.exp (x - y) : ℝ) : EReal) := by
  rw [← EReal.coe_sub, Ideal.exp2_coe]
  congr 1
  refine (Real.rpow_def_of_pos two_pos _).trans (congrArg Real.exp ?_)
  have := (Real.log_pos one_lt_two).ne'
  field_simp

/-- A row's weights, in both bases, are the same positive reals. -/
theorem row_weights {n : Nat} [NeZero n] (f : Fin n → ℝ) (S T : Fin n → EReal) (M m : EReal)
    (hS : ∀ i, S i = (((Real.log 2)⁻¹ * f i : ℝ) : EReal)) (hM : ∀ z, M ≤ z ↔ ∀ i, S i ≤ z)
    (hT : ∀ i, T i = ((f i : ℝ) : EReal)) (hm : ∀ z, m ≤ z ↔ ∀ i, T i ≤ z) :
    ∃ e : Fin n → ℝ, (∀ i, 0 < e i) ∧ (∀ i, Ideal.exp2 (S i - M) = (e i : EReal)) ∧ ∀ i, Ideal.exp (T i - m) = (e i : EReal) := by
  have hlog : 0 < (Real.log 2)⁻¹ := inv_pos.2 (Real.log_pos one_lt_two)
  have eM := greatest _ hlog f M (fun z => by rw [hM]; simp only [hS])
  have em := greatest 1 one_pos f m (fun z => by rw [hm]; simp only [hT, one_mul])
  refine ⟨fun i => Real.exp (f i - Finset.univ.sup' Finset.univ_nonempty f), fun i => Real.exp_pos _, fun i => ?_, fun i => ?_⟩
  · rw [hS, eM, two_power]
  · rw [hT, em, one_mul, ← EReal.coe_sub, Ideal.exp_coe]

/-- The difference of two attentions. -/
theorem mix {n : Nat} [NeZero n] (e e' v : Fin n → ℝ) (he : ∀ i, 0 < e i) (he' : ∀ i, 0 < e' i) (c : ℝ) :
    Ideal.div (∑ i, (e i : EReal) * (v i : EReal)) (∑ i, (e i : EReal)) - (c : EReal) * Ideal.div (∑ i, (e' i : EReal) * (v i : EReal)) (∑ i, (e' i : EReal))
      = ∑ i, (v i : EReal) * (Ideal.div (e i : EReal) (∑ j, (e j : EReal)) - (c : EReal) * Ideal.div (e' i : EReal) (∑ j, (e' j : EReal))) := by
  have hs : 0 < ∑ i, e i := Finset.sum_pos (fun i _ => he i) Finset.univ_nonempty
  have hs' : 0 < ∑ i, e' i := Finset.sum_pos (fun i _ => he' i) Finset.univ_nonempty
  simp only [← EReal.coe_mul, sum_coe]
  simp only [div_real _ _ hs, div_real _ _ hs', ← EReal.coe_mul, ← EReal.coe_sub, sum_coe]
  refine congrArg _ ?_
  rw [Finset.sum_mul, Finset.sum_mul, Finset.mul_sum, ← Finset.sum_sub_distrib]
  refine Finset.sum_congr rfl fun i _ => ?_
  ring

/-- One element of the difference, at real scores. -/
theorem difference {n : Nat} [NeZero n] (f f' v : Fin n → ℝ) (c : ℝ) (S T S' T' : Fin n → EReal) (M m M' m' : EReal) (V : Fin n → EReal) (C : EReal)
    (hV : ∀ i, V i = (v i : EReal)) (hC : C = (c : EReal))
    (hS : ∀ i, S i = (((Real.log 2)⁻¹ * f i : ℝ) : EReal)) (hM : ∀ z, M ≤ z ↔ ∀ i, S i ≤ z)
    (hT : ∀ i, T i = ((f i : ℝ) : EReal)) (hm : ∀ z, m ≤ z ↔ ∀ i, T i ≤ z)
    (hS' : ∀ i, S' i = (((Real.log 2)⁻¹ * f' i : ℝ) : EReal)) (hM' : ∀ z, M' ≤ z ↔ ∀ i, S' i ≤ z)
    (hT' : ∀ i, T' i = ((f' i : ℝ) : EReal)) (hm' : ∀ z, m' ≤ z ↔ ∀ i, T' i ≤ z) :
    Ideal.div (∑ i, Ideal.exp2 (S i - M) * V i) (∑ i, Ideal.exp2 (S i - M)) - C * Ideal.div (∑ i, Ideal.exp2 (S' i - M') * V i) (∑ i, Ideal.exp2 (S' i - M'))
      = ∑ i, V i * (Ideal.div (Ideal.exp (T i - m)) (∑ j, Ideal.exp (T j - m)) - C * Ideal.div (Ideal.exp (T' i - m')) (∑ j, Ideal.exp (T' j - m'))) := by
  obtain ⟨e, h0, h1, h2⟩ := row_weights f S T M m hS hM hT hm
  obtain ⟨e', h0', h1', h2'⟩ := row_weights f' S' T' M' m' hS' hM' hT' hm'
  simp only [h1, h2, h1', h2', hV, hC]
  exact mix e e' v h0 h0' c

/-- A kernel's score with its bias, at reals. -/
theorem kernel_score {d : Nat} (q k : Fin d → ℝ) (b : ℝ) :
    (∑ x, (q x : EReal) * (((8 * Real.log 2)⁻¹ : ℝ) : EReal) * (k x : EReal)) + (b : EReal) * (((Real.log 2)⁻¹ : ℝ) : EReal)
      = (((Real.log 2)⁻¹ * ((∑ x, q x * k x) * 8⁻¹ + b) : ℝ) : EReal) := by
  simp only [← EReal.coe_mul]
  rw [sum_coe, ← EReal.coe_add]
  refine congrArg _ ?_
  rw [mul_add, Finset.sum_mul, Finset.mul_sum, mul_comm b]
  refine congrArg (· + (Real.log 2)⁻¹ * b) (Finset.sum_congr rfl fun x _ => ?_)
  rw [mul_inv]
  ring

/-- A reference's score with its bias, at reals. -/
theorem reference_score {d : Nat} (q k : Fin d → ℝ) (b : ℝ) :
    (∑ x, (q x : EReal) * (k x : EReal)) * ((8⁻¹ : ℝ) : EReal) + (b : EReal) = (((∑ x, q x * k x) * 8⁻¹ + b : ℝ) : EReal) := by
  simp only [← EReal.coe_mul]
  rw [sum_coe, ← EReal.coe_mul, ← EReal.coe_add]

end Cert.Diff

end
-- ==== Proof.DiffArray.lean ====
/- The differential attention: the result array after the kernel's run, read element by element, is the reference's result when the
   packed rows, the bias table and the four vectors are finite. -/
module

public import proofs.«01_k».proof.Proof.DiffRow
public import proofs.«01_k».proof.Proof.DiffRef
public import proofs.«01_k».proof.Proof.DiffTile
public import proofs.«01_k».proof.Proof.DiffScalar
public import proofs.«01_k».proof.Proof.Gen.Kernel4Ideal.Value
public import proofs.«01_k».proof.Proof.Gen.Pre_diff_finite
public import Idealize.ShloMosaic.Lib.ReduceAll
public import Idealize.ShloMosaic.Lib.Pipeline.Value
public import Idealize.ShloMosaic.Lib.StableHlo.Run
public import Idealize.ShloMosaic.Lib.Tactic

@[expose] public section

set_option maxRecDepth 16384

noncomputable section

namespace Cert.Diff

open Cert.Kernel4Ideal Cert.Kernel4Ideal.Gen Cert.DiffRef
open Idealize.ShloMosaic Idealize.ShloMosaic.TcCoe Idealize.ShloMosaic.Pointwise
open Idealize.ShloMosaic.Pipeline (Dat)

/-- An array of real numbers. -/
abbrev AllReal {s : Shape} (x : Vec Ideal s .f32) : Prop := ∀ i, ∃ r : ℝ, x i = (r : EReal)

/-- What the precondition says: every element of the first six arguments is a real number. -/
theorem real_args (x0 : Vec Ideal S8x4096x3072 .f32) (x1 : Vec Ideal S32x8 .f32) (x2 x3 x4 x5 : Vec Ideal S64 .f32) (x6 : Vec Ideal S128 .f32)
    (h : Cert.Pre_diff_finite.fn (F := Ideal) x0 x1 x2 x3 x4 x5 x6 = fun _ => 1#1) :
    AllReal x0 ∧ AllReal x1 ∧ AllReal x2 ∧ AllReal x3 ∧ AllReal x4 ∧ AllReal x5 := by
  have e := congrFun h (Shape.Idx.first Cert.Pre_diff_finite.Facts.h_S_)
  haveI : Subsingleton Cert.Pre_diff_finite.S_.Idx := ⟨fun a b => funext fun k => k.elim0⟩
  obtain ⟨e4, e5⟩ := IntOp.andi_eq_one.1 e
  obtain ⟨e3, e4⟩ := IntOp.andi_eq_one.1 e4
  obtain ⟨e2, e3⟩ := IntOp.andi_eq_one.1 e3
  obtain ⟨e1, e2⟩ := IntOp.andi_eq_one.1 e2
  obtain ⟨e0, e1⟩ := IntOp.andi_eq_one.1 e1
  exact ⟨fun i => Cert.Attention.real_of_finite _ (Host.reduce_andi_all _ _ _ _ _ e0 i), fun i => Cert.Attention.real_of_finite _ (Host.reduce_andi_all _ _ _ _ _ e1 i),
    fun i => Cert.Attention.real_of_finite _ (Host.reduce_andi_all _ _ _ _ _ e2 i), fun i => Cert.Attention.real_of_finite _ (Host.reduce_andi_all _ _ _ _ _ e3 i),
    fun i => Cert.Attention.real_of_finite _ (Host.reduce_andi_all _ _ _ _ _ e4 i), fun i => Cert.Attention.real_of_finite _ (Host.reduce_andi_all _ _ _ _ _ e5 i)⟩

theorem scale_eq : scale = (((8 * Real.log 2)⁻¹ : ℝ) : EReal) := rfl

theorem biasScale_eq : biasScale = (((Real.log 2)⁻¹ : ℝ) : EReal) := rfl

theorem eighth : Ideal.ofBits .f32 0x3E000000#32 = ((8⁻¹ : ℝ) : EReal) := by
  simp [Ideal.ofBits, Ideal.ieee, -EReal.coe_mul]
  norm_num

theorem start_real : Ideal.ofBits .f32 0x3F0E59D5#32 = ((9329109 / 16777216 : ℝ) : EReal) := by
  simp [Ideal.ofBits, Ideal.ieee, -EReal.coe_mul]
  norm_num

/-- The second softmax's weight is a real number when the four vectors are. -/
theorem refLam_real (x2 x3 x4 x5 : Vec Ideal S64 .f32) (h2 : AllReal x2) (h3 : AllReal x3) (h4 : AllReal x4) (h5 : AllReal x5) :
    ∃ r : ℝ, refLam x2 x3 x4 x5 = (r : EReal) := by
  choose y2 e2 using h2
  choose y3 e3 using h3
  choose y4 e4 using h4
  choose y5 e5 using h5
  refine ⟨Real.exp (∑ d : Fin 64, y2 (ix1 d) * y3 (ix1 d)) - Real.exp (∑ d : Fin 64, y4 (ix1 d) * y5 (ix1 d)) + 9329109 / 16777216, ?_⟩
  unfold refLam
  simp only [e2, e3, e4, e5, ← EReal.coe_mul]
  rw [Cert.Attention.sum_coe, Cert.Attention.sum_coe, Ideal.exp_coe, Ideal.exp_coe, start_real, ← EReal.coe_sub, ← EReal.coe_add]

/-- Which bias tile a block's query rows take against a slab of keys, as an integer. -/
theorem tile_index (i : grid0.Coords) (n : Fin 16) (a : Fin 4) :
    ((k0_off1 i (BitVec.ofNat 32 n.val) (BitVec.ofNat 32 a.val) 1 : Nat) : Int) = max (-2) (min 2 ((n.val : Int) - (4 * (i 2).val + a.val : Nat))) + 2 := by
  have key : ∀ (q : Fin 4) (n : Fin 16) (a : Fin 4),
      (((Scalar.indexCast (Scalar.addi (Scalar.minsi 2#32 (Scalar.maxsi 4294967294#32 (Scalar.subi (BitVec.ofNat 32 n.val)
        (Scalar.addi (Scalar.muli 4#32 (BitVec.ofNat 32 q.val)) (BitVec.ofNat 32 a.val))))) 2#32) : Index).toNat : Nat) : Int)
        = max (-2) (min 2 ((n.val : Int) - (4 * q.val + a.val : Nat))) + 2 := by decide +kernel
  exact key (i 2) n a

variable (x0 : Vec Ideal S8x4096x3072 .f32) (x1 : Vec Ideal S32x8 .f32) (x2 x3 x4 x5 : Vec Ideal S64 .f32) (x6 : Vec Ideal S128 .f32)

theorem bias_eq (w : Vec Ideal S1x5x256x256 .f32) (i : grid0.Coords) (h : Fin 8) (r : Fin 1024) (s : Fin 4096)
    (hs : s.val = (i 2).val * 1024 + r.val)
    (hw : ∀ (t : Fin 5) (r l : Fin 256), w (ix4 0 t r l) = x1 (ix2 (tileRow (bucket (tileRel t.val r.val l.val))) h)) (key : Fin 4096) :
    tileBias w i r key = refBias x1 h s key := by
  have hr := r.isLt
  have hk := key.isLt
  have hi : (i 2).val < 4 := (i 2).isLt
  unfold tileBias refBias
  rw [hw]
  obtain ⟨T, hT⟩ : ∃ T : Nat, k0_off1 i (BitVec.ofNat 32 (key.val / 256)) (BitVec.ofNat 32 (r.val / 256)) 1 = T := ⟨_, rfl⟩
  have ti' : (T : Int) = max (-2) (min 2 (((key.val / 256 : Nat) : Int) - ((4 * (i 2).val + r.val / 256 : Nat) : Int))) + 2 := by
    rw [← hT]
    exact tile_index i ⟨key.val / 256, by omega⟩ ⟨r.val / 256, by omega⟩
  have h5 : T % 5 = T := Nat.mod_eq_of_lt (by omega)
  have e := bucket_tile (key.val / 256) (4 * (i 2).val + r.val / 256) T (r.val % 256) (key.val % 256) (by omega) (by omega) (by omega) (by omega) ti'
  have e1 : 256 * (key.val / 256) + key.val % 256 = key.val := by omega
  have e2 : 256 * (4 * (i 2).val + r.val / 256) + r.val % 256 = s.val := by omega
  rw [e1, e2] at e
  show x1 (ix2 (tileRow (bucket (tileRel (k0_off1 i (BitVec.ofNat 32 (key.val / 256)) (BitVec.ofNat 32 (r.val / 256)) 1 % 5) (r.val % 256) (key.val % 256)))) h) = _
  rw [hT, h5, e]

/-- A block of the kernel's result, when its blocks hold the reference's arguments and these are real. -/
theorem block_eq (h0 : AllReal x0) (h1 : AllReal x1) (h2 : AllReal x2) (h3 : AllReal x3) (h4 : AllReal x4) (h5 : AllReal x5)
    (q : Vec Ideal S1024x128 .bf16) (k v : Vec Ideal S4096x128 .bf16) (w : Vec Ideal S1x5x256x256 .f32) (L : Vec Ideal S4x64 .f32)
    (g : Vec Ideal S1x128 .f32) (i : grid0.Coords) (b h : Fin 8) (r : Fin 1024) (s : Fin 4096) (l : Fin 128)
    (hs : s.val = (i 2).val * 1024 + r.val)
    (hq : ∀ j : Fin 128, q (ix2 r j) = x0 (ix3 b s ⟨h.val * 128 + j.val, by omega⟩))
    (hk : ∀ (key : Fin 4096) (j : Fin 128), k (ix2 key j) = x0 (ix3 b key ⟨1024 + (h.val * 128 + j.val), by omega⟩))
    (hv : ∀ (key : Fin 4096) (j : Fin 128), v (ix2 key j) = x0 (ix3 b key ⟨2048 + (h.val * 128 + j.val), by omega⟩))
    (hw : ∀ (t : Fin 5) (r l : Fin 256), w (ix4 0 t r l) = x1 (ix2 (tileRow (bucket (tileRel t.val r.val l.val))) h))
    (hL : lamOf L = refLam x2 x3 x4 x5) (hg : g (ix2 0 l) = x6 (ix1 l))
    (n : Fin 32768) (j : Fin 1024) (hn : n.val = b.val * 4096 + s.val) (hj : j.val = h.val * 128 + l.val) :
    block q k v w L g i (ix2 r l) = Cert.Reference4Ideal.Read.val_main_v94 (F := Ideal) x0 x1 x2 x3 x4 x5 x6 (ix2 n j) := by
  obtain ⟨c, hc⟩ := refLam_real x2 x3 x4 x5 h2 h3 h4 h5
  choose y0 e0 using h0
  choose y1 e1 using h1
  let f : Fin 2 → Fin 4096 → ℝ := fun u key => (∑ d : Fin 64, y0 (ix3 b s ⟨h.val * 128 + u.val * 64 + d.val, by omega⟩)
    * y0 (ix3 b key ⟨1024 + (h.val * 128 + u.val * 64 + d.val), by omega⟩)) * 8⁻¹ + y1 (ix2 (tableRow (bucket (keyRel key.val s.val))) h)
  have hS : ∀ (u : Fin 2) (key : Fin 4096), score q k w i u r key = (((Real.log 2)⁻¹ * f u key : ℝ) : EReal) := by
    intro u key
    refine Eq.trans ?_ (kernel_score _ _ _)
    unfold score
    rw [bias_eq x1 w i h r s hs hw key, scale_eq, biasScale_eq]
    unfold refBias
    rw [e1]
    refine congrArg (· + _) (Finset.sum_congr rfl fun d _ => ?_)
    rw [hq, hk, ← e0, ← e0]
    have a1 : h.val * 128 + (u.val * 64 + d.val) = h.val * 128 + u.val * 64 + d.val := by omega
    simp only [a1]
  have hT : ∀ (u : Fin 2) (key : Fin 4096), refScore x0 x1 b h u s key = ((f u key : ℝ) : EReal) := by
    intro u key
    refine Eq.trans ?_ (reference_score _ _ _)
    unfold refScore refBias
    rw [eighth, e1]
    exact congrArg (· * ((8⁻¹ : ℝ) : EReal) + _) (Finset.sum_congr rfl fun d _ => by rw [e0, e0])
  have hm : ∀ l : Fin 128, mixed q k v w L i r l = refMixed x0 x1 x2 x3 x4 x5 b h s l := by
    intro l
    unfold mixed weight refMixed refWeight
    simp only [hv, hL]
    exact difference (f 0) (f 1) (fun key => y0 (ix3 b key ⟨2048 + (h.val * 128 + l.val), by omega⟩)) c
      (score q k w i 0 r) (refScore x0 x1 b h 0 s) (score q k w i 1 r) (refScore x0 x1 b h 1 s) _ (refMax x0 x1 b h 0 s) _ (refMax x0 x1 b h 1 s)
      (fun key => x0 (ix3 b key ⟨2048 + (h.val * 128 + l.val), by omega⟩)) _ (fun key => e0 _) hc
      (hS 0) (rowMax_le q k w i 0 r 0) (hT 0) (refMax_le x0 x1 b h 0 s) (hS 1) (rowMax_le q k w i 1 r 0) (hT 1) (refMax_le x0 x1 b h 1 s)
  rw [block_apply, reference_apply x0 x1 x2 x3 x4 x5 x6 b h s l n j hn hj]
  simp only [hm, hg]
  rfl

variable (m : (ℓ : Loc nD τ sig) → Buf (Elt Ideal) ℓ)

/-- Where the windows are at a grid point, and its block of queries. -/
theorem places (t : Fin cfg0.N) : win0_0.index t = ![t.val / 32 * 4 + t.val % 4, t.val / 4 % 8] ∧ win0_1.index t = ![t.val / 32, 8 + t.val / 4 % 8]
    ∧ win0_2.index t = ![t.val / 32, 16 + t.val / 4 % 8] ∧ win0_3.index t = ![t.val / 4 % 8, 0, 0, 0] ∧ win0_4.index t = ![0, 0]
    ∧ win0_5.index t = ![0, 0] ∧ win0_6.index t = ![t.val / 32 * 4 + t.val % 4, t.val / 4 % 8] ∧ (grid0.coords t 2).val = t.val % 4 :=
  (by decide +kernel : ∀ t : Fin grid0.N, win0_0.index t = ![t.val / 32 * 4 + t.val % 4, t.val / 4 % 8] ∧ win0_1.index t = ![t.val / 32, 8 + t.val / 4 % 8]
    ∧ win0_2.index t = ![t.val / 32, 16 + t.val / 4 % 8] ∧ win0_3.index t = ![t.val / 4 % 8, 0, 0, 0] ∧ win0_4.index t = ![0, 0]
    ∧ win0_5.index t = ![0, 0] ∧ win0_6.index t = ![t.val / 32 * 4 + t.val % 4, t.val / 4 % 8] ∧ (grid0.coords t 2).val = t.val % 4) t

theorem lt256 (t : Fin cfg0.N) : t.val < 256 := lt_of_lt_of_eq t.isLt (show cfg0.N = 256 from N_0)

/-- A grid point's batch, head and queries. -/
abbrev batch (t : Fin cfg0.N) : Fin 8 := ⟨t.val / 32, by have := lt256 t; omega⟩
abbrev head (t : Fin cfg0.N) : Fin 8 := ⟨t.val / 4 % 8, by omega⟩
abbrev query (t : Fin cfg0.N) (r : Fin 1024) : Fin 4096 := ⟨t.val % 4 * 1024 + r.val, by omega⟩

theorem V_row (c : Dev nD) (n : Fin 32768) (j : Fin 3072) :
    V m c main_v1 (ix2 n j) = m ((c : Thread nD τ).loc main_arg0) (ix3 ⟨n.val / 4096, by omega⟩ ⟨n.val % 4096, by omega⟩ j) := by
  rw [V_rows]
  exact rows_apply _ n j

theorem block_query (c : Dev nD) (t : Fin cfg0.N) (r : Fin 1024) (j : Fin 128) :
    (iblk m c 0 t : Vec Ideal S1024x128 .bf16) (ix2 r j)
      = m ((c : Thread nD τ).loc main_arg0) (ix3 (batch t) (query t r) ⟨(head t).val * 128 + j.val, by have := (head t).isLt; omega⟩) := by
  have ht := lt256 t
  have hr := r.isLt
  have hj := j.isLt
  refine Eq.trans ?_ ((V_row m c ⟨(t.val / 32 * 4 + t.val % 4) * 1024 + r.val, by omega⟩ ⟨t.val / 4 % 8 * 128 + j.val, by omega⟩).trans ?_)
  · unfold iblk
    rw [View.read_apply]
    show V m c main_v1 _ = V m c main_v1 _
    congr 1
    funext a
    apply Fin.ext
    match a with
    | ⟨0, _⟩ => show win0_0.index t 0 * 1024 + 1 * r.val = (t.val / 32 * 4 + t.val % 4) * 1024 + r.val; rw [(places t).1]; simp
    | ⟨1, _⟩ => show win0_0.index t 1 * 128 + 1 * j.val = t.val / 4 % 8 * 128 + j.val; rw [(places t).1]; simp
  · congr 1
    funext a
    apply Fin.ext
    match a with
    | ⟨0, _⟩ => show ((t.val / 32 * 4 + t.val % 4) * 1024 + r.val) / 4096 = t.val / 32; omega
    | ⟨1, _⟩ => show ((t.val / 32 * 4 + t.val % 4) * 1024 + r.val) % 4096 = t.val % 4 * 1024 + r.val; omega
    | ⟨2, _⟩ => rfl

theorem block_key (c : Dev nD) (t : Fin cfg0.N) (key : Fin 4096) (j : Fin 128) :
    (iblk m c 1 t : Vec Ideal S4096x128 .bf16) (ix2 key j)
      = m ((c : Thread nD τ).loc main_arg0) (ix3 (batch t) key ⟨1024 + ((head t).val * 128 + j.val), by have := (head t).isLt; omega⟩) := by
  have ht := lt256 t
  have hk := key.isLt
  have hj := j.isLt
  refine Eq.trans ?_ ((V_row m c ⟨t.val / 32 * 4096 + key.val, by omega⟩ ⟨(8 + t.val / 4 % 8) * 128 + j.val, by omega⟩).trans ?_)
  · unfold iblk
    rw [View.read_apply]
    show V m c main_v1 _ = V m c main_v1 _
    congr 1
    funext a
    apply Fin.ext
    match a with
    | ⟨0, _⟩ => show win0_1.index t 0 * 4096 + 1 * key.val = t.val / 32 * 4096 + key.val; rw [(places t).2.1]; simp
    | ⟨1, _⟩ => show win0_1.index t 1 * 128 + 1 * j.val = (8 + t.val / 4 % 8) * 128 + j.val; rw [(places t).2.1]; simp
  · congr 1
    funext a
    apply Fin.ext
    match a with
    | ⟨0, _⟩ => show (t.val / 32 * 4096 + key.val) / 4096 = t.val / 32; omega
    | ⟨1, _⟩ => show (t.val / 32 * 4096 + key.val) % 4096 = key.val; omega
    | ⟨2, _⟩ => show (8 + t.val / 4 % 8) * 128 + j.val = 1024 + (t.val / 4 % 8 * 128 + j.val); omega

theorem block_value (c : Dev nD) (t : Fin cfg0.N) (key : Fin 4096) (j : Fin 128) :
    (iblk m c 2 t : Vec Ideal S4096x128 .bf16) (ix2 key j)
      = m ((c : Thread nD τ).loc main_arg0) (ix3 (batch t) key ⟨2048 + ((head t).val * 128 + j.val), by have := (head t).isLt; omega⟩) := by
  have ht := lt256 t
  have hk := key.isLt
  have hj := j.isLt
  refine Eq.trans ?_ ((V_row m c ⟨t.val / 32 * 4096 + key.val, by omega⟩ ⟨(16 + t.val / 4 % 8) * 128 + j.val, by omega⟩).trans ?_)
  · unfold iblk
    rw [View.read_apply]
    show V m c main_v1 _ = V m c main_v1 _
    congr 1
    funext a
    apply Fin.ext
    match a with
    | ⟨0, _⟩ => show win0_2.index t 0 * 4096 + 1 * key.val = t.val / 32 * 4096 + key.val; rw [(places t).2.2.1]; simp
    | ⟨1, _⟩ => show win0_2.index t 1 * 128 + 1 * j.val = (16 + t.val / 4 % 8) * 128 + j.val; rw [(places t).2.2.1]; simp
  · congr 1
    funext a
    apply Fin.ext
    match a with
    | ⟨0, _⟩ => show (t.val / 32 * 4096 + key.val) / 4096 = t.val / 32; omega
    | ⟨1, _⟩ => show (t.val / 32 * 4096 + key.val) % 4096 = key.val; omega
    | ⟨2, _⟩ => show (16 + t.val / 4 % 8) * 128 + j.val = 2048 + (t.val / 4 % 8 * 128 + j.val); omega

theorem block_tiles (c : Dev nD) (t : Fin cfg0.N) (n : Fin 5) (r l : Fin 256) :
    (iblk m c 3 t : Vec Ideal S1x5x256x256 .f32) (ix4 0 n r l)
      = m ((c : Thread nD τ).loc main_arg1) (ix2 (tileRow (bucket (tileRel n.val r.val l.val))) (head t)) := by
  refine Eq.trans (b := V m c main_v48 (ix4 (head t) n r l)) ?_ ?_
  · unfold iblk
    rw [View.read_apply]
    show V m c main_v48 _ = V m c main_v48 _
    congr 1
    funext a
    apply Fin.ext
    match a with
    | ⟨0, _⟩ => show win0_3.index t 0 * 1 + 1 * 0 = t.val / 4 % 8; rw [(places t).2.2.2.1]; simp
    | ⟨1, _⟩ => show win0_3.index t 1 * 5 + 1 * n.val = n.val; rw [(places t).2.2.2.1]; simp
    | ⟨2, _⟩ => show win0_3.index t 2 * 256 + 1 * r.val = r.val; rw [(places t).2.2.2.1]; simp
    | ⟨3, _⟩ => show win0_3.index t 3 * 256 + 1 * l.val = l.val; rw [(places t).2.2.2.1]; simp
  · rw [V_bias, tiles_apply, wrapped_apply, tileRels_apply]

theorem block_lam (c : Dev nD) (t : Fin cfg0.N) :
    lamOf (iblk m c 4 t : Vec Ideal S4x64 .f32) = refLam (m ((c : Thread nD τ).loc main_arg2)) (m ((c : Thread nD τ).loc main_arg3))
      (m ((c : Thread nD τ).loc main_arg4)) (m ((c : Thread nD τ).loc main_arg5)) := by
  have e : ∀ (y : Fin 4) (x : Fin 64), (iblk m c 4 t : Vec Ideal S4x64 .f32) (ix2 y x) = V m c main_v53 (ix2 y x) := by
    intro y x
    unfold iblk
    rw [View.read_apply]
    show V m c main_v53 _ = V m c main_v53 _
    congr 1
    funext a
    apply Fin.ext
    match a with
    | ⟨0, _⟩ => show win0_4.index t 0 * 4 + 1 * y.val = y.val; rw [(places t).2.2.2.2.1]; simp
    | ⟨1, _⟩ => show win0_4.index t 1 * 64 + 1 * x.val = x.val; rw [(places t).2.2.2.2.1]; simp
  unfold lamOf refLam
  simp only [e]
  rw [V_lam]
  have a := lam_apply (m ((c : Thread nD τ).loc main_arg2)) (m ((c : Thread nD τ).loc main_arg3)) (m ((c : Thread nD τ).loc main_arg4))
    (m ((c : Thread nD τ).loc main_arg5))
  simp only [fun x => (a x).1, fun x => (a x).2.1, fun x => (a x).2.2.1, fun x => (a x).2.2.2]

theorem block_gain (c : Dev nD) (t : Fin cfg0.N) (l : Fin 128) :
    (iblk m c 5 t : Vec Ideal S1x128 .f32) (ix2 0 l) = m ((c : Thread nD τ).loc main_arg6) (ix1 l) := by
  refine Eq.trans (b := V m c main_v54 (ix2 0 l)) ?_ ?_
  · unfold iblk
    rw [View.read_apply]
    show V m c main_v54 _ = V m c main_v54 _
    congr 1
    funext a
    apply Fin.ext
    match a with
    | ⟨0, _⟩ => show win0_5.index t 0 * 1 + 1 * 0 = 0; rw [(places t).2.2.2.2.2.1]; simp
    | ⟨1, _⟩ => show win0_5.index t 1 * 128 + 1 * l.val = l.val; rw [(places t).2.2.2.2.2.1]; simp
  · rw [V_gain]
    exact gain_apply _ 0 l

/-- The reference's result, of the kernel's arguments. -/
abbrev result (c : Dev nD) : Vec Ideal S32768x1024 .bf16 :=
  Cert.Reference4Ideal.Read.val_main_v94 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The precondition, of the kernel's arguments. -/
abbrev Finite (c : Dev nD) : Prop :=
  Cert.Pre_diff_finite.fn (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) = fun _ => 1#1

theorem body_eq (c : Dev nD) (hf : Finite m c) (t : Fin cfg0.N) (r : Fin 1024) (l : Fin 128) :
    block (iblk m c 0 t) (iblk m c 1 t) (iblk m c 2 t) (iblk m c 3 t) (iblk m c 4 t) (iblk m c 5 t) (grid0.coords t) (ix2 r l)
      = result m c (ix2 ⟨(t.val / 32 * 4 + t.val % 4) * 1024 + r.val, by have := lt256 t; omega⟩ ⟨t.val / 4 % 8 * 128 + l.val, by omega⟩) := by
  have ht := lt256 t
  obtain ⟨h0, h1, h2, h3, h4, h5⟩ := real_args _ _ _ _ _ _ _ hf
  exact block_eq _ _ _ _ _ _ _ h0 h1 h2 h3 h4 h5 (iblk m c 0 t) (iblk m c 1 t) (iblk m c 2 t) (iblk m c 3 t) (iblk m c 4 t) (iblk m c 5 t)
    (grid0.coords t) (batch t) (head t) r (query t r) l
    (by show t.val % 4 * 1024 + r.val = (grid0.coords t 2).val * 1024 + r.val; rw [(places t).2.2.2.2.2.2.2])
    (block_query m c t r) (block_key m c t) (block_value m c t) (block_tiles m c t) (block_lam m c t) (block_gain m c t l) _ _
    (by show (t.val / 32 * 4 + t.val % 4) * 1024 + r.val = t.val / 32 * 4096 + (t.val % 4 * 1024 + r.val); omega) rfl

theorem flushed_eq (c : Dev nD) (hf : Finite m c) (t : Fin cfg0.N) (_ : (cfg0.win 6).flush t = true) :
    (dats m 0 c).flushed 6 t = ((cfg0.win 6).blk t).view.read (Elt Ideal) (result m c) := by
  rw [Value.flushed6_A, out_eq]
  funext y
  obtain ⟨r, j, rfl⟩ : ∃ (r : Fin 1024) (j : Fin 128), y = ix2 r j := ⟨y 0, y 1, eq_ix2 y⟩
  refine (body_eq m c hf t r j).trans ?_
  rw [View.read_apply]
  show result m c _ = result m c _
  congr 1
  funext a
  apply Fin.ext
  match a with
  | ⟨0, _⟩ => show (t.val / 32 * 4 + t.val % 4) * 1024 + r.val = win0_6.index t 0 * 1024 + 1 * r.val; rw [(places t).2.2.2.2.2.2.1]; simp
  | ⟨1, _⟩ => show t.val / 4 % 8 * 128 + j.val = win0_6.index t 1 * 128 + 1 * j.val; rw [(places t).2.2.2.2.2.2.1]; simp

theorem mem_blk (t : Fin cfg0.N) (i : S32768x1024.Idx) (h : t.val = (i 0 : Nat) / 4096 * 32 + (i 1 : Nat) / 128 * 4 + (i 0 : Nat) / 1024 % 4) :
    i ∈ ((cfg0.win 6).blk t).view.set := by
  show i ∈ ((View.whole main_v55).slice (win0_6.rect t)).set
  rw [View.set_slice_whole, Rect.mem_set_unit]
  have h0 : (i 0 : Nat) < 32768 := (i 0).isLt
  have h1 : (i 1 : Nat) < 1024 := (i 1).isLt
  intro a
  match a with
  | ⟨0, _⟩ =>
    show win0_6.index t 0 * 1024 ≤ (i 0 : Nat) ∧ (i 0 : Nat) < win0_6.index t 0 * 1024 + 1024
    rw [(places t).2.2.2.2.2.2.1]
    show (t.val / 32 * 4 + t.val % 4) * 1024 ≤ (i 0 : Nat) ∧ (i 0 : Nat) < (t.val / 32 * 4 + t.val % 4) * 1024 + 1024
    omega
  | ⟨1, _⟩ =>
    show win0_6.index t 1 * 128 ≤ (i 1 : Nat) ∧ (i 1 : Nat) < win0_6.index t 1 * 128 + 128
    rw [(places t).2.2.2.2.2.2.1]
    show t.val / 4 % 8 * 128 ≤ (i 1 : Nat) ∧ (i 1 : Nat) < t.val / 4 % 8 * 128 + 128
    omega

/-- The kernel's result array is the reference's result. -/
theorem array_eq (c : Dev nD) (hf : Finite m c) : (dats m 0 c).arrAt 6 cfg0.N = result m c :=
  (dats m 0 c).arrAt_eq_of_cover 6 (result m c) (flushed_eq m c hf) fun (i : S32768x1024.Idx) =>
    ⟨⟨(i 0 : Nat) / 4096 * 32 + (i 1 : Nat) / 128 * 4 + (i 0 : Nat) / 1024 % 4,
      lt_of_lt_of_eq (by have h0 : (i 0 : Nat) < 32768 := (i 0).isLt; have h1 : (i 1 : Nat) < 1024 := (i 1).isLt; omega :
        (i 0 : Nat) / 4096 * 32 + (i 1 : Nat) / 128 * 4 + (i 0 : Nat) / 1024 % 4 < 256) (show cfg0.N = 256 from N_0).symm⟩,
      flush0_6 _, mem_blk _ i rfl⟩

end Cert.Diff

end
-- ==== Proof.FfnRow.lean ====
/- The dense feed-forward's row, as extended reals: the normalised and modulated row, the two products with the weights,
   their gated product with the third weight, the gate and the residual. What the kernel's block payload and the reference
   compute at an element, both. -/
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.IdealHost

@[expose] public section

set_option maxRecDepth 16384

noncomputable section

namespace Cert.Ffn

open Idealize.ShloMosaic Idealize.ShloMosaic.Pointwise

/-- The row normalised by its root mean square, scaled by one plus the fifth modulation row, shifted by the fourth. -/
def hidden (x : Fin 1024 → EReal) (md : Fin 6 → Fin 1024 → EReal) (k : Fin 1024) : EReal :=
  x k * Ideal.rsqrt (Ideal.div (∑ l, x l * x l) (Ideal.ofBits .f32 0x44800000#32) + Ideal.ofBits .f32 0x358637BD#32) * (1 + md 4 k) + md 3 k

/-- The gated product of the two projections of the row. -/
def gated (h : Fin 1024 → EReal) (wg wu : Fin 1024 → Fin 2816 → EReal) (f : Fin 2816) : EReal :=
  (∑ k, h k * wg k f) * Ideal.logistic (∑ k, h k * wg k f) * (∑ k, h k * wu k f)

/-- The result's row: the row plus the gate times the gated product's projection. -/
def out (x : Fin 1024 → EReal) (md : Fin 6 → Fin 1024 → EReal) (wg wu : Fin 1024 → Fin 2816 → EReal) (wd : Fin 2816 → Fin 1024 → EReal)
    (j : Fin 1024) : EReal :=
  x j + md 5 j * ∑ f, gated (hidden x md) wg wu f * wd f j

open Cert.Kernel3Ideal in
theorem payload_apply (x : Vec Ideal S512x1024 .f32) (md : Vec Ideal S1x6x1024 .f32) (wg wu : Vec Ideal S1024x2816 .bf16)
    (wd : Vec Ideal S2816x1024 .bf16) (r : Fin 512) (j : Fin 1024) :
    Cert.Kernel3Ideal.Gen.k0_pay1 (F := Ideal) x md wg wu wd (ix2 r j)
      = out (fun k => x (ix2 r k)) (fun a k => md (ix3 0 a k)) (fun k f => wg (ix2 k f)) (fun k f => wu (ix2 k f)) (fun f k => wd (ix2 f k)) j := by
  pointwise [Cert.Kernel3Ideal.Gen.k0_pay1, out, gated, hidden]

open Cert.Reference3Ideal in
theorem reference_apply (x : Vec Ideal S8x4096x1024 .f32) (md : Vec Ideal S8x6x1024 .f32) (wg wu : Vec Ideal S1024x2816 .f32)
    (wd : Vec Ideal S2816x1024 .f32) (r : Fin 32768) (j : Fin 1024) :
    Cert.Reference3Ideal.Read.val_main_v27 (F := Ideal) x md wg wu wd (ix2 r j)
      = out (fun k => x (ix3 ⟨r.val / 4096, by omega⟩ ⟨r.val % 4096, by omega⟩ k)) (fun a k => md (ix3 ⟨r.val / 4096, by omega⟩ a k)) (fun k f => wg (ix2 k f)) (fun k f => wu (ix2 k f)) (fun f k => wd (ix2 f k)) j := by
  pointwise [Read.val_main_v27, Read.val_main_v26, Read.val_main_v25, Read.val_main_v24, Read.val_main_v23, Read.val_main_v22, Read.val_main_v21, Read.val_main_v20,
    Read.val_main_v19, Read.val_main_v18, Read.val_main_v17, Read.val_main_v16, Read.val_main_v15, Read.val_main_v14, Read.val_main_v13, Read.val_main_v12, Read.val_main_v11,
    Read.val_main_v10, Read.val_main_v9, Read.val_main_v8, Read.val_main_v7, Read.val_main_v6, Read.val_main_v5, Read.val_main_v4, Read.val_main_v3, Read.val_main_v2, Read.val_main_v1, Read.val_main_v0,
    Read.val_main_cst, Read.val_main_cst_0, Read.val_main_cst_1, Read.val_main_cst_2, Read.val_main_call0_v0, Read.val_main_call0_v1, Read.val_main_call0_v2, Read.val_main_call0_v3,
    Read.val_main_call0_v4, Read.val_main_call0_v5, Read.val_main_call0_cst, Read.val_main_call0_cst_0, out, gated, hidden]
  rfl

end Cert.Ffn

end
-- ==== Proof.FfnValue.lean ====
/- The dense feed-forward: the result array after the kernel's run, read element by element — its element in row `r` is the row
   computed from row `r` of the activations and the modulation of `r`'s batch — and so the reference's result. -/
module

public import proofs.«01_k».proof.Proof.FfnRow
public import Idealize.ShloMosaic.Lib.Pipeline.Value
public import Idealize.ShloMosaic.Lib.StableHlo.Run
public import Idealize.ShloMosaic.Lib.Tactic

@[expose] public section

set_option maxRecDepth 16384

noncomputable section

namespace Cert.Ffn.Array

open Cert.Kernel3Ideal Cert.Kernel3Ideal.Gen
open Idealize.ShloMosaic Idealize.ShloMosaic.TcCoe Idealize.ShloMosaic.Pointwise
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

theorem joined_apply (x : Vec Ideal S8x4096x1024 .f32) (r : Fin 32768) (k : Fin 1024) :
    shapeCast S32768x1024 x shapeCasts_S8x4096x1024_S32768x1024 (ix2 r k) = x (ix3 ⟨r.val / 4096, by omega⟩ ⟨r.val % 4096, by omega⟩ k) := by
  pointwise []

/-- The activations as the launch finds them: the argument with its two leading axes joined. -/
theorem V_rows (c : Dev nD) (r : Fin 32768) (k : Fin 1024) :
    V m c main_v0 (ix2 r k) = m ((c : Thread nD τ).loc main_arg0) (ix3 ⟨r.val / 4096, by omega⟩ ⟨r.val % 4096, by omega⟩ k) := by
  have h : V m c main_v0 = shapeCast S32768x1024 (m ((c : Thread nD τ).loc main_arg0) : Vec Ideal S8x4096x1024 .f32) shapeCasts_S8x4096x1024_S32768x1024 := by
    show StableHlo.after hostOps0 _ (Proc.devRef .tc main_v0) = _
    after_results
    rfl
  rw [h]
  exact joined_apply _ r k

theorem V_gate (c : Dev nD) : V m c main_v1 = m ((c : Thread nD τ).loc main_arg2) := by
  show StableHlo.after hostOps0 _ (Proc.devRef .tc main_v1) = _
  after_results
  rfl

theorem V_up (c : Dev nD) : V m c main_v2 = m ((c : Thread nD τ).loc main_arg3) := by
  show StableHlo.after hostOps0 _ (Proc.devRef .tc main_v2) = _
  after_results
  rfl

theorem V_down (c : Dev nD) : V m c main_v3 = m ((c : Thread nD τ).loc main_arg4) := by
  show StableHlo.after hostOps0 _ (Proc.devRef .tc main_v3) = _
  after_results
  rfl

/-- Where the windows are at a grid point. -/
theorem idx (t : Fin cfg0.N) : win0_0.index t = ![t.val, 0] ∧ win0_1.index t = ![t.val / 8, 0, 0] ∧ win0_2.index t = ![0, 0]
    ∧ win0_3.index t = ![0, 0] ∧ win0_4.index t = ![0, 0] ∧ win0_5.index t = ![t.val, 0] :=
  (by decide +kernel : ∀ t : Fin grid0.N, win0_0.index t = ![t.val, 0] ∧ win0_1.index t = ![t.val / 8, 0, 0] ∧ win0_2.index t = ![0, 0]
    ∧ win0_3.index t = ![0, 0] ∧ win0_4.index t = ![0, 0] ∧ win0_5.index t = ![t.val, 0]) t

theorem lt64 (t : Fin cfg0.N) : t.val < 64 := lt_of_lt_of_eq t.isLt (show cfg0.N = 64 from N_0)

theorem block_rows (c : Dev nD) (t : Fin cfg0.N) (r : Fin 512) (k : Fin 1024) :
    (iblk m c 0 t : Vec Ideal S512x1024 .f32) (ix2 r k)
      = m ((c : Thread nD τ).loc main_arg0) (ix3 ⟨(t.val * 512 + r.val) / 4096, by have := lt64 t; omega⟩ ⟨(t.val * 512 + r.val) % 4096, by omega⟩ k) := by
  refine Eq.trans ?_ (V_rows m c ⟨t.val * 512 + r.val, by have := lt64 t; omega⟩ k)
  unfold iblk
  rw [View.read_apply]
  show V m c main_v0 _ = V m c main_v0 _
  congr 1
  funext a
  apply Fin.ext
  match a with
  | ⟨0, _⟩ => show win0_0.index t 0 * 512 + 1 * r.val = t.val * 512 + r.val; rw [(idx t).1]; simp
  | ⟨1, _⟩ => show win0_0.index t 1 * 1024 + 1 * k.val = k.val; rw [(idx t).1]; simp

theorem block_mod (c : Dev nD) (t : Fin cfg0.N) (a : Fin 6) (k : Fin 1024) :
    (iblk m c 1 t : Vec Ideal S1x6x1024 .f32) (ix3 0 a k) = m ((c : Thread nD τ).loc main_arg1) (ix3 ⟨t.val / 8, by have := lt64 t; omega⟩ a k) := by
  unfold iblk
  rw [View.read_apply]
  show V m c main_arg1 _ = _
  rw [V_main_arg1]
  congr 1
  funext b
  apply Fin.ext
  match b with
  | ⟨0, _⟩ => show win0_1.index t 0 * 1 + 1 * 0 = t.val / 8; rw [(idx t).2.1]; simp
  | ⟨1, _⟩ => show win0_1.index t 1 * 6 + 1 * a.val = a.val; rw [(idx t).2.1]; simp
  | ⟨2, _⟩ => show win0_1.index t 2 * 1024 + 1 * k.val = k.val; rw [(idx t).2.1]; simp

theorem block_gate (c : Dev nD) (t : Fin cfg0.N) (k : Fin 1024) (f : Fin 2816) :
    (iblk m c 2 t : Vec Ideal S1024x2816 .bf16) (ix2 k f) = m ((c : Thread nD τ).loc main_arg2) (ix2 k f) := by
  unfold iblk
  rw [View.read_apply]
  show V m c main_v1 _ = _
  rw [V_gate]
  congr 1
  funext a
  apply Fin.ext
  match a with
  | ⟨0, _⟩ => show win0_2.index t 0 * 1024 + 1 * k.val = k.val; rw [(idx t).2.2.1]; simp
  | ⟨1, _⟩ => show win0_2.index t 1 * 2816 + 1 * f.val = f.val; rw [(idx t).2.2.1]; simp

theorem block_up (c : Dev nD) (t : Fin cfg0.N) (k : Fin 1024) (f : Fin 2816) :
    (iblk m c 3 t : Vec Ideal S1024x2816 .bf16) (ix2 k f) = m ((c : Thread nD τ).loc main_arg3) (ix2 k f) := by
  unfold iblk
  rw [View.read_apply]
  show V m c main_v2 _ = _
  rw [V_up]
  congr 1
  funext a
  apply Fin.ext
  match a with
  | ⟨0, _⟩ => show win0_3.index t 0 * 1024 + 1 * k.val = k.val; rw [(idx t).2.2.2.1]; simp
  | ⟨1, _⟩ => show win0_3.index t 1 * 2816 + 1 * f.val = f.val; rw [(idx t).2.2.2.1]; simp

theorem block_down (c : Dev nD) (t : Fin cfg0.N) (f : Fin 2816) (k : Fin 1024) :
    (iblk m c 4 t : Vec Ideal S2816x1024 .bf16) (ix2 f k) = m ((c : Thread nD τ).loc main_arg4) (ix2 f k) := by
  unfold iblk
  rw [View.read_apply]
  show V m c main_v3 _ = _
  rw [V_down]
  congr 1
  funext a
  apply Fin.ext
  match a with
  | ⟨0, _⟩ => show win0_4.index t 0 * 2816 + 1 * f.val = f.val; rw [(idx t).2.2.2.2.1]; simp
  | ⟨1, _⟩ => show win0_4.index t 1 * 1024 + 1 * k.val = k.val; rw [(idx t).2.2.2.2.1]; simp

/-- The reference's result, of the kernel's arguments. -/
abbrev result (c : Dev nD) : Vec Ideal S32768x1024 .f32 :=
  Cert.Reference3Ideal.Read.val_main_v27 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- A row of a point's block, by the body, is the reference's row. -/
theorem body_eq (c : Dev nD) (t : Fin cfg0.N) (r : Fin 512) (j : Fin 1024) :
    out0_5 (iblk m c 0 t) (iblk m c 1 t) (iblk m c 2 t) (iblk m c 3 t) (iblk m c 4 t) (ix2 r j)
      = result m c (ix2 ⟨t.val * 512 + r.val, by have := lt64 t; omega⟩ j) := by
  unfold out0_5
  rw [View.canon_unit_zero hz2, View.ld_unit_zero (S := S512x1024) hz2, View.ld_unit_zero (S := S1x6x1024) hz3,
    View.ld_unit_zero (S := S1024x2816) hz2, View.ld_unit_zero (S := S1024x2816) hz2, View.ld_unit_zero (S := S2816x1024) hz2]
  refine (payload_apply _ _ _ _ _ r j).trans ?_
  rw [result, reference_apply]
  simp only [block_rows, block_mod, block_gate, block_up, block_down]
  have e : (t.val * 512 + r.val) / 4096 = t.val / 8 := by omega
  simp only [e]

theorem flushed_eq (c : Dev nD) (t : Fin cfg0.N) (_ : (cfg0.win 5).flush t = true) :
    (dats m 0 c).flushed 5 t = ((cfg0.win 5).blk t).view.read (Elt Ideal) (result m c) := by
  rw [Value.flushed5]
  funext y
  obtain ⟨r, j, rfl⟩ : ∃ (r : Fin 512) (j : Fin 1024), y = ix2 r j := ⟨y 0, y 1, eq_ix2 y⟩
  refine (body_eq m c t r j).trans ?_
  rw [View.read_apply]
  show result m c _ = result m c _
  congr 1
  funext a
  apply Fin.ext
  match a with
  | ⟨0, _⟩ => show t.val * 512 + r.val = win0_5.index t 0 * 512 + 1 * r.val; rw [(idx t).2.2.2.2.2]; simp
  | ⟨1, _⟩ => show j.val = win0_5.index t 1 * 1024 + 1 * j.val; rw [(idx t).2.2.2.2.2]; simp

theorem mem_blk (t : Fin cfg0.N) (i : S32768x1024.Idx) (h : (i 0 : Nat) / 512 = t.val) : i ∈ ((cfg0.win 5).blk t).view.set := by
  show i ∈ ((View.whole main_v4).slice (win0_5.rect t)).set
  rw [View.set_slice_whole, Rect.mem_set_unit]
  have h1 : (i 1 : Nat) < 1024 := (i 1).isLt
  intro a
  match a with
  | ⟨0, _⟩ =>
    show win0_5.index t 0 * 512 ≤ (i 0 : Nat) ∧ (i 0 : Nat) < win0_5.index t 0 * 512 + 512
    rw [(idx t).2.2.2.2.2]
    show t.val * 512 ≤ (i 0 : Nat) ∧ (i 0 : Nat) < t.val * 512 + 512
    omega
  | ⟨1, _⟩ =>
    show win0_5.index t 1 * 1024 ≤ (i 1 : Nat) ∧ (i 1 : Nat) < win0_5.index t 1 * 1024 + 1024
    rw [(idx t).2.2.2.2.2]
    show 0 * 1024 ≤ (i 1 : Nat) ∧ (i 1 : Nat) < 0 * 1024 + 1024
    omega

/-- The kernel's result array is the reference's result. -/
theorem array_eq (c : Dev nD) : (dats m 0 c).arrAt 5 cfg0.N = result m c :=
  (dats m 0 c).arrAt_eq_of_cover 5 (result m c) (flushed_eq m c) fun (i : S32768x1024.Idx) =>
    ⟨⟨(i 0 : Nat) / 512, lt_of_lt_of_eq (by have h0 : (i 0 : Nat) < 32768 := (i 0).isLt; omega : (i 0 : Nat) / 512 < 64) (show cfg0.N = 64 from N_0).symm⟩,
      flush0_5 _, mem_blk _ i rfl⟩

end Cert.Ffn.Array

end
-- ==== Proof.ExpertBody.lean ====
/- The expert call's kernel body, run once over any float type: the live tiles (the tile's number below the count of
   live tiles) store the expert's SwiGLU of their rows, the others store zeros. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-- The two tables as the body is handed them: which expert each tile belongs to, and how many tiles are live. -/
abbrev expertOf : Memref sig .tc .smem S136 .i32 := Memref.whole main_arg1
abbrev liveCount : Memref sig .tc .smem S1 .i32 := Memref.whole main_arg2

/-- A table's contents on core `c`. -/
abbrev TableBuf (c : Dev nD) {S : Shape} {e : EltTy} (M : Memref sig .tc .smem S e) : Type := Buf (Elt F) (M.view.loc (c : Thread nD τ))
/-- The half of a table the body holds while it runs. -/
abbrev tableHalf (c : Dev nD) {S : Shape} {e : EltTy} (M : Memref sig .tc .smem S e) (f : TableBuf (F := F) c M) : sProp 𝕄 :=
  M.view.loc (c : Thread nD τ) ↦{fullShare.right} f

/-- The number of live tiles, as the body reads it. -/
abbrev liveWord (c : Dev nD) (xt1 : TableBuf (F := F) c liveCount) : BitVec 32 :=
  (liveCount.access (Rect.unit (s := S1) ![0] S1.size inb_S1_S1_0)).read (Elt F) xt1 (Shape.Idx.first (numel1_S1.symm ▸ Nat.one_pos))

set_option maxHeartbeats 1000000 in
/-- The body on a live tile. -/
noncomputable def runLive (c : Dev nD) (i : grid0.Coords) (arg3 : Memref sig .tc .vmem S512x1024 .f32) (harg3 : arg3.IsWhole) (arg4 : Memref sig .tc .vmem S1x1x1024x3584 .bf16) (harg4 : arg4.IsWhole) (arg5 : Memref sig .tc .vmem S1x1x1024x3584 .bf16) (harg5 : arg5.IsWhole) (arg6 : Memref sig .tc .vmem S1x1x3584x1024 .bf16) (harg6 : arg6.IsWhole) (arg7 : Memref sig .tc .vmem S512x1024 .f32) (harg7 : arg7.IsWhole)
    (x0 : Vec F S512x1024 .f32) (x1 : Vec F S1x1x1024x3584 .bf16) (x2 : Vec F S1x1x1024x3584 .bf16) (x3 : Vec F S1x1x3584x1024 .bf16) (xt0 : TableBuf (F := F) c expertOf) (xt1 : TableBuf (F := F) c liveCount)
    (hc0 : k0_cond1 i (liveWord c xt1) = 1#1) (hc1 : ¬ k0_cond2 i (liveWord c xt1) = 1#1) :
    { L4 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tableHalf c expertOf xt0 ∗ tableHalf c liveCount xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tableHalf c expertOf xt0 ∗ tableHalf c liveCount xt1) -∗ K ⟨⟩))
          ⊢ wp frame (wpE (defs₀ (F := F)) Variants.none c none) E (cc0_moe_experts i expertOf (Memref.isWhole_whole _) liveCount (Memref.isWhole_whole _) arg3 harg3 arg4 harg4 arg5 harg5 arg6 harg6 arg7 harg7) K } := by
  refine ⟨?_, fun E K => ?run⟩
  case run =>
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

set_option maxHeartbeats 1000000 in
/-- The body on a tile past the live ones. -/
noncomputable def runIdle (c : Dev nD) (i : grid0.Coords) (arg3 : Memref sig .tc .vmem S512x1024 .f32) (harg3 : arg3.IsWhole) (arg4 : Memref sig .tc .vmem S1x1x1024x3584 .bf16) (harg4 : arg4.IsWhole) (arg5 : Memref sig .tc .vmem S1x1x1024x3584 .bf16) (harg5 : arg5.IsWhole) (arg6 : Memref sig .tc .vmem S1x1x3584x1024 .bf16) (harg6 : arg6.IsWhole) (arg7 : Memref sig .tc .vmem S512x1024 .f32) (harg7 : arg7.IsWhole)
    (x0 : Vec F S512x1024 .f32) (x1 : Vec F S1x1x1024x3584 .bf16) (x2 : Vec F S1x1x1024x3584 .bf16) (x3 : Vec F S1x1x3584x1024 .bf16) (xt0 : TableBuf (F := F) c expertOf) (xt1 : TableBuf (F := F) c liveCount)
    (hc0 : ¬ k0_cond1 i (liveWord c xt1) = 1#1) (hc1 : k0_cond2 i (liveWord c xt1) = 1#1) :
    { L4 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tableHalf c expertOf xt0 ∗ tableHalf c liveCount xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tableHalf c expertOf xt0 ∗ tableHalf c liveCount xt1) -∗ K ⟨⟩))
          ⊢ wp frame (wpE (defs₀ (F := F)) Variants.none c none) E (cc0_moe_experts i expertOf (Memref.isWhole_whole _) liveCount (Memref.isWhole_whole _) arg3 harg3 arg4 harg4 arg5 harg5 arg6 harg6 arg7 harg7) K } := by
  refine ⟨?_, fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

end Cert.Kernel2Ideal.Experts

end
-- ==== Proof.ExpertRun.lean ====
/- The expert call's run, over any float type and any contents of the two tables under which every tile's weight block
   lies inside the weights: the proof data of its pipeline, the body at every tile, the launch. -/
module

public import proofs.«01_k».proof.Proof.ExpertBody
public import Idealize.ShloMosaic.Lib.Claim
public import Idealize.ShloMosaic.Lib.Pipeline.Frame

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branches of the body -/

/-- A tile's number, as a word, is below the count or not: exactly one of the two branches runs. -/
theorem dead_iff (i : grid0.Coords) (w : BitVec 32) : k0_cond2 i w = 1#1 ↔ ¬ k0_cond1 i w = 1#1 := by
  unfold k0_cond1 k0_cond2
  simp only [Scalar.cmpi, Scalar.extui, IntOp.cmpi]
  generalize BitVec.ofNat 32 (i 0).val = a
  by_cases h : a.slt w = true
  · have h' : w.sle a = false := by simp only [BitVec.slt, BitVec.sle, decide_eq_true_eq, decide_eq_false_iff_not] at h ⊢; omega
    simp [h, h']
  · have h' : w.sle a = true := by simp only [BitVec.slt, BitVec.sle, decide_eq_true_eq] at h ⊢; omega
    simp [h, h']

/-- A tile is live when its number, as a word, is below the count. -/
theorem live_iff (i : grid0.Coords) (w : BitVec 32) : k0_cond1 i w = 1#1 ↔ (BitVec.ofNat 32 (i 0).val).slt w = true := by
  unfold k0_cond1
  simp only [Scalar.cmpi, Scalar.extui, IntOp.cmpi]
  generalize BitVec.ofNat 32 (i 0).val = a
  by_cases h : a.slt w = true <;> simp [h]

/-! ## @main up to the region -/

/-- Core `c`'s TensorCore buffers when the region is entered: after the three weight casts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main is the three casts and then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, Finset.mem_singleton]
    repeat' apply And.intro
    all_goals exact StableHlo.devRef_ne_of_ne (by decide)))

/-! ## The tables and the windows' blocks -/

/-- The tables' contents when the region is entered (one device: device 0's). -/
def tables : pre0.Contents (Elt F) := fun j => V m (0 : Dev nD) (pre0.ref j)
theorem V_tables (c : Dev nD) (j : Fin 2) : V m c (pre0.ref j) = tables m j := by
  obtain rfl : c = 0 := Subsingleton.elim _ _; rfl
/-- Every tile's blocks lie inside their arrays. -/
abbrev InRange : Prop := ok0 (F := F) (tables m)
abbrev adm (hO : InRange m) : (pcfg0 (F := F)).Adm := ⟨tables m, hO⟩
abbrev cfgM (hO : InRange m) : Pipeline.Cfg sig Λ₀ := cfg0 (adm m hO)

/-- The halves of the tables the region hands the body. -/
theorem halves_eq (c : Dev nD) : (Pipeline.ΦT pre0 (tables m) c : sProp 𝕄) = iprop(tableHalf c expertOf (tables m 0) ∗ tableHalf c liveCount (tables m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, read off its array as the region finds it. -/
def iblk (hO : InRange m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem held0_of (hO : InRange m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem held1_of (hO : InRange m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem held2_of (hO : InRange m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem held3_of (hO : InRange m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the output's staging buffer holds after each tile -/

/-- One staging buffer of the output, through which its contents are stated. -/
abbrev outView : View sig .tc .vmem S512x1024 .f32 := (Memref.whole cc0_stg4_0 : Memref sig .tc .vmem S512x1024 .f32).view
abbrev stg0 (hO : InRange m) (t : Fin (cfgM m hO).N) : Memref sig .tc .vmem S512x1024 .f32 := spec0_0.stage ((cfgM m hO).slots t 0)
abbrev stgWhole0 (hO : InRange m) (t : Fin (cfgM m hO).N) : (stg0 m hO t).IsWhole := hstage0_0 (((cfgM m hO).slots t 0).cast nbuf0_0)
abbrev stg1 (hO : InRange m) (t : Fin (cfgM m hO).N) : Memref sig .tc .vmem S1x1x1024x3584 .bf16 := spec0_1.stage ((cfgM m hO).slots t 1)
abbrev stgWhole1 (hO : InRange m) (t : Fin (cfgM m hO).N) : (stg1 m hO t).IsWhole := hstage0_1 (((cfgM m hO).slots t 1).cast nbuf0_1)
abbrev stg2 (hO : InRange m) (t : Fin (cfgM m hO).N) : Memref sig .tc .vmem S1x1x1024x3584 .bf16 := spec0_2.stage ((cfgM m hO).slots t 2)
abbrev stgWhole2 (hO : InRange m) (t : Fin (cfgM m hO).N) : (stg2 m hO t).IsWhole := hstage0_2 (((cfgM m hO).slots t 2).cast nbuf0_2)
abbrev stg3 (hO : InRange m) (t : Fin (cfgM m hO).N) : Memref sig .tc .vmem S1x1x3584x1024 .bf16 := spec0_3.stage ((cfgM m hO).slots t 3)
abbrev stgWhole3 (hO : InRange m) (t : Fin (cfgM m hO).N) : (stg3 m hO t).IsWhole := hstage0_3 (((cfgM m hO).slots t 3).cast nbuf0_3)
abbrev stg4 (hO : InRange m) (t : Fin (cfgM m hO).N) : Memref sig .tc .vmem S512x1024 .f32 := spec0_4.stage ((cfgM m hO).slots t 4)
abbrev stgWhole4 (hO : InRange m) (t : Fin (cfgM m hO).N) : (stg4 m hO t).IsWhole := hstage0_4 (((cfgM m hO).slots t 4).cast nbuf0_4)

/-- The kernel body at point `t`, on what the pipeline calls it with. -/
abbrev bodyAt (a : (pcfg0 (F := F)).Adm) (t : Fin (cfg0 a).N) : Prog (TpuEff nD τ sig (Elt F) Λ₀ .tc) PUnit :=
  cc0_moe_experts (grid0.coords t) expertOf (Memref.isWhole_whole _) liveCount (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-- Tile `t` is live, by the count the launch was given. -/
abbrev Live (c : Dev nD) (i : grid0.Coords) : Prop := k0_cond1 i (liveWord (F := F) c (tables m 1)) = 1#1

theorem dead_of (c : Dev nD) (i : grid0.Coords) (h : ¬ Live m c i) : k0_cond2 i (liveWord (F := F) c (tables m 1)) = 1#1 := (dead_iff i _).mpr h
theorem not_dead_of (c : Dev nD) (i : grid0.Coords) (h : Live m c i) : ¬ k0_cond2 i (liveWord (F := F) c (tables m 1)) = 1#1 := fun h' => (dead_iff i _).mp h' h

/-- The pieces the body writes at point `t`. -/
def pieces (hO : InRange m) (c : Dev nD) (t : Fin (cfgM m hO).N) : List (View.Piece (Elt F) S512x1024 .f32) :=
  if h : Live m c (grid0.coords t) then
    (runLive c (grid0.coords t) (stg0 m hO t) (stgWhole0 m hO t) (stg1 m hO t) (stgWhole1 m hO t) (stg2 m hO t) (stgWhole2 m hO t) (stg3 m hO t) (stgWhole3 m hO t) (stg4 m hO t) (stgWhole4 m hO t)
      (iblk m hO c 0 t) (iblk m hO c 1 t) (iblk m hO c 2 t) (iblk m hO c 3 t) (tables m 0) (tables m 1) h (not_dead_of m c _ h)).1
  else
    (runIdle c (grid0.coords t) (stg0 m hO t) (stgWhole0 m hO t) (stg1 m hO t) (stgWhole1 m hO t) (stg2 m hO t) (stgWhole2 m hO t) (stg3 m hO t) (stgWhole3 m hO t) (stg4 m hO t) (stgWhole4 m hO t)
      (iblk m hO c 0 t) (iblk m hO c 1 t) (iblk m hO c 2 t) (iblk m hO c 3 t) (tables m 0) (tables m 1) h (dead_of m c _ h)).1

/-- They cover the block: each branch stores the whole of it. -/
theorem pieces_cover (hO : InRange m) (c : Dev nD) (t : Fin (cfgM m hO).N) (y : S512x1024.Idx) : ∃ pc ∈ pieces m hO c t, y ∈ pc.1.set := by
  unfold pieces
  split
  · exact View.cover_of_tiledL _ S512x1024.size (by sl_kernel_rfl) y
  · exact View.cover_of_tiledL _ S512x1024.size (by sl_kernel_rfl) y

/-- What the output's staging buffer holds after the body at point `t`. -/
def outAt (hO : InRange m) (c : Dev nD) (t : Fin (cfgM m hO).N) : Vec F S512x1024 .f32 :=
  outView.read (Elt F) (outView.writes (Elt F) outView.junk (pieces m hO c t))

/-! ## The pipeline's proof data and the body at every point -/

def dats (hO : InRange m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ _ := iprop(Pipeline.ΦA spec0 c ∗ Pipeline.ΦT pre0 (tables m) c)
  q _ := fullShare
  owed _ := 0

theorem A_eq (hO : InRange m) (c : Dev nD) (w : Fin (cfgM m hO).W) : (dats m hO 0 c).A w = V m c (Pipeline.arrRef spec0 w) := by
  dsimp only [dats]
theorem after0 (hO : InRange m) (c : Dev nD) (t : Fin (cfgM m hO).N) : (dats m hO 0 c).after 0 t = iblk m hO c 0 t := by dsimp only [dats]; try rfl
theorem after1 (hO : InRange m) (c : Dev nD) (t : Fin (cfgM m hO).N) : (dats m hO 0 c).after 1 t = iblk m hO c 1 t := by dsimp only [dats]; try rfl
theorem after2 (hO : InRange m) (c : Dev nD) (t : Fin (cfgM m hO).N) : (dats m hO 0 c).after 2 t = iblk m hO c 2 t := by dsimp only [dats]; try rfl
theorem after3 (hO : InRange m) (c : Dev nD) (t : Fin (cfgM m hO).N) : (dats m hO 0 c).after 3 t = iblk m hO c 3 t := by dsimp only [dats]; try rfl
theorem after4 (hO : InRange m) (c : Dev nD) (t : Fin (cfgM m hO).N) : (dats m hO 0 c).after 4 t = outAt m hO c t := by dsimp only [dats]; try rfl
theorem before0 (hO : InRange m) (c : Dev nD) (t : Fin (cfgM m hO).N) (d) : (dats m hO 0 c).before 0 t d = iblk m hO c 0 t :=
  held0_of m hO (dats m hO 0 c) (A_eq m hO c 0) (after0 m hO c) t d
theorem before1 (hO : InRange m) (c : Dev nD) (t : Fin (cfgM m hO).N) (d) : (dats m hO 0 c).before 1 t d = iblk m hO c 1 t :=
  held1_of m hO (dats m hO 0 c) (A_eq m hO c 1) (after1 m hO c) t d
theorem before2 (hO : InRange m) (c : Dev nD) (t : Fin (cfgM m hO).N) (d) : (dats m hO 0 c).before 2 t d = iblk m hO c 2 t :=
  held2_of m hO (dats m hO 0 c) (A_eq m hO c 2) (after2 m hO c) t d
theorem before3 (hO : InRange m) (c : Dev nD) (t : Fin (cfgM m hO).N) (d) : (dats m hO 0 c).before 3 t d = iblk m hO c 3 t :=
  held3_of m hO (dats m hO 0 c) (A_eq m hO c 3) (after3 m hO c) t d

theorem idle_none (i : grid0.Coords) (w : BitVec 32) : (!(k0_cond1 i w == 1#1) && !(k0_cond2 i w == 1#1)) = false := by
  by_cases h : k0_cond1 i w = 1#1
  · simp [h]
  · simp [(dead_iff i w).mpr h]

attribute [local irreducible] k0_cond1 k0_cond2 in
/-- The output window is idle at no point: one of the two branches always stores. -/
theorem never_idle (hO : InRange m) (t : Fin (cfgM m hO).N) : (cfgM m hO).idle 4 (grid0.coords t) = false :=
  idle_none (grid0.coords t) ((tables m).atD 1 ![0])

def bodyPre (hO : InRange m) (c : Dev nD) (t : Fin (cfgM m hO).N) : sProp 𝕄 :=
  iprop((dats m hO 0 c).Φ t.castSucc ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d)))

def bodyPost (hO : InRange m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

set_option maxHeartbeats 800000 in
theorem sound_body (hO : InRange m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2, before3]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tables m) c) from rfl, halves_eq]
  rw [show (dats m hO 0 c).leavesExact 0 t = owns (c : Thread nD τ) (stg0 m hO t) fullShare ((dats m hO 0 c).after 0 t) from by
    unfold Dat.leavesExact; rw [show (cfgM m hO).idle 0 (grid0.coords t) = false from rfl]; try rfl, after0]
  rw [show (dats m hO 0 c).leavesExact 1 t = owns (c : Thread nD τ) (stg1 m hO t) fullShare ((dats m hO 0 c).after 1 t) from by
    unfold Dat.leavesExact; rw [show (cfgM m hO).idle 1 (grid0.coords t) = false from rfl]; try rfl, after1]
  rw [show (dats m hO 0 c).leavesExact 2 t = owns (c : Thread nD τ) (stg2 m hO t) fullShare ((dats m hO 0 c).after 2 t) from by
    unfold Dat.leavesExact; rw [show (cfgM m hO).idle 2 (grid0.coords t) = false from rfl]; try rfl, after2]
  rw [show (dats m hO 0 c).leavesExact 3 t = owns (c : Thread nD τ) (stg3 m hO t) fullShare ((dats m hO 0 c).after 3 t) from by
    unfold Dat.leavesExact; rw [show (cfgM m hO).idle 3 (grid0.coords t) = false from rfl]; try rfl, after3]
  rw [show (dats m hO 0 c).leavesExact 4 t = owns (c : Thread nD τ) (stg4 m hO t) fullShare ((dats m hO 0 c).after 4 t) from by
    unfold Dat.leavesExact; rw [never_idle m hO t]; try rfl, after4]
  have hcov := pieces_cover m hO c t
  unfold outAt
  iintro ⟨⟨HΦ, ⟨HT0, HT1⟩⟩, Ho, ⟨%d0, H0⟩, ⟨%d1, H1⟩, ⟨%d2, H2⟩, ⟨%d3, H3⟩, ⟨%d4, H4⟩⟩
  by_cases hL : Live m c (grid0.coords t)
  · rw [show pieces m hO c t = _ from dif_pos hL] at hcov ⊢
    iapply ((runLive c (grid0.coords t) _ _ _ _ _ _ _ _ _ _ (iblk m hO c 0 t) (iblk m hO c 1 t) (iblk m hO c 2 t) (iblk m hO c 3 t) (tables m 0) (tables m 1) hL (not_dead_of m c _ hL)).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ hcov
  · rw [show pieces m hO c t = _ from dif_neg hL] at hcov ⊢
    iapply ((runIdle c (grid0.coords t) _ _ _ _ _ _ _ _ _ _ (iblk m hO c 0 t) (iblk m hO c 1 t) (iblk m hO c 2 t) (iblk m hO c 3 t) (tables m 0) (tables m 1) hL (dead_of m c _ hL)).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ hcov

theorem body_row (hO : InRange m) (t : Fin (cfgM m hO).N) :
    defs₀ (F := F) .tc (cfgM m hO).body ((cfgM m hO).bodyArgs t ((cfgM m hO).slots t)) = bodyAt (adm m hO) t := by
  unfold defs₀; rw [Defs.onTc_tc]

attribute [local irreducible] k0_cond1 k0_cond2 in
theorem body_obligation (hO : InRange m) (c : Dev nD) : BodyObligation (dats (F := F) m hO 0 c) (defs₀ (F := F)) Variants.none () Set.univ := fun t => by
  rw [bigSep_W0, bigSep_W0, body_row m hO]
  exact triple_restated (sound_body m hO c t) rfl .rfl fun _ => .rfl

/-! ## The run -/

set_option backward.isDefEq.respectTransparency.types false in
/-- Every execution ends, with every array of the pipeline at what the proof data say and every counter at zero. -/
theorem run_quiescent (hO : InRange m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_tables m)
    (hΦ := fun _ _ => rfl)

/-- The result array and the arguments at the end of every execution, every counter at zero. -/
theorem run_main (hO : InRange m) : θ_run defs (onTc (τ := τ) (main (F := F))) ⟨m, fun _ => 0, ρ⟩ (fun r => (∀ c : Dev nD,
      r.2.mem ((c.tc : Thread nD τ).loc main_v3) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 4,
      ((h.1 c).1 0).trans (((dats m hO 0 c).arrAt_in 0 rfl _).trans ((A_eq m hO c 0).trans (V_arg0 m c))),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c),
      ((h.1 c).2 main_arg4 (by decide : main_arg4 ∈ Pipeline.restRefs sig spec0)).trans (V_arg4 m c),
      ((h.1 c).2 main_arg5 (by decide : main_arg5 ∈ Pipeline.restRefs sig spec0)).trans (V_arg5 m c)⟩, h.2⟩)
    (run_quiescent m ρ hO)

end Cert.Kernel2Ideal.Experts

end
-- ==== Proof.ExpertTables.lean ====
/- The expert call's tables: under the precondition (every tile's expert is one of the eight) each window's blocks lie
   inside their arrays, at any count of live tiles. -/
module

public import proofs.«01_k».proof.Proof.ExpertRun
public import proofs.«01_k».proof.Proof.Gen.Pre_experts_in_range
public import Idealize.ShloMosaic.Lib.ReduceAll

@[expose] public section

set_option maxRecDepth 16384

noncomputable section

namespace Cert.Kernel2Ideal.Experts

open Idealize.ShloMosaic Idealize.ShloMosaic.TcCoe
open Idealize.SL Idealize.SL.Sem
open Cert.Kernel2Ideal.Gen

variable {F : FTy → Type} [FloatOps F]

/-- A word that is signed at least 0 and signed below 8 is a number below 8. -/
theorem toNat_lt_eight {w : BitVec 32} (h0 : 0 ≤ w.toInt) (h8 : w.toInt < 8) : w.toNat < 8 := by
  rw [BitVec.toInt_eq_toNat_cond] at h0 h8
  split at h0 <;> omega

/-- What the precondition says of the tile table: every entry is a number below 8. -/
theorem expert_lt (x0 : FVec F Cert.Pre_experts_in_range.S69632x1024 .f32) (x1 : IVec Cert.Pre_experts_in_range.S136 32) (x2 : IVec Cert.Pre_experts_in_range.S1 32)
    (x3 x4 : FVec F Cert.Pre_experts_in_range.S2x8x1024x3584 .f32) (x5 : FVec F Cert.Pre_experts_in_range.S2x8x3584x1024 .f32)
    (h : Cert.Pre_experts_in_range.fn (F := F) x0 x1 x2 x3 x4 x5 = fun _ => 1#1) (j : Cert.Pre_experts_in_range.S136.Idx) : (x1 j).toNat < 8 := by
  have e := congrFun h (Shape.Idx.first Cert.Pre_experts_in_range.Facts.h_S_)
  haveI : Subsingleton Cert.Pre_experts_in_range.S_.Idx := ⟨fun a b => funext fun k => k.elim0⟩
  obtain ⟨ea, eb⟩ := IntOp.andi_eq_one.1 e
  have ha := IntOp.cmpi_sge.1 (Host.reduce_andi_all _ _ _ _ _ ea j)
  have hb := IntOp.cmpi_slt.1 (Host.reduce_andi_all _ _ _ _ _ eb j)
  exact toNat_lt_eight ha hb

/-- The rows' block: the tile's own, or the last live one. -/
theorem rows_inb (a b : BitVec 32) (ha : a.toNat < 136) : (Scalar.minsi a (Scalar.maxsi b 0#32)).toNat < 136 := by
  simp only [Scalar.minsi, Scalar.maxsi, IntOp.minsi, IntOp.maxsi]
  have hs : a.toInt = a.toNat := by rw [BitVec.toInt_eq_toNat_cond]; split <;> omega
  split <;> split
  · exact ha
  · rename_i hc h
    simp only [BitVec.slt, decide_eq_true_eq, not_lt] at h hc
    have hz : (0#32 : BitVec 32).toInt = 0 := rfl
    have hb := BitVec.toInt_eq_toNat_cond b
    split at hb <;> omega
  · exact ha
  · exact Nat.succ_pos 135

theorem weightsIn : ∀ e : Fin 8, ∃ h : (∀ a, ((![0, e.val, 0, 0] : Fin 4 → Nat) a + 1) * S1x1x1024x3584.size a ≤ S2x8x1024x3584.size a), EltTy.bits .bf16 = 32 ∨ (Rect.block (s := S2x8x1024x3584) S1x1x1024x3584.size ![0, e.val, 0, 0] h).WholeWords (EltTy.packing .bf16) := by
  decide +kernel
theorem weightsOut : ∀ e : Fin 8, ∃ h : (∀ a, ((![0, e.val, 0, 0] : Fin 4 → Nat) a + 1) * S1x1x3584x1024.size a ≤ S2x8x3584x1024.size a), EltTy.bits .bf16 = 32 ∨ (Rect.block (s := S2x8x3584x1024) S1x1x3584x1024.size ![0, e.val, 0, 0] h).WholeWords (EltTy.packing .bf16) := by
  decide +kernel

/-- The blocks lie inside their arrays when every entry of the tile table is below 8. -/
theorem ok_of_lt (pf : pre0.Contents (Elt F)) (h : ∀ j, BitVec.toNat (pf 0 j : BitVec 32) < 8) : ok0 pf := by
  refine ⟨fun i => ⟨?_, .inl rfl⟩, fun i => weightsIn ⟨_, h _⟩, fun i => weightsIn ⟨_, h _⟩, fun i => weightsOut ⟨_, h _⟩⟩
  have hb := rows_inb (BitVec.ofNat 32 (i 0).val) (Scalar.subi (pf.at 1 (Rect.unit (s := S1) ![0] S1.size inb_S1_S1_0) numel1_S1) 1#32)
    (by have h0 : (i 0).val < 136 := (i 0).isLt
        rw [BitVec.toNat_ofNat]; omega)
  intro a
  match a with
  | ⟨0, _⟩ =>
    change ((Scalar.minsi (BitVec.ofNat 32 (i 0).val) (Scalar.maxsi (Scalar.subi (pf.at 1 (Rect.unit (s := S1) ![0] S1.size inb_S1_S1_0) numel1_S1) 1#32) 0#32)).toNat + 1) * 512 ≤ 69632
    omega
  | ⟨1, _⟩ => exact Nat.le_refl 1024

theorem inRange_of (m : (ℓ : Loc nD τ sig) → Buf (Elt F) ℓ) (h : ∀ j, BitVec.toNat (m (((0 : Dev nD) : Thread nD τ).loc main_arg1) j : BitVec 32) < 8) : InRange m :=
  ok_of_lt _ fun j => by
    have e : tables m 0 = m (((0 : Dev nD) : Thread nD τ).loc main_arg1) := V_arg1 m 0
    rw [e]; exact h j

end Cert.Kernel2Ideal.Experts

end
-- ==== Proof.ExpertRow.lean ====
/- The expert call's rows, as extended reals: an expert's gated feed-forward of a row, the kernel's payload as it (the hidden
   axis in two halves), and the reference's one-hot combination of the eight experts as the one the tile names. -/
module

public import proofs.«01_k».proof.Proof.Gen.Kernel2Ideal.Skeleton
public import proofs.«01_k».proof.Proof.Gen.Reference2Ideal.Run
public import proofs.«01_k».proof.Proof.Gen.Reference2Ideal.Read
public import Idealize.ShloMosaic.Lib.Pointwise
public import Idealize.ShloMosaic.Lib.IdealHost

@[expose] public section

set_option maxRecDepth 16384

noncomputable section

namespace Cert.ExpertRow

open Idealize.ShloMosaic Idealize.ShloMosaic.Pointwise

/-- One expert's gated feed-forward of a row. -/
def row (x : Fin 1024 → EReal) (wg wu : Fin 1024 → Fin 3584 → EReal) (wd : Fin 3584 → Fin 1024 → EReal) (j : Fin 1024) : EReal :=
  ∑ f, (∑ k, x k * wg k f) * Ideal.logistic (∑ k, x k * wg k f) * (∑ k, x k * wu k f) * wd f j

section Kernel
open Cert.Kernel2Ideal Cert.Kernel2Ideal.Gen

theorem first_half (x : Vec Ideal S512x1024 .f32) (g u : Vec Ideal S1x1x1024x1792 .bf16) (d : Vec Ideal S1x1x1792x1024 .bf16) (r : Fin 512) (j : Fin 1024) :
    k0_pay4 (F := Ideal) x g u d (ix2 r j)
      = ∑ f : Fin 1792, (∑ k, x (ix2 r k) * g (ix4 0 0 k f)) * Ideal.logistic (∑ k, x (ix2 r k) * g (ix4 0 0 k f)) * (∑ k, x (ix2 r k) * u (ix4 0 0 k f)) * d (ix4 0 0 f j) := by
  pointwise [k0_pay4, k0_pay3]

theorem second_half (x : Vec Ideal S512x1024 .f32) (g u : Vec Ideal S1x1x1024x1792 .bf16) (d : Vec Ideal S1x1x1792x1024 .bf16) (r : Fin 512) (j : Fin 1024) :
    k0_pay5 (F := Ideal) x g u d (ix2 r j)
      = ∑ f : Fin 1792, (∑ k, x (ix2 r k) * g (ix4 0 0 k f)) * Ideal.logistic (∑ k, x (ix2 r k) * g (ix4 0 0 k f)) * (∑ k, x (ix2 r k) * u (ix4 0 0 k f)) * d (ix4 0 0 f j) := by
  pointwise [k0_pay5, k0_pay3]

end Kernel

section Reference
open Cert.Reference2Ideal

/-- Dividing a row's number by the tile's length, as words. -/
theorem tile_word (n : Nat) (h : n < 69632) : (BitVec.ofNat 32 n).sdiv 512#32 = BitVec.ofNat 32 (n / 512) := by
  apply BitVec.eq_of_toNat_eq
  rw [BitVec.sdiv_eq]
  have h1 : (BitVec.ofNat 32 n).msb = false := by
    rw [BitVec.msb_eq_false_iff_two_mul_lt]; simp only [BitVec.toNat_ofNat]; omega
  have h2 : (512#32 : BitVec 32).msb = false := rfl
  simp only [h1, h2, BitVec.udiv_eq, BitVec.toNat_udiv, BitVec.toNat_ofNat]
  rw [Nat.mod_eq_of_lt (by omega : n < 2 ^ 32), Nat.mod_eq_of_lt (by omega : n / 512 < 2 ^ 32)]

/-- The tile a row lies in, as the reference counts it. -/
theorem tile_apply (r : Fin 69632) : Read.val_main_v2 (F := Ideal) (ix1 r) = BitVec.ofNat 32 (r.val / 512) := by
  have e1 : Read.val_main_v1 (F := Ideal) (ix1 r) = BitVec.ofNat 32 r.val := by unfold Read.val_main_v1; pointwise []
  have e2 : Read.val_main_call0_v2 (F := Ideal) (ix1 r) = BitVec.ofNat 32 (r.val / 512) := by
    show IntOp.divsi _ (Read.val_main_v1 (F := Ideal) (ix1 r)) 512#32 = _
    rw [e1]
    unfold IntOp.divsi
    rw [if_neg (by rintro (h | ⟨_, h⟩) <;> exact absurd h (by decide))]
    exact tile_word r.val r.isLt
  have e3 : Read.val_main_call0_v11 (F := Ideal) (ix1 r) = 0#1 := by
    have e5 : Read.val_main_call0_v5 (F := Ideal) (ix1 r) = 1#32 := by
      unfold Read.val_main_call0_v5 Read.val_main_call0_v4 broadcastInDim signi Read.val_main_call0_v0 Read.val_main_c
      show (if (512#32 : BitVec 32) = 0 then (0 : BitVec 32) else if (512#32 : BitVec 32).msb then -1 else 1) = 1#32
      decide
    show IntOp.andi (IntOp.cmpi .ne (signi (s := S69632) (Read.val_main_v1 (F := Ideal)) (ix1 r)) (Read.val_main_call0_v5 (F := Ideal) (ix1 r))) (IntOp.cmpi .ne (IntOp.remsi _ (Read.val_main_v1 (F := Ideal) (ix1 r)) 512#32) 0#32) = 0#1
    rw [e5]
    unfold signi
    rw [e1]
    by_cases h0 : r.val = 0
    · rw [h0]; decide
    · have n0 : ¬ (BitVec.ofNat 32 r.val = 0) := fun h => h0 (by
        have := congrArg BitVec.toNat h
        simp only [BitVec.toNat_ofNat] at this
        have h' := r.isLt
        change r.val % 4294967296 = 0 at this
        omega)
      have ms : (BitVec.ofNat 32 r.val).msb = false := by
        rw [BitVec.msb_eq_false_iff_two_mul_lt]; simp only [BitVec.toNat_ofNat]; have h' := r.isLt; omega
      rw [if_neg n0, ms]
      simp [IntOp.andi, IntOp.cmpi]
  show Scalar.select (Read.val_main_call0_v11 (F := Ideal) (ix1 r)) (Read.val_main_call0_v13 (F := Ideal) (ix1 r)) (Read.val_main_call0_v2 (F := Ideal) (ix1 r)) = _
  rw [e3, e2]
  rfl

/-- The combination weight of an expert at a row: one where the row's tile names the expert and is live. -/
theorem combine_apply (x1 : IVec S136 32) (x2 : IVec S1 32) (r : Fin 69632) (e : Fin 8) :
    Read.val_main_v17 (F := Ideal) x1 x2 (ix2 r e)
      = if x1 (ix1 ⟨r.val / 512, by omega⟩) = BitVec.ofNat 32 e.val ∧ (BitVec.ofNat 32 (r.val / 512)).slt (x2 (ix1 0)) = true then 1 else 0 := by
  have e10 : Read.val_main_v10 (F := Ideal) x1 (ix2 r e) = IntOp.cmpi .eq (x1 (ix1 ⟨r.val / 512, by omega⟩)) (BitVec.ofNat 32 e.val) := by
    pointwise [Read.val_main_v10, Read.val_main_v9, Read.val_main_v8, Read.val_main_v7, Read.val_main_v6, Read.val_main_v5, Read.val_main_v4, Read.val_main_v3]
  have e15 : Read.val_main_v15 (F := Ideal) x2 (ix2 r e) = IntOp.cmpi .slt (Read.val_main_v2 (F := Ideal) (ix1 r)) (x2 (ix1 0)) := by
    pointwise [Read.val_main_v15, Read.val_main_v14, Read.val_main_v13, Read.val_main_v12, Read.val_main_v11]
  show (((IntOp.andi (Read.val_main_v10 (F := Ideal) x1 (ix2 r e)) (Read.val_main_v15 (F := Ideal) x2 (ix2 r e))).toNat : ℝ) : EReal) = _
  rw [e10, e15, tile_apply]
  by_cases h1 : x1 (ix1 ⟨r.val / 512, by omega⟩) = BitVec.ofNat 32 e.val <;>
    by_cases h2 : (BitVec.ofNat 32 (r.val / 512)).slt (x2 (ix1 0)) = true <;>
    simp [h1, h2, IntOp.andi, IntOp.cmpi, beq_eq_false_iff_ne.mpr]

theorem expert0_apply (x0 : Vec Ideal S69632x1024 .f32) (x3 x4 : Vec Ideal S2x8x1024x3584 .f32) (x5 : Vec Ideal S2x8x3584x1024 .f32) (r : Fin 69632) (j : Fin 1024) :
    Read.val_main_v29 (F := Ideal) x0 x3 x4 x5 (ix2 r j)
      = row (fun k => x0 (ix2 r k)) (fun k f => x3 (ix4 0 0 k f)) (fun k f => x4 (ix4 0 0 k f)) (fun f k => x5 (ix4 0 0 f k)) j := by
  pointwise [Read.val_main_v29, Read.val_main_v28, Read.val_main_v27, Read.val_main_v26, Read.val_main_v25, Read.val_main_v23, Read.val_main_v22, Read.val_main_v21, Read.val_main_v20, Read.val_main_v19, Read.val_main_v18, Read.val_main_call1_v5, Read.val_main_call1_v4, Read.val_main_call1_v3, Read.val_main_call1_v2, Read.val_main_call1_v1, Read.val_main_call1_v0, Read.val_main_call1_cst, Read.val_main_call1_cst_0, row]
  rfl

theorem expert1_apply (x0 : Vec Ideal S69632x1024 .f32) (x3 x4 : Vec Ideal S2x8x1024x3584 .f32) (x5 : Vec Ideal S2x8x3584x1024 .f32) (r : Fin 69632) (j : Fin 1024) :
    Read.val_main_v44 (F := Ideal) x0 x3 x4 x5 (ix2 r j)
      = row (fun k => x0 (ix2 r k)) (fun k f => x3 (ix4 0 1 k f)) (fun k f => x4 (ix4 0 1 k f)) (fun f k => x5 (ix4 0 1 f k)) j := by
  pointwise [Read.val_main_v44, Read.val_main_v43, Read.val_main_v42, Read.val_main_v41, Read.val_main_v40, Read.val_main_v38, Read.val_main_v37, Read.val_main_v36, Read.val_main_v35, Read.val_main_v34, Read.val_main_v33, Read.val_main_call2_v5, Read.val_main_call2_v4, Read.val_main_call2_v3, Read.val_main_call2_v2, Read.val_main_call2_v1, Read.val_main_call2_v0, Read.val_main_call2_cst, Read.val_main_call2_cst_0, row]
  rfl

theorem expert2_apply (x0 : Vec Ideal S69632x1024 .f32) (x3 x4 : Vec Ideal S2x8x1024x3584 .f32) (x5 : Vec Ideal S2x8x3584x1024 .f32) (r : Fin 69632) (j : Fin 1024) :
    Read.val_main_v59 (F := Ideal) x0 x3 x4 x5 (ix2 r j)
      = row (fun k => x0 (ix2 r k)) (fun k f => x3 (ix4 0 2 k f)) (fun k f => x4 (ix4 0 2 k f)) (fun f k => x5 (ix4 0 2 f k)) j := by
  pointwise [Read.val_main_v59, Read.val_main_v58, Read.val_main_v57, Read.val_main_v56, Read.val_main_v55, Read.val_main_v53, Read.val_main_v52, Read.val_main_v51, Read.val_main_v50, Read.val_main_v49, Read.val_main_v48, Read.val_main_call3_v5, Read.val_main_call3_v4, Read.val_main_call3_v3, Read.val_main_call3_v2, Read.val_main_call3_v1, Read.val_main_call3_v0, Read.val_main_call3_cst, Read.val_main_call3_cst_0, row]
  rfl

theorem expert3_apply (x0 : Vec Ideal S69632x1024 .f32) (x3 x4 : Vec Ideal S2x8x1024x3584 .f32) (x5 : Vec Ideal S2x8x3584x1024 .f32) (r : Fin 69632) (j : Fin 1024) :
    Read.val_main_v74 (F := Ideal) x0 x3 x4 x5 (ix2 r j)
      = row (fun k => x0 (ix2 r k)) (fun k f => x3 (ix4 0 3 k f)) (fun k f => x4 (ix4 0 3 k f)) (fun f k => x5 (ix4 0 3 f k)) j := by
  pointwise [Read.val_main_v74, Read.val_main_v73, Read.val_main_v72, Read.val_main_v71, Read.val_main_v70, Read.val_main_v68, Read.val_main_v67, Read.val_main_v66, Read.val_main_v65, Read.val_main_v64, Read.val_main_v63, Read.val_main_call4_v5, Read.val_main_call4_v4, Read.val_main_call4_v3, Read.val_main_call4_v2, Read.val_main_call4_v1, Read.val_main_call4_v0, Read.val_main_call4_cst, Read.val_main_call4_cst_0, row]
  rfl

theorem expert4_apply (x0 : Vec Ideal S69632x1024 .f32) (x3 x4 : Vec Ideal S2x8x1024x3584 .f32) (x5 : Vec Ideal S2x8x3584x1024 .f32) (r : Fin 69632) (j : Fin 1024) :
    Read.val_main_v89 (F := Ideal) x0 x3 x4 x5 (ix2 r j)
      = row (fun k => x0 (ix2 r k)) (fun k f => x3 (ix4 0 4 k f)) (fun k f => x4 (ix4 0 4 k f)) (fun f k => x5 (ix4 0 4 f k)) j := by
  pointwise [Read.val_main_v89, Read.val_main_v88, Read.val_main_v87, Read.val_main_v86, Read.val_main_v85, Read.val_main_v83, Read.val_main_v82, Read.val_main_v81, Read.val_main_v80, Read.val_main_v79, Read.val_main_v78, Read.val_main_call5_v5, Read.val_main_call5_v4, Read.val_main_call5_v3, Read.val_main_call5_v2, Read.val_main_call5_v1, Read.val_main_call5_v0, Read.val_main_call5_cst, Read.val_main_call5_cst_0, row]
  rfl

theorem expert5_apply (x0 : Vec Ideal S69632x1024 .f32) (x3 x4 : Vec Ideal S2x8x1024x3584 .f32) (x5 : Vec Ideal S2x8x3584x1024 .f32) (r : Fin 69632) (j : Fin 1024) :
    Read.val_main_v104 (F := Ideal) x0 x3 x4 x5 (ix2 r j)
      = row (fun k => x0 (ix2 r k)) (fun k f => x3 (ix4 0 5 k f)) (fun k f => x4 (ix4 0 5 k f)) (fun f k => x5 (ix4 0 5 f k)) j := by
  pointwise [Read.val_main_v104, Read.val_main_v103, Read.val_main_v102, Read.val_main_v101, Read.val_main_v100, Read.val_main_v98, Read.val_main_v97, Read.val_main_v96, Read.val_main_v95, Read.val_main_v94, Read.val_main_v93, Read.val_main_call6_v5, Read.val_main_call6_v4, Read.val_main_call6_v3, Read.val_main_call6_v2, Read.val_main_call6_v1, Read.val_main_call6_v0, Read.val_main_call6_cst, Read.val_main_call6_cst_0, row]
  rfl

theorem expert6_apply (x0 : Vec Ideal S69632x1024 .f32) (x3 x4 : Vec Ideal S2x8x1024x3584 .f32) (x5 : Vec Ideal S2x8x3584x1024 .f32) (r : Fin 69632) (j : Fin 1024) :
    Read.val_main_v119 (F := Ideal) x0 x3 x4 x5 (ix2 r j)
      = row (fun k => x0 (ix2 r k)) (fun k f => x3 (ix4 0 6 k f)) (fun k f => x4 (ix4 0 6 k f)) (fun f k => x5 (ix4 0 6 f k)) j := by
  pointwise [Read.val_main_v119, Read.val_main_v118, Read.val_main_v117, Read.val_main_v116, Read.val_main_v115, Read.val_main_v113, Read.val_main_v112, Read.val_main_v111, Read.val_main_v110, Read.val_main_v109, Read.val_main_v108, Read.val_main_call7_v5, Read.val_main_call7_v4, Read.val_main_call7_v3, Read.val_main_call7_v2, Read.val_main_call7_v1, Read.val_main_call7_v0, Read.val_main_call7_cst, Read.val_main_call7_cst_0, row]
  rfl

theorem expert7_apply (x0 : Vec Ideal S69632x1024 .f32) (x3 x4 : Vec Ideal S2x8x1024x3584 .f32) (x5 : Vec Ideal S2x8x3584x1024 .f32) (r : Fin 69632) (j : Fin 1024) :
    Read.val_main_v134 (F := Ideal) x0 x3 x4 x5 (ix2 r j)
      = row (fun k => x0 (ix2 r k)) (fun k f => x3 (ix4 0 7 k f)) (fun k f => x4 (ix4 0 7 k f)) (fun f k => x5 (ix4 0 7 f k)) j := by
  pointwise [Read.val_main_v134, Read.val_main_v133, Read.val_main_v132, Read.val_main_v131, Read.val_main_v130, Read.val_main_v128, Read.val_main_v127, Read.val_main_v126, Read.val_main_v125, Read.val_main_v124, Read.val_main_v123, Read.val_main_call8_v5, Read.val_main_call8_v4, Read.val_main_call8_v3, Read.val_main_call8_v2, Read.val_main_call8_v1, Read.val_main_call8_v0, Read.val_main_call8_cst, Read.val_main_call8_cst_0, row]
  rfl

/-- The reference's row: the named expert's, where the tile is live, and zero elsewhere. -/
theorem reference_apply (x0 : Vec Ideal S69632x1024 .f32) (x1 : IVec S136 32) (x2 : IVec S1 32) (x3 x4 : Vec Ideal S2x8x1024x3584 .f32)
    (x5 : Vec Ideal S2x8x3584x1024 .f32) (r : Fin 69632) (j : Fin 1024) (e : Fin 8) (he : x1 (ix1 ⟨r.val / 512, by omega⟩) = BitVec.ofNat 32 e.val) :
    Read.val_main_v137 (F := Ideal) x0 x1 x2 x3 x4 x5 (ix2 r j)
      = if (BitVec.ofNat 32 (r.val / 512)).slt (x2 (ix1 0)) = true then
          row (fun k => x0 (ix2 r k)) (fun k f => x3 (ix4 0 e k f)) (fun k f => x4 (ix4 0 e k f)) (fun f k => x5 (ix4 0 e f k)) j
        else 0 := by
  have s : Read.val_main_v137 (F := Ideal) x0 x1 x2 x3 x4 x5 (ix2 r j)
      = 0 + Read.val_main_v17 (F := Ideal) x1 x2 (ix2 r 0) * Read.val_main_v29 (F := Ideal) x0 x3 x4 x5 (ix2 r j) + Read.val_main_v17 (F := Ideal) x1 x2 (ix2 r 1) * Read.val_main_v44 (F := Ideal) x0 x3 x4 x5 (ix2 r j) + Read.val_main_v17 (F := Ideal) x1 x2 (ix2 r 2) * Read.val_main_v59 (F := Ideal) x0 x3 x4 x5 (ix2 r j) + Read.val_main_v17 (F := Ideal) x1 x2 (ix2 r 3) * Read.val_main_v74 (F := Ideal) x0 x3 x4 x5 (ix2 r j) + Read.val_main_v17 (F := Ideal) x1 x2 (ix2 r 4) * Read.val_main_v89 (F := Ideal) x0 x3 x4 x5 (ix2 r j) + Read.val_main_v17 (F := Ideal) x1 x2 (ix2 r 5) * Read.val_main_v104 (F := Ideal) x0 x3 x4 x5 (ix2 r j) + Read.val_main_v17 (F := Ideal) x1 x2 (ix2 r 6) * Read.val_main_v119 (F := Ideal) x0 x3 x4 x5 (ix2 r j) + Read.val_main_v17 (F := Ideal) x1 x2 (ix2 r 7) * Read.val_main_v134 (F := Ideal) x0 x3 x4 x5 (ix2 r j) := by
    pointwise [Read.val_main_v137, Read.val_main_v136, Read.val_main_v135, Read.val_main_v129, Read.val_main_v122, Read.val_main_v121, Read.val_main_v120, Read.val_main_v114, Read.val_main_v107, Read.val_main_v106, Read.val_main_v105, Read.val_main_v99, Read.val_main_v92, Read.val_main_v91, Read.val_main_v90, Read.val_main_v84, Read.val_main_v77, Read.val_main_v76, Read.val_main_v75, Read.val_main_v69, Read.val_main_v62, Read.val_main_v61, Read.val_main_v60, Read.val_main_v54, Read.val_main_v47, Read.val_main_v46, Read.val_main_v45, Read.val_main_v39, Read.val_main_v32, Read.val_main_v31, Read.val_main_v30, Read.val_main_v24, Read.val_main_v0, Read.val_main_cst]
  rw [s, expert0_apply, expert1_apply, expert2_apply, expert3_apply, expert4_apply, expert5_apply, expert6_apply, expert7_apply]
  simp only [combine_apply, he]
  by_cases h : (BitVec.ofNat 32 (r.val / 512)).slt (x2 (ix1 0)) = true
  · fin_cases e <;> simp [h]
  · simp [h]

end Reference

end Cert.ExpertRow

end
-- ==== Proof.ExpertValue.lean ====
/- The expert call: what the kernel's run leaves in the result array, read element by element, is the reference's result. -/
module

public import proofs.«01_k».proof.Proof.ExpertRow
public import proofs.«01_k».proof.Proof.ExpertTables
public import Idealize.ShloMosaic.Lib.Pipeline.Value
public import Idealize.ShloMosaic.Lib.StableHlo.Run

@[expose] public section

set_option maxRecDepth 16384

noncomputable section

namespace Cert.Kernel2Ideal.Experts

open Cert.Kernel2Ideal.Gen
open Idealize.ShloMosaic Idealize.ShloMosaic.TcCoe Idealize.ShloMosaic.Pointwise
open Idealize.ShloMosaic.Pipeline (Dat)

theorem hz2 : (![0, 0] : Fin 2 → Nat) = fun _ => 0 := funext fun a => by fin_cases a <;> rfl

section Body
variable (c : Dev nD) (i : grid0.Coords) (arg3 : Memref sig .tc .vmem S512x1024 .f32) (harg3 : arg3.IsWhole) (arg4 : Memref sig .tc .vmem S1x1x1024x3584 .bf16) (harg4 : arg4.IsWhole) (arg5 : Memref sig .tc .vmem S1x1x1024x3584 .bf16) (harg5 : arg5.IsWhole) (arg6 : Memref sig .tc .vmem S1x1x3584x1024 .bf16) (harg6 : arg6.IsWhole) (arg7 : Memref sig .tc .vmem S512x1024 .f32) (harg7 : arg7.IsWhole)
    (x0 : Vec Ideal S512x1024 .f32) (x1 : Vec Ideal S1x1x1024x3584 .bf16) (x2 : Vec Ideal S1x1x1024x3584 .bf16) (x3 : Vec Ideal S1x1x3584x1024 .bf16) (xt0 : TableBuf (F := Ideal) c expertOf) (xt1 : TableBuf (F := Ideal) c liveCount)

/-- What a live tile's body leaves at an element: the row through the expert whose weights it was handed. -/
theorem live_apply (hc0 : k0_cond1 i (liveWord c xt1) = 1#1) (hc1 : ¬ k0_cond2 i (liveWord c xt1) = 1#1) (r : Fin 512) (j : Fin 1024) :
    outView.read (Elt Ideal) (outView.writes (Elt Ideal) outView.junk
      (runLive c i arg3 harg3 arg4 harg4 arg5 harg5 arg6 harg6 arg7 harg7 x0 x1 x2 x3 xt0 xt1 hc0 hc1).1) (ix2 r j)
      = Cert.ExpertRow.row (fun k => x0 (ix2 r k)) (fun k f => x1 (ix4 0 0 k f)) (fun k f => x2 (ix4 0 0 k f)) (fun f k => x3 (ix4 0 0 f k)) j := by
  rw [View.read_writes_eq_canon _ _ _ (fun y => View.cover_of_tiledL _ S512x1024.size (by sl_kernel_rfl) y)]
  unfold runLive
  dsimp only
  sl_unfold_words
  rw [View.canon_unit_zero (S := S512x1024) hz2]
  simp only [View.readAt_eq_ld, harg3.read_unread, harg4.read_unread, harg5.read_unread, harg6.read_unread, View.ld_unit_zero (S := S512x1024) hz2]
  show k0_pay4 (F := Ideal) _ _ _ _ (ix2 r j) + k0_pay5 (F := Ideal) _ _ _ _ (ix2 r j) = _
  rw [Cert.ExpertRow.first_half, Cert.ExpertRow.second_half]
  unfold Cert.ExpertRow.row
  rw [Fin.sum_univ_two_halves (N := 3584) 1792 1792 rfl]
  pointwise []

/-- A dead tile's body leaves zero. -/
theorem idle_apply (hc0 : ¬ k0_cond1 i (liveWord c xt1) = 1#1) (hc1 : k0_cond2 i (liveWord c xt1) = 1#1) (r : Fin 512) (j : Fin 1024) :
    outView.read (Elt Ideal) (outView.writes (Elt Ideal) outView.junk
      (runIdle c i arg3 harg3 arg4 harg4 arg5 harg5 arg6 harg6 arg7 harg7 x0 x1 x2 x3 xt0 xt1 hc0 hc1).1) (ix2 r j) = 0 := by
  rw [View.read_writes_eq_canon _ _ _ (fun y => View.cover_of_tiledL _ S512x1024.size (by sl_kernel_rfl) y)]
  unfold runIdle
  dsimp only
  sl_unfold_words
  rw [View.canon_unit_zero (S := S512x1024) hz2]
  pointwise [k0_pay2]

end Body

/-! ## The tables' words and the windows' blocks -/

variable (m : (ℓ : Loc nD τ sig) → Buf (Elt Ideal) ℓ)

/-- How many tiles are live, and the expert of a tile, as the launch is given them. -/
abbrev live (c : Dev nD) : BitVec 32 := m ((c : Thread nD τ).loc main_arg2) (ix1 0)
abbrev expert (c : Dev nD) (s : Fin 136) : BitVec 32 := m ((c : Thread nD τ).loc main_arg1) (ix1 s)

theorem coord (t : Fin grid0.N) : (grid0.coords t 0).val = t.val := (by decide +kernel : ∀ t : Fin grid0.N, (grid0.coords t 0).val = t.val) t
theorem lt136 (t : Fin grid0.N) : t.val < 136 := lt_of_lt_of_eq t.isLt (by decide +kernel)

theorem live_word (c : Dev nD) : liveWord (F := Ideal) c (tables m 1) = live m c := by
  obtain rfl : c = 0 := Subsingleton.elim _ _
  have e : tables m 1 = m (((0 : Dev nD) : Thread nD τ).loc main_arg2) := V_arg2 m 0
  rw [e]
  show m (((0 : Dev nD) : Thread nD τ).loc main_arg2) _ = m (((0 : Dev nD) : Thread nD τ).loc main_arg2) _
  congr 1
  funext a
  match a with
  | ⟨0, _⟩ => exact @Subsingleton.elim (Fin 1) inferInstance _ _

/-- A live tile's rows are its own: the block fetched is the tile's. -/
theorem own_rows (a w : BitVec 32) (ha : a.toNat < 136) (h : a.slt w = true) : Scalar.minsi a (Scalar.maxsi (Scalar.subi w 1#32) 0#32) = a := by
  have h' : a.toInt < w.toInt := by simpa [BitVec.slt] using h
  have ea : a.toInt = a.toNat := by rw [BitVec.toInt_eq_toNat_cond]; split <;> omega
  have ew : w.toInt = w.toNat ∧ 2 * w.toNat < 2 ^ 32 := by
    rw [BitVec.toInt_eq_toNat_cond (x := w)] at h' ⊢
    split at h' <;> omega
  have es : (w - 1#32).toNat = w.toNat - 1 := by
    rw [BitVec.toNat_sub]; show (2 ^ 32 - 1 + w.toNat) % 2 ^ 32 = _; omega
  have ei : (w - 1#32).toInt = (w.toNat : Int) - 1 := by
    rw [BitVec.toInt_eq_toNat_cond, es]; split <;> omega
  have hz : (0#32 : BitVec 32).toInt = 0 := rfl
  have big : ∀ v : BitVec 32, (v.toInt = (w.toNat : Int) - 1) → (if a.slt v = true then a else v) = a := fun v hv => by
    by_cases hs : a.slt v = true
    · rw [if_pos hs]
    · rw [if_neg hs]
      have : ¬ a.toInt < v.toInt := by simpa [BitVec.slt] using hs
      apply BitVec.eq_of_toInt_eq; omega
  show (if a.slt (if (0#32 : BitVec 32).slt (w - 1#32) = true then w - 1#32 else 0#32) = true then a else (if (0#32 : BitVec 32).slt (w - 1#32) = true then w - 1#32 else 0#32)) = a
  by_cases h0 : (0#32 : BitVec 32).slt (w - 1#32) = true
  · rw [if_pos h0]; exact big _ ei
  · rw [if_neg h0]
    have : ¬ (0#32 : BitVec 32).toInt < (w - 1#32).toInt := by simpa [BitVec.slt] using h0
    exact big _ (by omega)

theorem V_gate (c : Dev nD) : V m c main_v0 = m ((c : Thread nD τ).loc main_arg3) := by
  show StableHlo.after hostOps0 _ (Proc.devRef .tc main_v0) = _
  after_results
  rfl

theorem V_up (c : Dev nD) : V m c main_v1 = m ((c : Thread nD τ).loc main_arg4) := by
  show StableHlo.after hostOps0 _ (Proc.devRef .tc main_v1) = _
  after_results
  rfl

theorem V_down (c : Dev nD) : V m c main_v2 = m ((c : Thread nD τ).loc main_arg5) := by
  show StableHlo.after hostOps0 _ (Proc.devRef .tc main_v2) = _
  after_results
  rfl

/-- The expert's word as the windows' maps read it. -/
theorem expert_word (c : Dev nD) (t : Fin grid0.N) :
    (tables m).at 0 (Rect.unit (s := S136) ![(Scalar.indexCast (BitVec.ofNat 32 (grid0.coords t 0).val)).toNat] S1.size (k0_off1_inb (grid0.coords t))) numel1_S1
      = expert m c ⟨t.val, lt136 t⟩ := by
  obtain rfl : c = 0 := Subsingleton.elim _ _
  have e : tables m 0 = m (((0 : Dev nD) : Thread nD τ).loc main_arg1) := V_arg1 m 0
  show tables m 0 _ = _
  rw [e]
  show m (((0 : Dev nD) : Thread nD τ).loc main_arg1) _ = m (((0 : Dev nD) : Thread nD τ).loc main_arg1) _
  congr 1
  funext a
  apply Fin.ext
  match a with
  | ⟨0, _⟩ =>
    show (BitVec.ofNat 32 (grid0.coords t 0).val).toNat + 1 * 0 = t.val
    have := lt136 t
    rw [coord, BitVec.toNat_ofNat]; omega

/-- The row block a live tile's window is on. -/
theorem map_rows (c : Dev nD) (t : Fin grid0.N) (h : Live m c (grid0.coords t)) :
    cc0_transform_0 inb_S1_S1_0 numel1_S1 (tables m) (grid0.coords t) 0 = t.val := by
  have hl : (BitVec.ofNat 32 (grid0.coords t 0).val).slt (live m c) = true := by rw [← live_word]; exact (live_iff _ _).mp h
  have ht := lt136 t
  have ha : (BitVec.ofNat 32 (grid0.coords t 0).val).toNat = t.val := by rw [coord, BitVec.toNat_ofNat]; omega
  have hw : (tables m).at 1 (Rect.unit (s := S1) ![0] S1.size inb_S1_S1_0) numel1_S1 = live m c := live_word m c
  have hr := own_rows (BitVec.ofNat 32 (grid0.coords t 0).val) (live m c) (by rw [ha]; exact ht) hl
  refine Eq.trans ?_ ((congrArg BitVec.toNat hr).trans ha)
  exact congrArg (fun w : BitVec 32 => (Scalar.minsi (BitVec.ofNat 32 (grid0.coords t 0).val) (Scalar.maxsi (Scalar.subi w 1#32) 0#32)).toNat) hw

theorem map_cols (i : grid0.Coords) : cc0_transform_0 inb_S1_S1_0 numel1_S1 (tables m) i 1 = 0 := rfl

attribute [local irreducible] cc0_transform_0 in
theorem block_rows (hO : InRange m) (c : Dev nD) (t : Fin grid0.N) (h : Live m c (grid0.coords t)) (r : Fin 512) (k : Fin 1024) :
    (iblk m hO c 0 t : Vec Ideal S512x1024 .f32) (ix2 r k) = m ((c : Thread nD τ).loc main_arg0) (ix2 ⟨t.val * 512 + r.val, by have := lt136 t; omega⟩ k) := by
  have hm := map_rows m c t h
  unfold iblk
  refine (View.read_apply _ _).trans ?_
  show V m c main_arg0 _ = _
  rw [V_arg0]
  congr 1
  funext a
  apply Fin.ext
  match a with
  | ⟨0, _⟩ =>
    refine Eq.trans (b := cc0_transform_0 inb_S1_S1_0 numel1_S1 (tables m) (grid0.coords t) 0 * 512 + 1 * r.val) rfl ?_
    rw [hm]
    show t.val * 512 + 1 * r.val = t.val * 512 + r.val
    omega
  | ⟨1, _⟩ =>
    refine Eq.trans (b := cc0_transform_0 inb_S1_S1_0 numel1_S1 (tables m) (grid0.coords t) 1 * 1024 + 1 * k.val) rfl ?_
    rw [map_cols]
    show 0 * 1024 + 1 * k.val = k.val
    omega

theorem block_gate (hO : InRange m) (c : Dev nD) (t : Fin grid0.N) (e : Fin 8) (he : expert m c ⟨t.val, lt136 t⟩ = BitVec.ofNat 32 e.val) (k : Fin 1024) (f : Fin 3584) :
    (iblk m hO c 1 t : Vec Ideal S1x1x1024x3584 .bf16) (ix4 0 0 k f) = m ((c : Thread nD τ).loc main_arg3) (ix4 0 e k f) := by
  have hw := expert_word m c t
  have h8 := e.isLt
  unfold iblk
  refine (View.read_apply _ _).trans ?_
  show V m c main_v0 _ = _
  rw [V_gate]
  congr 1
  funext a
  apply Fin.ext
  match a with
  | ⟨0, _⟩ => rfl
  | ⟨1, _⟩ =>
    show ((tables m).at 0 (Rect.unit (s := S136) ![(Scalar.indexCast (BitVec.ofNat 32 (grid0.coords t 0).val)).toNat] S1.size (k0_off1_inb (grid0.coords t))) numel1_S1 : BitVec 32).toNat * 1 + 1 * 0 = e.val
    rw [hw, he, BitVec.toNat_ofNat]; omega
  | ⟨2, _⟩ => show 0 * 1024 + 1 * k.val = k.val; omega
  | ⟨3, _⟩ => show 0 * 3584 + 1 * f.val = f.val; omega

theorem block_up (hO : InRange m) (c : Dev nD) (t : Fin grid0.N) (e : Fin 8) (he : expert m c ⟨t.val, lt136 t⟩ = BitVec.ofNat 32 e.val) (k : Fin 1024) (f : Fin 3584) :
    (iblk m hO c 2 t : Vec Ideal S1x1x1024x3584 .bf16) (ix4 0 0 k f) = m ((c : Thread nD τ).loc main_arg4) (ix4 0 e k f) := by
  have hw := expert_word m c t
  have h8 := e.isLt
  unfold iblk
  refine (View.read_apply _ _).trans ?_
  show V m c main_v1 _ = _
  rw [V_up]
  congr 1
  funext a
  apply Fin.ext
  match a with
  | ⟨0, _⟩ => rfl
  | ⟨1, _⟩ =>
    show ((tables m).at 0 (Rect.unit (s := S136) ![(Scalar.indexCast (BitVec.ofNat 32 (grid0.coords t 0).val)).toNat] S1.size (k0_off1_inb (grid0.coords t))) numel1_S1 : BitVec 32).toNat * 1 + 1 * 0 = e.val
    rw [hw, he, BitVec.toNat_ofNat]; omega
  | ⟨2, _⟩ => show 0 * 1024 + 1 * k.val = k.val; omega
  | ⟨3, _⟩ => show 0 * 3584 + 1 * f.val = f.val; omega

theorem block_down (hO : InRange m) (c : Dev nD) (t : Fin grid0.N) (e : Fin 8) (he : expert m c ⟨t.val, lt136 t⟩ = BitVec.ofNat 32 e.val) (f : Fin 3584) (k : Fin 1024) :
    (iblk m hO c 3 t : Vec Ideal S1x1x3584x1024 .bf16) (ix4 0 0 f k) = m ((c : Thread nD τ).loc main_arg5) (ix4 0 e f k) := by
  have hw := expert_word m c t
  have h8 := e.isLt
  unfold iblk
  refine (View.read_apply _ _).trans ?_
  show V m c main_v2 _ = _
  rw [V_down]
  congr 1
  funext a
  apply Fin.ext
  match a with
  | ⟨0, _⟩ => rfl
  | ⟨1, _⟩ =>
    show ((tables m).at 0 (Rect.unit (s := S136) ![(Scalar.indexCast (BitVec.ofNat 32 (grid0.coords t 0).val)).toNat] S1.size (k0_off1_inb (grid0.coords t))) numel1_S1 : BitVec 32).toNat * 1 + 1 * 0 = e.val
    rw [hw, he, BitVec.toNat_ofNat]; omega
  | ⟨2, _⟩ => show 0 * 3584 + 1 * f.val = f.val; omega
  | ⟨3, _⟩ => show 0 * 1024 + 1 * k.val = k.val; omega

/-! ## The result array -/

/-- The reference's result, of the kernel's arguments. -/
abbrev result (c : Dev nD) : Vec Ideal S69632x1024 .f32 :=
  Cert.Reference2Ideal.Read.val_main_v137 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- A row of a tile's block is the reference's row. -/
theorem out_eq (hO : InRange m) (c : Dev nD) (h8 : ∀ s, (expert m c s).toNat < 8) (t : Fin grid0.N) (r : Fin 512) (j : Fin 1024) :
    outAt m hO c t (ix2 r j) = result m c (ix2 ⟨t.val * 512 + r.val, by have := lt136 t; omega⟩ j) := by
  have ht := lt136 t
  have hq : (t.val * 512 + r.val) / 512 = t.val := by omega
  obtain ⟨e, he⟩ : ∃ e : Fin 8, expert m c ⟨t.val, ht⟩ = BitVec.ofNat 32 e.val := ⟨⟨_, h8 ⟨t.val, ht⟩⟩, by rw [BitVec.ofNat_toNat, BitVec.setWidth_eq]⟩
  rw [result, Cert.ExpertRow.reference_apply _ _ _ _ _ _ _ _ e (by simp only [hq]; exact he)]
  simp only [hq]
  have hiff : Live m c (grid0.coords t) ↔ (BitVec.ofNat 32 t.val).slt (live m c) = true := by
    rw [← live_word, ← coord t]; exact live_iff _ _
  unfold outAt pieces
  by_cases h : Live m c (grid0.coords t)
  · rw [dif_pos h, if_pos (hiff.mp h)]
    refine (live_apply c _ _ _ _ _ _ _ _ _ _ _ _ _ _ _ _ _ _ _ r j).trans ?_
    simp only [block_rows m hO c t h, block_gate m hO c t e he, block_up m hO c t e he, block_down m hO c t e he]
  · rw [dif_neg h, if_neg (fun h' => h (hiff.mpr h'))]
    exact idle_apply c _ _ _ _ _ _ _ _ _ _ _ _ _ _ _ _ _ _ _ r j

/-- Every tile's block is written back. -/
theorem flush4 (hO : InRange m) (t : Fin grid0.N) : ((cfgM m hO).win 4).flush t = true :=
  (fun t => (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _) :
    ∀ t : Fin grid0.N, Pipeline.Window.flushOf grid0 true cc0_transform_4 t = true) t

theorem map_out (t : Fin grid0.N) : cc0_transform_4 (grid0.coords t) 0 = t.val ∧ cc0_transform_4 (grid0.coords t) 1 = 0 :=
  (by decide +kernel : ∀ t : Fin grid0.N, cc0_transform_4 (grid0.coords t) 0 = t.val ∧ cc0_transform_4 (grid0.coords t) 1 = 0) t

attribute [local irreducible] cc0_transform_4 in
theorem flushed_eq (hO : InRange m) (c : Dev nD) (h8 : ∀ s, (expert m c s).toNat < 8) (t : Fin grid0.N) (_ : ((cfgM m hO).win 4).flush t = true) :
    (dats m hO 0 c).flushed 4 t = (((cfgM m hO).win 4).blk t).view.read (Elt Ideal) (result m c) := by
  show ((cfgM m hO).win 4).cut (grid0.coords t) ((dats m hO 0 c).after 4 t) = _
  rw [after4]
  funext (y : S512x1024.Idx)
  obtain ⟨r, j, rfl⟩ : ∃ (r : Fin 512) (j : Fin 1024), y = ix2 r j := ⟨y 0, y 1, eq_ix2 y⟩
  refine (out_eq m hO c h8 t r j).trans ?_
  refine Eq.trans ?_ (View.read_apply _ _).symm
  show result m c _ = result m c _
  congr 1
  funext a
  apply Fin.ext
  match a with
  | ⟨0, _⟩ =>
    refine Eq.trans (b := cc0_transform_4 (grid0.coords t) 0 * 512 + 1 * r.val) ?_ rfl
    rw [(map_out t).1]; show t.val * 512 + r.val = _; omega
  | ⟨1, _⟩ =>
    refine Eq.trans (b := cc0_transform_4 (grid0.coords t) 1 * 1024 + 1 * j.val) ?_ rfl
    rw [(map_out t).2]; show j.val = _; omega

attribute [local irreducible] cc0_transform_4 in
theorem mem_blk (hO : InRange m) (t : Fin grid0.N) (i : S69632x1024.Idx) (h : (i 0 : Nat) / 512 = t.val) : i ∈ (((cfgM m hO).win 4).blk t).view.set := by
  show i ∈ ((View.whole main_v3).slice (((cfgM m hO).win 4).rect t)).set
  refine (congrArg (fun s => i ∈ s) (View.set_slice_whole main_v3 (((cfgM m hO).win 4).rect t))).mpr (Rect.mem_set_unit.mpr ?_)
  have h1 : (i 1 : Nat) < 1024 := (i 1).isLt
  intro a
  match a with
  | ⟨0, _⟩ =>
    show cc0_transform_4 (grid0.coords t) 0 * 512 ≤ (i 0 : Nat) ∧ (i 0 : Nat) < cc0_transform_4 (grid0.coords t) 0 * 512 + 512
    rw [(map_out t).1]; omega
  | ⟨1, _⟩ =>
    show cc0_transform_4 (grid0.coords t) 1 * 1024 ≤ (i 1 : Nat) ∧ (i 1 : Nat) < cc0_transform_4 (grid0.coords t) 1 * 1024 + 1024
    rw [(map_out t).2]; omega

/-- The kernel's result array is the reference's result. -/
theorem array_eq (hO : InRange m) (c : Dev nD) (h8 : ∀ s, (expert m c s).toNat < 8) : (dats m hO 0 c).arrAt 4 (cfgM m hO).N = result m c :=
  (dats m hO 0 c).arrAt_eq_of_cover 4 (result m c) (flushed_eq m hO c h8) fun (i : S69632x1024.Idx) =>
    ⟨⟨(i 0 : Nat) / 512, lt_of_lt_of_eq (by have h0 : (i 0 : Nat) < 69632 := (i 0).isLt; omega : (i 0 : Nat) / 512 < 136) (by decide +kernel : 136 = grid0.N)⟩,
      flush4 m hO _, mem_blk m hO _ i rfl⟩

end Cert.Kernel2Ideal.Experts

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2
public import proofs.«01_k».proof.Proof.Gen.Kernel2Ideal
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.OutProj
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.RetOut
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.DiffIn
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.ConvIn
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.RetIn
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Modulation
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.BiasTiles
public import proofs.«01_k».proof.Proof.Gen.KernelIdeal.Value
public import proofs.«01_k».proof.Proof.Gen.ReferenceIdeal.Read
public import proofs.«01_k».proof.Proof.AttnArray
public import proofs.«01_k».proof.Proof.Gen.Pre_scores_finite
public import proofs.«01_k».proof.Proof.Gen.Pre_experts_in_range
public import proofs.«01_k».proof.Proof.Gen.Pre_diff_finite
public import proofs.«01_k».proof.Proof.DiffArray
public import proofs.«01_k».proof.Proof.FfnValue
public import proofs.«01_k».proof.Proof.ExpertTables
public import proofs.«01_k».proof.Proof.ExpertValue
public import Idealize.ShloMosaic.Adequacy
public import Idealize.ShloMosaic.Init

@[expose] public section

noncomputable section

namespace Cert.Proof

open Idealize.ShloMosaic Idealize.ShloMosaic.TcCoe Idealize.SL.Sem

/-- The attention's reference leaves its arguments and every counter as they were. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- The experts' reference leaves its arguments and every counter as they were. -/
theorem frame_reference2 : Cert.quiescent_Reference2Ideal := fun m ρ _ =>
  (θ_run Cert.Reference2Ideal.defs _ _).mono
    (fun r h => ⟨fun c => (h c).2, sem_eq_zero_of_no_sems (by decide) r.2⟩) (Cert.Reference2Ideal.Value.run m ρ)

/-- The feed-forward layer's reference leaves its arguments and every counter as they were. -/
theorem frame_reference3 : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

/-- The differential attention's reference leaves its arguments and every counter as they were. -/
theorem frame_reference4 : Cert.quiescent_Reference4Ideal := fun m ρ _ =>
  (θ_run Cert.Reference4Ideal.defs _ _).mono
    (fun r h => ⟨fun c => (h c).2, sem_eq_zero_of_no_sems (by decide) r.2⟩) (Cert.Reference4Ideal.Value.run m ρ)

/-- The output projection's reference leaves its arguments and every counter as they were. -/
theorem frame_reference5 : Cert.quiescent_Reference5Ideal := fun m ρ _ =>
  (θ_run Cert.Reference5Ideal.defs _ _).mono
    (fun r h => ⟨fun c => (h c).2, sem_eq_zero_of_no_sems (by decide) r.2⟩) (Cert.Reference5Ideal.Value.run m ρ)

/-- The retention's output projection's reference leaves its arguments and every counter as they were. -/
theorem frame_reference6 : Cert.quiescent_Reference6Ideal := fun m ρ _ =>
  (θ_run Cert.Reference6Ideal.defs _ _).mono
    (fun r h => ⟨fun c => (h c).2, sem_eq_zero_of_no_sems (by decide) r.2⟩) (Cert.Reference6Ideal.Value.run m ρ)

/-- The differential attention's input projection's reference leaves its arguments and every counter as they were. -/
theorem frame_reference7 : Cert.quiescent_Reference7Ideal := fun m ρ _ =>
  (θ_run Cert.Reference7Ideal.defs _ _).mono
    (fun r h => ⟨fun c => (h c).2, sem_eq_zero_of_no_sems (by decide) r.2⟩) (Cert.Reference7Ideal.Value.run m ρ)

/-- The convolution's first projection's reference leaves its arguments and every counter as they were. -/
theorem frame_reference8 : Cert.quiescent_Reference8Ideal := fun m ρ _ =>
  (θ_run Cert.Reference8Ideal.defs _ _).mono
    (fun r h => ⟨fun c => (h c).2, sem_eq_zero_of_no_sems (by decide) r.2⟩) (Cert.Reference8Ideal.Value.run m ρ)

/-- The retention's input projection's reference leaves its arguments and every counter as they were. -/
theorem frame_reference9 : Cert.quiescent_Reference9Ideal := fun m ρ _ =>
  (θ_run Cert.Reference9Ideal.defs _ _).mono
    (fun r h => ⟨fun c => (h c).2, sem_eq_zero_of_no_sems (by decide) r.2⟩) (Cert.Reference9Ideal.Value.run m ρ)

/-- The modulation's projection's reference leaves its arguments and every counter as they were. -/
theorem frame_reference10 : Cert.quiescent_Reference10Ideal := fun m ρ _ =>
  (θ_run Cert.Reference10Ideal.defs _ _).mono
    (fun r h => ⟨fun c => (h c).2, sem_eq_zero_of_no_sems (by decide) r.2⟩) (Cert.Reference10Ideal.Value.run m ρ)

/-- The bias tiles's reference leaves its arguments and every counter as they were. -/
theorem frame_reference11 : Cert.quiescent_Reference11Ideal := fun m ρ _ =>
  (θ_run Cert.Reference11Ideal.defs _ _).mono
    (fun r h => ⟨fun c => (h c).2, sem_eq_zero_of_no_sems (by decide) r.2⟩) (Cert.Reference11Ideal.Value.run m ρ)

/-- The experts' program on words and on extended reals has one body table … -/
theorem bodies2 : Cert.Kernel2.defs₀ (F := Bits) = Cert.Kernel2Ideal.defs₀ (F := Bits) := by
  unfold Cert.Kernel2.defs₀ Cert.Kernel2Ideal.defs₀
  refine congrArg Defs.onTc ?_
  funext p a
  match p, a with
  | 0, (t, s) => rfl

/-- … so one table of bodies and pipelines … -/
theorem table2 : Cert.Kernel2.defs (F := Bits) = Cert.Kernel2Ideal.defs (F := Bits) :=
  congrArg (Pipeline.defs Cert.Kernel2Ideal.pcfgs) bodies2

/-- … and one program. -/
theorem main2 : Cert.Kernel2.main (F := Bits) = Cert.Kernel2Ideal.main (F := Bits) := rfl

/-- What the one program does, the other does. -/
theorem same2 {s} {Q}
    (h : θ_run (Cert.Kernel2Ideal.defs (F := Bits)) (onTc (τ := Cert.Kernel2.τ) (Cert.Kernel2.main (F := Bits))) s Q) :
    θ_run (Cert.Kernel2.defs (F := Bits)) (onTc (τ := Cert.Kernel2.τ) (Cert.Kernel2.main (F := Bits))) s Q :=
  (congrArg (fun d => θ_run d (onTc (τ := Cert.Kernel2.τ) (Cert.Kernel2.main (F := Bits))) s Q) table2).mpr h

/-- The experts' kernel on words: it runs and leaves its arguments and every counter as they were. -/
theorem frame_kernel2 : Cert.quiescent_Kernel2 := fun m ρ hpre => by
  refine same2 ?_
  have h := Cert.Kernel2Ideal.Experts.run_main (F := Bits) m ρ
    (Cert.Kernel2Ideal.Experts.inRange_of m fun j => Cert.Kernel2Ideal.Experts.expert_lt _ _ _ _ _ _ (hpre 0) j)
  refine (θ_run Cert.Kernel2Ideal.defs _ _).mono ?_ h
  exact fun _ h => ⟨fun c => (h.1 c).2, h.2⟩

/-- The experts' kernel on extended reals: likewise. -/
theorem frame_kernel2_ideal : Cert.quiescent_Kernel2Ideal := fun m ρ hpre =>
  (θ_run Cert.Kernel2Ideal.defs _ _).mono (fun _ h => ⟨fun c => (h.1 c).2, h.2⟩)
    (Cert.Kernel2Ideal.Experts.run_main (F := Ideal) m ρ
      (Cert.Kernel2Ideal.Experts.inRange_of m fun j => Cert.Kernel2Ideal.Experts.expert_lt _ _ _ _ _ _ (hpre 0) j))

/-- The reference's value at equal arguments. -/
theorem agree2 (a0 b0 : FVec Ideal Cert.Kernel2Ideal.S69632x1024 .f32) (a1 b1 : IVec Cert.Kernel2Ideal.S136 32) (a2 b2 : IVec Cert.Kernel2Ideal.S1 32)
    (a3 b3 a4 b4 : FVec Ideal Cert.Kernel2Ideal.S2x8x1024x3584 .f32) (a5 b5 : FVec Ideal Cert.Kernel2Ideal.S2x8x3584x1024 .f32)
    (h0 : a0 = b0) (h1 : a1 = b1) (h2 : a2 = b2) (h3 : a3 = b3) (h4 : a4 = b4) (h5 : a5 = b5) :
    Cert.Reference2Ideal.Read.val_main_v137 (F := Ideal) a0 a1 a2 a3 a4 a5 = Cert.Reference2Ideal.Read.val_main_v137 (F := Ideal) b0 b1 b2 b3 b4 b5 := by
  rw [h0, h1, h2, h3, h4, h5]

/-- The experts: kernel and reference end with the same array. -/
theorem algebraic2 : Cert.algebraic_Kernel2Ideal_Reference2Ideal := by
  intro m ρ m' ρ' hpre hargs
  have h8 : ∀ c s, (Cert.Kernel2Ideal.Experts.expert m c s).toNat < 8 := fun c s =>
    Cert.Kernel2Ideal.Experts.expert_lt _ _ _ _ _ _ (hpre c) _
  refine ⟨fun c => Cert.Kernel2Ideal.Experts.result m c, ?_, ?_⟩
  · exact (θ_run Cert.Kernel2Ideal.defs _ _).mono
      (fun r h c => ⟨(h.1 c).1.trans (Cert.Kernel2Ideal.Experts.array_eq m _ c (h8 c)), (h.1 c).2⟩)
      (Cert.Kernel2Ideal.Experts.run_main (F := Ideal) m ρ
        (Cert.Kernel2Ideal.Experts.inRange_of m fun j => Cert.Kernel2Ideal.Experts.expert_lt _ _ _ _ _ _ (hpre 0) j))
  · refine (θ_run Cert.Reference2Ideal.defs _ _).mono (fun r h c => ⟨(h c).1.trans ?_, (h c).2⟩) (Cert.Reference2Ideal.Value.run m' ρ')
    refine (Cert.Reference2Ideal.Read.val_main_v137_eq (StableHlo.launchContents m' c)).trans ?_
    obtain ⟨h0, h1, h2, h3, h4, h5⟩ := hargs c
    exact agree2 _ _ _ _ _ _ _ _ _ _ _ _ h0 h1 h2 h3 h4 h5

/-- The feed-forward layer: kernel and reference end with the same array. -/
theorem algebraic3 : Cert.algebraic_Kernel3Ideal_Reference3Ideal := by
  intro m ρ m' ρ' _ hargs
  refine ⟨fun c => Cert.Ffn.Array.result m c, ?_, ?_⟩
  · exact (θ_run Cert.Kernel3Ideal.defs _ _).mono
      (fun r h c => ⟨(h c).1.trans (Cert.Ffn.Array.array_eq m c), (h c).2⟩) (Cert.Kernel3Ideal.Value.run_blocks (F := Ideal) m ρ)
  · refine (θ_run Cert.Reference3Ideal.defs _ _).mono (fun r h c => ⟨(h c).1.trans ?_, (h c).2⟩) (Cert.Reference3Ideal.Value.run m' ρ')
    rw [Cert.Reference3Ideal.Read.val_main_v27_eq m' c]
    obtain ⟨h0, h1, h2, h3, h4⟩ := hargs c
    rw [h0, h1, h2, h3, h4]

/-- The attention: kernel and reference end with the same array, for finite queries and keys. -/
theorem algebraic1 : Cert.algebraic_KernelIdeal_ReferenceIdeal_pre_scores_finite := by
  intro m ρ m' ρ' hpre hargs
  refine ⟨fun c => Cert.Attention.result m c, ?_, ?_⟩
  · exact (θ_run Cert.KernelIdeal.defs _ _).mono
      (fun r h c => ⟨(h c).1.trans (Cert.Attention.array_eq m c (hpre c)), (h c).2⟩) (Cert.KernelIdeal.Value.run_blocks (F := Ideal) m ρ)
  · refine (θ_run Cert.ReferenceIdeal.defs _ _).mono (fun r h c => ⟨(h c).1.trans ?_, (h c).2⟩) (Cert.ReferenceIdeal.Value.run m' ρ')
    obtain ⟨h0, h1, h2⟩ := hargs c
    refine (Cert.ReferenceIdeal.Read.val_main_v19_eq _ _ _).trans ?_
    rw [h0, h1, h2]

/-- The differential attention's result is its reference's when its first six arguments are finite. -/
theorem algebraic4 : Cert.algebraic_Kernel4Ideal_Reference4Ideal_pre_diff_finite := by
  intro m ρ m' ρ' hpre hargs
  refine ⟨fun c => Cert.Diff.result m c, ?_, ?_⟩
  · exact (θ_run Cert.Kernel4Ideal.defs _ _).mono
      (fun r h c => ⟨(h c).1.trans (Cert.Diff.array_eq m c (hpre c)), (h c).2⟩) (Cert.Kernel4Ideal.Value.run_blocks (F := Ideal) m ρ)
  · refine (θ_run Cert.Reference4Ideal.defs _ _).mono (fun r h c => ⟨(h c).1.trans ?_, (h c).2⟩) (Cert.Reference4Ideal.Value.run m' ρ')
    obtain ⟨h0, h1, h2, h3, h4, h5, h6⟩ := hargs c
    refine (Cert.Reference4Ideal.Read.val_main_v94_eq _).trans ?_
    show Cert.Reference4Ideal.Read.val_main_v94 (F := Ideal) (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4))
      (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) = _
    rw [h0, h1, h2, h3, h4, h5, h6]

/-- The output projection: kernel and reference end with the same array. -/
theorem algebraic5 : Cert.algebraic_Kernel5Ideal_Reference5Ideal := by
  intro m ρ m' ρ' _ hargs
  refine ⟨fun c => Cert.OutProj.Array.result m c, ?_, ?_⟩
  · exact (θ_run Cert.Kernel5Ideal.defs _ _).mono
      (fun r h c => ⟨(h c).1.trans (Cert.OutProj.Array.array_eq m c), (h c).2⟩) (Cert.Kernel5Ideal.Value.run_blocks (F := Ideal) m ρ)
  · refine (θ_run Cert.Reference5Ideal.defs _ _).mono (fun r h c => ⟨(h c).1.trans ?_, (h c).2⟩) (Cert.Reference5Ideal.Value.run m' ρ')
    obtain ⟨h0, h1, h2, h3⟩ := hargs c
    refine (Cert.Reference5Ideal.Read.val_main_v7_eq _ _ _ _).trans ?_
    rw [h0, h1, h2, h3]

/-- The retention's output projection: kernel and reference end with the same array. -/
theorem algebraic6 : Cert.algebraic_Kernel6Ideal_Reference6Ideal := by
  intro m ρ m' ρ' _ hargs
  refine ⟨fun c => Cert.RetOut.Array.result m c, ?_, ?_⟩
  · exact (θ_run Cert.Kernel6Ideal.defs _ _).mono
      (fun r h c => ⟨(h c).1.trans (Cert.RetOut.Array.array_eq m c), (h c).2⟩) (Cert.Kernel6Ideal.Value.run_blocks (F := Ideal) m ρ)
  · refine (θ_run Cert.Reference6Ideal.defs _ _).mono (fun r h c => ⟨(h c).1.trans ?_, (h c).2⟩) (Cert.Reference6Ideal.Value.run m' ρ')
    obtain ⟨h0, h1, h2, h3, h4⟩ := hargs c
    refine (Cert.Reference6Ideal.Read.val_main_v11_eq _ _ _ _ _).trans ?_
    rw [h0, h1, h2, h3, h4]

/-- The differential attention's input projection: kernel and reference end with the same array. -/
theorem algebraic7 : Cert.algebraic_Kernel7Ideal_Reference7Ideal := by
  intro m ρ m' ρ' _ hargs
  refine ⟨fun c => Cert.DiffIn.Array.result m c, ?_, ?_⟩
  · exact (θ_run Cert.Kernel7Ideal.defs _ _).mono
      (fun r h c => ⟨(h c).1.trans (Cert.DiffIn.Array.array_eq m c), (h c).2⟩) (Cert.Kernel7Ideal.Value.run_blocks (F := Ideal) m ρ)
  · refine (θ_run Cert.Reference7Ideal.defs _ _).mono (fun r h c => ⟨(h c).1.trans ?_, (h c).2⟩) (Cert.Reference7Ideal.Value.run m' ρ')
    obtain ⟨h0, h1, h2⟩ := hargs c
    refine (Cert.Reference7Ideal.Read.val_main_v20_eq _ _ _).trans ?_
    rw [h0, h1, h2]

/-- The convolution's first projection: kernel and reference end with the same array. -/
theorem algebraic8 : Cert.algebraic_Kernel8Ideal_Reference8Ideal := by
  intro m ρ m' ρ' _ hargs
  refine ⟨fun c => Cert.ConvIn.Array.result m c, ?_, ?_⟩
  · exact (θ_run Cert.Kernel8Ideal.defs _ _).mono
      (fun r h c => ⟨(h c).1.trans (Cert.ConvIn.Array.array_eq m c), (h c).2⟩) (Cert.Kernel8Ideal.Value.run_blocks (F := Ideal) m ρ)
  · refine (θ_run Cert.Reference8Ideal.defs _ _).mono (fun r h c => ⟨(h c).1.trans ?_, (h c).2⟩) (Cert.Reference8Ideal.Value.run m' ρ')
    obtain ⟨h0, h1, h2, h3⟩ := hargs c
    refine (Cert.Reference8Ideal.Read.val_main_v32_eq _ _ _ _).trans ?_
    rw [h0, h1, h2, h3]

/-- The retention's input projection: kernel and reference end with the same array. -/
theorem algebraic9 : Cert.algebraic_Kernel9Ideal_Reference9Ideal := by
  intro m ρ m' ρ' _ hargs
  refine ⟨fun c => Cert.RetIn.Array.result m c, ?_, ?_⟩
  · exact (θ_run Cert.Kernel9Ideal.defs _ _).mono
      (fun r h c => ⟨(h c).1.trans (Cert.RetIn.Array.array_eq m c), (h c).2⟩) (Cert.Kernel9Ideal.Value.run_blocks (F := Ideal) m ρ)
  · refine (θ_run Cert.Reference9Ideal.defs _ _).mono (fun r h c => ⟨(h c).1.trans ?_, (h c).2⟩) (Cert.Reference9Ideal.Value.run m' ρ')
    obtain ⟨h0, h1, h2⟩ := hargs c
    rw [Cert.Reference9Ideal.Read.val_main_v83_eq m' c]
    rw [h0, h1, h2]

/-- The modulation's projection: kernel and reference end with the same array. -/
theorem algebraic10 : Cert.algebraic_Kernel10Ideal_Reference10Ideal := by
  intro m ρ m' ρ' _ hargs
  refine ⟨fun c => Cert.Modulation.Array.result m c, ?_, ?_⟩
  · exact (θ_run Cert.Kernel10Ideal.defs _ _).mono
      (fun r h c => ⟨(h c).1.trans (Cert.Modulation.Array.array_eq m c), (h c).2⟩) (Cert.Kernel10Ideal.Value.run_blocks (F := Ideal) m ρ)
  · refine (θ_run Cert.Reference10Ideal.defs _ _).mono (fun r h c => ⟨(h c).1.trans ?_, (h c).2⟩) (Cert.Reference10Ideal.Value.run m' ρ')
    obtain ⟨h0, h1, h2⟩ := hargs c
    refine (Cert.Reference10Ideal.Read.val_main_v5_eq _ _ _).trans ?_
    rw [h0, h1, h2]

/-- The bias tiles: kernel and reference end with the same array. -/
theorem algebraic11 : Cert.algebraic_Kernel11Ideal_Reference11Ideal := by
  intro m ρ m' ρ' _ hargs
  refine ⟨fun c => Cert.BiasTiles.Array.result m c, ?_, ?_⟩
  · exact (θ_run Cert.Kernel11Ideal.defs _ _).mono
      (fun r h c => ⟨(h c).1.trans (Cert.BiasTiles.Array.array_eq m c), (h c).2⟩) (Cert.Kernel11Ideal.Value.run_blocks (F := Ideal) m ρ)
  · refine (θ_run Cert.Reference11Ideal.defs _ _).mono (fun r h c => ⟨(h c).1.trans ?_, (h c).2⟩) (Cert.Reference11Ideal.Value.run m' ρ')
    have h0 := hargs c
    rw [Cert.Reference11Ideal.Read.val_main_v46_eq m' c]
    rw [h0]

/-- Every claim. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Pre_scores_finite.Gen.facts, Cert.Pre_experts_in_range.Gen.facts,
    Cert.Pre_diff_finite.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    frame_kernel2,
    frame_kernel2_ideal,
    frame_reference2,
    fun m ρ _ => frame_reference2 m ρ trivial,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    fun m ρ _ => Cert.Kernel4Ideal.Gen.frame m ρ,
    frame_reference4,
    fun m ρ _ => frame_reference4 m ρ trivial,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    fun m ρ _ => Cert.Kernel10.Gen.frame m ρ,
    fun m ρ _ => Cert.Kernel10Ideal.Gen.frame m ρ,
    frame_reference10,
    fun m ρ _ => Cert.Kernel11.Gen.frame m ρ,
    fun m ρ _ => Cert.Kernel11Ideal.Gen.frame m ρ,
    frame_reference11,
    IdealRules.named_const.statement Cert.KernelIdeal.κ "score_scale" .f32 0x3E38AA3B#32 (((8 * (Real.log 2))⁻¹ : ℝ) : EReal) rfl,
    algebraic1,
    trivial,
    algebraic2,
    trivial,
    algebraic3,
    ⟨IdealRules.named_const.statement Cert.Kernel4Ideal.κ "diff_scale" .f32 0x3E38AA3B#32 (((8 * (Real.log 2))⁻¹ : ℝ) : EReal) rfl,
      IdealRules.named_const.statement Cert.Kernel4Ideal.κ "log2e" .f32 0x3FB8AA3B#32 (((Real.log 2)⁻¹ : ℝ) : EReal) rfl⟩,
    algebraic4,
    trivial,
    algebraic5,
    trivial,
    algebraic6,
    trivial,
    algebraic7,
    trivial,
    algebraic8,
    trivial,
    algebraic9,
    trivial,
    algebraic10,
    trivial,
    algebraic11⟩

end Cert.Proof

end
